-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7)
      ∧ r.2.mem ((c.tc : Thread Cert.Kernel15.nD Cert.Kernel15.τ).loc Cert.Kernel15.main_arg8) = m ((c.tc : Thread Cert.Kernel15.nD Cert.Kernel15.τ).loc Cert.Kernel15.main_arg8)
      ∧ r.2.mem ((c.tc : Thread Cert.Kernel15.nD Cert.Kernel15.τ).loc Cert.Kernel15.main_arg9) = m ((c.tc : Thread Cert.Kernel15.nD Cert.Kernel15.τ).loc Cert.Kernel15.main_arg9)
      ∧ r.2.mem ((c.tc : Thread Cert.Kernel15.nD Cert.Kernel15.τ).loc Cert.Kernel15.main_arg10) = m ((c.tc : Thread Cert.Kernel15.nD Cert.Kernel15.τ).loc Cert.Kernel15.main_arg10)
      ∧ r.2.mem ((c.tc : Thread Cert.Kernel15.nD Cert.Kernel15.τ).loc Cert.Kernel15.main_arg11) = m ((c.tc : Thread Cert.Kernel15.nD Cert.Kernel15.τ).loc Cert.Kernel15.main_arg11)
      ∧ r.2.mem ((c.tc : Thread Cert.Kernel15.nD Cert.Kernel15.τ).loc Cert.Kernel15.main_arg12) = m ((c.tc : Thread Cert.Kernel15.nD Cert.Kernel15.τ).loc Cert.Kernel15.main_arg12)
      ∧ r.2.mem ((c.tc : Thread Cert.Kernel15.nD Cert.Kernel15.τ).loc Cert.Kernel15.main_arg13) = m ((c.tc : Thread Cert.Kernel15.nD Cert.Kernel15.τ).loc Cert.Kernel15.main_arg13)
      ∧ r.2.mem ((c.tc : Thread Cert.Kernel15.nD Cert.Kernel15.τ).loc Cert.Kernel15.main_arg14) = m ((c.tc : Thread Cert.Kernel15.nD Cert.Kernel15.τ).loc Cert.Kernel15.main_arg14)
      ∧ r.2.mem ((c.tc : Thread Cert.Kernel15.nD Cert.Kernel15.τ).loc Cert.Kernel15.main_arg15) = m ((c.tc : Thread Cert.Kernel15.nD Cert.Kernel15.τ).loc Cert.Kernel15.main_arg15)
      ∧ r.2.mem ((c.tc : Thread Cert.Kernel15.nD Cert.Kernel15.τ).loc Cert.Kernel15.main_arg16) = m ((c.tc : Thread Cert.Kernel15.nD Cert.Kernel15.τ).loc Cert.Kernel15.main_arg16)
      ∧ r.2.mem ((c.tc : Thread Cert.Kernel15.nD Cert.Kernel15.τ).loc Cert.Kernel15.main_arg17) = m ((c.tc : Thread Cert.Kernel15.nD Cert.Kernel15.τ).loc Cert.Kernel15.main_arg17)
      ∧ r.2.mem ((c.tc : Thread Cert.Kernel15.nD Cert.Kernel15.τ).loc Cert.Kernel15.main_arg18) = m ((c.tc : Thread Cert.Kernel15.nD Cert.Kernel15.τ).loc Cert.Kernel15.main_arg18)
      ∧ r.2.mem ((c.tc : Thread Cert.Kernel15.nD Cert.Kernel15.τ).loc Cert.Kernel15.main_arg19) = m ((c.tc : Thread Cert.Kernel15.nD Cert.Kernel15.τ).loc Cert.Kernel15.main_arg19)
      ∧ r.2.mem ((c.tc : Thread Cert.Kernel15.nD Cert.Kernel15.τ).loc Cert.Kernel15.main_arg20) = m ((c.tc : Thread Cert.Kernel15.nD Cert.Kernel15.τ).loc Cert.Kernel15.main_arg20)
      ∧ r.2.mem ((c.tc : Thread Cert.Kernel15.nD Cert.Kernel15.τ).loc Cert.Kernel15.main_arg21) = m ((c.tc : Thread Cert.Kernel15.nD Cert.Kernel15.τ).loc Cert.Kernel15.main_arg21)
      ∧ r.2.mem ((c.tc : Thread Cert.Kernel15.nD Cert.Kernel15.τ).loc Cert.Kernel15.main_arg22) = m ((c.tc : Thread Cert.Kernel15.nD Cert.Kernel15.τ).loc Cert.Kernel15.main_arg22)
      ∧ r.2.mem ((c.tc : Thread Cert.Kernel15.nD Cert.Kernel15.τ).loc Cert.Kernel15.main_arg23) = m ((c.tc : Thread Cert.Kernel15.nD Cert.Kernel15.τ).loc Cert.Kernel15.main_arg23)
      ∧ r.2.mem ((c.tc : Thread Cert.Kernel15.nD Cert.Kernel15.τ).loc Cert.Kernel15.main_arg24) = m ((c.tc : Thread Cert.Kernel15.nD Cert.Kernel15.τ).loc Cert.Kernel15.main_arg24)
      ∧ r.2.mem ((c.tc : Thread Cert.Kernel15.nD Cert.Kernel15.τ).loc Cert.Kernel15.main_arg25) = m ((c.tc : Thread Cert.Kernel15.nD Cert.Kernel15.τ).loc Cert.Kernel15.main_arg25)
      ∧ r.2.mem ((c.tc : Thread Cert.Kernel15.nD Cert.Kernel15.τ).loc Cert.Kernel15.main_arg26) = m ((c.tc : Thread Cert.Kernel15.nD Cert.Kernel15.τ).loc Cert.Kernel15.main_arg26)
      ∧ r.2.mem ((c.tc : Thread Cert.Kernel15.nD Cert.Kernel15.τ).loc Cert.Kernel15.main_arg27) = m ((c.tc : Thread Cert.Kernel15.nD Cert.Kernel15.τ).loc Cert.Kernel15.main_arg27)
      ∧ r.2.mem ((c.tc : Thread Cert.Kernel15.nD Cert.Kernel15.τ).loc Cert.Kernel15.main_arg28) = m ((c.tc : Thread Cert.Kernel15.nD Cert.Kernel15.τ).loc Cert.Kernel15.main_arg28)
      ∧ r.2.mem ((c.tc : Thread Cert.Kernel15.nD Cert.Kernel15.τ).loc Cert.Kernel15.main_arg29) = m ((c.tc : Thread Cert.Kernel15.nD Cert.Kernel15.τ).loc Cert.Kernel15.main_arg29)
      ∧ r.2.mem ((c.tc : Thread Cert.Kernel15.nD Cert.Kernel15.τ).loc Cert.Kernel15.main_arg30) = m ((c.tc : Thread Cert.Kernel15.nD Cert.Kernel15.τ).loc Cert.Kernel15.main_arg30)
      ∧ r.2.mem ((c.tc : Thread Cert.Kernel15.nD Cert.Kernel15.τ).loc Cert.Kernel15.main_arg31) = m ((c.tc : Thread Cert.Kernel15.nD Cert.Kernel15.τ).loc Cert.Kernel15.main_arg31)
      ∧ r.2.mem ((c.tc : Thread Cert.Kernel15.nD Cert.Kernel15.τ).loc Cert.Kernel15.main_arg32) = m ((c.tc : Thread Cert.Kernel15.nD Cert.Kernel15.τ).loc Cert.Kernel15.main_arg32)
      ∧ r.2.mem ((c.tc : Thread Cert.Kernel15.nD Cert.Kernel15.τ).loc Cert.Kernel15.main_arg33) = m ((c.tc : Thread Cert.Kernel15.nD Cert.Kernel15.τ).loc Cert.Kernel15.main_arg33)
      ∧ r.2.mem ((c.tc : Thread Cert.Kernel15.nD Cert.Kernel15.τ).loc Cert.Kernel15.main_arg34) = m ((c.tc : Thread Cert.Kernel15.nD Cert.Kernel15.τ).loc Cert.Kernel15.main_arg34)
      ∧ r.2.mem ((c.tc : Thread Cert.Kernel15.nD Cert.Kernel15.τ).loc Cert.Kernel15.main_arg35) = m ((c.tc : Thread Cert.Kernel15.nD Cert.Kernel15.τ).loc Cert.Kernel15.main_arg35)
      ∧ r.2.mem ((c.tc : Thread Cert.Kernel15.nD Cert.Kernel15.τ).loc Cert.Kernel15.main_arg36) = m ((c.tc : Thread Cert.Kernel15.nD Cert.Kernel15.τ).loc Cert.Kernel15.main_arg36)
      ∧ r.2.mem ((c.tc : Thread Cert.Kernel15.nD Cert.Kernel15.τ).loc Cert.Kernel15.main_arg37) = m ((c.tc : Thread Cert.Kernel15.nD Cert.Kernel15.τ).loc Cert.Kernel15.main_arg37)
      ∧ r.2.mem ((c.tc : Thread Cert.Kernel15.nD Cert.Kernel15.τ).loc Cert.Kernel15.main_arg38) = m ((c.tc : Thread Cert.Kernel15.nD Cert.Kernel15.τ).loc Cert.Kernel15.main_arg38)
      ∧ r.2.mem ((c.tc : Thread Cert.Kernel15.nD Cert.Kernel15.τ).loc Cert.Kernel15.main_arg39) = m ((c.tc : Thread Cert.Kernel15.nD Cert.Kernel15.τ).loc Cert.Kernel15.main_arg39))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
      ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
      ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9)
      ∧ r.2.mem ((c.tc : Thread Cert.Kernel15Ideal.nD Cert.Kernel15Ideal.τ).loc Cert.Kernel15Ideal.main_arg10) = m ((c.tc : Thread Cert.Kernel15Ideal.nD Cert.Kernel15Ideal.τ).loc Cert.Kernel15Ideal.main_arg10)
      ∧ r.2.mem ((c.tc : Thread Cert.Kernel15Ideal.nD Cert.Kernel15Ideal.τ).loc Cert.Kernel15Ideal.main_arg11) = m ((c.tc : Thread Cert.Kernel15Ideal.nD Cert.Kernel15Ideal.τ).loc Cert.Kernel15Ideal.main_arg11)
      ∧ r.2.mem ((c.tc : Thread Cert.Kernel15Ideal.nD Cert.Kernel15Ideal.τ).loc Cert.Kernel15Ideal.main_arg12) = m ((c.tc : Thread Cert.Kernel15Ideal.nD Cert.Kernel15Ideal.τ).loc Cert.Kernel15Ideal.main_arg12)
      ∧ r.2.mem ((c.tc : Thread Cert.Kernel15Ideal.nD Cert.Kernel15Ideal.τ).loc Cert.Kernel15Ideal.main_arg13) = m ((c.tc : Thread Cert.Kernel15Ideal.nD Cert.Kernel15Ideal.τ).loc Cert.Kernel15Ideal.main_arg13)
      ∧ r.2.mem ((c.tc : Thread Cert.Kernel15Ideal.nD Cert.Kernel15Ideal.τ).loc Cert.Kernel15Ideal.main_arg14) = m ((c.tc : Thread Cert.Kernel15Ideal.nD Cert.Kernel15Ideal.τ).loc Cert.Kernel15Ideal.main_arg14)
      ∧ r.2.mem ((c.tc : Thread Cert.Kernel15Ideal.nD Cert.Kernel15Ideal.τ).loc Cert.Kernel15Ideal.main_arg15) = m ((c.tc : Thread Cert.Kernel15Ideal.nD Cert.Kernel15Ideal.τ).loc Cert.Kernel15Ideal.main_arg15)
      ∧ r.2.mem ((c.tc : Thread Cert.Kernel15Ideal.nD Cert.Kernel15Ideal.τ).loc Cert.Kernel15Ideal.main_arg16) = m ((c.tc : Thread Cert.Kernel15Ideal.nD Cert.Kernel15Ideal.τ).loc Cert.Kernel15Ideal.main_arg16)
      ∧ r.2.mem ((c.tc : Thread Cert.Kernel15Ideal.nD Cert.Kernel15Ideal.τ).loc Cert.Kernel15Ideal.main_arg17) = m ((c.tc : Thread Cert.Kernel15Ideal.nD Cert.Kernel15Ideal.τ).loc Cert.Kernel15Ideal.main_arg17)
      ∧ r.2.mem ((c.tc : Thread Cert.Kernel15Ideal.nD Cert.Kernel15Ideal.τ).loc Cert.Kernel15Ideal.main_arg18) = m ((c.tc : Thread Cert.Kernel15Ideal.nD Cert.Kernel15Ideal.τ).loc Cert.Kernel15Ideal.main_arg18)
      ∧ r.2.mem ((c.tc : Thread Cert.Kernel15Ideal.nD Cert.Kernel15Ideal.τ).loc Cert.Kernel15Ideal.main_arg19) = m ((c.tc : Thread Cert.Kernel15Ideal.nD Cert.Kernel15Ideal.τ).loc Cert.Kernel15Ideal.main_arg19)
      ∧ r.2.mem ((c.tc : Thread Cert.Kernel15Ideal.nD Cert.Kernel15Ideal.τ).loc Cert.Kernel15Ideal.main_arg20) = m ((c.tc : Thread Cert.Kernel15Ideal.nD Cert.Kernel15Ideal.τ).loc Cert.Kernel15Ideal.main_arg20)
      ∧ r.2.mem ((c.tc : Thread Cert.Kernel15Ideal.nD Cert.Kernel15Ideal.τ).loc Cert.Kernel15Ideal.main_arg21) = m ((c.tc : Thread Cert.Kernel15Ideal.nD Cert.Kernel15Ideal.τ).loc Cert.Kernel15Ideal.main_arg21)
      ∧ r.2.mem ((c.tc : Thread Cert.Kernel15Ideal.nD Cert.Kernel15Ideal.τ).loc Cert.Kernel15Ideal.main_arg22) = m ((c.tc : Thread Cert.Kernel15Ideal.nD Cert.Kernel15Ideal.τ).loc Cert.Kernel15Ideal.main_arg22)
      ∧ r.2.mem ((c.tc : Thread Cert.Kernel15Ideal.nD Cert.Kernel15Ideal.τ).loc Cert.Kernel15Ideal.main_arg23) = m ((c.tc : Thread Cert.Kernel15Ideal.nD Cert.Kernel15Ideal.τ).loc Cert.Kernel15Ideal.main_arg23)
      ∧ r.2.mem ((c.tc : Thread Cert.Kernel15Ideal.nD Cert.Kernel15Ideal.τ).loc Cert.Kernel15Ideal.main_arg24) = m ((c.tc : Thread Cert.Kernel15Ideal.nD Cert.Kernel15Ideal.τ).loc Cert.Kernel15Ideal.main_arg24)
      ∧ r.2.mem ((c.tc : Thread Cert.Kernel15Ideal.nD Cert.Kernel15Ideal.τ).loc Cert.Kernel15Ideal.main_arg25) = m ((c.tc : Thread Cert.Kernel15Ideal.nD Cert.Kernel15Ideal.τ).loc Cert.Kernel15Ideal.main_arg25)
      ∧ r.2.mem ((c.tc : Thread Cert.Kernel15Ideal.nD Cert.Kernel15Ideal.τ).loc Cert.Kernel15Ideal.main_arg26) = m ((c.tc : Thread Cert.Kernel15Ideal.nD Cert.Kernel15Ideal.τ).loc Cert.Kernel15Ideal.main_arg26)
      ∧ r.2.mem ((c.tc : Thread Cert.Kernel15Ideal.nD Cert.Kernel15Ideal.τ).loc Cert.Kernel15Ideal.main_arg27) = m ((c.tc : Thread Cert.Kernel15Ideal.nD Cert.Kernel15Ideal.τ).loc Cert.Kernel15Ideal.main_arg27)
      ∧ r.2.mem ((c.tc : Thread Cert.Kernel15Ideal.nD Cert.Kernel15Ideal.τ).loc Cert.Kernel15Ideal.main_arg28) = m ((c.tc : Thread Cert.Kernel15Ideal.nD Cert.Kernel15Ideal.τ).loc Cert.Kernel15Ideal.main_arg28)
      ∧ r.2.mem ((c.tc : Thread Cert.Kernel15Ideal.nD Cert.Kernel15Ideal.τ).loc Cert.Kernel15Ideal.main_arg29) = m ((c.tc : Thread Cert.Kernel15Ideal.nD Cert.Kernel15Ideal.τ).loc Cert.Kernel15Ideal.main_arg29)
      ∧ r.2.mem ((c.tc : Thread Cert.Kernel15Ideal.nD Cert.Kernel15Ideal.τ).loc Cert.Kernel15Ideal.main_arg30) = m ((c.tc : Thread Cert.Kernel15Ideal.nD Cert.Kernel15Ideal.τ).loc Cert.Kernel15Ideal.main_arg30)
      ∧ r.2.mem ((c.tc : Thread Cert.Kernel15Ideal.nD Cert.Kernel15Ideal.τ).loc Cert.Kernel15Ideal.main_arg31) = m ((c.tc : Thread Cert.Kernel15Ideal.nD Cert.Kernel15Ideal.τ).loc Cert.Kernel15Ideal.main_arg31)
      ∧ r.2.mem ((c.tc : Thread Cert.Kernel15Ideal.nD Cert.Kernel15Ideal.τ).loc Cert.Kernel15Ideal.main_arg32) = m ((c.tc : Thread Cert.Kernel15Ideal.nD Cert.Kernel15Ideal.τ).loc Cert.Kernel15Ideal.main_arg32)
      ∧ r.2.mem ((c.tc : Thread Cert.Kernel15Ideal.nD Cert.Kernel15Ideal.τ).loc Cert.Kernel15Ideal.main_arg33) = m ((c.tc : Thread Cert.Kernel15Ideal.nD Cert.Kernel15Ideal.τ).loc Cert.Kernel15Ideal.main_arg33)
      ∧ r.2.mem ((c.tc : Thread Cert.Kernel15Ideal.nD Cert.Kernel15Ideal.τ).loc Cert.Kernel15Ideal.main_arg34) = m ((c.tc : Thread Cert.Kernel15Ideal.nD Cert.Kernel15Ideal.τ).loc Cert.Kernel15Ideal.main_arg34)
      ∧ r.2.mem ((c.tc : Thread Cert.Kernel15Ideal.nD Cert.Kernel15Ideal.τ).loc Cert.Kernel15Ideal.main_arg35) = m ((c.tc : Thread Cert.Kernel15Ideal.nD Cert.Kernel15Ideal.τ).loc Cert.Kernel15Ideal.main_arg35)
      ∧ r.2.mem ((c.tc : Thread Cert.Kernel15Ideal.nD Cert.Kernel15Ideal.τ).loc Cert.Kernel15Ideal.main_arg36) = m ((c.tc : Thread Cert.Kernel15Ideal.nD Cert.Kernel15Ideal.τ).loc Cert.Kernel15Ideal.main_arg36)
      ∧ r.2.mem ((c.tc : Thread Cert.Kernel15Ideal.nD Cert.Kernel15Ideal.τ).loc Cert.Kernel15Ideal.main_arg37) = m ((c.tc : Thread Cert.Kernel15Ideal.nD Cert.Kernel15Ideal.τ).loc Cert.Kernel15Ideal.main_arg37)
      ∧ r.2.mem ((c.tc : Thread Cert.Kernel15Ideal.nD Cert.Kernel15Ideal.τ).loc Cert.Kernel15Ideal.main_arg38) = m ((c.tc : Thread Cert.Kernel15Ideal.nD Cert.Kernel15Ideal.τ).loc Cert.Kernel15Ideal.main_arg38)
      ∧ r.2.mem ((c.tc : Thread Cert.Kernel15Ideal.nD Cert.Kernel15Ideal.τ).loc Cert.Kernel15Ideal.main_arg39) = m ((c.tc : Thread Cert.Kernel15Ideal.nD Cert.Kernel15Ideal.τ).loc Cert.Kernel15Ideal.main_arg39))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7)
      ∧ r.2.mem ((c.tc : Thread Cert.Reference15Ideal.nD Cert.Reference15Ideal.τ).loc Cert.Reference15Ideal.main_arg8) = m ((c.tc : Thread Cert.Reference15Ideal.nD Cert.Reference15Ideal.τ).loc Cert.Reference15Ideal.main_arg8)
      ∧ r.2.mem ((c.tc : Thread Cert.Reference15Ideal.nD Cert.Reference15Ideal.τ).loc Cert.Reference15Ideal.main_arg9) = m ((c.tc : Thread Cert.Reference15Ideal.nD Cert.Reference15Ideal.τ).loc Cert.Reference15Ideal.main_arg9)
      ∧ r.2.mem ((c.tc : Thread Cert.Reference15Ideal.nD Cert.Reference15Ideal.τ).loc Cert.Reference15Ideal.main_arg10) = m ((c.tc : Thread Cert.Reference15Ideal.nD Cert.Reference15Ideal.τ).loc Cert.Reference15Ideal.main_arg10)
      ∧ r.2.mem ((c.tc : Thread Cert.Reference15Ideal.nD Cert.Reference15Ideal.τ).loc Cert.Reference15Ideal.main_arg11) = m ((c.tc : Thread Cert.Reference15Ideal.nD Cert.Reference15Ideal.τ).loc Cert.Reference15Ideal.main_arg11)
      ∧ r.2.mem ((c.tc : Thread Cert.Reference15Ideal.nD Cert.Reference15Ideal.τ).loc Cert.Reference15Ideal.main_arg12) = m ((c.tc : Thread Cert.Reference15Ideal.nD Cert.Reference15Ideal.τ).loc Cert.Reference15Ideal.main_arg12)
      ∧ r.2.mem ((c.tc : Thread Cert.Reference15Ideal.nD Cert.Reference15Ideal.τ).loc Cert.Reference15Ideal.main_arg13) = m ((c.tc : Thread Cert.Reference15Ideal.nD Cert.Reference15Ideal.τ).loc Cert.Reference15Ideal.main_arg13)
      ∧ r.2.mem ((c.tc : Thread Cert.Reference15Ideal.nD Cert.Reference15Ideal.τ).loc Cert.Reference15Ideal.main_arg14) = m ((c.tc : Thread Cert.Reference15Ideal.nD Cert.Reference15Ideal.τ).loc Cert.Reference15Ideal.main_arg14)
      ∧ r.2.mem ((c.tc : Thread Cert.Reference15Ideal.nD Cert.Reference15Ideal.τ).loc Cert.Reference15Ideal.main_arg15) = m ((c.tc : Thread Cert.Reference15Ideal.nD Cert.Reference15Ideal.τ).loc Cert.Reference15Ideal.main_arg15)
      ∧ r.2.mem ((c.tc : Thread Cert.Reference15Ideal.nD Cert.Reference15Ideal.τ).loc Cert.Reference15Ideal.main_arg16) = m ((c.tc : Thread Cert.Reference15Ideal.nD Cert.Reference15Ideal.τ).loc Cert.Reference15Ideal.main_arg16)
      ∧ r.2.mem ((c.tc : Thread Cert.Reference15Ideal.nD Cert.Reference15Ideal.τ).loc Cert.Reference15Ideal.main_arg17) = m ((c.tc : Thread Cert.Reference15Ideal.nD Cert.Reference15Ideal.τ).loc Cert.Reference15Ideal.main_arg17)
      ∧ r.2.mem ((c.tc : Thread Cert.Reference15Ideal.nD Cert.Reference15Ideal.τ).loc Cert.Reference15Ideal.main_arg18) = m ((c.tc : Thread Cert.Reference15Ideal.nD Cert.Reference15Ideal.τ).loc Cert.Reference15Ideal.main_arg18)
      ∧ r.2.mem ((c.tc : Thread Cert.Reference15Ideal.nD Cert.Reference15Ideal.τ).loc Cert.Reference15Ideal.main_arg19) = m ((c.tc : Thread Cert.Reference15Ideal.nD Cert.Reference15Ideal.τ).loc Cert.Reference15Ideal.main_arg19)
      ∧ r.2.mem ((c.tc : Thread Cert.Reference15Ideal.nD Cert.Reference15Ideal.τ).loc Cert.Reference15Ideal.main_arg20) = m ((c.tc : Thread Cert.Reference15Ideal.nD Cert.Reference15Ideal.τ).loc Cert.Reference15Ideal.main_arg20)
      ∧ r.2.mem ((c.tc : Thread Cert.Reference15Ideal.nD Cert.Reference15Ideal.τ).loc Cert.Reference15Ideal.main_arg21) = m ((c.tc : Thread Cert.Reference15Ideal.nD Cert.Reference15Ideal.τ).loc Cert.Reference15Ideal.main_arg21)
      ∧ r.2.mem ((c.tc : Thread Cert.Reference15Ideal.nD Cert.Reference15Ideal.τ).loc Cert.Reference15Ideal.main_arg22) = m ((c.tc : Thread Cert.Reference15Ideal.nD Cert.Reference15Ideal.τ).loc Cert.Reference15Ideal.main_arg22)
      ∧ r.2.mem ((c.tc : Thread Cert.Reference15Ideal.nD Cert.Reference15Ideal.τ).loc Cert.Reference15Ideal.main_arg23) = m ((c.tc : Thread Cert.Reference15Ideal.nD Cert.Reference15Ideal.τ).loc Cert.Reference15Ideal.main_arg23)
      ∧ r.2.mem ((c.tc : Thread Cert.Reference15Ideal.nD Cert.Reference15Ideal.τ).loc Cert.Reference15Ideal.main_arg24) = m ((c.tc : Thread Cert.Reference15Ideal.nD Cert.Reference15Ideal.τ).loc Cert.Reference15Ideal.main_arg24)
      ∧ r.2.mem ((c.tc : Thread Cert.Reference15Ideal.nD Cert.Reference15Ideal.τ).loc Cert.Reference15Ideal.main_arg25) = m ((c.tc : Thread Cert.Reference15Ideal.nD Cert.Reference15Ideal.τ).loc Cert.Reference15Ideal.main_arg25)
      ∧ r.2.mem ((c.tc : Thread Cert.Reference15Ideal.nD Cert.Reference15Ideal.τ).loc Cert.Reference15Ideal.main_arg26) = m ((c.tc : Thread Cert.Reference15Ideal.nD Cert.Reference15Ideal.τ).loc Cert.Reference15Ideal.main_arg26)
      ∧ r.2.mem ((c.tc : Thread Cert.Reference15Ideal.nD Cert.Reference15Ideal.τ).loc Cert.Reference15Ideal.main_arg27) = m ((c.tc : Thread Cert.Reference15Ideal.nD Cert.Reference15Ideal.τ).loc Cert.Reference15Ideal.main_arg27)
      ∧ r.2.mem ((c.tc : Thread Cert.Reference15Ideal.nD Cert.Reference15Ideal.τ).loc Cert.Reference15Ideal.main_arg28) = m ((c.tc : Thread Cert.Reference15Ideal.nD Cert.Reference15Ideal.τ).loc Cert.Reference15Ideal.main_arg28)
      ∧ r.2.mem ((c.tc : Thread Cert.Reference15Ideal.nD Cert.Reference15Ideal.τ).loc Cert.Reference15Ideal.main_arg29) = m ((c.tc : Thread Cert.Reference15Ideal.nD Cert.Reference15Ideal.τ).loc Cert.Reference15Ideal.main_arg29)
      ∧ r.2.mem ((c.tc : Thread Cert.Reference15Ideal.nD Cert.Reference15Ideal.τ).loc Cert.Reference15Ideal.main_arg30) = m ((c.tc : Thread Cert.Reference15Ideal.nD Cert.Reference15Ideal.τ).loc Cert.Reference15Ideal.main_arg30)
      ∧ r.2.mem ((c.tc : Thread Cert.Reference15Ideal.nD Cert.Reference15Ideal.τ).loc Cert.Reference15Ideal.main_arg31) = m ((c.tc : Thread Cert.Reference15Ideal.nD Cert.Reference15Ideal.τ).loc Cert.Reference15Ideal.main_arg31)
      ∧ r.2.mem ((c.tc : Thread Cert.Reference15Ideal.nD Cert.Reference15Ideal.τ).loc Cert.Reference15Ideal.main_arg32) = m ((c.tc : Thread Cert.Reference15Ideal.nD Cert.Reference15Ideal.τ).loc Cert.Reference15Ideal.main_arg32)
      ∧ r.2.mem ((c.tc : Thread Cert.Reference15Ideal.nD Cert.Reference15Ideal.τ).loc Cert.Reference15Ideal.main_arg33) = m ((c.tc : Thread Cert.Reference15Ideal.nD Cert.Reference15Ideal.τ).loc Cert.Reference15Ideal.main_arg33)
      ∧ r.2.mem ((c.tc : Thread Cert.Reference15Ideal.nD Cert.Reference15Ideal.τ).loc Cert.Reference15Ideal.main_arg34) = m ((c.tc : Thread Cert.Reference15Ideal.nD Cert.Reference15Ideal.τ).loc Cert.Reference15Ideal.main_arg34)
      ∧ r.2.mem ((c.tc : Thread Cert.Reference15Ideal.nD Cert.Reference15Ideal.τ).loc Cert.Reference15Ideal.main_arg35) = m ((c.tc : Thread Cert.Reference15Ideal.nD Cert.Reference15Ideal.τ).loc Cert.Reference15Ideal.main_arg35)
      ∧ r.2.mem ((c.tc : Thread Cert.Reference15Ideal.nD Cert.Reference15Ideal.τ).loc Cert.Reference15Ideal.main_arg36) = m ((c.tc : Thread Cert.Reference15Ideal.nD Cert.Reference15Ideal.τ).loc Cert.Reference15Ideal.main_arg36)
      ∧ r.2.mem ((c.tc : Thread Cert.Reference15Ideal.nD Cert.Reference15Ideal.τ).loc Cert.Reference15Ideal.main_arg37) = m ((c.tc : Thread Cert.Reference15Ideal.nD Cert.Reference15Ideal.τ).loc Cert.Reference15Ideal.main_arg37)
      ∧ r.2.mem ((c.tc : Thread Cert.Reference15Ideal.nD Cert.Reference15Ideal.τ).loc Cert.Reference15Ideal.main_arg38) = m ((c.tc : Thread Cert.Reference15Ideal.nD Cert.Reference15Ideal.τ).loc Cert.Reference15Ideal.main_arg38)
      ∧ r.2.mem ((c.tc : Thread Cert.Reference15Ideal.nD Cert.Reference15Ideal.τ).loc Cert.Reference15Ideal.main_arg39) = m ((c.tc : Thread Cert.Reference15Ideal.nD Cert.Reference15Ideal.τ).loc Cert.Reference15Ideal.main_arg39))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)) (v7 : (c : Dev Cert.KernelIdeal.nD) → Buf (Elt Ideal) ((c.tc : Thread Cert.KernelIdeal.nD Cert.KernelIdeal.τ).loc Cert.KernelIdeal.main_v0_7)) (v8 : (c : Dev Cert.KernelIdeal.nD) → Buf (Elt Ideal) ((c.tc : Thread Cert.KernelIdeal.nD Cert.KernelIdeal.τ).loc Cert.KernelIdeal.main_v0_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_v0_7) = v7 c
          ∧ r.2.mem ((c.tc : Thread Cert.KernelIdeal.nD Cert.KernelIdeal.τ).loc Cert.KernelIdeal.main_v0_8) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v97) = v1 c
          ∧ r.2.mem ((c.tc : Thread Cert.ReferenceIdeal.nD Cert.ReferenceIdeal.τ).loc Cert.ReferenceIdeal.main_v98) = v2 c
          ∧ r.2.mem ((c.tc : Thread Cert.ReferenceIdeal.nD Cert.ReferenceIdeal.τ).loc Cert.ReferenceIdeal.main_v99) = v3 c
          ∧ r.2.mem ((c.tc : Thread Cert.ReferenceIdeal.nD Cert.ReferenceIdeal.τ).loc Cert.ReferenceIdeal.main_v100) = v4 c
          ∧ r.2.mem ((c.tc : Thread Cert.ReferenceIdeal.nD Cert.ReferenceIdeal.τ).loc Cert.ReferenceIdeal.main_v101) = v5 c
          ∧ r.2.mem ((c.tc : Thread Cert.ReferenceIdeal.nD Cert.ReferenceIdeal.τ).loc Cert.ReferenceIdeal.main_v102) = v6 c
          ∧ r.2.mem ((c.tc : Thread Cert.ReferenceIdeal.nD Cert.ReferenceIdeal.τ).loc Cert.ReferenceIdeal.main_v59) = v7 c
          ∧ r.2.mem ((c.tc : Thread Cert.ReferenceIdeal.nD Cert.ReferenceIdeal.τ).loc Cert.ReferenceIdeal.main_v56) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)) (v4 : (c : Dev Cert.Kernel2Ideal.nD) → Buf (Elt Ideal) ((c.tc : Thread Cert.Kernel2Ideal.nD Cert.Kernel2Ideal.τ).loc Cert.Kernel2Ideal.main_v0_4)) (v5 : (c : Dev Cert.Kernel2Ideal.nD) → Buf (Elt Ideal) ((c.tc : Thread Cert.Kernel2Ideal.nD Cert.Kernel2Ideal.τ).loc Cert.Kernel2Ideal.main_v0_5)) (v6 : (c : Dev Cert.Kernel2Ideal.nD) → Buf (Elt Ideal) ((c.tc : Thread Cert.Kernel2Ideal.nD Cert.Kernel2Ideal.τ).loc Cert.Kernel2Ideal.main_v0_6)) (v7 : (c : Dev Cert.Kernel2Ideal.nD) → Buf (Elt Ideal) ((c.tc : Thread Cert.Kernel2Ideal.nD Cert.Kernel2Ideal.τ).loc Cert.Kernel2Ideal.main_v0_7)) (v8 : (c : Dev Cert.Kernel2Ideal.nD) → Buf (Elt Ideal) ((c.tc : Thread Cert.Kernel2Ideal.nD Cert.Kernel2Ideal.τ).loc Cert.Kernel2Ideal.main_v0_8)) (v9 : (c : Dev Cert.Kernel2Ideal.nD) → Buf (Elt Ideal) ((c.tc : Thread Cert.Kernel2Ideal.nD Cert.Kernel2Ideal.τ).loc Cert.Kernel2Ideal.main_v0_9)) (v10 : (c : Dev Cert.Kernel2Ideal.nD) → Buf (Elt Ideal) ((c.tc : Thread Cert.Kernel2Ideal.nD Cert.Kernel2Ideal.τ).loc Cert.Kernel2Ideal.main_v0_10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_v0_4) = v4 c
          ∧ r.2.mem ((c.tc : Thread Cert.Kernel2Ideal.nD Cert.Kernel2Ideal.τ).loc Cert.Kernel2Ideal.main_v0_5) = v5 c
          ∧ r.2.mem ((c.tc : Thread Cert.Kernel2Ideal.nD Cert.Kernel2Ideal.τ).loc Cert.Kernel2Ideal.main_v0_6) = v6 c
          ∧ r.2.mem ((c.tc : Thread Cert.Kernel2Ideal.nD Cert.Kernel2Ideal.τ).loc Cert.Kernel2Ideal.main_v0_7) = v7 c
          ∧ r.2.mem ((c.tc : Thread Cert.Kernel2Ideal.nD Cert.Kernel2Ideal.τ).loc Cert.Kernel2Ideal.main_v0_8) = v8 c
          ∧ r.2.mem ((c.tc : Thread Cert.Kernel2Ideal.nD Cert.Kernel2Ideal.τ).loc Cert.Kernel2Ideal.main_v0_9) = v9 c
          ∧ r.2.mem ((c.tc : Thread Cert.Kernel2Ideal.nD Cert.Kernel2Ideal.τ).loc Cert.Kernel2Ideal.main_v0_10) = v10 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v141) = v0 c
          ∧ r.2.mem ((c.tc : Thread Cert.Reference2Ideal.nD Cert.Reference2Ideal.τ).loc Cert.Reference2Ideal.main_v143) = v1 c
          ∧ r.2.mem ((c.tc : Thread Cert.Reference2Ideal.nD Cert.Reference2Ideal.τ).loc Cert.Reference2Ideal.main_v145) = v2 c
          ∧ r.2.mem ((c.tc : Thread Cert.Reference2Ideal.nD Cert.Reference2Ideal.τ).loc Cert.Reference2Ideal.main_v147) = v3 c
          ∧ r.2.mem ((c.tc : Thread Cert.Reference2Ideal.nD Cert.Reference2Ideal.τ).loc Cert.Reference2Ideal.main_v149) = v4 c
          ∧ r.2.mem ((c.tc : Thread Cert.Reference2Ideal.nD Cert.Reference2Ideal.τ).loc Cert.Reference2Ideal.main_v151) = v5 c
          ∧ r.2.mem ((c.tc : Thread Cert.Reference2Ideal.nD Cert.Reference2Ideal.τ).loc Cert.Reference2Ideal.main_v152) = v6 c
          ∧ r.2.mem ((c.tc : Thread Cert.Reference2Ideal.nD Cert.Reference2Ideal.τ).loc Cert.Reference2Ideal.main_v153) = v7 c
          ∧ r.2.mem ((c.tc : Thread Cert.Reference2Ideal.nD Cert.Reference2Ideal.τ).loc Cert.Reference2Ideal.main_v154) = v8 c
          ∧ r.2.mem ((c.tc : Thread Cert.Reference2Ideal.nD Cert.Reference2Ideal.τ).loc Cert.Reference2Ideal.main_v105) = v9 c
          ∧ r.2.mem ((c.tc : Thread Cert.Reference2Ideal.nD Cert.Reference2Ideal.τ).loc Cert.Reference2Ideal.main_v102) = v10 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v15) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v26_0)) (v1 : (c : Dev Cert.Kernel8Ideal.nD) → Buf (Elt Ideal) ((c.tc : Thread Cert.Kernel8Ideal.nD Cert.Kernel8Ideal.τ).loc Cert.Kernel8Ideal.main_v26_1)) (v2 : (c : Dev Cert.Kernel8Ideal.nD) → Buf (Elt Ideal) ((c.tc : Thread Cert.Kernel8Ideal.nD Cert.Kernel8Ideal.τ).loc Cert.Kernel8Ideal.main_v26_2)) (v3 : (c : Dev Cert.Kernel8Ideal.nD) → Buf (Elt Ideal) ((c.tc : Thread Cert.Kernel8Ideal.nD Cert.Kernel8Ideal.τ).loc Cert.Kernel8Ideal.main_v26_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v26_0) = v0 c
          ∧ r.2.mem ((c.tc : Thread Cert.Kernel8Ideal.nD Cert.Kernel8Ideal.τ).loc Cert.Kernel8Ideal.main_v26_1) = v1 c
          ∧ r.2.mem ((c.tc : Thread Cert.Kernel8Ideal.nD Cert.Kernel8Ideal.τ).loc Cert.Kernel8Ideal.main_v26_2) = v2 c
          ∧ r.2.mem ((c.tc : Thread Cert.Kernel8Ideal.nD Cert.Kernel8Ideal.τ).loc Cert.Kernel8Ideal.main_v26_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v25) = v0 c
          ∧ r.2.mem ((c.tc : Thread Cert.Reference8Ideal.nD Cert.Reference8Ideal.τ).loc Cert.Reference8Ideal.main_v37) = v1 c
          ∧ r.2.mem ((c.tc : Thread Cert.Reference8Ideal.nD Cert.Reference8Ideal.τ).loc Cert.Reference8Ideal.main_v100) = v2 c
          ∧ r.2.mem ((c.tc : Thread Cert.Reference8Ideal.nD Cert.Reference8Ideal.τ).loc Cert.Reference8Ideal.main_v36) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_arg1) = v0 c
          ∧ r.2.mem ((c.tc : Thread Cert.Reference9Ideal.nD Cert.Reference9Ideal.τ).loc Cert.Reference9Ideal.main_v23) = v1 c
          ∧ r.2.mem ((c.tc : Thread Cert.Reference9Ideal.nD Cert.Reference9Ideal.τ).loc Cert.Reference9Ideal.main_v4) = v2 c
          ∧ r.2.mem ((c.tc : Thread Cert.Reference9Ideal.nD Cert.Reference9Ideal.τ).loc Cert.Reference9Ideal.main_v10) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_arg1) = v0 c
          ∧ r.2.mem ((c.tc : Thread Cert.Reference10Ideal.nD Cert.Reference10Ideal.τ).loc Cert.Reference10Ideal.main_v23) = v1 c
          ∧ r.2.mem ((c.tc : Thread Cert.Reference10Ideal.nD Cert.Reference10Ideal.τ).loc Cert.Reference10Ideal.main_v4) = v2 c
          ∧ r.2.mem ((c.tc : Thread Cert.Reference10Ideal.nD Cert.Reference10Ideal.τ).loc Cert.Reference10Ideal.main_v10) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_arg1) = v0 c
          ∧ r.2.mem ((c.tc : Thread Cert.Reference11Ideal.nD Cert.Reference11Ideal.τ).loc Cert.Reference11Ideal.main_v23) = v1 c
          ∧ r.2.mem ((c.tc : Thread Cert.Reference11Ideal.nD Cert.Reference11Ideal.τ).loc Cert.Reference11Ideal.main_v4) = v2 c
          ∧ r.2.mem ((c.tc : Thread Cert.Reference11Ideal.nD Cert.Reference11Ideal.τ).loc Cert.Reference11Ideal.main_v10) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_arg1) = v0 c
          ∧ r.2.mem ((c.tc : Thread Cert.Reference12Ideal.nD Cert.Reference12Ideal.τ).loc Cert.Reference12Ideal.main_v23) = v1 c
          ∧ r.2.mem ((c.tc : Thread Cert.Reference12Ideal.nD Cert.Reference12Ideal.τ).loc Cert.Reference12Ideal.main_v4) = v2 c
          ∧ r.2.mem ((c.tc : Thread Cert.Reference12Ideal.nD Cert.Reference12Ideal.τ).loc Cert.Reference12Ideal.main_v10) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_arg1) = v0 c
          ∧ r.2.mem ((c.tc : Thread Cert.Reference13Ideal.nD Cert.Reference13Ideal.τ).loc Cert.Reference13Ideal.main_v23) = v1 c
          ∧ r.2.mem ((c.tc : Thread Cert.Reference13Ideal.nD Cert.Reference13Ideal.τ).loc Cert.Reference13Ideal.main_v4) = v2 c
          ∧ r.2.mem ((c.tc : Thread Cert.Reference13Ideal.nD Cert.Reference13Ideal.τ).loc Cert.Reference13Ideal.main_v10) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v0) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
      ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)
      ∧ m' ((c.tc : Thread Cert.Reference15Ideal.nD Cert.Reference15Ideal.τ).loc Cert.Reference15Ideal.main_arg8) = m ((c.tc : Thread Cert.Kernel15Ideal.nD Cert.Kernel15Ideal.τ).loc Cert.Kernel15Ideal.main_arg8)
      ∧ m' ((c.tc : Thread Cert.Reference15Ideal.nD Cert.Reference15Ideal.τ).loc Cert.Reference15Ideal.main_arg9) = m ((c.tc : Thread Cert.Kernel15Ideal.nD Cert.Kernel15Ideal.τ).loc Cert.Kernel15Ideal.main_arg9)
      ∧ m' ((c.tc : Thread Cert.Reference15Ideal.nD Cert.Reference15Ideal.τ).loc Cert.Reference15Ideal.main_arg10) = m ((c.tc : Thread Cert.Kernel15Ideal.nD Cert.Kernel15Ideal.τ).loc Cert.Kernel15Ideal.main_arg10)
      ∧ m' ((c.tc : Thread Cert.Reference15Ideal.nD Cert.Reference15Ideal.τ).loc Cert.Reference15Ideal.main_arg11) = m ((c.tc : Thread Cert.Kernel15Ideal.nD Cert.Kernel15Ideal.τ).loc Cert.Kernel15Ideal.main_arg11)
      ∧ m' ((c.tc : Thread Cert.Reference15Ideal.nD Cert.Reference15Ideal.τ).loc Cert.Reference15Ideal.main_arg12) = m ((c.tc : Thread Cert.Kernel15Ideal.nD Cert.Kernel15Ideal.τ).loc Cert.Kernel15Ideal.main_arg12)
      ∧ m' ((c.tc : Thread Cert.Reference15Ideal.nD Cert.Reference15Ideal.τ).loc Cert.Reference15Ideal.main_arg13) = m ((c.tc : Thread Cert.Kernel15Ideal.nD Cert.Kernel15Ideal.τ).loc Cert.Kernel15Ideal.main_arg13)
      ∧ m' ((c.tc : Thread Cert.Reference15Ideal.nD Cert.Reference15Ideal.τ).loc Cert.Reference15Ideal.main_arg14) = m ((c.tc : Thread Cert.Kernel15Ideal.nD Cert.Kernel15Ideal.τ).loc Cert.Kernel15Ideal.main_arg14)
      ∧ m' ((c.tc : Thread Cert.Reference15Ideal.nD Cert.Reference15Ideal.τ).loc Cert.Reference15Ideal.main_arg15) = m ((c.tc : Thread Cert.Kernel15Ideal.nD Cert.Kernel15Ideal.τ).loc Cert.Kernel15Ideal.main_arg15)
      ∧ m' ((c.tc : Thread Cert.Reference15Ideal.nD Cert.Reference15Ideal.τ).loc Cert.Reference15Ideal.main_arg16) = m ((c.tc : Thread Cert.Kernel15Ideal.nD Cert.Kernel15Ideal.τ).loc Cert.Kernel15Ideal.main_arg16)
      ∧ m' ((c.tc : Thread Cert.Reference15Ideal.nD Cert.Reference15Ideal.τ).loc Cert.Reference15Ideal.main_arg17) = m ((c.tc : Thread Cert.Kernel15Ideal.nD Cert.Kernel15Ideal.τ).loc Cert.Kernel15Ideal.main_arg17)
      ∧ m' ((c.tc : Thread Cert.Reference15Ideal.nD Cert.Reference15Ideal.τ).loc Cert.Reference15Ideal.main_arg18) = m ((c.tc : Thread Cert.Kernel15Ideal.nD Cert.Kernel15Ideal.τ).loc Cert.Kernel15Ideal.main_arg18)
      ∧ m' ((c.tc : Thread Cert.Reference15Ideal.nD Cert.Reference15Ideal.τ).loc Cert.Reference15Ideal.main_arg19) = m ((c.tc : Thread Cert.Kernel15Ideal.nD Cert.Kernel15Ideal.τ).loc Cert.Kernel15Ideal.main_arg19)
      ∧ m' ((c.tc : Thread Cert.Reference15Ideal.nD Cert.Reference15Ideal.τ).loc Cert.Reference15Ideal.main_arg20) = m ((c.tc : Thread Cert.Kernel15Ideal.nD Cert.Kernel15Ideal.τ).loc Cert.Kernel15Ideal.main_arg20)
      ∧ m' ((c.tc : Thread Cert.Reference15Ideal.nD Cert.Reference15Ideal.τ).loc Cert.Reference15Ideal.main_arg21) = m ((c.tc : Thread Cert.Kernel15Ideal.nD Cert.Kernel15Ideal.τ).loc Cert.Kernel15Ideal.main_arg21)
      ∧ m' ((c.tc : Thread Cert.Reference15Ideal.nD Cert.Reference15Ideal.τ).loc Cert.Reference15Ideal.main_arg22) = m ((c.tc : Thread Cert.Kernel15Ideal.nD Cert.Kernel15Ideal.τ).loc Cert.Kernel15Ideal.main_arg22)
      ∧ m' ((c.tc : Thread Cert.Reference15Ideal.nD Cert.Reference15Ideal.τ).loc Cert.Reference15Ideal.main_arg23) = m ((c.tc : Thread Cert.Kernel15Ideal.nD Cert.Kernel15Ideal.τ).loc Cert.Kernel15Ideal.main_arg23)
      ∧ m' ((c.tc : Thread Cert.Reference15Ideal.nD Cert.Reference15Ideal.τ).loc Cert.Reference15Ideal.main_arg24) = m ((c.tc : Thread Cert.Kernel15Ideal.nD Cert.Kernel15Ideal.τ).loc Cert.Kernel15Ideal.main_arg24)
      ∧ m' ((c.tc : Thread Cert.Reference15Ideal.nD Cert.Reference15Ideal.τ).loc Cert.Reference15Ideal.main_arg25) = m ((c.tc : Thread Cert.Kernel15Ideal.nD Cert.Kernel15Ideal.τ).loc Cert.Kernel15Ideal.main_arg25)
      ∧ m' ((c.tc : Thread Cert.Reference15Ideal.nD Cert.Reference15Ideal.τ).loc Cert.Reference15Ideal.main_arg26) = m ((c.tc : Thread Cert.Kernel15Ideal.nD Cert.Kernel15Ideal.τ).loc Cert.Kernel15Ideal.main_arg26)
      ∧ m' ((c.tc : Thread Cert.Reference15Ideal.nD Cert.Reference15Ideal.τ).loc Cert.Reference15Ideal.main_arg27) = m ((c.tc : Thread Cert.Kernel15Ideal.nD Cert.Kernel15Ideal.τ).loc Cert.Kernel15Ideal.main_arg27)
      ∧ m' ((c.tc : Thread Cert.Reference15Ideal.nD Cert.Reference15Ideal.τ).loc Cert.Reference15Ideal.main_arg28) = m ((c.tc : Thread Cert.Kernel15Ideal.nD Cert.Kernel15Ideal.τ).loc Cert.Kernel15Ideal.main_arg28)
      ∧ m' ((c.tc : Thread Cert.Reference15Ideal.nD Cert.Reference15Ideal.τ).loc Cert.Reference15Ideal.main_arg29) = m ((c.tc : Thread Cert.Kernel15Ideal.nD Cert.Kernel15Ideal.τ).loc Cert.Kernel15Ideal.main_arg29)
      ∧ m' ((c.tc : Thread Cert.Reference15Ideal.nD Cert.Reference15Ideal.τ).loc Cert.Reference15Ideal.main_arg30) = m ((c.tc : Thread Cert.Kernel15Ideal.nD Cert.Kernel15Ideal.τ).loc Cert.Kernel15Ideal.main_arg30)
      ∧ m' ((c.tc : Thread Cert.Reference15Ideal.nD Cert.Reference15Ideal.τ).loc Cert.Reference15Ideal.main_arg31) = m ((c.tc : Thread Cert.Kernel15Ideal.nD Cert.Kernel15Ideal.τ).loc Cert.Kernel15Ideal.main_arg31)
      ∧ m' ((c.tc : Thread Cert.Reference15Ideal.nD Cert.Reference15Ideal.τ).loc Cert.Reference15Ideal.main_arg32) = m ((c.tc : Thread Cert.Kernel15Ideal.nD Cert.Kernel15Ideal.τ).loc Cert.Kernel15Ideal.main_arg32)
      ∧ m' ((c.tc : Thread Cert.Reference15Ideal.nD Cert.Reference15Ideal.τ).loc Cert.Reference15Ideal.main_arg33) = m ((c.tc : Thread Cert.Kernel15Ideal.nD Cert.Kernel15Ideal.τ).loc Cert.Kernel15Ideal.main_arg33)
      ∧ m' ((c.tc : Thread Cert.Reference15Ideal.nD Cert.Reference15Ideal.τ).loc Cert.Reference15Ideal.main_arg34) = m ((c.tc : Thread Cert.Kernel15Ideal.nD Cert.Kernel15Ideal.τ).loc Cert.Kernel15Ideal.main_arg34)
      ∧ m' ((c.tc : Thread Cert.Reference15Ideal.nD Cert.Reference15Ideal.τ).loc Cert.Reference15Ideal.main_arg35) = m ((c.tc : Thread Cert.Kernel15Ideal.nD Cert.Kernel15Ideal.τ).loc Cert.Kernel15Ideal.main_arg35)
      ∧ m' ((c.tc : Thread Cert.Reference15Ideal.nD Cert.Reference15Ideal.τ).loc Cert.Reference15Ideal.main_arg36) = m ((c.tc : Thread Cert.Kernel15Ideal.nD Cert.Kernel15Ideal.τ).loc Cert.Kernel15Ideal.main_arg36)
      ∧ m' ((c.tc : Thread Cert.Reference15Ideal.nD Cert.Reference15Ideal.τ).loc Cert.Reference15Ideal.main_arg37) = m ((c.tc : Thread Cert.Kernel15Ideal.nD Cert.Kernel15Ideal.τ).loc Cert.Kernel15Ideal.main_arg37)
      ∧ m' ((c.tc : Thread Cert.Reference15Ideal.nD Cert.Reference15Ideal.τ).loc Cert.Reference15Ideal.main_arg38) = m ((c.tc : Thread Cert.Kernel15Ideal.nD Cert.Kernel15Ideal.τ).loc Cert.Kernel15Ideal.main_arg38)
      ∧ m' ((c.tc : Thread Cert.Reference15Ideal.nD Cert.Reference15Ideal.τ).loc Cert.Reference15Ideal.main_arg39) = m ((c.tc : Thread Cert.Kernel15Ideal.nD Cert.Kernel15Ideal.τ).loc Cert.Kernel15Ideal.main_arg39)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)) (v4 : (c : Dev Cert.Kernel15Ideal.nD) → Buf (Elt Ideal) ((c.tc : Thread Cert.Kernel15Ideal.nD Cert.Kernel15Ideal.τ).loc Cert.Kernel15Ideal.main_v0_4)) (v5 : (c : Dev Cert.Kernel15Ideal.nD) → Buf (Elt Ideal) ((c.tc : Thread Cert.Kernel15Ideal.nD Cert.Kernel15Ideal.τ).loc Cert.Kernel15Ideal.main_v0_5)) (v6 : (c : Dev Cert.Kernel15Ideal.nD) → Buf (Elt Ideal) ((c.tc : Thread Cert.Kernel15Ideal.nD Cert.Kernel15Ideal.τ).loc Cert.Kernel15Ideal.main_v0_6)) (v7 : (c : Dev Cert.Kernel15Ideal.nD) → Buf (Elt Ideal) ((c.tc : Thread Cert.Kernel15Ideal.nD Cert.Kernel15Ideal.τ).loc Cert.Kernel15Ideal.main_v0_7)) (v8 : (c : Dev Cert.Kernel15Ideal.nD) → Buf (Elt Ideal) ((c.tc : Thread Cert.Kernel15Ideal.nD Cert.Kernel15Ideal.τ).loc Cert.Kernel15Ideal.main_v0_8)) (v9 : (c : Dev Cert.Kernel15Ideal.nD) → Buf (Elt Ideal) ((c.tc : Thread Cert.Kernel15Ideal.nD Cert.Kernel15Ideal.τ).loc Cert.Kernel15Ideal.main_v0_9)) (v10 : (c : Dev Cert.Kernel15Ideal.nD) → Buf (Elt Ideal) ((c.tc : Thread Cert.Kernel15Ideal.nD Cert.Kernel15Ideal.τ).loc Cert.Kernel15Ideal.main_v0_10)) (v11 : (c : Dev Cert.Kernel15Ideal.nD) → Buf (Elt Ideal) ((c.tc : Thread Cert.Kernel15Ideal.nD Cert.Kernel15Ideal.τ).loc Cert.Kernel15Ideal.main_v0_11)) (v12 : (c : Dev Cert.Kernel15Ideal.nD) → Buf (Elt Ideal) ((c.tc : Thread Cert.Kernel15Ideal.nD Cert.Kernel15Ideal.τ).loc Cert.Kernel15Ideal.main_v0_12)) (v13 : (c : Dev Cert.Kernel15Ideal.nD) → Buf (Elt Ideal) ((c.tc : Thread Cert.Kernel15Ideal.nD Cert.Kernel15Ideal.τ).loc Cert.Kernel15Ideal.main_v0_13)) (v14 : (c : Dev Cert.Kernel15Ideal.nD) → Buf (Elt Ideal) ((c.tc : Thread Cert.Kernel15Ideal.nD Cert.Kernel15Ideal.τ).loc Cert.Kernel15Ideal.main_v0_14)) (v15 : (c : Dev Cert.Kernel15Ideal.nD) → Buf (Elt Ideal) ((c.tc : Thread Cert.Kernel15Ideal.nD Cert.Kernel15Ideal.τ).loc Cert.Kernel15Ideal.main_v0_15)) (v16 : (c : Dev Cert.Kernel15Ideal.nD) → Buf (Elt Ideal) ((c.tc : Thread Cert.Kernel15Ideal.nD Cert.Kernel15Ideal.τ).loc Cert.Kernel15Ideal.main_v0_16)) (v17 : (c : Dev Cert.Kernel15Ideal.nD) → Buf (Elt Ideal) ((c.tc : Thread Cert.Kernel15Ideal.nD Cert.Kernel15Ideal.τ).loc Cert.Kernel15Ideal.main_v0_17)) (v18 : (c : Dev Cert.Kernel15Ideal.nD) → Buf (Elt Ideal) ((c.tc : Thread Cert.Kernel15Ideal.nD Cert.Kernel15Ideal.τ).loc Cert.Kernel15Ideal.main_v0_18)) (v19 : (c : Dev Cert.Kernel15Ideal.nD) → Buf (Elt Ideal) ((c.tc : Thread Cert.Kernel15Ideal.nD Cert.Kernel15Ideal.τ).loc Cert.Kernel15Ideal.main_v0_19)) (v20 : (c : Dev Cert.Kernel15Ideal.nD) → Buf (Elt Ideal) ((c.tc : Thread Cert.Kernel15Ideal.nD Cert.Kernel15Ideal.τ).loc Cert.Kernel15Ideal.main_v0_20)) (v21 : (c : Dev Cert.Kernel15Ideal.nD) → Buf (Elt Ideal) ((c.tc : Thread Cert.Kernel15Ideal.nD Cert.Kernel15Ideal.τ).loc Cert.Kernel15Ideal.main_v0_21)) (v22 : (c : Dev Cert.Kernel15Ideal.nD) → Buf (Elt Ideal) ((c.tc : Thread Cert.Kernel15Ideal.nD Cert.Kernel15Ideal.τ).loc Cert.Kernel15Ideal.main_v0_22)) (v23 : (c : Dev Cert.Kernel15Ideal.nD) → Buf (Elt Ideal) ((c.tc : Thread Cert.Kernel15Ideal.nD Cert.Kernel15Ideal.τ).loc Cert.Kernel15Ideal.main_v0_23)) (v24 : (c : Dev Cert.Kernel15Ideal.nD) → Buf (Elt Ideal) ((c.tc : Thread Cert.Kernel15Ideal.nD Cert.Kernel15Ideal.τ).loc Cert.Kernel15Ideal.main_v0_24)) (v25 : (c : Dev Cert.Kernel15Ideal.nD) → Buf (Elt Ideal) ((c.tc : Thread Cert.Kernel15Ideal.nD Cert.Kernel15Ideal.τ).loc Cert.Kernel15Ideal.main_v0_25)) (v26 : (c : Dev Cert.Kernel15Ideal.nD) → Buf (Elt Ideal) ((c.tc : Thread Cert.Kernel15Ideal.nD Cert.Kernel15Ideal.τ).loc Cert.Kernel15Ideal.main_v0_26)) (v27 : (c : Dev Cert.Kernel15Ideal.nD) → Buf (Elt Ideal) ((c.tc : Thread Cert.Kernel15Ideal.nD Cert.Kernel15Ideal.τ).loc Cert.Kernel15Ideal.main_v0_27)) (v28 : (c : Dev Cert.Kernel15Ideal.nD) → Buf (Elt Ideal) ((c.tc : Thread Cert.Kernel15Ideal.nD Cert.Kernel15Ideal.τ).loc Cert.Kernel15Ideal.main_v0_28)) (v29 : (c : Dev Cert.Kernel15Ideal.nD) → Buf (Elt Ideal) ((c.tc : Thread Cert.Kernel15Ideal.nD Cert.Kernel15Ideal.τ).loc Cert.Kernel15Ideal.main_v0_29)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_v0_4) = v4 c
          ∧ r.2.mem ((c.tc : Thread Cert.Kernel15Ideal.nD Cert.Kernel15Ideal.τ).loc Cert.Kernel15Ideal.main_v0_5) = v5 c
          ∧ r.2.mem ((c.tc : Thread Cert.Kernel15Ideal.nD Cert.Kernel15Ideal.τ).loc Cert.Kernel15Ideal.main_v0_6) = v6 c
          ∧ r.2.mem ((c.tc : Thread Cert.Kernel15Ideal.nD Cert.Kernel15Ideal.τ).loc Cert.Kernel15Ideal.main_v0_7) = v7 c
          ∧ r.2.mem ((c.tc : Thread Cert.Kernel15Ideal.nD Cert.Kernel15Ideal.τ).loc Cert.Kernel15Ideal.main_v0_8) = v8 c
          ∧ r.2.mem ((c.tc : Thread Cert.Kernel15Ideal.nD Cert.Kernel15Ideal.τ).loc Cert.Kernel15Ideal.main_v0_9) = v9 c
          ∧ r.2.mem ((c.tc : Thread Cert.Kernel15Ideal.nD Cert.Kernel15Ideal.τ).loc Cert.Kernel15Ideal.main_v0_10) = v10 c
          ∧ r.2.mem ((c.tc : Thread Cert.Kernel15Ideal.nD Cert.Kernel15Ideal.τ).loc Cert.Kernel15Ideal.main_v0_11) = v11 c
          ∧ r.2.mem ((c.tc : Thread Cert.Kernel15Ideal.nD Cert.Kernel15Ideal.τ).loc Cert.Kernel15Ideal.main_v0_12) = v12 c
          ∧ r.2.mem ((c.tc : Thread Cert.Kernel15Ideal.nD Cert.Kernel15Ideal.τ).loc Cert.Kernel15Ideal.main_v0_13) = v13 c
          ∧ r.2.mem ((c.tc : Thread Cert.Kernel15Ideal.nD Cert.Kernel15Ideal.τ).loc Cert.Kernel15Ideal.main_v0_14) = v14 c
          ∧ r.2.mem ((c.tc : Thread Cert.Kernel15Ideal.nD Cert.Kernel15Ideal.τ).loc Cert.Kernel15Ideal.main_v0_15) = v15 c
          ∧ r.2.mem ((c.tc : Thread Cert.Kernel15Ideal.nD Cert.Kernel15Ideal.τ).loc Cert.Kernel15Ideal.main_v0_16) = v16 c
          ∧ r.2.mem ((c.tc : Thread Cert.Kernel15Ideal.nD Cert.Kernel15Ideal.τ).loc Cert.Kernel15Ideal.main_v0_17) = v17 c
          ∧ r.2.mem ((c.tc : Thread Cert.Kernel15Ideal.nD Cert.Kernel15Ideal.τ).loc Cert.Kernel15Ideal.main_v0_18) = v18 c
          ∧ r.2.mem ((c.tc : Thread Cert.Kernel15Ideal.nD Cert.Kernel15Ideal.τ).loc Cert.Kernel15Ideal.main_v0_19) = v19 c
          ∧ r.2.mem ((c.tc : Thread Cert.Kernel15Ideal.nD Cert.Kernel15Ideal.τ).loc Cert.Kernel15Ideal.main_v0_20) = v20 c
          ∧ r.2.mem ((c.tc : Thread Cert.Kernel15Ideal.nD Cert.Kernel15Ideal.τ).loc Cert.Kernel15Ideal.main_v0_21) = v21 c
          ∧ r.2.mem ((c.tc : Thread Cert.Kernel15Ideal.nD Cert.Kernel15Ideal.τ).loc Cert.Kernel15Ideal.main_v0_22) = v22 c
          ∧ r.2.mem ((c.tc : Thread Cert.Kernel15Ideal.nD Cert.Kernel15Ideal.τ).loc Cert.Kernel15Ideal.main_v0_23) = v23 c
          ∧ r.2.mem ((c.tc : Thread Cert.Kernel15Ideal.nD Cert.Kernel15Ideal.τ).loc Cert.Kernel15Ideal.main_v0_24) = v24 c
          ∧ r.2.mem ((c.tc : Thread Cert.Kernel15Ideal.nD Cert.Kernel15Ideal.τ).loc Cert.Kernel15Ideal.main_v0_25) = v25 c
          ∧ r.2.mem ((c.tc : Thread Cert.Kernel15Ideal.nD Cert.Kernel15Ideal.τ).loc Cert.Kernel15Ideal.main_v0_26) = v26 c
          ∧ r.2.mem ((c.tc : Thread Cert.Kernel15Ideal.nD Cert.Kernel15Ideal.τ).loc Cert.Kernel15Ideal.main_v0_27) = v27 c
          ∧ r.2.mem ((c.tc : Thread Cert.Kernel15Ideal.nD Cert.Kernel15Ideal.τ).loc Cert.Kernel15Ideal.main_v0_28) = v28 c
          ∧ r.2.mem ((c.tc : Thread Cert.Kernel15Ideal.nD Cert.Kernel15Ideal.τ).loc Cert.Kernel15Ideal.main_v0_29) = v29 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
          ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
          ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
          ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9)
          ∧ r.2.mem ((c.tc : Thread Cert.Kernel15Ideal.nD Cert.Kernel15Ideal.τ).loc Cert.Kernel15Ideal.main_arg10) = m ((c.tc : Thread Cert.Kernel15Ideal.nD Cert.Kernel15Ideal.τ).loc Cert.Kernel15Ideal.main_arg10)
          ∧ r.2.mem ((c.tc : Thread Cert.Kernel15Ideal.nD Cert.Kernel15Ideal.τ).loc Cert.Kernel15Ideal.main_arg11) = m ((c.tc : Thread Cert.Kernel15Ideal.nD Cert.Kernel15Ideal.τ).loc Cert.Kernel15Ideal.main_arg11)
          ∧ r.2.mem ((c.tc : Thread Cert.Kernel15Ideal.nD Cert.Kernel15Ideal.τ).loc Cert.Kernel15Ideal.main_arg12) = m ((c.tc : Thread Cert.Kernel15Ideal.nD Cert.Kernel15Ideal.τ).loc Cert.Kernel15Ideal.main_arg12)
          ∧ r.2.mem ((c.tc : Thread Cert.Kernel15Ideal.nD Cert.Kernel15Ideal.τ).loc Cert.Kernel15Ideal.main_arg13) = m ((c.tc : Thread Cert.Kernel15Ideal.nD Cert.Kernel15Ideal.τ).loc Cert.Kernel15Ideal.main_arg13)
          ∧ r.2.mem ((c.tc : Thread Cert.Kernel15Ideal.nD Cert.Kernel15Ideal.τ).loc Cert.Kernel15Ideal.main_arg14) = m ((c.tc : Thread Cert.Kernel15Ideal.nD Cert.Kernel15Ideal.τ).loc Cert.Kernel15Ideal.main_arg14)
          ∧ r.2.mem ((c.tc : Thread Cert.Kernel15Ideal.nD Cert.Kernel15Ideal.τ).loc Cert.Kernel15Ideal.main_arg15) = m ((c.tc : Thread Cert.Kernel15Ideal.nD Cert.Kernel15Ideal.τ).loc Cert.Kernel15Ideal.main_arg15)
          ∧ r.2.mem ((c.tc : Thread Cert.Kernel15Ideal.nD Cert.Kernel15Ideal.τ).loc Cert.Kernel15Ideal.main_arg16) = m ((c.tc : Thread Cert.Kernel15Ideal.nD Cert.Kernel15Ideal.τ).loc Cert.Kernel15Ideal.main_arg16)
          ∧ r.2.mem ((c.tc : Thread Cert.Kernel15Ideal.nD Cert.Kernel15Ideal.τ).loc Cert.Kernel15Ideal.main_arg17) = m ((c.tc : Thread Cert.Kernel15Ideal.nD Cert.Kernel15Ideal.τ).loc Cert.Kernel15Ideal.main_arg17)
          ∧ r.2.mem ((c.tc : Thread Cert.Kernel15Ideal.nD Cert.Kernel15Ideal.τ).loc Cert.Kernel15Ideal.main_arg18) = m ((c.tc : Thread Cert.Kernel15Ideal.nD Cert.Kernel15Ideal.τ).loc Cert.Kernel15Ideal.main_arg18)
          ∧ r.2.mem ((c.tc : Thread Cert.Kernel15Ideal.nD Cert.Kernel15Ideal.τ).loc Cert.Kernel15Ideal.main_arg19) = m ((c.tc : Thread Cert.Kernel15Ideal.nD Cert.Kernel15Ideal.τ).loc Cert.Kernel15Ideal.main_arg19)
          ∧ r.2.mem ((c.tc : Thread Cert.Kernel15Ideal.nD Cert.Kernel15Ideal.τ).loc Cert.Kernel15Ideal.main_arg20) = m ((c.tc : Thread Cert.Kernel15Ideal.nD Cert.Kernel15Ideal.τ).loc Cert.Kernel15Ideal.main_arg20)
          ∧ r.2.mem ((c.tc : Thread Cert.Kernel15Ideal.nD Cert.Kernel15Ideal.τ).loc Cert.Kernel15Ideal.main_arg21) = m ((c.tc : Thread Cert.Kernel15Ideal.nD Cert.Kernel15Ideal.τ).loc Cert.Kernel15Ideal.main_arg21)
          ∧ r.2.mem ((c.tc : Thread Cert.Kernel15Ideal.nD Cert.Kernel15Ideal.τ).loc Cert.Kernel15Ideal.main_arg22) = m ((c.tc : Thread Cert.Kernel15Ideal.nD Cert.Kernel15Ideal.τ).loc Cert.Kernel15Ideal.main_arg22)
          ∧ r.2.mem ((c.tc : Thread Cert.Kernel15Ideal.nD Cert.Kernel15Ideal.τ).loc Cert.Kernel15Ideal.main_arg23) = m ((c.tc : Thread Cert.Kernel15Ideal.nD Cert.Kernel15Ideal.τ).loc Cert.Kernel15Ideal.main_arg23)
          ∧ r.2.mem ((c.tc : Thread Cert.Kernel15Ideal.nD Cert.Kernel15Ideal.τ).loc Cert.Kernel15Ideal.main_arg24) = m ((c.tc : Thread Cert.Kernel15Ideal.nD Cert.Kernel15Ideal.τ).loc Cert.Kernel15Ideal.main_arg24)
          ∧ r.2.mem ((c.tc : Thread Cert.Kernel15Ideal.nD Cert.Kernel15Ideal.τ).loc Cert.Kernel15Ideal.main_arg25) = m ((c.tc : Thread Cert.Kernel15Ideal.nD Cert.Kernel15Ideal.τ).loc Cert.Kernel15Ideal.main_arg25)
          ∧ r.2.mem ((c.tc : Thread Cert.Kernel15Ideal.nD Cert.Kernel15Ideal.τ).loc Cert.Kernel15Ideal.main_arg26) = m ((c.tc : Thread Cert.Kernel15Ideal.nD Cert.Kernel15Ideal.τ).loc Cert.Kernel15Ideal.main_arg26)
          ∧ r.2.mem ((c.tc : Thread Cert.Kernel15Ideal.nD Cert.Kernel15Ideal.τ).loc Cert.Kernel15Ideal.main_arg27) = m ((c.tc : Thread Cert.Kernel15Ideal.nD Cert.Kernel15Ideal.τ).loc Cert.Kernel15Ideal.main_arg27)
          ∧ r.2.mem ((c.tc : Thread Cert.Kernel15Ideal.nD Cert.Kernel15Ideal.τ).loc Cert.Kernel15Ideal.main_arg28) = m ((c.tc : Thread Cert.Kernel15Ideal.nD Cert.Kernel15Ideal.τ).loc Cert.Kernel15Ideal.main_arg28)
          ∧ r.2.mem ((c.tc : Thread Cert.Kernel15Ideal.nD Cert.Kernel15Ideal.τ).loc Cert.Kernel15Ideal.main_arg29) = m ((c.tc : Thread Cert.Kernel15Ideal.nD Cert.Kernel15Ideal.τ).loc Cert.Kernel15Ideal.main_arg29)
          ∧ r.2.mem ((c.tc : Thread Cert.Kernel15Ideal.nD Cert.Kernel15Ideal.τ).loc Cert.Kernel15Ideal.main_arg30) = m ((c.tc : Thread Cert.Kernel15Ideal.nD Cert.Kernel15Ideal.τ).loc Cert.Kernel15Ideal.main_arg30)
          ∧ r.2.mem ((c.tc : Thread Cert.Kernel15Ideal.nD Cert.Kernel15Ideal.τ).loc Cert.Kernel15Ideal.main_arg31) = m ((c.tc : Thread Cert.Kernel15Ideal.nD Cert.Kernel15Ideal.τ).loc Cert.Kernel15Ideal.main_arg31)
          ∧ r.2.mem ((c.tc : Thread Cert.Kernel15Ideal.nD Cert.Kernel15Ideal.τ).loc Cert.Kernel15Ideal.main_arg32) = m ((c.tc : Thread Cert.Kernel15Ideal.nD Cert.Kernel15Ideal.τ).loc Cert.Kernel15Ideal.main_arg32)
          ∧ r.2.mem ((c.tc : Thread Cert.Kernel15Ideal.nD Cert.Kernel15Ideal.τ).loc Cert.Kernel15Ideal.main_arg33) = m ((c.tc : Thread Cert.Kernel15Ideal.nD Cert.Kernel15Ideal.τ).loc Cert.Kernel15Ideal.main_arg33)
          ∧ r.2.mem ((c.tc : Thread Cert.Kernel15Ideal.nD Cert.Kernel15Ideal.τ).loc Cert.Kernel15Ideal.main_arg34) = m ((c.tc : Thread Cert.Kernel15Ideal.nD Cert.Kernel15Ideal.τ).loc Cert.Kernel15Ideal.main_arg34)
          ∧ r.2.mem ((c.tc : Thread Cert.Kernel15Ideal.nD Cert.Kernel15Ideal.τ).loc Cert.Kernel15Ideal.main_arg35) = m ((c.tc : Thread Cert.Kernel15Ideal.nD Cert.Kernel15Ideal.τ).loc Cert.Kernel15Ideal.main_arg35)
          ∧ r.2.mem ((c.tc : Thread Cert.Kernel15Ideal.nD Cert.Kernel15Ideal.τ).loc Cert.Kernel15Ideal.main_arg36) = m ((c.tc : Thread Cert.Kernel15Ideal.nD Cert.Kernel15Ideal.τ).loc Cert.Kernel15Ideal.main_arg36)
          ∧ r.2.mem ((c.tc : Thread Cert.Kernel15Ideal.nD Cert.Kernel15Ideal.τ).loc Cert.Kernel15Ideal.main_arg37) = m ((c.tc : Thread Cert.Kernel15Ideal.nD Cert.Kernel15Ideal.τ).loc Cert.Kernel15Ideal.main_arg37)
          ∧ r.2.mem ((c.tc : Thread Cert.Kernel15Ideal.nD Cert.Kernel15Ideal.τ).loc Cert.Kernel15Ideal.main_arg38) = m ((c.tc : Thread Cert.Kernel15Ideal.nD Cert.Kernel15Ideal.τ).loc Cert.Kernel15Ideal.main_arg38)
          ∧ r.2.mem ((c.tc : Thread Cert.Kernel15Ideal.nD Cert.Kernel15Ideal.τ).loc Cert.Kernel15Ideal.main_arg39) = m ((c.tc : Thread Cert.Kernel15Ideal.nD Cert.Kernel15Ideal.τ).loc Cert.Kernel15Ideal.main_arg39))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v47) = v1 c
          ∧ r.2.mem ((c.tc : Thread Cert.Reference15Ideal.nD Cert.Reference15Ideal.τ).loc Cert.Reference15Ideal.main_v71) = v2 c
          ∧ r.2.mem ((c.tc : Thread Cert.Reference15Ideal.nD Cert.Reference15Ideal.τ).loc Cert.Reference15Ideal.main_v95) = v3 c
          ∧ r.2.mem ((c.tc : Thread Cert.Reference15Ideal.nD Cert.Reference15Ideal.τ).loc Cert.Reference15Ideal.main_v119) = v4 c
          ∧ r.2.mem ((c.tc : Thread Cert.Reference15Ideal.nD Cert.Reference15Ideal.τ).loc Cert.Reference15Ideal.main_v143) = v5 c
          ∧ r.2.mem ((c.tc : Thread Cert.Reference15Ideal.nD Cert.Reference15Ideal.τ).loc Cert.Reference15Ideal.main_v167) = v6 c
          ∧ r.2.mem ((c.tc : Thread Cert.Reference15Ideal.nD Cert.Reference15Ideal.τ).loc Cert.Reference15Ideal.main_v191) = v7 c
          ∧ r.2.mem ((c.tc : Thread Cert.Reference15Ideal.nD Cert.Reference15Ideal.τ).loc Cert.Reference15Ideal.main_v215) = v8 c
          ∧ r.2.mem ((c.tc : Thread Cert.Reference15Ideal.nD Cert.Reference15Ideal.τ).loc Cert.Reference15Ideal.main_v239) = v9 c
          ∧ r.2.mem ((c.tc : Thread Cert.Reference15Ideal.nD Cert.Reference15Ideal.τ).loc Cert.Reference15Ideal.main_v4) = v10 c
          ∧ r.2.mem ((c.tc : Thread Cert.Reference15Ideal.nD Cert.Reference15Ideal.τ).loc Cert.Reference15Ideal.main_v28) = v11 c
          ∧ r.2.mem ((c.tc : Thread Cert.Reference15Ideal.nD Cert.Reference15Ideal.τ).loc Cert.Reference15Ideal.main_v52) = v12 c
          ∧ r.2.mem ((c.tc : Thread Cert.Reference15Ideal.nD Cert.Reference15Ideal.τ).loc Cert.Reference15Ideal.main_v76) = v13 c
          ∧ r.2.mem ((c.tc : Thread Cert.Reference15Ideal.nD Cert.Reference15Ideal.τ).loc Cert.Reference15Ideal.main_v100) = v14 c
          ∧ r.2.mem ((c.tc : Thread Cert.Reference15Ideal.nD Cert.Reference15Ideal.τ).loc Cert.Reference15Ideal.main_v124) = v15 c
          ∧ r.2.mem ((c.tc : Thread Cert.Reference15Ideal.nD Cert.Reference15Ideal.τ).loc Cert.Reference15Ideal.main_v148) = v16 c
          ∧ r.2.mem ((c.tc : Thread Cert.Reference15Ideal.nD Cert.Reference15Ideal.τ).loc Cert.Reference15Ideal.main_v172) = v17 c
          ∧ r.2.mem ((c.tc : Thread Cert.Reference15Ideal.nD Cert.Reference15Ideal.τ).loc Cert.Reference15Ideal.main_v196) = v18 c
          ∧ r.2.mem ((c.tc : Thread Cert.Reference15Ideal.nD Cert.Reference15Ideal.τ).loc Cert.Reference15Ideal.main_v220) = v19 c
          ∧ r.2.mem ((c.tc : Thread Cert.Reference15Ideal.nD Cert.Reference15Ideal.τ).loc Cert.Reference15Ideal.main_v10) = v20 c
          ∧ r.2.mem ((c.tc : Thread Cert.Reference15Ideal.nD Cert.Reference15Ideal.τ).loc Cert.Reference15Ideal.main_v34) = v21 c
          ∧ r.2.mem ((c.tc : Thread Cert.Reference15Ideal.nD Cert.Reference15Ideal.τ).loc Cert.Reference15Ideal.main_v58) = v22 c
          ∧ r.2.mem ((c.tc : Thread Cert.Reference15Ideal.nD Cert.Reference15Ideal.τ).loc Cert.Reference15Ideal.main_v82) = v23 c
          ∧ r.2.mem ((c.tc : Thread Cert.Reference15Ideal.nD Cert.Reference15Ideal.τ).loc Cert.Reference15Ideal.main_v106) = v24 c
          ∧ r.2.mem ((c.tc : Thread Cert.Reference15Ideal.nD Cert.Reference15Ideal.τ).loc Cert.Reference15Ideal.main_v130) = v25 c
          ∧ r.2.mem ((c.tc : Thread Cert.Reference15Ideal.nD Cert.Reference15Ideal.τ).loc Cert.Reference15Ideal.main_v154) = v26 c
          ∧ r.2.mem ((c.tc : Thread Cert.Reference15Ideal.nD Cert.Reference15Ideal.τ).loc Cert.Reference15Ideal.main_v178) = v27 c
          ∧ r.2.mem ((c.tc : Thread Cert.Reference15Ideal.nD Cert.Reference15Ideal.τ).loc Cert.Reference15Ideal.main_v202) = v28 c
          ∧ r.2.mem ((c.tc : Thread Cert.Reference15Ideal.nD Cert.Reference15Ideal.τ).loc Cert.Reference15Ideal.main_v226) = v29 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
          ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7)
          ∧ r.2.mem ((c.tc : Thread Cert.Reference15Ideal.nD Cert.Reference15Ideal.τ).loc Cert.Reference15Ideal.main_arg8) = m' ((c.tc : Thread Cert.Reference15Ideal.nD Cert.Reference15Ideal.τ).loc Cert.Reference15Ideal.main_arg8)
          ∧ r.2.mem ((c.tc : Thread Cert.Reference15Ideal.nD Cert.Reference15Ideal.τ).loc Cert.Reference15Ideal.main_arg9) = m' ((c.tc : Thread Cert.Reference15Ideal.nD Cert.Reference15Ideal.τ).loc Cert.Reference15Ideal.main_arg9)
          ∧ r.2.mem ((c.tc : Thread Cert.Reference15Ideal.nD Cert.Reference15Ideal.τ).loc Cert.Reference15Ideal.main_arg10) = m' ((c.tc : Thread Cert.Reference15Ideal.nD Cert.Reference15Ideal.τ).loc Cert.Reference15Ideal.main_arg10)
          ∧ r.2.mem ((c.tc : Thread Cert.Reference15Ideal.nD Cert.Reference15Ideal.τ).loc Cert.Reference15Ideal.main_arg11) = m' ((c.tc : Thread Cert.Reference15Ideal.nD Cert.Reference15Ideal.τ).loc Cert.Reference15Ideal.main_arg11)
          ∧ r.2.mem ((c.tc : Thread Cert.Reference15Ideal.nD Cert.Reference15Ideal.τ).loc Cert.Reference15Ideal.main_arg12) = m' ((c.tc : Thread Cert.Reference15Ideal.nD Cert.Reference15Ideal.τ).loc Cert.Reference15Ideal.main_arg12)
          ∧ r.2.mem ((c.tc : Thread Cert.Reference15Ideal.nD Cert.Reference15Ideal.τ).loc Cert.Reference15Ideal.main_arg13) = m' ((c.tc : Thread Cert.Reference15Ideal.nD Cert.Reference15Ideal.τ).loc Cert.Reference15Ideal.main_arg13)
          ∧ r.2.mem ((c.tc : Thread Cert.Reference15Ideal.nD Cert.Reference15Ideal.τ).loc Cert.Reference15Ideal.main_arg14) = m' ((c.tc : Thread Cert.Reference15Ideal.nD Cert.Reference15Ideal.τ).loc Cert.Reference15Ideal.main_arg14)
          ∧ r.2.mem ((c.tc : Thread Cert.Reference15Ideal.nD Cert.Reference15Ideal.τ).loc Cert.Reference15Ideal.main_arg15) = m' ((c.tc : Thread Cert.Reference15Ideal.nD Cert.Reference15Ideal.τ).loc Cert.Reference15Ideal.main_arg15)
          ∧ r.2.mem ((c.tc : Thread Cert.Reference15Ideal.nD Cert.Reference15Ideal.τ).loc Cert.Reference15Ideal.main_arg16) = m' ((c.tc : Thread Cert.Reference15Ideal.nD Cert.Reference15Ideal.τ).loc Cert.Reference15Ideal.main_arg16)
          ∧ r.2.mem ((c.tc : Thread Cert.Reference15Ideal.nD Cert.Reference15Ideal.τ).loc Cert.Reference15Ideal.main_arg17) = m' ((c.tc : Thread Cert.Reference15Ideal.nD Cert.Reference15Ideal.τ).loc Cert.Reference15Ideal.main_arg17)
          ∧ r.2.mem ((c.tc : Thread Cert.Reference15Ideal.nD Cert.Reference15Ideal.τ).loc Cert.Reference15Ideal.main_arg18) = m' ((c.tc : Thread Cert.Reference15Ideal.nD Cert.Reference15Ideal.τ).loc Cert.Reference15Ideal.main_arg18)
          ∧ r.2.mem ((c.tc : Thread Cert.Reference15Ideal.nD Cert.Reference15Ideal.τ).loc Cert.Reference15Ideal.main_arg19) = m' ((c.tc : Thread Cert.Reference15Ideal.nD Cert.Reference15Ideal.τ).loc Cert.Reference15Ideal.main_arg19)
          ∧ r.2.mem ((c.tc : Thread Cert.Reference15Ideal.nD Cert.Reference15Ideal.τ).loc Cert.Reference15Ideal.main_arg20) = m' ((c.tc : Thread Cert.Reference15Ideal.nD Cert.Reference15Ideal.τ).loc Cert.Reference15Ideal.main_arg20)
          ∧ r.2.mem ((c.tc : Thread Cert.Reference15Ideal.nD Cert.Reference15Ideal.τ).loc Cert.Reference15Ideal.main_arg21) = m' ((c.tc : Thread Cert.Reference15Ideal.nD Cert.Reference15Ideal.τ).loc Cert.Reference15Ideal.main_arg21)
          ∧ r.2.mem ((c.tc : Thread Cert.Reference15Ideal.nD Cert.Reference15Ideal.τ).loc Cert.Reference15Ideal.main_arg22) = m' ((c.tc : Thread Cert.Reference15Ideal.nD Cert.Reference15Ideal.τ).loc Cert.Reference15Ideal.main_arg22)
          ∧ r.2.mem ((c.tc : Thread Cert.Reference15Ideal.nD Cert.Reference15Ideal.τ).loc Cert.Reference15Ideal.main_arg23) = m' ((c.tc : Thread Cert.Reference15Ideal.nD Cert.Reference15Ideal.τ).loc Cert.Reference15Ideal.main_arg23)
          ∧ r.2.mem ((c.tc : Thread Cert.Reference15Ideal.nD Cert.Reference15Ideal.τ).loc Cert.Reference15Ideal.main_arg24) = m' ((c.tc : Thread Cert.Reference15Ideal.nD Cert.Reference15Ideal.τ).loc Cert.Reference15Ideal.main_arg24)
          ∧ r.2.mem ((c.tc : Thread Cert.Reference15Ideal.nD Cert.Reference15Ideal.τ).loc Cert.Reference15Ideal.main_arg25) = m' ((c.tc : Thread Cert.Reference15Ideal.nD Cert.Reference15Ideal.τ).loc Cert.Reference15Ideal.main_arg25)
          ∧ r.2.mem ((c.tc : Thread Cert.Reference15Ideal.nD Cert.Reference15Ideal.τ).loc Cert.Reference15Ideal.main_arg26) = m' ((c.tc : Thread Cert.Reference15Ideal.nD Cert.Reference15Ideal.τ).loc Cert.Reference15Ideal.main_arg26)
          ∧ r.2.mem ((c.tc : Thread Cert.Reference15Ideal.nD Cert.Reference15Ideal.τ).loc Cert.Reference15Ideal.main_arg27) = m' ((c.tc : Thread Cert.Reference15Ideal.nD Cert.Reference15Ideal.τ).loc Cert.Reference15Ideal.main_arg27)
          ∧ r.2.mem ((c.tc : Thread Cert.Reference15Ideal.nD Cert.Reference15Ideal.τ).loc Cert.Reference15Ideal.main_arg28) = m' ((c.tc : Thread Cert.Reference15Ideal.nD Cert.Reference15Ideal.τ).loc Cert.Reference15Ideal.main_arg28)
          ∧ r.2.mem ((c.tc : Thread Cert.Reference15Ideal.nD Cert.Reference15Ideal.τ).loc Cert.Reference15Ideal.main_arg29) = m' ((c.tc : Thread Cert.Reference15Ideal.nD Cert.Reference15Ideal.τ).loc Cert.Reference15Ideal.main_arg29)
          ∧ r.2.mem ((c.tc : Thread Cert.Reference15Ideal.nD Cert.Reference15Ideal.τ).loc Cert.Reference15Ideal.main_arg30) = m' ((c.tc : Thread Cert.Reference15Ideal.nD Cert.Reference15Ideal.τ).loc Cert.Reference15Ideal.main_arg30)
          ∧ r.2.mem ((c.tc : Thread Cert.Reference15Ideal.nD Cert.Reference15Ideal.τ).loc Cert.Reference15Ideal.main_arg31) = m' ((c.tc : Thread Cert.Reference15Ideal.nD Cert.Reference15Ideal.τ).loc Cert.Reference15Ideal.main_arg31)
          ∧ r.2.mem ((c.tc : Thread Cert.Reference15Ideal.nD Cert.Reference15Ideal.τ).loc Cert.Reference15Ideal.main_arg32) = m' ((c.tc : Thread Cert.Reference15Ideal.nD Cert.Reference15Ideal.τ).loc Cert.Reference15Ideal.main_arg32)
          ∧ r.2.mem ((c.tc : Thread Cert.Reference15Ideal.nD Cert.Reference15Ideal.τ).loc Cert.Reference15Ideal.main_arg33) = m' ((c.tc : Thread Cert.Reference15Ideal.nD Cert.Reference15Ideal.τ).loc Cert.Reference15Ideal.main_arg33)
          ∧ r.2.mem ((c.tc : Thread Cert.Reference15Ideal.nD Cert.Reference15Ideal.τ).loc Cert.Reference15Ideal.main_arg34) = m' ((c.tc : Thread Cert.Reference15Ideal.nD Cert.Reference15Ideal.τ).loc Cert.Reference15Ideal.main_arg34)
          ∧ r.2.mem ((c.tc : Thread Cert.Reference15Ideal.nD Cert.Reference15Ideal.τ).loc Cert.Reference15Ideal.main_arg35) = m' ((c.tc : Thread Cert.Reference15Ideal.nD Cert.Reference15Ideal.τ).loc Cert.Reference15Ideal.main_arg35)
          ∧ r.2.mem ((c.tc : Thread Cert.Reference15Ideal.nD Cert.Reference15Ideal.τ).loc Cert.Reference15Ideal.main_arg36) = m' ((c.tc : Thread Cert.Reference15Ideal.nD Cert.Reference15Ideal.τ).loc Cert.Reference15Ideal.main_arg36)
          ∧ r.2.mem ((c.tc : Thread Cert.Reference15Ideal.nD Cert.Reference15Ideal.τ).loc Cert.Reference15Ideal.main_arg37) = m' ((c.tc : Thread Cert.Reference15Ideal.nD Cert.Reference15Ideal.τ).loc Cert.Reference15Ideal.main_arg37)
          ∧ r.2.mem ((c.tc : Thread Cert.Reference15Ideal.nD Cert.Reference15Ideal.τ).loc Cert.Reference15Ideal.main_arg38) = m' ((c.tc : Thread Cert.Reference15Ideal.nD Cert.Reference15Ideal.τ).loc Cert.Reference15Ideal.main_arg38)
          ∧ r.2.mem ((c.tc : Thread Cert.Reference15Ideal.nD Cert.Reference15Ideal.τ).loc Cert.Reference15Ideal.main_arg39) = m' ((c.tc : Thread Cert.Reference15Ideal.nD Cert.Reference15Ideal.τ).loc Cert.Reference15Ideal.main_arg39))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Pre_finite.lean ====
abbrev S8448x1024 : Shape := ⟨2, ![8448, 1024]⟩
abbrev S8448x2048 : Shape := ⟨2, ![8448, 2048]⟩
abbrev S8448x512 : Shape := ⟨2, ![8448, 512]⟩
abbrev S512x1024 : Shape := ⟨2, ![512, 1024]⟩
abbrev S1024x1024 : Shape := ⟨2, ![1024, 1024]⟩
abbrev S1x1024 : Shape := ⟨2, ![1, 1024]⟩
abbrev S_ : Shape := ⟨0, ![]⟩

class Facts : Prop where
  bcast_S_S8448x1024 : S_.BroadcastsInDim S8448x1024 (![] : Fin 0 → Fin S8448x1024.rank)
  reducesTo_S8448x1024_S_d0_1 : S8448x1024.ReducesTo [0, 1] S_
  h_S_ : 0 < S_.numel
  bitsLt_bf16_f32 : FTy.bits .bf16 < FTy.bits .f32
  bcast_S_S8448x512 : S_.BroadcastsInDim S8448x512 (![] : Fin 0 → Fin S8448x512.rank)
  reducesTo_S8448x512_S_d0_1 : S8448x512.ReducesTo [0, 1] S_
  bcast_S_S512x1024 : S_.BroadcastsInDim S512x1024 (![] : Fin 0 → Fin S512x1024.rank)
  reducesTo_S512x1024_S_d0_1 : S512x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_v3 : IVec S_ 1) (main_v8 : IVec S_ 1) (main_v13 : IVec S_ 1) (main_v18 : IVec S_ 1) (main_v23 : IVec S_ 1) (main_v28 : IVec S_ 1) (main_v32 : IVec S_ 1) (main_v33 : FVec F S8448x1024 .f32) : IVec S_ 1 :=
  let main_cst_12 : FVec F S_ .f32 := constant S_ .f32 0x7F800000#32
  let main_v34 : FVec F S8448x1024 .f32 := broadcastInDim S8448x1024 ![] bcast_S_S8448x1024 main_cst_12
  let main_v35 : IVec S8448x1024 1 := cmpf .olt main_v33 main_v34
  let main_c_13 : IVec S_ 1 := constantI S_ 1 1#1
  let main_v36 : IVec S_ 1 := (fun x v => Host.reduce IntOp.andi x v reducesTo_S8448x1024_S_d0_1 h_S_) main_v35 main_c_13
  let main_v37 : IVec S_ 1 := andi main_v3 main_v8
  let main_v38 : IVec S_ 1 := andi main_v37 main_v13
  let main_v39 : IVec S_ 1 := andi main_v38 main_v18
  let main_v40 : IVec S_ 1 := andi main_v39 main_v23
  let main_v41 : IVec S_ 1 := andi main_v40 main_v28
  let main_v42 : IVec S_ 1 := andi main_v41 main_v32
  let main_v43 : IVec S_ 1 := andi main_v42 main_v36
  main_v43

def fn_part1 {F : FTy → Type} [FloatOps F] (main_arg5 : FVec F S512x1024 .bf16) (main_arg6 : FVec F S1024x1024 .bf16) (main_arg7 : FVec F S1x1024 .f32) (main_arg9 : FVec F S8448x1024 .f32) (main_v3 : IVec S_ 1) (main_v8 : IVec S_ 1) (main_v13 : IVec S_ 1) (main_v15 : FVec F S512x1024 .f32) (main_v16 : FVec F S512x1024 .f32) : IVec S_ 1 :=
  let main_v17 : IVec S512x1024 1 := cmpf .olt main_v15 main_v16
  let main_c_5 : IVec S_ 1 := constantI S_ 1 1#1
  let main_v18 : IVec S_ 1 := (fun x v => Host.reduce IntOp.andi x v reducesTo_S512x1024_S_d0_1 h_S_) main_v17 main_c_5
  let main_v19 : FVec F S512x1024 .f32 := (extf .f32 · bitsLt_bf16_f32) main_arg5
  let main_v20 : FVec F S512x1024 .f32 := Host.absf main_v19
  let main_cst_6 : FVec F S_ .f32 := constant S_ .f32 0x7F800000#32
  let main_v21 : FVec F S512x1024 .f32 := broadcastInDim S512x1024 ![] bcast_S_S512x1024 main_cst_6
  let main_v22 : IVec S512x1024 1 := cmpf .olt main_v20 main_v21
  let main_c_7 : IVec S_ 1 := constantI S_ 1 1#1
  let main_v23 : IVec S_ 1 := (fun x v => Host.reduce IntOp.andi x v reducesTo_S512x1024_S_d0_1 h_S_) main_v22 main_c_7
  let main_v24 : FVec F S1024x1024 .f32 := (extf .f32 · bitsLt_bf16_f32) main_arg6
  let main_v25 : FVec F S1024x1024 .f32 := Host.absf main_v24
  let main_cst_8 : FVec F S_ .f32 := constant S_ .f32 0x7F800000#32
  let main_v26 : FVec F S1024x1024 .f32 := broadcastInDim S1024x1024 ![] bcast_S_S1024x1024 main_cst_8
  let main_v27 : IVec S1024x1024 1 := cmpf .olt main_v25 main_v26
  let main_c_9 : IVec S_ 1 := constantI S_ 1 1#1
  let main_v28 : IVec S_ 1 := (fun x v => Host.reduce IntOp.andi x v reducesTo_S1024x1024_S_d0_1 h_S_) main_v27 main_c_9
  let main_v29 : FVec F S1x1024 .f32 := Host.absf main_arg7
  let main_cst_10 : FVec F S_ .f32 := constant S_ .f32 0x7F800000#32
  let main_v30 : FVec F S1x1024 .f32 := broadcastInDim S1x1024 ![] bcast_S_S1x1024 main_cst_10
  let main_v31 : IVec S1x1024 1 := cmpf .olt main_v29 main_v30
  let main_c_11 : IVec S_ 1 := constantI S_ 1 1#1
  let main_v32 : IVec S_ 1 := (fun x v => Host.reduce IntOp.andi x v reducesTo_S1x1024_S_d0_1 h_S_) main_v31 main_c_11
  let main_v33 : FVec F S8448x1024 .f32 := Host.absf main_arg9
  fn_part2 (F := F) main_v3 main_v8 main_v13 main_v18 main_v23 main_v28 main_v32 main_v33

def fn {F : FTy → Type} [FloatOps F] (main_arg0 : FVec F S8448x1024 .f32) (main_arg1 : FVec F S8448x2048 .f32) (main_arg2 : FVec F S8448x512 .bf16) (main_arg3 : FVec F S8448x512 .bf16) (main_arg4 : FVec F S512x1024 .bf16) (main_arg5 : FVec F S512x1024 .bf16) (main_arg6 : FVec F S1024x1024 .bf16) (main_arg7 : FVec F S1x1024 .f32) (main_arg8 : FVec F S1x1024 .f32) (main_arg9 : FVec F S8448x1024 .f32) : IVec S_ 1 :=
  let main_v0 : FVec F S8448x1024 .f32 := Host.absf main_arg0
  let main_cst : FVec F S_ .f32 := constant S_ .f32 0x7F800000#32
  let main_v1 : FVec F S8448x1024 .f32 := broadcastInDim S8448x1024 ![] bcast_S_S8448x1024 main_cst
  let main_v2 : IVec S8448x1024 1 := cmpf .olt main_v0 main_v1
  let main_c : IVec S_ 1 := constantI S_ 1 1#1
  let main_v3 : IVec S_ 1 := (fun x v => Host.reduce IntOp.andi x v reducesTo_S8448x1024_S_d0_1 h_S_) main_v2 main_c
  let main_v4 : FVec F S8448x512 .f32 := (extf .f32 · bitsLt_bf16_f32) main_arg2
  let main_v5 : FVec F S8448x512 .f32 := Host.absf main_v4
  let main_cst_0 : FVec F S_ .f32 := constant S_ .f32 0x7F800000#32
  let main_v6 : FVec F S8448x512 .f32 := broadcastInDim S8448x512 ![] bcast_S_S8448x512 main_cst_0
  let main_v7 : IVec S8448x512 1 := cmpf .olt main_v5 main_v6
  let main_c_1 : IVec S_ 1 := constantI S_ 1 1#1
  let main_v8 : IVec S_ 1 := (fun x v => Host.reduce IntOp.andi x v reducesTo_S8448x512_S_d0_1 h_S_) main_v7 main_c_1
  let main_v9 : FVec F S8448x512 .f32 := (extf .f32 · bitsLt_bf16_f32) main_arg3
  let main_v10 : FVec F S8448x512 .f32 := Host.absf main_v9
  let main_cst_2 : FVec F S_ .f32 := constant S_ .f32 0x7F800000#32
  let main_v11 : FVec F S8448x512 .f32 := broadcastInDim S8448x512 ![] bcast_S_S8448x512 main_cst_2
  let main_v12 : IVec S8448x512 1 := cmpf .olt main_v10 main_v11
  let main_c_3 : IVec S_ 1 := constantI S_ 1 1#1
  let main_v13 : IVec S_ 1 := (fun x v => Host.reduce IntOp.andi x v reducesTo_S8448x512_S_d0_1 h_S_) main_v12 main_c_3
  let main_v14 : FVec F S512x1024 .f32 := (extf .f32 · bitsLt_bf16_f32) main_arg4
  let main_v15 : FVec F S512x1024 .f32 := Host.absf main_v14
  let main_cst_4 : FVec F S_ .f32 := constant S_ .f32 0x7F800000#32
  let main_v16 : FVec F S512x1024 .f32 := broadcastInDim S512x1024 ![] bcast_S_S512x1024 main_cst_4
  fn_part1 (F := F) main_arg5 main_arg6 main_arg7 main_arg9 main_v3 main_v8 main_v13 main_v15 main_v16
-- ==== Pre_finite2.lean ====
abbrev S8448x1024 : Shape := ⟨2, ![8448, 1024]⟩
abbrev S8448x2048 : Shape := ⟨2, ![8448, 2048]⟩
abbrev S8448x512 : Shape := ⟨2, ![8448, 512]⟩
abbrev S8192x1024 : Shape := ⟨2, ![8192, 1024]⟩
abbrev S512x1024 : Shape := ⟨2, ![512, 1024]⟩
abbrev S1024x1024 : Shape := ⟨2, ![1024, 1024]⟩
abbrev S1024x5632 : Shape := ⟨2, ![1024, 5632]⟩
abbrev S2816x1024 : Shape := ⟨2, ![2816, 1024]⟩
abbrev S1x1024 : Shape := ⟨2, ![1, 1024]⟩
abbrev S_ : Shape := ⟨0, ![]⟩

class Facts : Prop where
  bcast_S_S8448x1024 : S_.BroadcastsInDim S8448x1024 (![] : Fin 0 → Fin S8448x1024.rank)
  reducesTo_S8448x1024_S_d0_1 : S8448x1024.ReducesTo [0, 1] S_
  h_S_ : 0 < S_.numel
  bitsLt_bf16_f32 : FTy.bits .bf16 < FTy.bits .f32
  bcast_S_S8448x512 : S_.BroadcastsInDim S8448x512 (![] : Fin 0 → Fin S8448x512.rank)
  reducesTo_S8448x512_S_d0_1 : S8448x512.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S512x1024 : S_.BroadcastsInDim S512x1024 (![] : Fin 0 → Fin S512x1024.rank)
  reducesTo_S512x1024_S_d0_1 : S512x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part4 {F : FTy → Type} [FloatOps F] (main_v58 : IVec S_ 1) (main_v69 : IVec S_ 1) : IVec S_ 1 :=
  let main_v70 : IVec S_ 1 := andi main_v69 main_v58
  main_v70

def fn_part3 {F : FTy → Type} [FloatOps F] (main_arg12 : FVec F S1x1024 .f32) (main_arg13 : FVec F S1x1024 .f32) (main_v3 : IVec S_ 1) (main_v8 : IVec S_ 1) (main_v13 : IVec S_ 1) (main_v17 : IVec S_ 1) (main_v22 : IVec S_ 1) (main_v27 : IVec S_ 1) (main_v32 : IVec S_ 1) (main_v37 : IVec S_ 1) (main_v42 : IVec S_ 1) (main_v46 : IVec S_ 1) (main_v49 : IVec S1x1024 1) (main_c_19 : IVec S_ 1) : IVec S_ 1 :=
  let main_v50 : IVec S_ 1 := (fun x v => Host.reduce IntOp.andi x v reducesTo_S1x1024_S_d0_1 h_S_) main_v49 main_c_19
  let main_v51 : FVec F S1x1024 .f32 := Host.absf main_arg12
  let main_cst_20 : FVec F S_ .f32 := constant S_ .f32 0x7F800000#32
  let main_v52 : FVec F S1x1024 .f32 := broadcastInDim S1x1024 ![] bcast_S_S1x1024 main_cst_20
  let main_v53 : IVec S1x1024 1 := cmpf .olt main_v51 main_v52
  let main_c_21 : IVec S_ 1 := constantI S_ 1 1#1
  let main_v54 : IVec S_ 1 := (fun x v => Host.reduce IntOp.andi x v reducesTo_S1x1024_S_d0_1 h_S_) main_v53 main_c_21
  let main_v55 : FVec F S1x1024 .f32 := Host.absf main_arg13
  let main_cst_22 : FVec F S_ .f32 := constant S_ .f32 0x7F800000#32
  let main_v56 : FVec F S1x1024 .f32 := broadcastInDim S1x1024 ![] bcast_S_S1x1024 main_cst_22
  let main_v57 : IVec S1x1024 1 := cmpf .olt main_v55 main_v56
  let main_c_23 : IVec S_ 1 := constantI S_ 1 1#1
  let main_v58 : IVec S_ 1 := (fun x v => Host.reduce IntOp.andi x v reducesTo_S1x1024_S_d0_1 h_S_) main_v57 main_c_23
  let main_v59 : IVec S_ 1 := andi main_v3 main_v8
  let main_v60 : IVec S_ 1 := andi main_v59 main_v13
  let main_v61 : IVec S_ 1 := andi main_v60 main_v17
  let main_v62 : IVec S_ 1 := andi main_v61 main_v22
  let main_v63 : IVec S_ 1 := andi main_v62 main_v27
  let main_v64 : IVec S_ 1 := andi main_v63 main_v32
  let main_v65 : IVec S_ 1 := andi main_v64 main_v37
  let main_v66 : IVec S_ 1 := andi main_v65 main_v42
  let main_v67 : IVec S_ 1 := andi main_v66 main_v46
  let main_v68 : IVec S_ 1 := andi main_v67 main_v50
  let main_v69 : IVec S_ 1 := andi main_v68 main_v54
  fn_part4 (F := F) main_v58 main_v69

def fn_part2 {F : FTy → Type} [FloatOps F] (main_arg9 : FVec F S2816x1024 .bf16) (main_arg10 : FVec F S1x1024 .f32) (main_arg11 : FVec F S1x1024 .f32) (main_arg12 : FVec F S1x1024 .f32) (main_arg13 : FVec F S1x1024 .f32) (main_v3 : IVec S_ 1) (main_v8 : IVec S_ 1) (main_v13 : IVec S_ 1) (main_v17 : IVec S_ 1) (main_v22 : IVec S_ 1) (main_v27 : IVec S_ 1) (main_v32 : IVec S_ 1) (main_v33 : FVec F S1024x5632 .f32) : IVec S_ 1 :=
  let main_v34 : FVec F S1024x5632 .f32 := Host.absf main_v33
  let main_cst_12 : FVec F S_ .f32 := constant S_ .f32 0x7F800000#32
  let main_v35 : FVec F S1024x5632 .f32 := broadcastInDim S1024x5632 ![] bcast_S_S1024x5632 main_cst_12
  let main_v36 : IVec S1024x5632 1 := cmpf .olt main_v34 main_v35
  let main_c_13 : IVec S_ 1 := constantI S_ 1 1#1
  let main_v37 : IVec S_ 1 := (fun x v => Host.reduce IntOp.andi x v reducesTo_S1024x5632_S_d0_1 h_S_) main_v36 main_c_13
  let main_v38 : FVec F S2816x1024 .f32 := (extf .f32 · bitsLt_bf16_f32) main_arg9
  let main_v39 : FVec F S2816x1024 .f32 := Host.absf main_v38
  let main_cst_14 : FVec F S_ .f32 := constant S_ .f32 0x7F800000#32
  let main_v40 : FVec F S2816x1024 .f32 := broadcastInDim S2816x1024 ![] bcast_S_S2816x1024 main_cst_14
  let main_v41 : IVec S2816x1024 1 := cmpf .olt main_v39 main_v40
  let main_c_15 : IVec S_ 1 := constantI S_ 1 1#1
  let main_v42 : IVec S_ 1 := (fun x v => Host.reduce IntOp.andi x v reducesTo_S2816x1024_S_d0_1 h_S_) main_v41 main_c_15
  let main_v43 : FVec F S1x1024 .f32 := Host.absf main_arg10
  let main_cst_16 : FVec F S_ .f32 := constant S_ .f32 0x7F800000#32
  let main_v44 : FVec F S1x1024 .f32 := broadcastInDim S1x1024 ![] bcast_S_S1x1024 main_cst_16
  let main_v45 : IVec S1x1024 1 := cmpf .olt main_v43 main_v44
  let main_c_17 : IVec S_ 1 := constantI S_ 1 1#1
  let main_v46 : IVec S_ 1 := (fun x v => Host.reduce IntOp.andi x v reducesTo_S1x1024_S_d0_1 h_S_) main_v45 main_c_17
  let main_v47 : FVec F S1x1024 .f32 := Host.absf main_arg11
  let main_cst_18 : FVec F S_ .f32 := constant S_ .f32 0x7F800000#32
  let main_v48 : FVec F S1x1024 .f32 := broadcastInDim S1x1024 ![] bcast_S_S1x1024 main_cst_18
  let main_v49 : IVec S1x1024 1 := cmpf .olt main_v47 main_v48
  let main_c_19 : IVec S_ 1 := constantI S_ 1 1#1
  fn_part3 (F := F) main_arg12 main_arg13 main_v3 main_v8 main_v13 main_v17 main_v22 main_v27 main_v32 main_v37 main_v42 main_v46 main_v49 main_c_19

def fn_part1 {F : FTy → Type} [FloatOps F] (main_arg5 : FVec F S512x1024 .bf16) (main_arg6 : FVec F S512x1024 .bf16) (main_arg7 : FVec F S1024x1024 .bf16) (main_arg8 : FVec F S1024x5632 .bf16) (main_arg9 : FVec F S2816x1024 .bf16) (main_arg10 : FVec F S1x1024 .f32) (main_arg11 : FVec F S1x1024 .f32) (main_arg12 : FVec F S1x1024 .f32) (main_arg13 : FVec F S1x1024 .f32) (main_v3 : IVec S_ 1) (main_v8 : IVec S_ 1) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : FVec F S512x1024 .f32 := (extf .f32 · bitsLt_bf16_f32) main_arg5
  let main_v19 : FVec F S512x1024 .f32 := Host.absf main_v18
  let main_cst_6 : FVec F S_ .f32 := constant S_ .f32 0x7F800000#32
  let main_v20 : FVec F S512x1024 .f32 := broadcastInDim S512x1024 ![] bcast_S_S512x1024 main_cst_6
  let main_v21 : IVec S512x1024 1 := cmpf .olt main_v19 main_v20
  let main_c_7 : IVec S_ 1 := constantI S_ 1 1#1
  let main_v22 : IVec S_ 1 := (fun x v => Host.reduce IntOp.andi x v reducesTo_S512x1024_S_d0_1 h_S_) main_v21 main_c_7
  let main_v23 : FVec F S512x1024 .f32 := (extf .f32 · bitsLt_bf16_f32) main_arg6
  let main_v24 : FVec F S512x1024 .f32 := Host.absf main_v23
  let main_cst_8 : FVec F S_ .f32 := constant S_ .f32 0x7F800000#32
  let main_v25 : FVec F S512x1024 .f32 := broadcastInDim S512x1024 ![] bcast_S_S512x1024 main_cst_8
  let main_v26 : IVec S512x1024 1 := cmpf .olt main_v24 main_v25
  let main_c_9 : IVec S_ 1 := constantI S_ 1 1#1
  let main_v27 : IVec S_ 1 := (fun x v => Host.reduce IntOp.andi x v reducesTo_S512x1024_S_d0_1 h_S_) main_v26 main_c_9
  let main_v28 : FVec F S1024x1024 .f32 := (extf .f32 · bitsLt_bf16_f32) main_arg7
  let main_v29 : FVec F S1024x1024 .f32 := Host.absf main_v28
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : FVec F S1024x5632 .f32 := (extf .f32 · bitsLt_bf16_f32) main_arg8
  fn_part2 (F := F) main_arg9 main_arg10 main_arg11 main_arg12 main_arg13 main_v3 main_v8 main_v13 main_v17 main_v22 main_v27 main_v32 main_v33

def fn {F : FTy → Type} [FloatOps F] (main_arg0 : FVec F S8448x1024 .f32) (main_arg1 : FVec F S8448x2048 .f32) (main_arg2 : FVec F S8448x512 .bf16) (main_arg3 : FVec F S8448x512 .bf16) (main_arg4 : FVec F S8192x1024 .f32) (main_arg5 : FVec F S512x1024 .bf16) (main_arg6 : FVec F S512x1024 .bf16) (main_arg7 : FVec F S1024x1024 .bf16) (main_arg8 : FVec F S1024x5632 .bf16) (main_arg9 : FVec F S2816x1024 .bf16) (main_arg10 : FVec F S1x1024 .f32) (main_arg11 : FVec F S1x1024 .f32) (main_arg12 : FVec F S1x1024 .f32) (main_arg13 : FVec F S1x1024 .f32) : IVec S_ 1 :=
  let main_v0 : FVec F S8448x1024 .f32 := Host.absf main_arg0
  let main_cst : FVec F S_ .f32 := constant S_ .f32 0x7F800000#32
  let main_v1 : FVec F S8448x1024 .f32 := broadcastInDim S8448x1024 ![] bcast_S_S8448x1024 main_cst
  let main_v2 : IVec S8448x1024 1 := cmpf .olt main_v0 main_v1
  let main_c : IVec S_ 1 := constantI S_ 1 1#1
  let main_v3 : IVec S_ 1 := (fun x v => Host.reduce IntOp.andi x v reducesTo_S8448x1024_S_d0_1 h_S_) main_v2 main_c
  let main_v4 : FVec F S8448x512 .f32 := (extf .f32 · bitsLt_bf16_f32) main_arg2
  let main_v5 : FVec F S8448x512 .f32 := Host.absf main_v4
  let main_cst_0 : FVec F S_ .f32 := constant S_ .f32 0x7F800000#32
  let main_v6 : FVec F S8448x512 .f32 := broadcastInDim S8448x512 ![] bcast_S_S8448x512 main_cst_0
  let main_v7 : IVec S8448x512 1 := cmpf .olt main_v5 main_v6
  let main_c_1 : IVec S_ 1 := constantI S_ 1 1#1
  let main_v8 : IVec S_ 1 := (fun x v => Host.reduce IntOp.andi x v reducesTo_S8448x512_S_d0_1 h_S_) main_v7 main_c_1
  let main_v9 : FVec F S8448x512 .f32 := (extf .f32 · bitsLt_bf16_f32) main_arg3
  let main_v10 : FVec F S8448x512 .f32 := Host.absf main_v9
  let main_cst_2 : FVec F S_ .f32 := constant S_ .f32 0x7F800000#32
  let main_v11 : FVec F S8448x512 .f32 := broadcastInDim S8448x512 ![] bcast_S_S8448x512 main_cst_2
  let main_v12 : IVec S8448x512 1 := cmpf .olt main_v10 main_v11
  let main_c_3 : IVec S_ 1 := constantI S_ 1 1#1
  let main_v13 : IVec S_ 1 := (fun x v => Host.reduce IntOp.andi x v reducesTo_S8448x512_S_d0_1 h_S_) main_v12 main_c_3
  let main_v14 : FVec F S8192x1024 .f32 := Host.absf main_arg4
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg5 main_arg6 main_arg7 main_arg8 main_arg9 main_arg10 main_arg11 main_arg12 main_arg13 main_v3 main_v8 main_v13 main_v16
-- ==== Kernel.lean ====
abbrev S8448x1024 : Shape := ⟨2, ![8448, 1024]⟩
abbrev S8448x2048 : Shape := ⟨2, ![8448, 2048]⟩
abbrev S8448x512 : Shape := ⟨2, ![8448, 512]⟩
abbrev S512x1024 : Shape := ⟨2, ![512, 1024]⟩
abbrev S1024x1024 : Shape := ⟨2, ![1024, 1024]⟩
abbrev S1x1024 : Shape := ⟨2, ![1, 1024]⟩
abbrev S256x1024 : Shape := ⟨2, ![256, 1024]⟩
abbrev S256x2048 : Shape := ⟨2, ![256, 2048]⟩
abbrev S256x512 : Shape := ⟨2, ![256, 512]⟩
abbrev S256 : Shape := ⟨1, ![256]⟩
abbrev S256x1 : Shape := ⟨2, ![256, 1]⟩
abbrev S1024 : Shape := ⟨1, ![1024]⟩

abbrev nBuf : Space → Nat
  | .hbm => 19
  | .vmem => 31
  | .smem => 0
  | _ => 0

abbrev bufTy : (tb : Table) → Fin (tcTables nBuf tb) → BufTy
  | .hbm, ⟨0, _⟩ => ⟨S8448x1024, .f32⟩
  | .hbm, ⟨1, _⟩ => ⟨S8448x2048, .f32⟩
  | .hbm, ⟨2, _⟩ => ⟨S8448x512, .bf16⟩
  | .hbm, ⟨3, _⟩ => ⟨S8448x512, .bf16⟩
  | .hbm, ⟨4, _⟩ => ⟨S512x1024, .bf16⟩
  | .hbm, ⟨5, _⟩ => ⟨S512x1024, .bf16⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S8448x1024, .f32⟩
  | .hbm, ⟨10, _⟩ => ⟨S8448x1024, .f32⟩
  | .hbm, ⟨11, _⟩ => ⟨S8448x2048, .bf16⟩
  | .hbm, ⟨12, _⟩ => ⟨S8448x512, .bf16⟩
  | .hbm, ⟨13, _⟩ => ⟨S8448x512, .bf16⟩
  | .hbm, ⟨14, _⟩ => ⟨S8448x1024, .bf16⟩
  | .hbm, ⟨15, _⟩ => ⟨S8448x1024, .bf16⟩
  | .hbm, ⟨16, _⟩ => ⟨S8448x1024, .bf16⟩
  | .hbm, ⟨17, _⟩ => ⟨S1x1024, .f32⟩
  | .hbm, ⟨18, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2048, .f32⟩
  | .local _ .vmem, ⟨5, _⟩ => ⟨S256x2048, .f32⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S256x1024, .f32⟩
  | .local _ .vmem, ⟨16, _⟩ => ⟨S256x1024, .f32⟩
  | .local _ .vmem, ⟨17, _⟩ => ⟨S256x2048, .bf16⟩
  | .local _ .vmem, ⟨18, _⟩ => ⟨S256x2048, .bf16⟩
  | .local _ .vmem, ⟨19, _⟩ => ⟨S256x512, .bf16⟩
  | .local _ .vmem, ⟨20, _⟩ => ⟨S256x512, .bf16⟩
  | .local _ .vmem, ⟨21, _⟩ => ⟨S256x512, .bf16⟩
  | .local _ .vmem, ⟨22, _⟩ => ⟨S256x512, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S1x1024, .f32⟩
  | .local _ .vmem, ⟨30, _⟩ => ⟨S1x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev main_v0_8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg18_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem18_0 : DmaSem sig := 30

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg0 : BitVec 32 := BitVec.ofNat 32 (i 0).val
  let c0_i32_3 : BitVec 32 := 0#32
  let v6 : BitVec 1 := Scalar.cmpi .eq arg0 c0_i32_3
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== ReferenceIdeal.lean ====
abbrev S8448x1024 : Shape := ⟨2, ![8448, 1024]⟩
abbrev S8448x2048 : Shape := ⟨2, ![8448, 2048]⟩
abbrev S8448x512 : Shape := ⟨2, ![8448, 512]⟩
abbrev S512x1024 : Shape := ⟨2, ![512, 1024]⟩
abbrev S1024x1024 : Shape := ⟨2, ![1024, 1024]⟩
abbrev S1x1024 : Shape := ⟨2, ![1, 1024]⟩
abbrev S_ : Shape := ⟨0, ![]⟩
abbrev S8448 : Shape := ⟨1, ![8448]⟩
abbrev S8448x1 : Shape := ⟨2, ![8448, 1]⟩
abbrev S8192x1024 : Shape := ⟨2, ![8192, 1024]⟩
abbrev S1024 : Shape := ⟨1, ![1024]⟩

abbrev nBuf : Space → Nat
  | .hbm => 135
  | .vmem => 0
  | .smem => 0
  | _ => 0

abbrev hbmTy0_0 (i : Nat) : BufTy := match i % 128 with
  | 0 => ⟨S8448x1024, .f32⟩
  | 1 => ⟨S8448x2048, .f32⟩
  | 2 => ⟨S8448x512, .bf16⟩
  | 3 => ⟨S8448x512, .bf16⟩
  | 4 => ⟨S512x1024, .bf16⟩
  | 5 => ⟨S512x1024, .bf16⟩
  | 6 => ⟨S1024x1024, .bf16⟩
  | 7 => ⟨S1x1024, .f32⟩
  | 8 => ⟨S1x1024, .f32⟩
  | 9 => ⟨S8448x1024, .f32⟩
  | 10 => ⟨S8448x512, .f32⟩
  | 11 => ⟨S8448x512, .f32⟩
  | 12 => ⟨S512x1024, .f32⟩
  | 13 => ⟨S512x1024, .f32⟩
  | 14 => ⟨S1024x1024, .f32⟩
  | 15 => ⟨S8448x1024, .f32⟩
  | 16 => ⟨S8448x1024, .f32⟩
  | 17 => ⟨S8448x2048, .f32⟩
  | 18 => ⟨S8448x2048, .f32⟩
  | 19 => ⟨S_, .f32⟩
  | 20 => ⟨S8448x2048, .f32⟩
  | 21 => ⟨S8448x2048, .f32⟩
  | 22 => ⟨S_, .f32⟩
  | 23 => ⟨S8448x2048, .f32⟩
  | 24 => ⟨S8448x2048, .f32⟩
  | 25 => ⟨S_, .f32⟩
  | 26 => ⟨S8448x2048, .f32⟩
  | 27 => ⟨S8448x2048, .f32⟩
  | 28 => ⟨S8448x2048, .f32⟩
  | 29 => ⟨S8448x1024, .f32⟩
  | 30 => ⟨S8448x1024, .f32⟩
  | 31 => ⟨S8448x1024, .f32⟩
  | 32 => ⟨S8448x1024, .f32⟩
  | 33 => ⟨S8448x1024, .f32⟩
  | 34 => ⟨S8448x1024, .f32⟩
  | 35 => ⟨S_, .f32⟩
  | 36 => ⟨S8448x1024, .f32⟩
  | 37 => ⟨S8448x1024, .f32⟩
  | 38 => ⟨S8448x1024, .f32⟩
  | 39 => ⟨S_, .f32⟩
  | 40 => ⟨S8448, .f32⟩
  | 41 => ⟨S8448x1, .f32⟩
  | 42 => ⟨S_, .f32⟩
  | 43 => ⟨S8448x1, .f32⟩
  | 44 => ⟨S8448x1, .f32⟩
  | 45 => ⟨S8448x1024, .f32⟩
  | 46 => ⟨S8448x1024, .f32⟩
  | 47 => ⟨S8448x1024, .f32⟩
  | 48 => ⟨S_, .f32⟩
  | 49 => ⟨S8448x1024, .f32⟩
  | 50 => ⟨S8448x1024, .f32⟩
  | 51 => ⟨S_, .f32⟩
  | 52 => ⟨S8448, .f32⟩
  | 53 => ⟨S8448x1, .f32⟩
  | 54 => ⟨S_, .f32⟩
  | 55 => ⟨S8448x1, .f32⟩
  | 56 => ⟨S8448x1, .f32⟩
  | 57 => ⟨S8448x1024, .f32⟩
  | 58 => ⟨S8448x1024, .f32⟩
  | 59 => ⟨S_, .f32⟩
  | 60 => ⟨S8448x1, .f32⟩
  | 61 => ⟨S8448x1, .f32⟩
  | 62 => ⟨S8448x1, .f32⟩
  | 63 => ⟨S8448x1, .f32⟩
  | 64 => ⟨S_, .f32⟩
  | 65 => ⟨S8448x1, .f32⟩
  | 66 => ⟨S8448x1, .f32⟩
  | 67 => ⟨S8448x1024, .f32⟩
  | 68 => ⟨S8448x1024, .f32⟩
  | 69 => ⟨S8448x1024, .f32⟩
  | 70 => ⟨S8448x1024, .f32⟩
  | 71 => ⟨S8448x1024, .f32⟩
  | 72 => ⟨S8448x1024, .f32⟩
  | 73 => ⟨S8192x1024, .f32⟩
  | 74 => ⟨S8192x1024, .f32⟩
  | 75 => ⟨S_, .f32⟩
  | 76 => ⟨S8448x1024, .f32⟩
  | 77 => ⟨S_, .f32⟩
  | 78 => ⟨S1024, .f32⟩
  | 79 => ⟨S1x1024, .f32⟩
  | 80 => ⟨S8448x1024, .f32⟩
  | 81 => ⟨S_, .f32⟩
  | 82 => ⟨S1024, .f32⟩
  | 83 => ⟨S1x1024, .f32⟩
  | 84 => ⟨S8448x1024, .f32⟩
  | 85 => ⟨S8448x1024, .f32⟩
  | 86 => ⟨S8448x1024, .f32⟩
  | 87 => ⟨S_, .f32⟩
  | 88 => ⟨S8448, .f32⟩
  | 89 => ⟨S8448x1, .f32⟩
  | 90 => ⟨S8448x1024, .f32⟩
  | 91 => ⟨S8448x1024, .f32⟩
  | 92 => ⟨S8448x1, .f32⟩
  | 93 => ⟨S8448x1024, .f32⟩
  | 94 => ⟨S_, .f32⟩
  | 95 => ⟨S8448, .f32⟩
  | 96 => ⟨S8448x1, .f32⟩
  | 97 => ⟨S_, .f32⟩
  | 98 => ⟨S8448x1, .f32⟩
  | 99 => ⟨S8448x1, .f32⟩
  | 100 => ⟨S_, .f32⟩
  | 101 => ⟨S8448, .f32⟩
  | 102 => ⟨S8448x1024, .f32⟩
  | 103 => ⟨S8448x1024, .f32⟩
  | 104 => ⟨S8448x1024, .f32⟩
  | 105 => ⟨S_, .f32⟩
  | 106 => ⟨S8448, .f32⟩
  | 107 => ⟨S8448x1, .f32⟩
  | 108 => ⟨S8448x1024, .f32⟩
  | 109 => ⟨S8448x1, .f32⟩
  | 110 => ⟨S_, .f32⟩
  | 111 => ⟨S8448x1, .f32⟩
  | 112 => ⟨S8448x1, .f32⟩
  | 113 => ⟨S_, .f32⟩
  | 114 => ⟨S8448, .f32⟩
  | 115 => ⟨S8448x1024, .f32⟩
  | 116 => ⟨S8448x1024, .f32⟩
  | 117 => ⟨S_, .f32⟩
  | 118 => ⟨S8448x1024, .f32⟩
  | 119 => ⟨S8448x1024, .f32⟩
  | 120 => ⟨S8448x1024, .f32⟩
  | 121 => ⟨S8448x1024, .f32⟩
  | 122 => ⟨S8448x1024, .f32⟩
  | 123 => ⟨S8448x1024, .f32⟩
  | 124 => ⟨S8448x1024, .f32⟩
  | 125 => ⟨S8448x2048, .f32⟩
  | 126 => ⟨S8448x2048, .f32⟩
  | 127 => ⟨S8448x512, .f32⟩
  | _ => ⟨S8448x1024, .f32⟩

abbrev hbmTy0_1 (i : Nat) : BufTy := match i % 128 with
  | 0 => ⟨S8448x512, .f32⟩
  | 1 => ⟨S8448x2048, .bf16⟩
  | 2 => ⟨S8448x512, .bf16⟩
  | 3 => ⟨S8448x512, .bf16⟩
  | 4 => ⟨S8448x1024, .bf16⟩
  | 5 => ⟨S8448x1024, .bf16⟩
  | 6 => ⟨S8448x1024, .bf16⟩
  | _ => ⟨S8448x1024, .f32⟩

abbrev hbmTy (i : Nat) : BufTy := match i / 128 with
  | 0 => hbmTy0_0 i
  | 1 => hbmTy0_1 i
  | _ => ⟨S8448x1024, .f32⟩

abbrev bufTy : (tb : Table) → Fin (tcTables nBuf tb) → BufTy
  | .hbm, ⟨i, _⟩ => hbmTy i
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_cst_11 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_12 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_13 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_14 : Ref sig .tc := ⟨.hbm, 94, rfl⟩
abbrev main_v69 : Ref sig .tc := ⟨.hbm, 95, rfl⟩
abbrev main_v70 : Ref sig .tc := ⟨.hbm, 96, rfl⟩
abbrev main_cst_15 : Ref sig .tc := ⟨.hbm, 97, rfl⟩
abbrev main_v71 : Ref sig .tc := ⟨.hbm, 98, rfl⟩
abbrev main_v72 : Ref sig .tc := ⟨.hbm, 99, rfl⟩
abbrev main_cst_16 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_17 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_18 : Ref sig .tc := ⟨.hbm, 110, rfl⟩
abbrev main_v81 : Ref sig .tc := ⟨.hbm, 111, rfl⟩
abbrev main_v82 : Ref sig .tc := ⟨.hbm, 112, rfl⟩
abbrev main_cst_19 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_20 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩

abbrev nD : Nat := 1
abbrev τ : Topo := Topo.v7x

variable {F : FTy → Type} [FloatOps F]
-- ==== Kernel2.lean ====
abbrev S8448x1024 : Shape := ⟨2, ![8448, 1024]⟩
abbrev S8448x2048 : Shape := ⟨2, ![8448, 2048]⟩
abbrev S8448x512 : Shape := ⟨2, ![8448, 512]⟩
abbrev S8192x1024 : Shape := ⟨2, ![8192, 1024]⟩
abbrev S512x1024 : Shape := ⟨2, ![512, 1024]⟩
abbrev S1024x1024 : Shape := ⟨2, ![1024, 1024]⟩
abbrev S1024x5632 : Shape := ⟨2, ![1024, 5632]⟩
abbrev S2816x1024 : Shape := ⟨2, ![2816, 1024]⟩
abbrev S1x1024 : Shape := ⟨2, ![1, 1024]⟩
abbrev S8448x5632 : Shape := ⟨2, ![8448, 5632]⟩
abbrev S8448x2816 : Shape := ⟨2, ![8448, 2816]⟩
abbrev S1x1 : Shape := ⟨2, ![1, 1]⟩
abbrev S256x1024 : Shape := ⟨2, ![256, 1024]⟩
abbrev S256x2048 : Shape := ⟨2, ![256, 2048]⟩
abbrev S256x512 : Shape := ⟨2, ![256, 512]⟩
abbrev S256x5632 : Shape := ⟨2, ![256, 5632]⟩
abbrev S256x2816 : Shape := ⟨2, ![256, 2816]⟩
abbrev S256x1 : Shape := ⟨2, ![256, 1]⟩
abbrev S256 : Shape := ⟨1, ![256]⟩
abbrev S1x256x1024 : Shape := ⟨3, ![1, 256, 1024]⟩
abbrev S1 : Shape := ⟨1, ![1]⟩
abbrev S1x1x1 : Shape := ⟨3, ![1, 1, 1]⟩
abbrev S1024 : Shape := ⟨1, ![1024]⟩

abbrev nBuf : Space → Nat
  | .hbm => 25
  | .vmem => 38
  | .smem => 0
  | _ => 0

abbrev bufTy : (tb : Table) → Fin (tcTables nBuf tb) → BufTy
  | .hbm, ⟨0, _⟩ => ⟨S8448x1024, .f32⟩
  | .hbm, ⟨1, _⟩ => ⟨S8448x2048, .f32⟩
  | .hbm, ⟨2, _⟩ => ⟨S8448x512, .bf16⟩
  | .hbm, ⟨3, _⟩ => ⟨S8448x512, .bf16⟩
  | .hbm, ⟨4, _⟩ => ⟨S8192x1024, .f32⟩
  | .hbm, ⟨5, _⟩ => ⟨S512x1024, .bf16⟩
  | .hbm, ⟨6, _⟩ => ⟨S512x1024, .bf16⟩
  | .hbm, ⟨7, _⟩ => ⟨S1024x1024, .bf16⟩
  | .hbm, ⟨8, _⟩ => ⟨S1024x5632, .bf16⟩
  | .hbm, ⟨9, _⟩ => ⟨S2816x1024, .bf16⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S8448x1024, .f32⟩
  | .hbm, ⟨15, _⟩ => ⟨S8448x5632, .bf16⟩
  | .hbm, ⟨16, _⟩ => ⟨S8448x2816, .bf16⟩
  | .hbm, ⟨17, _⟩ => ⟨S8448x1024, .bf16⟩
  | .hbm, ⟨18, _⟩ => ⟨S8448x1024, .bf16⟩
  | .hbm, ⟨19, _⟩ => ⟨S8448x1024, .bf16⟩
  | .hbm, ⟨20, _⟩ => ⟨S8448x512, .bf16⟩
  | .hbm, ⟨21, _⟩ => ⟨S8448x512, .bf16⟩
  | .hbm, ⟨22, _⟩ => ⟨S1x1, .f32⟩
  | .hbm, ⟨23, _⟩ => ⟨S1x1024, .f32⟩
  | .hbm, ⟨24, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x2048, .f32⟩
  | .local _ .vmem, ⟨3, _⟩ => ⟨S256x2048, .f32⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x1024, .f32⟩
  | .local _ .vmem, ⟨9, _⟩ => ⟨S256x1024, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1024x5632, .bf16⟩
  | .local _ .vmem, ⟨16, _⟩ => ⟨S2816x1024, .bf16⟩
  | .local _ .vmem, ⟨17, _⟩ => ⟨S1x1024, .f32⟩
  | .local _ .vmem, ⟨18, _⟩ => ⟨S1x1024, .f32⟩
  | .local _ .vmem, ⟨19, _⟩ => ⟨S256x1024, .f32⟩
  | .local _ .vmem, ⟨20, _⟩ => ⟨S256x1024, .f32⟩
  | .local _ .vmem, ⟨21, _⟩ => ⟨S256x5632, .bf16⟩
  | .local _ .vmem, ⟨22, _⟩ => ⟨S256x5632, .bf16⟩
  | .local _ .vmem, ⟨23, _⟩ => ⟨S256x2816, .bf16⟩
  | .local _ .vmem, ⟨24, _⟩ => ⟨S256x2816, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x1024, .bf16⟩
  | .local _ .vmem, ⟨30, _⟩ => ⟨S256x1024, .bf16⟩
  | .local _ .vmem, ⟨31, _⟩ => ⟨S256x512, .bf16⟩
  | .local _ .vmem, ⟨32, _⟩ => ⟨S256x512, .bf16⟩
  | .local _ .vmem, ⟨33, _⟩ => ⟨S256x512, .bf16⟩
  | .local _ .vmem, ⟨34, _⟩ => ⟨S256x512, .bf16⟩
  | .local _ .vmem, ⟨35, _⟩ => ⟨S1x1, .f32⟩
  | .local _ .vmem, ⟨36, _⟩ => ⟨S1x1024, .f32⟩
  | .local _ .vmem, ⟨37, _⟩ => ⟨S1x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev main_v0_2 : Ref sig .tc := ⟨.hbm, 16, rfl⟩
abbrev main_v0_3 : Ref sig .tc := ⟨.hbm, 17, rfl⟩
abbrev main_v0_4 : Ref sig .tc := ⟨.hbm, 18, rfl⟩
abbrev main_v0_5 : Ref sig .tc := ⟨.hbm, 19, rfl⟩
abbrev main_v0_6 : Ref sig .tc := ⟨.hbm, 20, rfl⟩
abbrev main_v0_7 : Ref sig .tc := ⟨.hbm, 21, rfl⟩
abbrev main_v0_8 : Ref sig .tc := ⟨.hbm, 22, rfl⟩
abbrev main_v0_9 : Ref sig .tc := ⟨.hbm, 23, rfl⟩
abbrev main_v0_10 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg21_1 : Ref sig .tc := ⟨.vmem, 34, rfl⟩
abbrev cc0_stg22_0 : Ref sig .tc := ⟨.vmem, 35, rfl⟩
abbrev cc0_stg23_0 : Ref sig .tc := ⟨.vmem, 36, rfl⟩
abbrev cc0_stg24_0 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32
abbrev cc0_sem21_0 : DmaSem sig := 33
abbrev cc0_sem21_1 : DmaSem sig := 34
abbrev cc0_sem22_0 : DmaSem sig := 35
abbrev cc0_sem23_0 : DmaSem sig := 36
abbrev cc0_sem24_0 : DmaSem sig := 37

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg0 : BitVec 32 := BitVec.ofNat 32 (i 0).val
  let c0_i32_3 : BitVec 32 := 0#32
  let v6 : BitVec 1 := Scalar.cmpi .eq arg0 c0_i32_3
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x5632 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x5632 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x2816 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 1 → Memref sig .tc .vmem S1x1 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]
-- ==== Reference2Ideal.lean ====
abbrev S8448x1024 : Shape := ⟨2, ![8448, 1024]⟩
abbrev S8448x2048 : Shape := ⟨2, ![8448, 2048]⟩
abbrev S8448x512 : Shape := ⟨2, ![8448, 512]⟩
abbrev S8192x1024 : Shape := ⟨2, ![8192, 1024]⟩
abbrev S512x1024 : Shape := ⟨2, ![512, 1024]⟩
abbrev S1024x1024 : Shape := ⟨2, ![1024, 1024]⟩
abbrev S1024x5632 : Shape := ⟨2, ![1024, 5632]⟩
abbrev S2816x1024 : Shape := ⟨2, ![2816, 1024]⟩
abbrev S1x1024 : Shape := ⟨2, ![1, 1024]⟩
abbrev S8192x2048 : Shape := ⟨2, ![8192, 2048]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩
abbrev S1024 : Shape := ⟨1, ![1024]⟩
abbrev S8448x5632 : Shape := ⟨2, ![8448, 5632]⟩
abbrev S8448x2816 : Shape := ⟨2, ![8448, 2816]⟩
abbrev S1x1 : Shape := ⟨2, ![1, 1]⟩

abbrev nBuf : Space → Nat
  | .hbm => 234
  | .vmem => 0
  | .smem => 0
  | _ => 0

abbrev hbmTy0_0 (i : Nat) : BufTy := match i % 128 with
  | 0 => ⟨S8448x1024, .f32⟩
  | 1 => ⟨S8448x2048, .f32⟩
  | 2 => ⟨S8448x512, .bf16⟩
  | 3 => ⟨S8448x512, .bf16⟩
  | 4 => ⟨S8192x1024, .f32⟩
  | 5 => ⟨S512x1024, .bf16⟩
  | 6 => ⟨S512x1024, .bf16⟩
  | 7 => ⟨S1024x1024, .bf16⟩
  | 8 => ⟨S1024x5632, .bf16⟩
  | 9 => ⟨S2816x1024, .bf16⟩
  | 10 => ⟨S1x1024, .f32⟩
  | 11 => ⟨S1x1024, .f32⟩
  | 12 => ⟨S1x1024, .f32⟩
  | 13 => ⟨S1x1024, .f32⟩
  | 14 => ⟨S512x1024, .f32⟩
  | 15 => ⟨S512x1024, .f32⟩
  | 16 => ⟨S1024x1024, .f32⟩
  | 17 => ⟨S1024x5632, .f32⟩
  | 18 => ⟨S2816x1024, .f32⟩
  | 19 => ⟨S8192x1024, .f32⟩
  | 20 => ⟨S8192x2048, .f32⟩
  | 21 => ⟨S8192x512, .bf16⟩
  | 22 => ⟨S8192x512, .bf16⟩
  | 23 => ⟨S8192x512, .f32⟩
  | 24 => ⟨S8192x1024, .f32⟩
  | 25 => ⟨S8192x512, .f32⟩
  | 26 => ⟨S8192x1024, .f32⟩
  | 27 => ⟨S8192x2048, .f32⟩
  | 28 => ⟨S8192x2048, .f32⟩
  | 29 => ⟨S_, .f32⟩
  | 30 => ⟨S8192x2048, .f32⟩
  | 31 => ⟨S8192x2048, .f32⟩
  | 32 => ⟨S_, .f32⟩
  | 33 => ⟨S8192x2048, .f32⟩
  | 34 => ⟨S8192x2048, .f32⟩
  | 35 => ⟨S8192x1024, .f32⟩
  | 36 => ⟨S8192x1024, .f32⟩
  | 37 => ⟨S8192x1024, .f32⟩
  | 38 => ⟨S8192x1024, .f32⟩
  | 39 => ⟨S8192x1024, .f32⟩
  | 40 => ⟨S_, .f32⟩
  | 41 => ⟨S8192x1024, .f32⟩
  | 42 => ⟨S8192x1024, .f32⟩
  | 43 => ⟨S8192x1024, .f32⟩
  | 44 => ⟨S8192x1024, .f32⟩
  | 45 => ⟨S_, .f32⟩
  | 46 => ⟨S8192, .f32⟩
  | 47 => ⟨S8192x1, .f32⟩
  | 48 => ⟨S_, .f32⟩
  | 49 => ⟨S8192x1, .f32⟩
  | 50 => ⟨S8192x1, .f32⟩
  | 51 => ⟨S8192x1024, .f32⟩
  | 52 => ⟨S8192x1024, .f32⟩
  | 53 => ⟨S8192x1024, .f32⟩
  | 54 => ⟨S_, .f32⟩
  | 55 => ⟨S8192, .f32⟩
  | 56 => ⟨S8192x1, .f32⟩
  | 57 => ⟨S_, .f32⟩
  | 58 => ⟨S8192x1, .f32⟩
  | 59 => ⟨S8192x1, .f32⟩
  | 60 => ⟨S8192x1024, .f32⟩
  | 61 => ⟨S8192x1024, .f32⟩
  | 62 => ⟨S_, .f32⟩
  | 63 => ⟨S8192x1, .f32⟩
  | 64 => ⟨S8192x1, .f32⟩
  | 65 => ⟨S8192x1, .f32⟩
  | 66 => ⟨S8192x1024, .f32⟩
  | 67 => ⟨S8192x1024, .f32⟩
  | 68 => ⟨S8192x1024, .f32⟩
  | 69 => ⟨S8192x1024, .f32⟩
  | 70 => ⟨S8192x1024, .f32⟩
  | 71 => ⟨S8192x1024, .f32⟩
  | 72 => ⟨S8192x5632, .f32⟩
  | 73 => ⟨S8192x2816, .f32⟩
  | 74 => ⟨S8192x2816, .f32⟩
  | 75 => ⟨S8192x2816, .f32⟩
  | 76 => ⟨S8192x2816, .f32⟩
  | 77 => ⟨S_, .f32⟩
  | 78 => ⟨S8192x2816, .f32⟩
  | 79 => ⟨S8192x2816, .f32⟩
  | 80 => ⟨S_, .f32⟩
  | 81 => ⟨S8192x2816, .f32⟩
  | 82 => ⟨S8192x2816, .f32⟩
  | 83 => ⟨S_, .f32⟩
  | 84 => ⟨S8192x2816, .f32⟩
  | 85 => ⟨S8192x2816, .f32⟩
  | 86 => ⟨S8192x2816, .f32⟩
  | 87 => ⟨S8192x2816, .f32⟩
  | 88 => ⟨S8192x2816, .f32⟩
  | 89 => ⟨S8192x1024, .f32⟩
  | 90 => ⟨S_, .f32⟩
  | 91 => ⟨S8192x1024, .f32⟩
  | 92 => ⟨S8192x1024, .f32⟩
  | 93 => ⟨S8192x1024, .f32⟩
  | 94 => ⟨S_, .f32⟩
  | 95 => ⟨S8192, .f32⟩
  | 96 => ⟨S8192x1, .f32⟩
  | 97 => ⟨S_, .f32⟩
  | 98 => ⟨S8192x1, .f32⟩
  | 99 => ⟨S8192x1, .f32⟩
  | 100 => ⟨S8192x1024, .f32⟩
  | 101 => ⟨S8192x1024, .f32⟩
  | 102 => ⟨S8192x1024, .f32⟩
  | 103 => ⟨S_, .f32⟩
  | 104 => ⟨S8192x1024, .f32⟩
  | 105 => ⟨S8192x1024, .f32⟩
  | 106 => ⟨S_, .f32⟩
  | 107 => ⟨S8192, .f32⟩
  | 108 => ⟨S8192x1, .f32⟩
  | 109 => ⟨S_, .f32⟩
  | 110 => ⟨S8192x1, .f32⟩
  | 111 => ⟨S8192x1, .f32⟩
  | 112 => ⟨S8192x1024, .f32⟩
  | 113 => ⟨S8192x1024, .f32⟩
  | 114 => ⟨S_, .f32⟩
  | 115 => ⟨S8192x1, .f32⟩
  | 116 => ⟨S8192x1, .f32⟩
  | 117 => ⟨S8192x1, .f32⟩
  | 118 => ⟨S8192x1, .f32⟩
  | 119 => ⟨S_, .f32⟩
  | 120 => ⟨S8192x1, .f32⟩
  | 121 => ⟨S8192x1, .f32⟩
  | 122 => ⟨S8192x1024, .f32⟩
  | 123 => ⟨S8192x1024, .f32⟩
  | 124 => ⟨S8192x1024, .f32⟩
  | 125 => ⟨S8192x1024, .f32⟩
  | 126 => ⟨S8192x1024, .f32⟩
  | 127 => ⟨S8192x1024, .f32⟩
  | _ => ⟨S8448x1024, .f32⟩

abbrev hbmTy0_1 (i : Nat) : BufTy := match i % 128 with
  | 0 => ⟨S8192x1024, .f32⟩
  | 1 => ⟨S8192x1024, .f32⟩
  | 2 => ⟨S_, .f32⟩
  | 3 => ⟨S8192x1024, .f32⟩
  | 4 => ⟨S8192x1024, .f32⟩
  | 5 => ⟨S_, .f32⟩
  | 6 => ⟨S8192, .f32⟩
  | 7 => ⟨S_, .f32⟩
  | 8 => ⟨S8192, .f32⟩
  | 9 => ⟨S8192, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S8192, .f32⟩
  | 18 => ⟨S_, .f32⟩
  | 19 => ⟨S8192, .f32⟩
  | 20 => ⟨S8192, .f32⟩
  | 21 => ⟨S8192x1024, .f32⟩
  | 22 => ⟨S8192x1024, .f32⟩
  | 23 => ⟨S_, .f32⟩
  | 24 => ⟨S1024, .f32⟩
  | 25 => ⟨S1x1024, .f32⟩
  | 26 => ⟨S8192x1024, .f32⟩
  | 27 => ⟨S_, .f32⟩
  | 28 => ⟨S1024, .f32⟩
  | 29 => ⟨S1x1024, .f32⟩
  | 30 => ⟨S8192x1024, .f32⟩
  | 31 => ⟨S8192x1024, .f32⟩
  | 32 => ⟨S8192x1024, .f32⟩
  | 33 => ⟨S_, .f32⟩
  | 34 => ⟨S8192, .f32⟩
  | 35 => ⟨S8192x1, .f32⟩
  | 36 => ⟨S8192x1024, .f32⟩
  | 37 => ⟨S8192x1024, .f32⟩
  | 38 => ⟨S8192x1, .f32⟩
  | 39 => ⟨S8192x1024, .f32⟩
  | 40 => ⟨S_, .f32⟩
  | 41 => ⟨S8192, .f32⟩
  | 42 => ⟨S8192x1, .f32⟩
  | 43 => ⟨S_, .f32⟩
  | 44 => ⟨S8192x1, .f32⟩
  | 45 => ⟨S8192x1, .f32⟩
  | 46 => ⟨S_, .f32⟩
  | 47 => ⟨S8192, .f32⟩
  | 48 => ⟨S8192x1024, .f32⟩
  | 49 => ⟨S8192x1024, .f32⟩
  | 50 => ⟨S8192x1024, .f32⟩
  | 51 => ⟨S_, .f32⟩
  | 52 => ⟨S8192, .f32⟩
  | 53 => ⟨S8192x1, .f32⟩
  | 54 => ⟨S8192x1024, .f32⟩
  | 55 => ⟨S8192x1, .f32⟩
  | 56 => ⟨S_, .f32⟩
  | 57 => ⟨S8192x1, .f32⟩
  | 58 => ⟨S8192x1, .f32⟩
  | 59 => ⟨S_, .f32⟩
  | 60 => ⟨S8192, .f32⟩
  | 61 => ⟨S8192x1024, .f32⟩
  | 62 => ⟨S8192x1024, .f32⟩
  | 63 => ⟨S_, .f32⟩
  | 64 => ⟨S8192x1024, .f32⟩
  | 65 => ⟨S8192x1024, .f32⟩
  | 66 => ⟨S8192x2816, .f32⟩
  | 67 => ⟨S8192x2816, .f32⟩
  | 68 => ⟨S8192x2816, .f32⟩
  | 69 => ⟨S8192x2816, .f32⟩
  | 70 => ⟨S8192x2816, .f32⟩
  | 71 => ⟨S8192x2816, .f32⟩
  | 72 => ⟨S8192x2816, .f32⟩
  | 73 => ⟨S8192x5632, .f32⟩
  | 74 => ⟨S8192x1024, .f32⟩
  | 75 => ⟨S8192x1024, .f32⟩
  | 76 => ⟨S_, .i32⟩
  | 77 => ⟨S_, .f32⟩
  | 78 => ⟨S8448x1024, .f32⟩
  | 79 => ⟨S8192x5632, .bf16⟩
  | 80 => ⟨S_, .i32⟩
  | 81 => ⟨S_, .bf16⟩
  | 82 => ⟨S8448x5632, .bf16⟩
  | 83 => ⟨S8192x2816, .bf16⟩
  | 84 => ⟨S_, .i32⟩
  | 85 => ⟨S_, .bf16⟩
  | 86 => ⟨S8448x2816, .bf16⟩
  | 87 => ⟨S8192x1024, .bf16⟩
  | 88 => ⟨S_, .i32⟩
  | 89 => ⟨S_, .bf16⟩
  | 90 => ⟨S8448x1024, .bf16⟩
  | 91 => ⟨S8192x1024, .bf16⟩
  | 92 => ⟨S_, .i32⟩
  | 93 => ⟨S_, .bf16⟩
  | 94 => ⟨S8448x1024, .bf16⟩
  | 95 => ⟨S8192x1024, .bf16⟩
  | 96 => ⟨S_, .i32⟩
  | 97 => ⟨S_, .bf16⟩
  | 98 => ⟨S8448x1024, .bf16⟩
  | 99 => ⟨S_, .i32⟩
  | 100 => ⟨S_, .bf16⟩
  | 101 => ⟨S8448x512, .bf16⟩
  | 102 => ⟨S_, .i32⟩
  | 103 => ⟨S_, .bf16⟩
  | 104 => ⟨S8448x512, .bf16⟩
  | 105 => ⟨S1x1, .f32⟩
  | _ => ⟨S8448x1024, .f32⟩

abbrev hbmTy (i : Nat) : BufTy := match i / 128 with
  | 0 => hbmTy0_0 i
  | 1 => hbmTy0_1 i
  | _ => ⟨S8448x1024, .f32⟩

abbrev bufTy : (tb : Table) → Fin (tcTables nBuf tb) → BufTy
  | .hbm, ⟨i, _⟩ => hbmTy i
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_v16 : Ref sig .tc := ⟨.hbm, 31, rfl⟩
abbrev main_cst_0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_1 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_2 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_4 : Ref sig .tc := ⟨.hbm, 54, rfl⟩
abbrev main_v35 : Ref sig .tc := ⟨.hbm, 55, rfl⟩
abbrev main_v36 : Ref sig .tc := ⟨.hbm, 56, rfl⟩
abbrev main_cst_5 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_6 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_call0_v0 : Ref sig .tc := ⟨.hbm, 75, rfl⟩
abbrev main_call0_v1 : Ref sig .tc := ⟨.hbm, 76, rfl⟩
abbrev main_call0_cst : Ref sig .tc := ⟨.hbm, 77, rfl⟩
abbrev main_call0_v2 : Ref sig .tc := ⟨.hbm, 78, rfl⟩
abbrev main_call0_v3 : Ref sig .tc := ⟨.hbm, 79, rfl⟩
abbrev main_call0_cst_0 : Ref sig .tc := ⟨.hbm, 80, rfl⟩
abbrev main_call0_v4 : Ref sig .tc := ⟨.hbm, 81, rfl⟩
abbrev main_v53_2 : Ref sig .tc := ⟨.hbm, 82, rfl⟩
abbrev main_call0_cst_1 : Ref sig .tc := ⟨.hbm, 83, rfl⟩
abbrev main_call0_v6 : Ref sig .tc := ⟨.hbm, 84, rfl⟩
abbrev main_call0_v7 : Ref sig .tc := ⟨.hbm, 85, rfl⟩
abbrev main_v53_1 : Ref sig .tc := ⟨.hbm, 86, rfl⟩
abbrev main_v53_0 : Ref sig .tc := ⟨.hbm, 87, rfl⟩
abbrev main_v54 : Ref sig .tc := ⟨.hbm, 88, rfl⟩
abbrev main_v55 : Ref sig .tc := ⟨.hbm, 89, rfl⟩
abbrev main_cst_7 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_8 : Ref sig .tc := ⟨.hbm, 94, rfl⟩
abbrev main_v59 : Ref sig .tc := ⟨.hbm, 95, rfl⟩
abbrev main_v60 : Ref sig .tc := ⟨.hbm, 96, rfl⟩
abbrev main_cst_9 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_10 : Ref sig .tc := ⟨.hbm, 103, rfl⟩
abbrev main_v66 : Ref sig .tc := ⟨.hbm, 104, rfl⟩
abbrev main_v67 : Ref sig .tc := ⟨.hbm, 105, rfl⟩
abbrev main_cst_11 : Ref sig .tc := ⟨.hbm, 106, rfl⟩
abbrev main_v68 : Ref sig .tc := ⟨.hbm, 107, rfl⟩
abbrev main_v69 : Ref sig .tc := ⟨.hbm, 108, rfl⟩
abbrev main_cst_12 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_cst_13 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_cst_14 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_cst_15 : Ref sig .tc := ⟨.hbm, 130, rfl⟩
abbrev main_v88 : Ref sig .tc := ⟨.hbm, 131, rfl⟩
abbrev main_v89 : Ref sig .tc := ⟨.hbm, 132, rfl⟩
abbrev main_cst_16 : Ref sig .tc := ⟨.hbm, 133, rfl⟩
abbrev main_v90 : Ref sig .tc := ⟨.hbm, 134, rfl⟩
abbrev main_cst_17 : Ref sig .tc := ⟨.hbm, 135, rfl⟩
abbrev main_v91 : Ref sig .tc := ⟨.hbm, 136, rfl⟩
abbrev main_v92 : Ref sig .tc := ⟨.hbm, 137, rfl⟩
abbrev main_cst_18 : Ref sig .tc := ⟨.hbm, 138, rfl⟩
abbrev main_v93 : Ref sig .tc := ⟨.hbm, 139, rfl⟩
abbrev main_cst_19 : Ref sig .tc := ⟨.hbm, 140, rfl⟩
abbrev main_v94 : Ref sig .tc := ⟨.hbm, 141, rfl⟩
abbrev main_cst_20 : Ref sig .tc := ⟨.hbm, 142, rfl⟩
abbrev main_cst_21 : Ref sig .tc := ⟨.hbm, 143, rfl⟩
abbrev main_v95 : Ref sig .tc := ⟨.hbm, 144, rfl⟩
abbrev main_v96 : Ref sig .tc := ⟨.hbm, 145, rfl⟩
abbrev main_cst_22 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_cst_23 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_cst_24 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_cst_25 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_cst_26 : Ref sig .tc := ⟨.hbm, 168, rfl⟩
abbrev main_v115 : Ref sig .tc := ⟨.hbm, 169, rfl⟩
abbrev main_v116 : Ref sig .tc := ⟨.hbm, 170, rfl⟩
abbrev main_cst_27 : Ref sig .tc := ⟨.hbm, 171, rfl⟩
abbrev main_v117 : Ref sig .tc := ⟨.hbm, 172, rfl⟩
abbrev main_v118 : Ref sig .tc := ⟨.hbm, 173, rfl⟩
abbrev main_cst_28 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_cst_29 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_cst_30 : Ref sig .tc := ⟨.hbm, 184, rfl⟩
abbrev main_v127 : Ref sig .tc := ⟨.hbm, 185, rfl⟩
abbrev main_v128 : Ref sig .tc := ⟨.hbm, 186, rfl⟩
abbrev main_cst_31 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_cst_32 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_call1_v0 : Ref sig .tc := ⟨.hbm, 197, rfl⟩
abbrev main_call1_v1 : Ref sig .tc := ⟨.hbm, 198, rfl⟩
abbrev main_call1_v2 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_c : Ref sig .tc := ⟨.hbm, 204, rfl⟩
abbrev main_call2_v0 : Ref sig .tc := ⟨.hbm, 205, rfl⟩
abbrev main_v141 : Ref sig .tc := ⟨.hbm, 206, rfl⟩
abbrev main_v142 : Ref sig .tc := ⟨.hbm, 207, rfl⟩
abbrev main_c_33 : Ref sig .tc := ⟨.hbm, 208, rfl⟩
abbrev main_call3_v0 : Ref sig .tc := ⟨.hbm, 209, rfl⟩
abbrev main_v143 : Ref sig .tc := ⟨.hbm, 210, rfl⟩
abbrev main_v144 : Ref sig .tc := ⟨.hbm, 211, rfl⟩
abbrev main_c_34 : Ref sig .tc := ⟨.hbm, 212, rfl⟩
abbrev main_call4_v0 : Ref sig .tc := ⟨.hbm, 213, rfl⟩
abbrev main_v145 : Ref sig .tc := ⟨.hbm, 214, rfl⟩
abbrev main_v146 : Ref sig .tc := ⟨.hbm, 215, rfl⟩
abbrev main_c_35 : Ref sig .tc := ⟨.hbm, 216, rfl⟩
abbrev main_call5_v0 : Ref sig .tc := ⟨.hbm, 217, rfl⟩
abbrev main_v147 : Ref sig .tc := ⟨.hbm, 218, rfl⟩
abbrev main_v148 : Ref sig .tc := ⟨.hbm, 219, rfl⟩
abbrev main_c_36 : Ref sig .tc := ⟨.hbm, 220, rfl⟩
abbrev main_call6_v0 : Ref sig .tc := ⟨.hbm, 221, rfl⟩
abbrev main_v149 : Ref sig .tc := ⟨.hbm, 222, rfl⟩
abbrev main_v150 : Ref sig .tc := ⟨.hbm, 223, rfl⟩
abbrev main_c_37 : Ref sig .tc := ⟨.hbm, 224, rfl⟩
abbrev main_call7_v0 : Ref sig .tc := ⟨.hbm, 225, rfl⟩
abbrev main_v151 : Ref sig .tc := ⟨.hbm, 226, rfl⟩
abbrev main_c_38 : Ref sig .tc := ⟨.hbm, 227, rfl⟩
abbrev main_call8_v0 : Ref sig .tc := ⟨.hbm, 228, rfl⟩
abbrev main_v152 : Ref sig .tc := ⟨.hbm, 229, rfl⟩
abbrev main_c_39 : Ref sig .tc := ⟨.hbm, 230, rfl⟩
abbrev main_call9_v0 : Ref sig .tc := ⟨.hbm, 231, rfl⟩
abbrev main_v153 : Ref sig .tc := ⟨.hbm, 232, rfl⟩
abbrev main_v154 : Ref sig .tc := ⟨.hbm, 233, rfl⟩

abbrev nD : Nat := 1
abbrev τ : Topo := Topo.v7x

variable {F : FTy → Type} [FloatOps F]
-- ==== Kernel3.lean ====
abbrev S8448x1024 : Shape := ⟨2, ![8448, 1024]⟩
abbrev S8448x5632 : Shape := ⟨2, ![8448, 5632]⟩
abbrev S4x1024x1408 : Shape := ⟨3, ![4, 1024, 1408]⟩
abbrev S768x1024 : Shape := ⟨2, ![768, 1024]⟩
abbrev S768x2816 : Shape := ⟨2, ![768, 2816]⟩
abbrev S2x1024x1408 : Shape := ⟨3, ![2, 1024, 1408]⟩
abbrev S1024x2816 : Shape := ⟨2, ![1024, 2816]⟩
abbrev S1024x1408 : Shape := ⟨2, ![1024, 1408]⟩
abbrev S1x1024x1408 : Shape := ⟨3, ![1, 1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S8448x5632, .bf16⟩
  | .hbm, ⟨2, _⟩ => ⟨S4x1024x1408, .bf16⟩
  | .local _ .vmem, ⟨0, _⟩ => ⟨S768x1024, .bf16⟩
  | .local _ .vmem, ⟨1, _⟩ => ⟨S768x1024, .bf16⟩
  | .local _ .vmem, ⟨2, _⟩ => ⟨S768x2816, .bf16⟩
  | .local _ .vmem, ⟨3, _⟩ => ⟨S768x2816, .bf16⟩
  | .local _ .vmem, ⟨4, _⟩ => ⟨S2x1024x1408, .bf16⟩
  | .local _ .vmem, ⟨5, _⟩ => ⟨S2x1024x1408, .bf16⟩
  | .local _ .vmem, ⟨6, _⟩ => ⟨S1024x2816, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 11], ![false, false, false]⟩

def k0_cond2 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8448x1024 : Shape := ⟨2, ![8448, 1024]⟩
abbrev S8448x5632 : Shape := ⟨2, ![8448, 5632]⟩
abbrev S_ : Shape := ⟨0, ![]⟩
abbrev S1024x5632 : Shape := ⟨2, ![1024, 5632]⟩
abbrev S5632x1024 : Shape := ⟨2, ![5632, 1024]⟩
abbrev S1024x1408 : Shape := ⟨2, ![1024, 1408]⟩
abbrev S1x1024x1408 : Shape := ⟨3, ![1, 1024, 1408]⟩
abbrev S4x1024x1408 : Shape := ⟨3, ![4, 1024, 1408]⟩

abbrev nBuf : Space → Nat
  | .hbm => 19
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x5632, .bf16⟩
  | .hbm, ⟨2, _⟩ => ⟨S_, .f32⟩
  | .hbm, ⟨3, _⟩ => ⟨S1024x5632, .f32⟩
  | .hbm, ⟨4, _⟩ => ⟨S8448x1024, .f32⟩
  | .hbm, ⟨5, _⟩ => ⟨S8448x5632, .f32⟩
  | .hbm, ⟨6, _⟩ => ⟨S8448x5632, .f32⟩
  | .hbm, ⟨7, _⟩ => ⟨S5632x1024, .f32⟩
  | .hbm, ⟨8, _⟩ => ⟨S1024x5632, .f32⟩
  | .hbm, ⟨9, _⟩ => ⟨S1024x5632, .bf16⟩
  | .hbm, ⟨10, _⟩ => ⟨S1024x1408, .bf16⟩
  | .hbm, ⟨11, _⟩ => ⟨S1024x1408, .bf16⟩
  | .hbm, ⟨12, _⟩ => ⟨S1024x1408, .bf16⟩
  | .hbm, ⟨13, _⟩ => ⟨S1024x1408, .bf16⟩
  | .hbm, ⟨14, _⟩ => ⟨S1x1024x1408, .bf16⟩
  | .hbm, ⟨15, _⟩ => ⟨S1x1024x1408, .bf16⟩
  | .hbm, ⟨16, _⟩ => ⟨S1x1024x1408, .bf16⟩
  | .hbm, ⟨17, _⟩ => ⟨S1x1024x1408, .bf16⟩
  | .hbm, ⟨18, _⟩ => ⟨S4x1024x1408, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== Kernel4.lean ====
abbrev S8448x4864 : Shape := ⟨2, ![8448, 4864]⟩
abbrev S8448x1024 : Shape := ⟨2, ![8448, 1024]⟩
abbrev S1x4864x1024 : Shape := ⟨3, ![1, 4864, 1024]⟩
abbrev S768x2432 : Shape := ⟨2, ![768, 2432]⟩
abbrev S768x1024 : Shape := ⟨2, ![768, 1024]⟩
abbrev S1x2432x1024 : Shape := ⟨3, ![1, 2432, 1024]⟩
abbrev S2432x1024 : Shape := ⟨2, ![2432, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x4864, .bf16⟩
  | .hbm, ⟨1, _⟩ => ⟨S8448x1024, .bf16⟩
  | .hbm, ⟨2, _⟩ => ⟨S1x4864x1024, .bf16⟩
  | .local _ .vmem, ⟨0, _⟩ => ⟨S768x2432, .bf16⟩
  | .local _ .vmem, ⟨1, _⟩ => ⟨S768x2432, .bf16⟩
  | .local _ .vmem, ⟨2, _⟩ => ⟨S768x1024, .bf16⟩
  | .local _ .vmem, ⟨3, _⟩ => ⟨S768x1024, .bf16⟩
  | .local _ .vmem, ⟨4, _⟩ => ⟨S1x2432x1024, .bf16⟩
  | .local _ .vmem, ⟨5, _⟩ => ⟨S1x2432x1024, .bf16⟩
  | .local _ .vmem, ⟨6, _⟩ => ⟨S2432x1024, .f32⟩
  | _, _ => ⟨S8448x4864, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 11], ![false, false, false]⟩

def k0_cond2 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S768x2432 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2432x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8448x4864 : Shape := ⟨2, ![8448, 4864]⟩
abbrev S8448x1024 : Shape := ⟨2, ![8448, 1024]⟩
abbrev S_ : Shape := ⟨0, ![]⟩
abbrev S1024x4864 : Shape := ⟨2, ![1024, 4864]⟩
abbrev S4864x1024 : Shape := ⟨2, ![4864, 1024]⟩
abbrev S1x4864x1024 : Shape := ⟨3, ![1, 4864, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8448x4864, .bf16⟩
  | .hbm, ⟨1, _⟩ => ⟨S8448x1024, .bf16⟩
  | .hbm, ⟨2, _⟩ => ⟨S_, .f32⟩
  | .hbm, ⟨3, _⟩ => ⟨S1024x4864, .f32⟩
  | .hbm, ⟨4, _⟩ => ⟨S8448x1024, .f32⟩
  | .hbm, ⟨5, _⟩ => ⟨S8448x4864, .f32⟩
  | .hbm, ⟨6, _⟩ => ⟨S8448x4864, .f32⟩
  | .hbm, ⟨7, _⟩ => ⟨S4864x1024, .f32⟩
  | .hbm, ⟨8, _⟩ => ⟨S1024x4864, .f32⟩
  | .hbm, ⟨9, _⟩ => ⟨S1024x4864, .bf16⟩
  | .hbm, ⟨10, _⟩ => ⟨S4864x1024, .bf16⟩
  | .hbm, ⟨11, _⟩ => ⟨S1x4864x1024, .bf16⟩
  | _, _ => ⟨S8448x4864, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S8448x2816 : Shape := ⟨2, ![8448, 2816]⟩
abbrev S8448x1024 : Shape := ⟨2, ![8448, 1024]⟩
abbrev S1x2816x1024 : Shape := ⟨3, ![1, 2816, 1024]⟩
abbrev S768x1408 : Shape := ⟨2, ![768, 1408]⟩
abbrev S768x1024 : Shape := ⟨2, ![768, 1024]⟩
abbrev S1x1408x1024 : Shape := ⟨3, ![1, 1408, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x2816, .bf16⟩
  | .hbm, ⟨1, _⟩ => ⟨S8448x1024, .bf16⟩
  | .hbm, ⟨2, _⟩ => ⟨S1x2816x1024, .bf16⟩
  | .local _ .vmem, ⟨0, _⟩ => ⟨S768x1408, .bf16⟩
  | .local _ .vmem, ⟨1, _⟩ => ⟨S768x1408, .bf16⟩
  | .local _ .vmem, ⟨2, _⟩ => ⟨S768x1024, .bf16⟩
  | .local _ .vmem, ⟨3, _⟩ => ⟨S768x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S8448x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 11], ![false, false, false]⟩

def k0_cond2 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S768x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8448x2816 : Shape := ⟨2, ![8448, 2816]⟩
abbrev S8448x1024 : Shape := ⟨2, ![8448, 1024]⟩
abbrev S_ : Shape := ⟨0, ![]⟩
abbrev S2816x1024 : Shape := ⟨2, ![2816, 1024]⟩
abbrev S1024x2816 : Shape := ⟨2, ![1024, 2816]⟩
abbrev S1x2816x1024 : Shape := ⟨3, ![1, 2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8448x2816, .bf16⟩
  | .hbm, ⟨1, _⟩ => ⟨S8448x1024, .bf16⟩
  | .hbm, ⟨2, _⟩ => ⟨S_, .f32⟩
  | .hbm, ⟨3, _⟩ => ⟨S2816x1024, .f32⟩
  | .hbm, ⟨4, _⟩ => ⟨S8448x2816, .f32⟩
  | .hbm, ⟨5, _⟩ => ⟨S8448x1024, .f32⟩
  | .hbm, ⟨6, _⟩ => ⟨S8448x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | .hbm, ⟨10, _⟩ => ⟨S1x2816x1024, .bf16⟩
  | _, _ => ⟨S8448x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S8448x1024 : Shape := ⟨2, ![8448, 1024]⟩
abbrev S1x1024x1024 : Shape := ⟨3, ![1, 1024, 1024]⟩
abbrev S768x1024 : Shape := ⟨2, ![768, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S1x1024x1024, .bf16⟩
  | .local _ .vmem, ⟨0, _⟩ => ⟨S768x1024, .bf16⟩
  | .local _ .vmem, ⟨1, _⟩ => ⟨S768x1024, .bf16⟩
  | .local _ .vmem, ⟨2, _⟩ => ⟨S768x1024, .bf16⟩
  | .local _ .vmem, ⟨3, _⟩ => ⟨S768x1024, .bf16⟩
  | .local _ .vmem, ⟨4, _⟩ => ⟨S1x1024x1024, .bf16⟩
  | .local _ .vmem, ⟨5, _⟩ => ⟨S1024x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 11], ![false, false, false]⟩

def k0_cond2 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference6Ideal.lean ====
abbrev S8448x1024 : Shape := ⟨2, ![8448, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S_, .f32⟩
  | .hbm, ⟨3, _⟩ => ⟨S1024x1024, .f32⟩
  | .hbm, ⟨4, _⟩ => ⟨S8448x1024, .f32⟩
  | .hbm, ⟨5, _⟩ => ⟨S8448x1024, .f32⟩
  | .hbm, ⟨6, _⟩ => ⟨S8448x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S1x1024x1024, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel7.lean ====
abbrev S8448x512 : Shape := ⟨2, ![8448, 512]⟩
abbrev S8448x1024 : Shape := ⟨2, ![8448, 1024]⟩
abbrev S4x512x256 : Shape := ⟨3, ![4, 512, 256]⟩
abbrev S768x512 : Shape := ⟨2, ![768, 512]⟩
abbrev S768x1024 : Shape := ⟨2, ![768, 1024]⟩
abbrev S512x1024 : Shape := ⟨2, ![512, 1024]⟩
abbrev S512x256 : Shape := ⟨2, ![512, 256]⟩
abbrev S1x512x256 : Shape := ⟨3, ![1, 512, 256]⟩

abbrev nBuf : Space → Nat
  | .hbm => 3
  | .vmem => 6
  | .smem => 0
  | _ => 0

abbrev bufTy : (tb : Table) → Fin (tcTables nBuf tb) → BufTy
  | .hbm, ⟨0, _⟩ => ⟨S8448x512, .bf16⟩
  | .hbm, ⟨1, _⟩ => ⟨S8448x1024, .bf16⟩
  | .hbm, ⟨2, _⟩ => ⟨S4x512x256, .bf16⟩
  | .local _ .vmem, ⟨0, _⟩ => ⟨S768x512, .bf16⟩
  | .local _ .vmem, ⟨1, _⟩ => ⟨S768x512, .bf16⟩
  | .local _ .vmem, ⟨2, _⟩ => ⟨S768x1024, .bf16⟩
  | .local _ .vmem, ⟨3, _⟩ => ⟨S768x1024, .bf16⟩
  | .local _ .vmem, ⟨4, _⟩ => ⟨S4x512x256, .bf16⟩
  | .local _ .vmem, ⟨5, _⟩ => ⟨S512x1024, .f32⟩
  | _, _ => ⟨S8448x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 11], ![false, false, false]⟩

def k0_cond2 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S768x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S4x512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S8448x512 : Shape := ⟨2, ![8448, 512]⟩
abbrev S8448x1024 : Shape := ⟨2, ![8448, 1024]⟩
abbrev S_ : Shape := ⟨0, ![]⟩
abbrev S512x1024 : Shape := ⟨2, ![512, 1024]⟩
abbrev S1024x512 : Shape := ⟨2, ![1024, 512]⟩
abbrev S512x256 : Shape := ⟨2, ![512, 256]⟩
abbrev S1x512x256 : Shape := ⟨3, ![1, 512, 256]⟩
abbrev S4x512x256 : Shape := ⟨3, ![4, 512, 256]⟩

abbrev nBuf : Space → Nat
  | .hbm => 19
  | .vmem => 0
  | .smem => 0
  | _ => 0

abbrev bufTy : (tb : Table) → Fin (tcTables nBuf tb) → BufTy
  | .hbm, ⟨0, _⟩ => ⟨S8448x512, .bf16⟩
  | .hbm, ⟨1, _⟩ => ⟨S8448x1024, .bf16⟩
  | .hbm, ⟨2, _⟩ => ⟨S_, .f32⟩
  | .hbm, ⟨3, _⟩ => ⟨S512x1024, .f32⟩
  | .hbm, ⟨4, _⟩ => ⟨S8448x512, .f32⟩
  | .hbm, ⟨5, _⟩ => ⟨S8448x1024, .f32⟩
  | .hbm, ⟨6, _⟩ => ⟨S8448x1024, .f32⟩
  | .hbm, ⟨7, _⟩ => ⟨S1024x512, .f32⟩
  | .hbm, ⟨8, _⟩ => ⟨S512x1024, .f32⟩
  | .hbm, ⟨9, _⟩ => ⟨S512x1024, .bf16⟩
  | .hbm, ⟨10, _⟩ => ⟨S512x256, .bf16⟩
  | .hbm, ⟨11, _⟩ => ⟨S512x256, .bf16⟩
  | .hbm, ⟨12, _⟩ => ⟨S512x256, .bf16⟩
  | .hbm, ⟨13, _⟩ => ⟨S512x256, .bf16⟩
  | .hbm, ⟨14, _⟩ => ⟨S1x512x256, .bf16⟩
  | .hbm, ⟨15, _⟩ => ⟨S1x512x256, .bf16⟩
  | .hbm, ⟨16, _⟩ => ⟨S1x512x256, .bf16⟩
  | .hbm, ⟨17, _⟩ => ⟨S1x512x256, .bf16⟩
  | .hbm, ⟨18, _⟩ => ⟨S4x512x256, .bf16⟩
  | _, _ => ⟨S8448x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== Kernel8.lean ====
abbrev S8192x1024 : Shape := ⟨2, ![8192, 1024]⟩
abbrev S16x1024 : Shape := ⟨2, ![16, 1024]⟩
abbrev S1024 : Shape := ⟨1, ![1024]⟩
abbrev S4864x1024 : Shape := ⟨2, ![4864, 1024]⟩
abbrev S_ : Shape := ⟨0, ![]⟩
abbrev S256x1024 : Shape := ⟨2, ![256, 1024]⟩
abbrev S8448 : Shape := ⟨1, ![8448]⟩
abbrev S32 : Shape := ⟨1, ![32]⟩
abbrev S8448x1 : Shape := ⟨2, ![8448, 1]⟩
abbrev S1x32 : Shape := ⟨2, ![1, 32]⟩
abbrev S8448x32 : Shape := ⟨2, ![8448, 32]⟩
abbrev S1x8448x1x32 : Shape := ⟨4, ![1, 8448, 1, 32]⟩
abbrev S1x8448x4x32 : Shape := ⟨4, ![1, 8448, 4, 32]⟩
abbrev S8448x128 : Shape := ⟨2, ![8448, 128]⟩
abbrev S1x1024 : Shape := ⟨2, ![1, 1024]⟩
abbrev S8448x1024 : Shape := ⟨2, ![8448, 1024]⟩
abbrev S8448x2816 : Shape := ⟨2, ![8448, 2816]⟩
abbrev S8448x2048 : Shape := ⟨2, ![8448, 2048]⟩
abbrev S256x128 : Shape := ⟨2, ![256, 128]⟩
abbrev S256x2816 : Shape := ⟨2, ![256, 2816]⟩
abbrev S256x2048 : Shape := ⟨2, ![256, 2048]⟩
abbrev S256 : Shape := ⟨1, ![256]⟩
abbrev S256x1 : Shape := ⟨2, ![256, 1]⟩
abbrev S2816x1024 : Shape := ⟨2, ![2816, 1024]⟩
abbrev S2048x1024 : Shape := ⟨2, ![2048, 1024]⟩

abbrev nBuf : Space → Nat
  | .hbm => 40
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S16x1024, .f32⟩
  | .hbm, ⟨2, _⟩ => ⟨S1024, .f32⟩
  | .hbm, ⟨3, _⟩ => ⟨S1024, .f32⟩
  | .hbm, ⟨4, _⟩ => ⟨S4864x1024, .bf16⟩
  | .hbm, ⟨5, _⟩ => ⟨S_, .i32⟩
  | .hbm, ⟨6, _⟩ => ⟨S_, .f32⟩
  | .hbm, ⟨7, _⟩ => ⟨S256x1024, .f32⟩
  | .hbm, ⟨8, _⟩ => ⟨S8448, .i32⟩
  | .hbm, ⟨9, _⟩ => ⟨S_, .i32⟩
  | .hbm, ⟨10, _⟩ => ⟨S8448, .i32⟩
  | .hbm, ⟨11, _⟩ => ⟨S8448, .i32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S8448, .f32⟩
  | .hbm, ⟨21, _⟩ => ⟨S8448x1, .f32⟩
  | .hbm, ⟨22, _⟩ => ⟨S1x32, .f32⟩
  | .hbm, ⟨23, _⟩ => ⟨S8448x32, .f32⟩
  | .hbm, ⟨24, _⟩ => ⟨S8448x32, .f32⟩
  | .hbm, ⟨25, _⟩ => ⟨S8448x32, .f32⟩
  | .hbm, ⟨26, _⟩ => ⟨S8448x32, .f32⟩
  | .hbm, ⟨27, _⟩ => ⟨S1x8448x1x32, .f32⟩
  | .hbm, ⟨28, _⟩ => ⟨S1x8448x4x32, .f32⟩
  | .hbm, ⟨29, _⟩ => ⟨S8448x128, .f32⟩
  | .hbm, ⟨30, _⟩ => ⟨S8448x32, .f32⟩
  | .hbm, ⟨31, _⟩ => ⟨S1x8448x1x32, .f32⟩
  | .hbm, ⟨32, _⟩ => ⟨S1x8448x4x32, .f32⟩
  | .hbm, ⟨33, _⟩ => ⟨S8448x128, .f32⟩
  | .hbm, ⟨34, _⟩ => ⟨S1x1024, .f32⟩
  | .hbm, ⟨35, _⟩ => ⟨S1x1024, .f32⟩
  | .hbm, ⟨36, _⟩ => ⟨S8448x1024, .f32⟩
  | .hbm, ⟨37, _⟩ => ⟨S8448x1024, .bf16⟩
  | .hbm, ⟨38, _⟩ => ⟨S8448x2816, .f32⟩
  | .hbm, ⟨39, _⟩ => ⟨S8448x2048, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S1x1024, .f32⟩
  | .local _ .vmem, ⟨4, _⟩ => ⟨S1x1024, .f32⟩
  | .local _ .vmem, ⟨5, _⟩ => ⟨S4864x1024, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S256x2816, .f32⟩
  | .local _ .vmem, ⟨15, _⟩ => ⟨S256x2816, .f32⟩
  | .local _ .vmem, ⟨16, _⟩ => ⟨S256x2048, .f32⟩
  | .local _ .vmem, ⟨17, _⟩ => ⟨S256x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26_0 : Ref sig .tc := ⟨.hbm, 36, rfl⟩
abbrev main_v26_1 : Ref sig .tc := ⟨.hbm, 37, rfl⟩
abbrev main_v26_2 : Ref sig .tc := ⟨.hbm, 38, rfl⟩
abbrev main_v26_3 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4864x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference8Ideal.lean ====
abbrev S8192x1024 : Shape := ⟨2, ![8192, 1024]⟩
abbrev S16x1024 : Shape := ⟨2, ![16, 1024]⟩
abbrev S1024 : Shape := ⟨1, ![1024]⟩
abbrev S4864x1024 : Shape := ⟨2, ![4864, 1024]⟩
abbrev S8208x1024 : Shape := ⟨2, ![8208, 1024]⟩
abbrev S_ : Shape := ⟨0, ![]⟩
abbrev S8208 : Shape := ⟨1, ![8208]⟩
abbrev S8208x1 : Shape := ⟨2, ![8208, 1]⟩
abbrev S1x1024 : Shape := ⟨2, ![1, 1024]⟩
abbrev S8448x1024 : Shape := ⟨2, ![8448, 1024]⟩
abbrev S8448 : Shape := ⟨1, ![8448]⟩
abbrev S1024x4864 : Shape := ⟨2, ![1024, 4864]⟩
abbrev S8448x4864 : Shape := ⟨2, ![8448, 4864]⟩
abbrev S8448x2048 : Shape := ⟨2, ![8448, 2048]⟩
abbrev S8448x512 : Shape := ⟨2, ![8448, 512]⟩
abbrev S8448x128 : Shape := ⟨2, ![8448, 128]⟩
abbrev S32 : Shape := ⟨1, ![32]⟩
abbrev S8448x1 : Shape := ⟨2, ![8448, 1]⟩
abbrev S1x32 : Shape := ⟨2, ![1, 32]⟩
abbrev S8448x32 : Shape := ⟨2, ![8448, 32]⟩
abbrev S8448x1x32 : Shape := ⟨3, ![8448, 1, 32]⟩
abbrev S8448x8x64 : Shape := ⟨3, ![8448, 8, 64]⟩
abbrev S8448x8x32 : Shape := ⟨3, ![8448, 8, 32]⟩
abbrev S8448x2x64 : Shape := ⟨3, ![8448, 2, 64]⟩
abbrev S8448x2x32 : Shape := ⟨3, ![8448, 2, 32]⟩
abbrev S8448x2816 : Shape := ⟨2, ![8448, 2816]⟩

abbrev nBuf : Space → Nat
  | .hbm => 118
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S16x1024, .f32⟩
  | .hbm, ⟨2, _⟩ => ⟨S1024, .f32⟩
  | .hbm, ⟨3, _⟩ => ⟨S1024, .f32⟩
  | .hbm, ⟨4, _⟩ => ⟨S4864x1024, .bf16⟩
  | .hbm, ⟨5, _⟩ => ⟨S8208x1024, .f32⟩
  | .hbm, ⟨6, _⟩ => ⟨S_, .f32⟩
  | .hbm, ⟨7, _⟩ => ⟨S8208, .f32⟩
  | .hbm, ⟨8, _⟩ => ⟨S8208x1, .f32⟩
  | .hbm, ⟨9, _⟩ => ⟨S_, .f32⟩
  | .hbm, ⟨10, _⟩ => ⟨S8208x1, .f32⟩
  | .hbm, ⟨11, _⟩ => ⟨S8208x1, .f32⟩
  | .hbm, ⟨12, _⟩ => ⟨S8208x1024, .f32⟩
  | .hbm, ⟨13, _⟩ => ⟨S8208x1024, .f32⟩
  | .hbm, ⟨14, _⟩ => ⟨S8208x1024, .f32⟩
  | .hbm, ⟨15, _⟩ => ⟨S_, .f32⟩
  | .hbm, ⟨16, _⟩ => ⟨S8208, .f32⟩
  | .hbm, ⟨17, _⟩ => ⟨S8208x1, .f32⟩
  | .hbm, ⟨18, _⟩ => ⟨S_, .f32⟩
  | .hbm, ⟨19, _⟩ => ⟨S8208x1, .f32⟩
  | .hbm, ⟨20, _⟩ => ⟨S8208x1, .f32⟩
  | .hbm, ⟨21, _⟩ => ⟨S8208x1024, .f32⟩
  | .hbm, ⟨22, _⟩ => ⟨S8208x1024, .f32⟩
  | .hbm, ⟨23, _⟩ => ⟨S_, .f32⟩
  | .hbm, ⟨24, _⟩ => ⟨S8208x1, .f32⟩
  | .hbm, ⟨25, _⟩ => ⟨S8208x1, .f32⟩
  | .hbm, ⟨26, _⟩ => ⟨S8208x1, .f32⟩
  | .hbm, ⟨27, _⟩ => ⟨S8208x1024, .f32⟩
  | .hbm, ⟨28, _⟩ => ⟨S8208x1024, .f32⟩
  | .hbm, ⟨29, _⟩ => ⟨S1x1024, .f32⟩
  | .hbm, ⟨30, _⟩ => ⟨S8208x1024, .f32⟩
  | .hbm, ⟨31, _⟩ => ⟨S8208x1024, .f32⟩
  | .hbm, ⟨32, _⟩ => ⟨S1x1024, .f32⟩
  | .hbm, ⟨33, _⟩ => ⟨S8208x1024, .f32⟩
  | .hbm, ⟨34, _⟩ => ⟨S8208x1024, .f32⟩
  | .hbm, ⟨35, _⟩ => ⟨S_, .i32⟩
  | .hbm, ⟨36, _⟩ => ⟨S_, .f32⟩
  | .hbm, ⟨37, _⟩ => ⟨S8448x1024, .f32⟩
  | .hbm, ⟨38, _⟩ => ⟨S8448, .i32⟩
  | .hbm, ⟨39, _⟩ => ⟨S_, .i32⟩
  | .hbm, ⟨40, _⟩ => ⟨S8448, .i32⟩
  | .hbm, ⟨41, _⟩ => ⟨S8448, .i32⟩
  | .hbm, ⟨42, _⟩ => ⟨S4864x1024, .f32⟩
  | .hbm, ⟨43, _⟩ => ⟨S1024x4864, .f32⟩
  | .hbm, ⟨44, _⟩ => ⟨S8448x4864, .f32⟩
  | .hbm, ⟨45, _⟩ => ⟨S8448x2048, .f32⟩
  | .hbm, ⟨46, _⟩ => ⟨S8448x512, .f32⟩
  | .hbm, ⟨47, _⟩ => ⟨S8448x128, .f32⟩
  | .hbm, ⟨48, _⟩ => ⟨S8448x128, .f32⟩
  | .hbm, ⟨49, _⟩ => ⟨S8448x2048, .f32⟩
  | .hbm, ⟨50, _⟩ => ⟨S8448x1024, .bf16⟩
  | .hbm, ⟨51, _⟩ => ⟨S32, .f32⟩
  | .hbm, ⟨52, _⟩ => ⟨S32, .f32⟩
  | .hbm, ⟨53, _⟩ => ⟨S_, .f32⟩
  | .hbm, ⟨54, _⟩ => ⟨S32, .f32⟩
  | .hbm, ⟨55, _⟩ => ⟨S32, .f32⟩
  | .hbm, ⟨56, _⟩ => ⟨S_, .f32⟩
  | .hbm, ⟨57, _⟩ => ⟨S32, .f32⟩
  | .hbm, ⟨58, _⟩ => ⟨S32, .f32⟩
  | .hbm, ⟨59, _⟩ => ⟨S8448, .f32⟩
  | .hbm, ⟨60, _⟩ => ⟨S8448x1, .f32⟩
  | .hbm, ⟨61, _⟩ => ⟨S1x32, .f32⟩
  | .hbm, ⟨62, _⟩ => ⟨S8448x32, .f32⟩
  | .hbm, ⟨63, _⟩ => ⟨S8448x32, .f32⟩
  | .hbm, ⟨64, _⟩ => ⟨S8448x32, .f32⟩
  | .hbm, ⟨65, _⟩ => ⟨S8448x32, .f32⟩
  | .hbm, ⟨66, _⟩ => ⟨S8448x1x32, .f32⟩
  | .hbm, ⟨67, _⟩ => ⟨S8448x32, .f32⟩
  | .hbm, ⟨68, _⟩ => ⟨S8448x1x32, .f32⟩
  | .hbm, ⟨69, _⟩ => ⟨S8448x8x64, .f32⟩
  | .hbm, ⟨70, _⟩ => ⟨S8448x8x32, .f32⟩
  | .hbm, ⟨71, _⟩ => ⟨S8448x8x32, .f32⟩
  | .hbm, ⟨72, _⟩ => ⟨S8448x8x32, .f32⟩
  | .hbm, ⟨73, _⟩ => ⟨S8448x8x32, .f32⟩
  | .hbm, ⟨74, _⟩ => ⟨S8448x8x32, .f32⟩
  | .hbm, ⟨75, _⟩ => ⟨S8448x8x32, .f32⟩
  | .hbm, ⟨76, _⟩ => ⟨S8448x8x32, .f32⟩
  | .hbm, ⟨77, _⟩ => ⟨S8448x8x32, .f32⟩
  | .hbm, ⟨78, _⟩ => ⟨S8448x8x32, .f32⟩
  | .hbm, ⟨79, _⟩ => ⟨S8448x8x32, .f32⟩
  | .hbm, ⟨80, _⟩ => ⟨S8448x8x32, .f32⟩
  | .hbm, ⟨81, _⟩ => ⟨S8448x8x32, .f32⟩
  | .hbm, ⟨82, _⟩ => ⟨S8448x8x64, .f32⟩
  | .hbm, ⟨83, _⟩ => ⟨S8448x512, .f32⟩
  | .hbm, ⟨84, _⟩ => ⟨S32, .f32⟩
  | .hbm, ⟨85, _⟩ => ⟨S32, .f32⟩
  | .hbm, ⟨86, _⟩ => ⟨S_, .f32⟩
  | .hbm, ⟨87, _⟩ => ⟨S32, .f32⟩
  | .hbm, ⟨88, _⟩ => ⟨S32, .f32⟩
  | .hbm, ⟨89, _⟩ => ⟨S_, .f32⟩
  | .hbm, ⟨90, _⟩ => ⟨S32, .f32⟩
  | .hbm, ⟨91, _⟩ => ⟨S32, .f32⟩
  | .hbm, ⟨92, _⟩ => ⟨S8448, .f32⟩
  | .hbm, ⟨93, _⟩ => ⟨S8448x1, .f32⟩
  | .hbm, ⟨94, _⟩ => ⟨S1x32, .f32⟩
  | .hbm, ⟨95, _⟩ => ⟨S8448x32, .f32⟩
  | .hbm, ⟨96, _⟩ => ⟨S8448x32, .f32⟩
  | .hbm, ⟨97, _⟩ => ⟨S8448x32, .f32⟩
  | .hbm, ⟨98, _⟩ => ⟨S8448x32, .f32⟩
  | .hbm, ⟨99, _⟩ => ⟨S8448x1x32, .f32⟩
  | .hbm, ⟨100, _⟩ => ⟨S8448x32, .f32⟩
  | .hbm, ⟨101, _⟩ => ⟨S8448x1x32, .f32⟩
  | .hbm, ⟨102, _⟩ => ⟨S8448x2x64, .f32⟩
  | .hbm, ⟨103, _⟩ => ⟨S8448x2x32, .f32⟩
  | .hbm, ⟨104, _⟩ => ⟨S8448x2x32, .f32⟩
  | .hbm, ⟨105, _⟩ => ⟨S8448x2x32, .f32⟩
  | .hbm, ⟨106, _⟩ => ⟨S8448x2x32, .f32⟩
  | .hbm, ⟨107, _⟩ => ⟨S8448x2x32, .f32⟩
  | .hbm, ⟨108, _⟩ => ⟨S8448x2x32, .f32⟩
  | .hbm, ⟨109, _⟩ => ⟨S8448x2x32, .f32⟩
  | .hbm, ⟨110, _⟩ => ⟨S8448x2x32, .f32⟩
  | .hbm, ⟨111, _⟩ => ⟨S8448x2x32, .f32⟩
  | .hbm, ⟨112, _⟩ => ⟨S8448x2x32, .f32⟩
  | .hbm, ⟨113, _⟩ => ⟨S8448x2x32, .f32⟩
  | .hbm, ⟨114, _⟩ => ⟨S8448x2x32, .f32⟩
  | .hbm, ⟨115, _⟩ => ⟨S8448x2x64, .f32⟩
  | .hbm, ⟨116, _⟩ => ⟨S8448x128, .f32⟩
  | .hbm, ⟨117, _⟩ => ⟨S8448x2816, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c : Ref sig .tc := ⟨.hbm, 35, rfl⟩
abbrev main_call0_v0 : Ref sig .tc := ⟨.hbm, 36, rfl⟩
abbrev main_v25 : Ref sig .tc := ⟨.hbm, 37, rfl⟩
abbrev main_v26 : Ref sig .tc := ⟨.hbm, 38, rfl⟩
abbrev main_c_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_cst_7 : Ref sig .tc := ⟨.hbm, 86, rfl⟩
abbrev main_v71 : Ref sig .tc := ⟨.hbm, 87, rfl⟩
abbrev main_v72 : Ref sig .tc := ⟨.hbm, 88, rfl⟩
abbrev main_cst_8 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩

abbrev nD : Nat := 1
abbrev τ : Topo := Topo.v7x

variable {F : FTy → Type} [FloatOps F]
-- ==== Kernel9.lean ====
abbrev S1216x1024 : Shape := ⟨2, ![1216, 1024]⟩
abbrev S152x1024 : Shape := ⟨2, ![152, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1216x1024, .f32⟩
  | .hbm, ⟨1, _⟩ => ⟨S1216x1024, .f32⟩
  | .hbm, ⟨2, _⟩ => ⟨S1216x1024, .f32⟩
  | .hbm, ⟨3, _⟩ => ⟨S1216x1024, .f32⟩
  | .hbm, ⟨4, _⟩ => ⟨S1216x1024, .f32⟩
  | .hbm, ⟨5, _⟩ => ⟨S1216x1024, .f32⟩
  | .hbm, ⟨6, _⟩ => ⟨S1216x1024, .f32⟩
  | .hbm, ⟨7, _⟩ => ⟨S1216x1024, .f32⟩
  | .local _ .vmem, ⟨0, _⟩ => ⟨S152x1024, .f32⟩
  | .local _ .vmem, ⟨1, _⟩ => ⟨S152x1024, .f32⟩
  | .local _ .vmem, ⟨2, _⟩ => ⟨S152x1024, .f32⟩
  | .local _ .vmem, ⟨3, _⟩ => ⟨S152x1024, .f32⟩
  | .local _ .vmem, ⟨4, _⟩ => ⟨S152x1024, .f32⟩
  | .local _ .vmem, ⟨5, _⟩ => ⟨S152x1024, .f32⟩
  | .local _ .vmem, ⟨6, _⟩ => ⟨S152x1024, .f32⟩
  | .local _ .vmem, ⟨7, _⟩ => ⟨S152x1024, .f32⟩
  | .local _ .vmem, ⟨8, _⟩ => ⟨S152x1024, .f32⟩
  | .local _ .vmem, ⟨9, _⟩ => ⟨S152x1024, .f32⟩
  | .local _ .vmem, ⟨10, _⟩ => ⟨S152x1024, .f32⟩
  | .local _ .vmem, ⟨11, _⟩ => ⟨S152x1024, .f32⟩
  | .local _ .vmem, ⟨12, _⟩ => ⟨S152x1024, .f32⟩
  | .local _ .vmem, ⟨13, _⟩ => ⟨S152x1024, .f32⟩
  | .local _ .vmem, ⟨14, _⟩ => ⟨S152x1024, .f32⟩
  | .local _ .vmem, ⟨15, _⟩ => ⟨S152x1024, .f32⟩
  | _, _ => ⟨S1216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S152x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S152x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S152x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S152x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S152x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S152x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S152x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S152x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference9Ideal.lean ====
abbrev S1216x1024 : Shape := ⟨2, ![1216, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1216x1024, .f32⟩
  | .hbm, ⟨1, _⟩ => ⟨S1216x1024, .f32⟩
  | .hbm, ⟨2, _⟩ => ⟨S1216x1024, .f32⟩
  | .hbm, ⟨3, _⟩ => ⟨S1216x1024, .f32⟩
  | .hbm, ⟨4, _⟩ => ⟨S_, .f32⟩
  | .hbm, ⟨5, _⟩ => ⟨S1216x1024, .f32⟩
  | .hbm, ⟨6, _⟩ => ⟨S1216x1024, .f32⟩
  | .hbm, ⟨7, _⟩ => ⟨S_, .f32⟩
  | .hbm, ⟨8, _⟩ => ⟨S1216x1024, .f32⟩
  | .hbm, ⟨9, _⟩ => ⟨S1216x1024, .f32⟩
  | .hbm, ⟨10, _⟩ => ⟨S1216x1024, .f32⟩
  | .hbm, ⟨11, _⟩ => ⟨S_, .f32⟩
  | .hbm, ⟨12, _⟩ => ⟨S1216x1024, .f32⟩
  | .hbm, ⟨13, _⟩ => ⟨S1216x1024, .f32⟩
  | .hbm, ⟨14, _⟩ => ⟨S1216x1024, .f32⟩
  | .hbm, ⟨15, _⟩ => ⟨S_, .f32⟩
  | .hbm, ⟨16, _⟩ => ⟨S1216x1024, .f32⟩
  | .hbm, ⟨17, _⟩ => ⟨S1216x1024, .f32⟩
  | .hbm, ⟨18, _⟩ => ⟨S1216x1024, .f32⟩
  | .hbm, ⟨19, _⟩ => ⟨S_, .f32⟩
  | .hbm, ⟨20, _⟩ => ⟨S1216x1024, .f32⟩
  | .hbm, ⟨21, _⟩ => ⟨S1216x1024, .f32⟩
  | .hbm, ⟨22, _⟩ => ⟨S_, .f32⟩
  | .hbm, ⟨23, _⟩ => ⟨S1216x1024, .f32⟩
  | .hbm, ⟨24, _⟩ => ⟨S1216x1024, .f32⟩
  | .hbm, ⟨25, _⟩ => ⟨S1216x1024, .f32⟩
  | .hbm, ⟨26, _⟩ => ⟨S_, .f32⟩
  | .hbm, ⟨27, _⟩ => ⟨S1216x1024, .f32⟩
  | .hbm, ⟨28, _⟩ => ⟨S1216x1024, .f32⟩
  | .hbm, ⟨29, _⟩ => ⟨S1216x1024, .f32⟩
  | .hbm, ⟨30, _⟩ => ⟨S_, .f32⟩
  | .hbm, ⟨31, _⟩ => ⟨S1216x1024, .f32⟩
  | .hbm, ⟨32, _⟩ => ⟨S1216x1024, .f32⟩
  | .hbm, ⟨33, _⟩ => ⟨S1216x1024, .f32⟩
  | .hbm, ⟨34, _⟩ => ⟨S_, .f32⟩
  | .hbm, ⟨35, _⟩ => ⟨S1216x1024, .f32⟩
  | .hbm, ⟨36, _⟩ => ⟨S1216x1024, .f32⟩
  | _, _ => ⟨S1216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel10.lean ====
abbrev S512x256 : Shape := ⟨2, ![512, 256]⟩
abbrev S256x256 : Shape := ⟨2, ![256, 256]⟩

abbrev nBuf : Space → Nat
  | .hbm => 8
  | .vmem => 16
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference10Ideal.lean ====
abbrev S512x256 : Shape := ⟨2, ![512, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S_, .f32⟩
  | .hbm, ⟨5, _⟩ => ⟨S512x256, .f32⟩
  | .hbm, ⟨6, _⟩ => ⟨S512x256, .f32⟩
  | .hbm, ⟨7, _⟩ => ⟨S_, .f32⟩
  | .hbm, ⟨8, _⟩ => ⟨S512x256, .f32⟩
  | .hbm, ⟨9, _⟩ => ⟨S512x256, .f32⟩
  | .hbm, ⟨10, _⟩ => ⟨S512x256, .f32⟩
  | .hbm, ⟨11, _⟩ => ⟨S_, .f32⟩
  | .hbm, ⟨12, _⟩ => ⟨S512x256, .f32⟩
  | .hbm, ⟨13, _⟩ => ⟨S512x256, .f32⟩
  | .hbm, ⟨14, _⟩ => ⟨S512x256, .f32⟩
  | .hbm, ⟨15, _⟩ => ⟨S_, .f32⟩
  | .hbm, ⟨16, _⟩ => ⟨S512x256, .f32⟩
  | .hbm, ⟨17, _⟩ => ⟨S512x256, .f32⟩
  | .hbm, ⟨18, _⟩ => ⟨S512x256, .f32⟩
  | .hbm, ⟨19, _⟩ => ⟨S_, .f32⟩
  | .hbm, ⟨20, _⟩ => ⟨S512x256, .f32⟩
  | .hbm, ⟨21, _⟩ => ⟨S512x256, .f32⟩
  | .hbm, ⟨22, _⟩ => ⟨S_, .f32⟩
  | .hbm, ⟨23, _⟩ => ⟨S512x256, .f32⟩
  | .hbm, ⟨24, _⟩ => ⟨S512x256, .f32⟩
  | .hbm, ⟨25, _⟩ => ⟨S512x256, .f32⟩
  | .hbm, ⟨26, _⟩ => ⟨S_, .f32⟩
  | .hbm, ⟨27, _⟩ => ⟨S512x256, .f32⟩
  | .hbm, ⟨28, _⟩ => ⟨S512x256, .f32⟩
  | .hbm, ⟨29, _⟩ => ⟨S512x256, .f32⟩
  | .hbm, ⟨30, _⟩ => ⟨S_, .f32⟩
  | .hbm, ⟨31, _⟩ => ⟨S512x256, .f32⟩
  | .hbm, ⟨32, _⟩ => ⟨S512x256, .f32⟩
  | .hbm, ⟨33, _⟩ => ⟨S512x256, .f32⟩
  | .hbm, ⟨34, _⟩ => ⟨S_, .f32⟩
  | .hbm, ⟨35, _⟩ => ⟨S512x256, .f32⟩
  | .hbm, ⟨36, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel11.lean ====
abbrev S256x1024 : Shape := ⟨2, ![256, 1024]⟩
abbrev S128x1024 : Shape := ⟨2, ![128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference11Ideal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel12.lean ====
abbrev S1024x1408 : Shape := ⟨2, ![1024, 1408]⟩
abbrev S256x1408 : Shape := ⟨2, ![256, 1408]⟩

abbrev nBuf : Space → Nat
  | .hbm => 8
  | .vmem => 16
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .hbm, ⟨7, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S1024x1408 : Shape := ⟨2, ![1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S_, .f32⟩
  | .hbm, ⟨5, _⟩ => ⟨S1024x1408, .f32⟩
  | .hbm, ⟨6, _⟩ => ⟨S1024x1408, .f32⟩
  | .hbm, ⟨7, _⟩ => ⟨S_, .f32⟩
  | .hbm, ⟨8, _⟩ => ⟨S1024x1408, .f32⟩
  | .hbm, ⟨9, _⟩ => ⟨S1024x1408, .f32⟩
  | .hbm, ⟨10, _⟩ => ⟨S1024x1408, .f32⟩
  | .hbm, ⟨11, _⟩ => ⟨S_, .f32⟩
  | .hbm, ⟨12, _⟩ => ⟨S1024x1408, .f32⟩
  | .hbm, ⟨13, _⟩ => ⟨S1024x1408, .f32⟩
  | .hbm, ⟨14, _⟩ => ⟨S1024x1408, .f32⟩
  | .hbm, ⟨15, _⟩ => ⟨S_, .f32⟩
  | .hbm, ⟨16, _⟩ => ⟨S1024x1408, .f32⟩
  | .hbm, ⟨17, _⟩ => ⟨S1024x1408, .f32⟩
  | .hbm, ⟨18, _⟩ => ⟨S1024x1408, .f32⟩
  | .hbm, ⟨19, _⟩ => ⟨S_, .f32⟩
  | .hbm, ⟨20, _⟩ => ⟨S1024x1408, .f32⟩
  | .hbm, ⟨21, _⟩ => ⟨S1024x1408, .f32⟩
  | .hbm, ⟨22, _⟩ => ⟨S_, .f32⟩
  | .hbm, ⟨23, _⟩ => ⟨S1024x1408, .f32⟩
  | .hbm, ⟨24, _⟩ => ⟨S1024x1408, .f32⟩
  | .hbm, ⟨25, _⟩ => ⟨S1024x1408, .f32⟩
  | .hbm, ⟨26, _⟩ => ⟨S_, .f32⟩
  | .hbm, ⟨27, _⟩ => ⟨S1024x1408, .f32⟩
  | .hbm, ⟨28, _⟩ => ⟨S1024x1408, .f32⟩
  | .hbm, ⟨29, _⟩ => ⟨S1024x1408, .f32⟩
  | .hbm, ⟨30, _⟩ => ⟨S_, .f32⟩
  | .hbm, ⟨31, _⟩ => ⟨S1024x1408, .f32⟩
  | .hbm, ⟨32, _⟩ => ⟨S1024x1408, .f32⟩
  | .hbm, ⟨33, _⟩ => ⟨S1024x1408, .f32⟩
  | .hbm, ⟨34, _⟩ => ⟨S_, .f32⟩
  | .hbm, ⟨35, _⟩ => ⟨S1024x1408, .f32⟩
  | .hbm, ⟨36, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel13.lean ====
abbrev S704x1024 : Shape := ⟨2, ![704, 1024]⟩
abbrev S176x1024 : Shape := ⟨2, ![176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference13Ideal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel14.lean ====
abbrev S8x208x128 : Shape := ⟨3, ![8, 208, 128]⟩
abbrev S208x128 : Shape := ⟨2, ![208, 128]⟩
abbrev S1x208x128 : Shape := ⟨3, ![1, 208, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x208x128, .f32⟩
  | .hbm, ⟨1, _⟩ => ⟨S208x128, .f32⟩
  | .local _ .vmem, ⟨0, _⟩ => ⟨S8x208x128, .f32⟩
  | .local _ .vmem, ⟨1, _⟩ => ⟨S208x128, .f32⟩
  | _, _ => ⟨S8x208x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x208x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S208x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference14Ideal.lean ====
abbrev S8x208x128 : Shape := ⟨3, ![8, 208, 128]⟩
abbrev S_ : Shape := ⟨0, ![]⟩
abbrev S208x128 : Shape := ⟨2, ![208, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x208x128, .f32⟩
  | .hbm, ⟨1, _⟩ => ⟨S_, .f32⟩
  | .hbm, ⟨2, _⟩ => ⟨S208x128, .f32⟩
  | _, _ => ⟨S8x208x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel15.lean ====
abbrev S16x256 : Shape := ⟨2, ![16, 256]⟩
abbrev S8x128 : Shape := ⟨2, ![8, 128]⟩
abbrev S2x512 : Shape := ⟨2, ![2, 512]⟩
abbrev S1x128 : Shape := ⟨2, ![1, 128]⟩
abbrev S1x8 : Shape := ⟨2, ![1, 8]⟩
abbrev S1x1024 : Shape := ⟨2, ![1, 1024]⟩

abbrev nBuf : Space → Nat
  | .hbm => 70
  | .vmem => 70
  | .smem => 0
  | _ => 0

abbrev bufTy : (tb : Table) → Fin (tcTables nBuf tb) → BufTy
  | .hbm, ⟨0, _⟩ => ⟨S16x256, .f32⟩
  | .hbm, ⟨1, _⟩ => ⟨S8x128, .f32⟩
  | .hbm, ⟨2, _⟩ => ⟨S8x128, .f32⟩
  | .hbm, ⟨3, _⟩ => ⟨S2x512, .f32⟩
  | .hbm, ⟨4, _⟩ => ⟨S1x128, .f32⟩
  | .hbm, ⟨5, _⟩ => ⟨S1x8, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S16x256, .f32⟩
  | .hbm, ⟨11, _⟩ => ⟨S8x128, .f32⟩
  | .hbm, ⟨12, _⟩ => ⟨S8x128, .f32⟩
  | .hbm, ⟨13, _⟩ => ⟨S2x512, .f32⟩
  | .hbm, ⟨14, _⟩ => ⟨S1x128, .f32⟩
  | .hbm, ⟨15, _⟩ => ⟨S1x8, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S16x256, .f32⟩
  | .hbm, ⟨21, _⟩ => ⟨S8x128, .f32⟩
  | .hbm, ⟨22, _⟩ => ⟨S8x128, .f32⟩
  | .hbm, ⟨23, _⟩ => ⟨S2x512, .f32⟩
  | .hbm, ⟨24, _⟩ => ⟨S1x128, .f32⟩
  | .hbm, ⟨25, _⟩ => ⟨S1x8, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S16x256, .f32⟩
  | .hbm, ⟨31, _⟩ => ⟨S8x128, .f32⟩
  | .hbm, ⟨32, _⟩ => ⟨S8x128, .f32⟩
  | .hbm, ⟨33, _⟩ => ⟨S2x512, .f32⟩
  | .hbm, ⟨34, _⟩ => ⟨S1x128, .f32⟩
  | .hbm, ⟨35, _⟩ => ⟨S1x8, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S16x256, .f32⟩
  | .hbm, ⟨41, _⟩ => ⟨S8x128, .f32⟩
  | .hbm, ⟨42, _⟩ => ⟨S8x128, .f32⟩
  | .hbm, ⟨43, _⟩ => ⟨S2x512, .f32⟩
  | .hbm, ⟨44, _⟩ => ⟨S1x128, .f32⟩
  | .hbm, ⟨45, _⟩ => ⟨S1x8, .f32⟩
  | .hbm, ⟨46, _⟩ => ⟨S1x1024, .f32⟩
  | .hbm, ⟨47, _⟩ => ⟨S1x1024, .f32⟩
  | .hbm, ⟨48, _⟩ => ⟨S1x1024, .f32⟩
  | .hbm, ⟨49, _⟩ => ⟨S1x1024, .f32⟩
  | .hbm, ⟨50, _⟩ => ⟨S16x256, .f32⟩
  | .hbm, ⟨51, _⟩ => ⟨S8x128, .f32⟩
  | .hbm, ⟨52, _⟩ => ⟨S8x128, .f32⟩
  | .hbm, ⟨53, _⟩ => ⟨S2x512, .f32⟩
  | .hbm, ⟨54, _⟩ => ⟨S1x128, .f32⟩
  | .hbm, ⟨55, _⟩ => ⟨S1x8, .f32⟩
  | .hbm, ⟨56, _⟩ => ⟨S1x1024, .f32⟩
  | .hbm, ⟨57, _⟩ => ⟨S1x1024, .f32⟩
  | .hbm, ⟨58, _⟩ => ⟨S1x1024, .f32⟩
  | .hbm, ⟨59, _⟩ => ⟨S1x1024, .f32⟩
  | .hbm, ⟨60, _⟩ => ⟨S16x256, .f32⟩
  | .hbm, ⟨61, _⟩ => ⟨S8x128, .f32⟩
  | .hbm, ⟨62, _⟩ => ⟨S8x128, .f32⟩
  | .hbm, ⟨63, _⟩ => ⟨S2x512, .f32⟩
  | .hbm, ⟨64, _⟩ => ⟨S1x128, .f32⟩
  | .hbm, ⟨65, _⟩ => ⟨S1x8, .f32⟩
  | .hbm, ⟨66, _⟩ => ⟨S1x1024, .f32⟩
  | .hbm, ⟨67, _⟩ => ⟨S1x1024, .f32⟩
  | .hbm, ⟨68, _⟩ => ⟨S1x1024, .f32⟩
  | .hbm, ⟨69, _⟩ => ⟨S1x1024, .f32⟩
  | .local _ .vmem, ⟨0, _⟩ => ⟨S16x256, .f32⟩
  | .local _ .vmem, ⟨1, _⟩ => ⟨S8x128, .f32⟩
  | .local _ .vmem, ⟨2, _⟩ => ⟨S8x128, .f32⟩
  | .local _ .vmem, ⟨3, _⟩ => ⟨S2x512, .f32⟩
  | .local _ .vmem, ⟨4, _⟩ => ⟨S1x128, .f32⟩
  | .local _ .vmem, ⟨5, _⟩ => ⟨S1x8, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S16x256, .f32⟩
  | .local _ .vmem, ⟨11, _⟩ => ⟨S8x128, .f32⟩
  | .local _ .vmem, ⟨12, _⟩ => ⟨S8x128, .f32⟩
  | .local _ .vmem, ⟨13, _⟩ => ⟨S2x512, .f32⟩
  | .local _ .vmem, ⟨14, _⟩ => ⟨S1x128, .f32⟩
  | .local _ .vmem, ⟨15, _⟩ => ⟨S1x8, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S16x256, .f32⟩
  | .local _ .vmem, ⟨21, _⟩ => ⟨S8x128, .f32⟩
  | .local _ .vmem, ⟨22, _⟩ => ⟨S8x128, .f32⟩
  | .local _ .vmem, ⟨23, _⟩ => ⟨S2x512, .f32⟩
  | .local _ .vmem, ⟨24, _⟩ => ⟨S1x128, .f32⟩
  | .local _ .vmem, ⟨25, _⟩ => ⟨S1x8, .f32⟩
  | .local _ .vmem, ⟨26, _⟩ => ⟨S1x1024, .f32⟩
  | .local _ .vmem, ⟨27, _⟩ => ⟨S1x1024, .f32⟩
  | .local _ .vmem, ⟨28, _⟩ => ⟨S1x1024, .f32⟩
  | .local _ .vmem, ⟨29, _⟩ => ⟨S1x1024, .f32⟩
  | .local _ .vmem, ⟨30, _⟩ => ⟨S16x256, .f32⟩
  | .local _ .vmem, ⟨31, _⟩ => ⟨S8x128, .f32⟩
  | .local _ .vmem, ⟨32, _⟩ => ⟨S8x128, .f32⟩
  | .local _ .vmem, ⟨33, _⟩ => ⟨S2x512, .f32⟩
  | .local _ .vmem, ⟨34, _⟩ => ⟨S1x128, .f32⟩
  | .local _ .vmem, ⟨35, _⟩ => ⟨S1x8, .f32⟩
  | .local _ .vmem, ⟨36, _⟩ => ⟨S1x1024, .f32⟩
  | .local _ .vmem, ⟨37, _⟩ => ⟨S1x1024, .f32⟩
  | .local _ .vmem, ⟨38, _⟩ => ⟨S1x1024, .f32⟩
  | .local _ .vmem, ⟨39, _⟩ => ⟨S1x1024, .f32⟩
  | .local _ .vmem, ⟨40, _⟩ => ⟨S16x256, .f32⟩
  | .local _ .vmem, ⟨41, _⟩ => ⟨S8x128, .f32⟩
  | .local _ .vmem, ⟨42, _⟩ => ⟨S8x128, .f32⟩
  | .local _ .vmem, ⟨43, _⟩ => ⟨S2x512, .f32⟩
  | .local _ .vmem, ⟨44, _⟩ => ⟨S1x128, .f32⟩
  | .local _ .vmem, ⟨45, _⟩ => ⟨S1x8, .f32⟩
  | .local _ .vmem, ⟨46, _⟩ => ⟨S1x1024, .f32⟩
  | .local _ .vmem, ⟨47, _⟩ => ⟨S1x1024, .f32⟩
  | .local _ .vmem, ⟨48, _⟩ => ⟨S1x1024, .f32⟩
  | .local _ .vmem, ⟨49, _⟩ => ⟨S1x1024, .f32⟩
  | .local _ .vmem, ⟨50, _⟩ => ⟨S16x256, .f32⟩
  | .local _ .vmem, ⟨51, _⟩ => ⟨S8x128, .f32⟩
  | .local _ .vmem, ⟨52, _⟩ => ⟨S8x128, .f32⟩
  | .local _ .vmem, ⟨53, _⟩ => ⟨S2x512, .f32⟩
  | .local _ .vmem, ⟨54, _⟩ => ⟨S1x128, .f32⟩
  | .local _ .vmem, ⟨55, _⟩ => ⟨S1x8, .f32⟩
  | .local _ .vmem, ⟨56, _⟩ => ⟨S1x1024, .f32⟩
  | .local _ .vmem, ⟨57, _⟩ => ⟨S1x1024, .f32⟩
  | .local _ .vmem, ⟨58, _⟩ => ⟨S1x1024, .f32⟩
  | .local _ .vmem, ⟨59, _⟩ => ⟨S1x1024, .f32⟩
  | .local _ .vmem, ⟨60, _⟩ => ⟨S16x256, .f32⟩
  | .local _ .vmem, ⟨61, _⟩ => ⟨S8x128, .f32⟩
  | .local _ .vmem, ⟨62, _⟩ => ⟨S8x128, .f32⟩
  | .local _ .vmem, ⟨63, _⟩ => ⟨S2x512, .f32⟩
  | .local _ .vmem, ⟨64, _⟩ => ⟨S1x128, .f32⟩
  | .local _ .vmem, ⟨65, _⟩ => ⟨S1x8, .f32⟩
  | .local _ .vmem, ⟨66, _⟩ => ⟨S1x1024, .f32⟩
  | .local _ .vmem, ⟨67, _⟩ => ⟨S1x1024, .f32⟩
  | .local _ .vmem, ⟨68, _⟩ => ⟨S1x1024, .f32⟩
  | .local _ .vmem, ⟨69, _⟩ => ⟨S1x1024, .f32⟩
  | _, _ => ⟨S16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | _, _ => false

abbrev semScoped : Fin 0 → Bool
  | ⟨_, h⟩ => absurd h (Nat.not_lt_zero _)

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  ofTc nBuf bufTy 0 70 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_v0_0 : Ref sig .tc := ⟨.hbm, 40, rfl⟩
abbrev main_v0_1 : Ref sig .tc := ⟨.hbm, 41, rfl⟩
abbrev main_v0_2 : Ref sig .tc := ⟨.hbm, 42, rfl⟩
abbrev main_v0_3 : Ref sig .tc := ⟨.hbm, 43, rfl⟩
abbrev main_v0_4 : Ref sig .tc := ⟨.hbm, 44, rfl⟩
abbrev main_v0_5 : Ref sig .tc := ⟨.hbm, 45, rfl⟩
abbrev main_v0_6 : Ref sig .tc := ⟨.hbm, 46, rfl⟩
abbrev main_v0_7 : Ref sig .tc := ⟨.hbm, 47, rfl⟩
abbrev main_v0_8 : Ref sig .tc := ⟨.hbm, 48, rfl⟩
abbrev main_v0_9 : Ref sig .tc := ⟨.hbm, 49, rfl⟩
abbrev main_v0_10 : Ref sig .tc := ⟨.hbm, 50, rfl⟩
abbrev main_v0_11 : Ref sig .tc := ⟨.hbm, 51, rfl⟩
abbrev main_v0_12 : Ref sig .tc := ⟨.hbm, 52, rfl⟩
abbrev main_v0_13 : Ref sig .tc := ⟨.hbm, 53, rfl⟩
abbrev main_v0_14 : Ref sig .tc := ⟨.hbm, 54, rfl⟩
abbrev main_v0_15 : Ref sig .tc := ⟨.hbm, 55, rfl⟩
abbrev main_v0_16 : Ref sig .tc := ⟨.hbm, 56, rfl⟩
abbrev main_v0_17 : Ref sig .tc := ⟨.hbm, 57, rfl⟩
abbrev main_v0_18 : Ref sig .tc := ⟨.hbm, 58, rfl⟩
abbrev main_v0_19 : Ref sig .tc := ⟨.hbm, 59, rfl⟩
abbrev main_v0_20 : Ref sig .tc := ⟨.hbm, 60, rfl⟩
abbrev main_v0_21 : Ref sig .tc := ⟨.hbm, 61, rfl⟩
abbrev main_v0_22 : Ref sig .tc := ⟨.hbm, 62, rfl⟩
abbrev main_v0_23 : Ref sig .tc := ⟨.hbm, 63, rfl⟩
abbrev main_v0_24 : Ref sig .tc := ⟨.hbm, 64, rfl⟩
abbrev main_v0_25 : Ref sig .tc := ⟨.hbm, 65, rfl⟩
abbrev main_v0_26 : Ref sig .tc := ⟨.hbm, 66, rfl⟩
abbrev main_v0_27 : Ref sig .tc := ⟨.hbm, 67, rfl⟩
abbrev main_v0_28 : Ref sig .tc := ⟨.hbm, 68, rfl⟩
abbrev main_v0_29 : Ref sig .tc := ⟨.hbm, 69, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_stg48_0 : Ref sig .tc := ⟨.vmem, 48, rfl⟩
abbrev cc0_stg49_0 : Ref sig .tc := ⟨.vmem, 49, rfl⟩
abbrev cc0_stg50_0 : Ref sig .tc := ⟨.vmem, 50, rfl⟩
abbrev cc0_stg51_0 : Ref sig .tc := ⟨.vmem, 51, rfl⟩
abbrev cc0_stg52_0 : Ref sig .tc := ⟨.vmem, 52, rfl⟩
abbrev cc0_stg53_0 : Ref sig .tc := ⟨.vmem, 53, rfl⟩
abbrev cc0_stg54_0 : Ref sig .tc := ⟨.vmem, 54, rfl⟩
abbrev cc0_stg55_0 : Ref sig .tc := ⟨.vmem, 55, rfl⟩
abbrev cc0_stg56_0 : Ref sig .tc := ⟨.vmem, 56, rfl⟩
abbrev cc0_stg57_0 : Ref sig .tc := ⟨.vmem, 57, rfl⟩
abbrev cc0_stg58_0 : Ref sig .tc := ⟨.vmem, 58, rfl⟩
abbrev cc0_stg59_0 : Ref sig .tc := ⟨.vmem, 59, rfl⟩
abbrev cc0_stg60_0 : Ref sig .tc := ⟨.vmem, 60, rfl⟩
abbrev cc0_stg61_0 : Ref sig .tc := ⟨.vmem, 61, rfl⟩
abbrev cc0_stg62_0 : Ref sig .tc := ⟨.vmem, 62, rfl⟩
abbrev cc0_stg63_0 : Ref sig .tc := ⟨.vmem, 63, rfl⟩
abbrev cc0_stg64_0 : Ref sig .tc := ⟨.vmem, 64, rfl⟩
abbrev cc0_stg65_0 : Ref sig .tc := ⟨.vmem, 65, rfl⟩
abbrev cc0_stg66_0 : Ref sig .tc := ⟨.vmem, 66, rfl⟩
abbrev cc0_stg67_0 : Ref sig .tc := ⟨.vmem, 67, rfl⟩
abbrev cc0_stg68_0 : Ref sig .tc := ⟨.vmem, 68, rfl⟩
abbrev cc0_stg69_0 : Ref sig .tc := ⟨.vmem, 69, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55
abbrev cc0_sem56_0 : DmaSem sig := 56
abbrev cc0_sem57_0 : DmaSem sig := 57
abbrev cc0_sem58_0 : DmaSem sig := 58
abbrev cc0_sem59_0 : DmaSem sig := 59
abbrev cc0_sem60_0 : DmaSem sig := 60
abbrev cc0_sem61_0 : DmaSem sig := 61
abbrev cc0_sem62_0 : DmaSem sig := 62
abbrev cc0_sem63_0 : DmaSem sig := 63
abbrev cc0_sem64_0 : DmaSem sig := 64
abbrev cc0_sem65_0 : DmaSem sig := 65
abbrev cc0_sem66_0 : DmaSem sig := 66
abbrev cc0_sem67_0 : DmaSem sig := 67
abbrev cc0_sem68_0 : DmaSem sig := 68
abbrev cc0_sem69_0 : DmaSem sig := 69

abbrev nD : Nat := 1
abbrev τ : Topo := Topo.v7x

variable {F : FTy → Type} [FloatOps F]

abbrev grid0 : Pipeline.Grid := .none

abbrev stage0_0 : Fin 1 → Memref sig .tc .vmem S16x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x8 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S16x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S8x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S8x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S2x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x8 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S1x1024 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S1x1024 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S16x256 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S8x128 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S8x128 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S2x512 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S1x128 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S1x8 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S1x1024 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S1x1024 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S1x1024 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S1x1024 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S16x256 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S8x128 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S8x128 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S2x512 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S1x128 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S1x8 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S1x1024 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S1x1024 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))

abbrev stage0_48 : Fin 1 → Memref sig .tc .vmem S1x1024 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))

abbrev stage0_49 : Fin 1 → Memref sig .tc .vmem S1x1024 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))

abbrev stage0_50 : Fin 1 → Memref sig .tc .vmem S16x256 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))

abbrev stage0_51 : Fin 1 → Memref sig .tc .vmem S8x128 .f32 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))

abbrev stage0_52 : Fin 1 → Memref sig .tc .vmem S8x128 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))

abbrev stage0_53 : Fin 1 → Memref sig .tc .vmem S2x512 .f32 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))

abbrev stage0_54 : Fin 1 → Memref sig .tc .vmem S1x128 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))

abbrev stage0_55 : Fin 1 → Memref sig .tc .vmem S1x8 .f32 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))

abbrev stage0_56 : Fin 1 → Memref sig .tc .vmem S1x1024 .f32 := fun | 0 => Memref.whole cc0_stg56_0 | ⟨_ + 1, h⟩ => absurd h (Nat.not_lt.2 (Nat.le_add_left _ _))
abbrev sem0_56 : Fin 1 → DmaSem sig := fun | 0 => cc0_sem56_0 | ⟨_ + 1, h⟩ => absurd h (Nat.not_lt.2 (Nat.le_add_left _ _))

abbrev stage0_57 : Fin 1 → Memref sig .tc .vmem S1x1024 .f32 := fun | 0 => Memref.whole cc0_stg57_0 | ⟨_ + 1, h⟩ => absurd h (Nat.not_lt.2 (Nat.le_add_left _ _))
abbrev sem0_57 : Fin 1 → DmaSem sig := fun | 0 => cc0_sem57_0 | ⟨_ + 1, h⟩ => absurd h (Nat.not_lt.2 (Nat.le_add_left _ _))

abbrev stage0_58 : Fin 1 → Memref sig .tc .vmem S1x1024 .f32 := fun | 0 => Memref.whole cc0_stg58_0 | ⟨_ + 1, h⟩ => absurd h (Nat.not_lt.2 (Nat.le_add_left _ _))
abbrev sem0_58 : Fin 1 → DmaSem sig := fun | 0 => cc0_sem58_0 | ⟨_ + 1, h⟩ => absurd h (Nat.not_lt.2 (Nat.le_add_left _ _))

abbrev stage0_59 : Fin 1 → Memref sig .tc .vmem S1x1024 .f32 := fun | 0 => Memref.whole cc0_stg59_0 | ⟨_ + 1, h⟩ => absurd h (Nat.not_lt.2 (Nat.le_add_left _ _))
abbrev sem0_59 : Fin 1 → DmaSem sig := fun | 0 => cc0_sem59_0 | ⟨_ + 1, h⟩ => absurd h (Nat.not_lt.2 (Nat.le_add_left _ _))

abbrev stage0_60 : Fin 1 → Memref sig .tc .vmem S16x256 .f32 := fun | 0 => Memref.whole cc0_stg60_0 | ⟨_ + 1, h⟩ => absurd h (Nat.not_lt.2 (Nat.le_add_left _ _))
abbrev sem0_60 : Fin 1 → DmaSem sig := fun | 0 => cc0_sem60_0 | ⟨_ + 1, h⟩ => absurd h (Nat.not_lt.2 (Nat.le_add_left _ _))

abbrev stage0_61 : Fin 1 → Memref sig .tc .vmem S8x128 .f32 := fun | 0 => Memref.whole cc0_stg61_0 | ⟨_ + 1, h⟩ => absurd h (Nat.not_lt.2 (Nat.le_add_left _ _))
abbrev sem0_61 : Fin 1 → DmaSem sig := fun | 0 => cc0_sem61_0 | ⟨_ + 1, h⟩ => absurd h (Nat.not_lt.2 (Nat.le_add_left _ _))

abbrev stage0_62 : Fin 1 → Memref sig .tc .vmem S8x128 .f32 := fun | 0 => Memref.whole cc0_stg62_0 | ⟨_ + 1, h⟩ => absurd h (Nat.not_lt.2 (Nat.le_add_left _ _))
abbrev sem0_62 : Fin 1 → DmaSem sig := fun | 0 => cc0_sem62_0 | ⟨_ + 1, h⟩ => absurd h (Nat.not_lt.2 (Nat.le_add_left _ _))

abbrev stage0_63 : Fin 1 → Memref sig .tc .vmem S2x512 .f32 := fun | 0 => Memref.whole cc0_stg63_0 | ⟨_ + 1, h⟩ => absurd h (Nat.not_lt.2 (Nat.le_add_left _ _))
abbrev sem0_63 : Fin 1 → DmaSem sig := fun | 0 => cc0_sem63_0 | ⟨_ + 1, h⟩ => absurd h (Nat.not_lt.2 (Nat.le_add_left _ _))

abbrev stage0_64 : Fin 1 → Memref sig .tc .vmem S1x128 .f32 := fun | 0 => Memref.whole cc0_stg64_0 | ⟨_ + 1, h⟩ => absurd h (Nat.not_lt.2 (Nat.le_add_left _ _))
abbrev sem0_64 : Fin 1 → DmaSem sig := fun | 0 => cc0_sem64_0 | ⟨_ + 1, h⟩ => absurd h (Nat.not_lt.2 (Nat.le_add_left _ _))

abbrev stage0_65 : Fin 1 → Memref sig .tc .vmem S1x8 .f32 := fun | 0 => Memref.whole cc0_stg65_0 | ⟨_ + 1, h⟩ => absurd h (Nat.not_lt.2 (Nat.le_add_left _ _))
abbrev sem0_65 : Fin 1 → DmaSem sig := fun | 0 => cc0_sem65_0 | ⟨_ + 1, h⟩ => absurd h (Nat.not_lt.2 (Nat.le_add_left _ _))

abbrev stage0_66 : Fin 1 → Memref sig .tc .vmem S1x1024 .f32 := fun | 0 => Memref.whole cc0_stg66_0 | ⟨_ + 1, h⟩ => absurd h (Nat.not_lt.2 (Nat.le_add_left _ _))
abbrev sem0_66 : Fin 1 → DmaSem sig := fun | 0 => cc0_sem66_0 | ⟨_ + 1, h⟩ => absurd h (Nat.not_lt.2 (Nat.le_add_left _ _))

abbrev stage0_67 : Fin 1 → Memref sig .tc .vmem S1x1024 .f32 := fun | 0 => Memref.whole cc0_stg67_0 | ⟨_ + 1, h⟩ => absurd h (Nat.not_lt.2 (Nat.le_add_left _ _))
abbrev sem0_67 : Fin 1 → DmaSem sig := fun | 0 => cc0_sem67_0 | ⟨_ + 1, h⟩ => absurd h (Nat.not_lt.2 (Nat.le_add_left _ _))

abbrev stage0_68 : Fin 1 → Memref sig .tc .vmem S1x1024 .f32 := fun | 0 => Memref.whole cc0_stg68_0 | ⟨_ + 1, h⟩ => absurd h (Nat.not_lt.2 (Nat.le_add_left _ _))
abbrev sem0_68 : Fin 1 → DmaSem sig := fun | 0 => cc0_sem68_0 | ⟨_ + 1, h⟩ => absurd h (Nat.not_lt.2 (Nat.le_add_left _ _))

abbrev stage0_69 : Fin 1 → Memref sig .tc .vmem S1x1024 .f32 := fun | 0 => Memref.whole cc0_stg69_0 | ⟨_ + 1, h⟩ => absurd h (Nat.not_lt.2 (Nat.le_add_left _ _))
abbrev sem0_69 : Fin 1 → DmaSem sig := fun | 0 => cc0_sem69_0 | ⟨_ + 1, h⟩ => absurd h (Nat.not_lt.2 (Nat.le_add_left _ _))
-- ==== Reference15Ideal.lean ====
abbrev S16x256 : Shape := ⟨2, ![16, 256]⟩
abbrev S8x128 : Shape := ⟨2, ![8, 128]⟩
abbrev S2x512 : Shape := ⟨2, ![2, 512]⟩
abbrev S1x128 : Shape := ⟨2, ![1, 128]⟩
abbrev S1x8 : Shape := ⟨2, ![1, 8]⟩
abbrev S1x1024 : Shape := ⟨2, ![1, 1024]⟩
abbrev S_ : Shape := ⟨0, ![]⟩

abbrev nBuf : Space → Nat
  | .hbm => 370
  | .vmem => 0
  | .smem => 0
  | _ => 0

abbrev hbmTy0_0 (i : Nat) : BufTy := match i % 128 with
  | 0 => ⟨S16x256, .f32⟩
  | 1 => ⟨S8x128, .f32⟩
  | 2 => ⟨S8x128, .f32⟩
  | 3 => ⟨S2x512, .f32⟩
  | 4 => ⟨S1x128, .f32⟩
  | 5 => ⟨S1x8, .f32⟩
  | 6 => ⟨S1x1024, .f32⟩
  | 7 => ⟨S1x1024, .f32⟩
  | 8 => ⟨S1x1024, .f32⟩
  | 9 => ⟨S1x1024, .f32⟩
  | 10 => ⟨S16x256, .f32⟩
  | 11 => ⟨S8x128, .f32⟩
  | 12 => ⟨S8x128, .f32⟩
  | 13 => ⟨S2x512, .f32⟩
  | 14 => ⟨S1x128, .f32⟩
  | 15 => ⟨S1x8, .f32⟩
  | 16 => ⟨S1x1024, .f32⟩
  | 17 => ⟨S1x1024, .f32⟩
  | 18 => ⟨S1x1024, .f32⟩
  | 19 => ⟨S1x1024, .f32⟩
  | 20 => ⟨S16x256, .f32⟩
  | 21 => ⟨S8x128, .f32⟩
  | 22 => ⟨S8x128, .f32⟩
  | 23 => ⟨S2x512, .f32⟩
  | 24 => ⟨S1x128, .f32⟩
  | 25 => ⟨S1x8, .f32⟩
  | 26 => ⟨S1x1024, .f32⟩
  | 27 => ⟨S1x1024, .f32⟩
  | 28 => ⟨S1x1024, .f32⟩
  | 29 => ⟨S1x1024, .f32⟩
  | 30 => ⟨S16x256, .f32⟩
  | 31 => ⟨S8x128, .f32⟩
  | 32 => ⟨S8x128, .f32⟩
  | 33 => ⟨S2x512, .f32⟩
  | 34 => ⟨S1x128, .f32⟩
  | 35 => ⟨S1x8, .f32⟩
  | 36 => ⟨S1x1024, .f32⟩
  | 37 => ⟨S1x1024, .f32⟩
  | 38 => ⟨S1x1024, .f32⟩
  | 39 => ⟨S1x1024, .f32⟩
  | 40 => ⟨S_, .f32⟩
  | 41 => ⟨S16x256, .f32⟩
  | 42 => ⟨S16x256, .f32⟩
  | 43 => ⟨S_, .f32⟩
  | 44 => ⟨S16x256, .f32⟩
  | 45 => ⟨S16x256, .f32⟩
  | 46 => ⟨S16x256, .f32⟩
  | 47 => ⟨S_, .f32⟩
  | 48 => ⟨S16x256, .f32⟩
  | 49 => ⟨S16x256, .f32⟩
  | 50 => ⟨S16x256, .f32⟩
  | 51 => ⟨S_, .f32⟩
  | 52 => ⟨S16x256, .f32⟩
  | 53 => ⟨S16x256, .f32⟩
  | 54 => ⟨S16x256, .f32⟩
  | 55 => ⟨S_, .f32⟩
  | 56 => ⟨S16x256, .f32⟩
  | 57 => ⟨S16x256, .f32⟩
  | 58 => ⟨S_, .f32⟩
  | 59 => ⟨S16x256, .f32⟩
  | 60 => ⟨S16x256, .f32⟩
  | 61 => ⟨S16x256, .f32⟩
  | 62 => ⟨S_, .f32⟩
  | 63 => ⟨S16x256, .f32⟩
  | 64 => ⟨S16x256, .f32⟩
  | 65 => ⟨S16x256, .f32⟩
  | 66 => ⟨S_, .f32⟩
  | 67 => ⟨S16x256, .f32⟩
  | 68 => ⟨S16x256, .f32⟩
  | 69 => ⟨S16x256, .f32⟩
  | 70 => ⟨S_, .f32⟩
  | 71 => ⟨S16x256, .f32⟩
  | 72 => ⟨S16x256, .f32⟩
  | 73 => ⟨S_, .f32⟩
  | 74 => ⟨S8x128, .f32⟩
  | 75 => ⟨S8x128, .f32⟩
  | 76 => ⟨S_, .f32⟩
  | 77 => ⟨S8x128, .f32⟩
  | 78 => ⟨S8x128, .f32⟩
  | 79 => ⟨S8x128, .f32⟩
  | 80 => ⟨S_, .f32⟩
  | 81 => ⟨S8x128, .f32⟩
  | 82 => ⟨S8x128, .f32⟩
  | 83 => ⟨S8x128, .f32⟩
  | 84 => ⟨S_, .f32⟩
  | 85 => ⟨S8x128, .f32⟩
  | 86 => ⟨S8x128, .f32⟩
  | 87 => ⟨S8x128, .f32⟩
  | 88 => ⟨S_, .f32⟩
  | 89 => ⟨S8x128, .f32⟩
  | 90 => ⟨S8x128, .f32⟩
  | 91 => ⟨S_, .f32⟩
  | 92 => ⟨S8x128, .f32⟩
  | 93 => ⟨S8x128, .f32⟩
  | 94 => ⟨S8x128, .f32⟩
  | 95 => ⟨S_, .f32⟩
  | 96 => ⟨S8x128, .f32⟩
  | 97 => ⟨S8x128, .f32⟩
  | 98 => ⟨S8x128, .f32⟩
  | 99 => ⟨S_, .f32⟩
  | 100 => ⟨S8x128, .f32⟩
  | 101 => ⟨S8x128, .f32⟩
  | 102 => ⟨S8x128, .f32⟩
  | 103 => ⟨S_, .f32⟩
  | 104 => ⟨S8x128, .f32⟩
  | 105 => ⟨S8x128, .f32⟩
  | 106 => ⟨S_, .f32⟩
  | 107 => ⟨S8x128, .f32⟩
  | 108 => ⟨S8x128, .f32⟩
  | 109 => ⟨S_, .f32⟩
  | 110 => ⟨S8x128, .f32⟩
  | 111 => ⟨S8x128, .f32⟩
  | 112 => ⟨S8x128, .f32⟩
  | 113 => ⟨S_, .f32⟩
  | 114 => ⟨S8x128, .f32⟩
  | 115 => ⟨S8x128, .f32⟩
  | 116 => ⟨S8x128, .f32⟩
  | 117 => ⟨S_, .f32⟩
  | 118 => ⟨S8x128, .f32⟩
  | 119 => ⟨S8x128, .f32⟩
  | 120 => ⟨S8x128, .f32⟩
  | 121 => ⟨S_, .f32⟩
  | 122 => ⟨S8x128, .f32⟩
  | 123 => ⟨S8x128, .f32⟩
  | 124 => ⟨S_, .f32⟩
  | 125 => ⟨S8x128, .f32⟩
  | 126 => ⟨S8x128, .f32⟩
  | 127 => ⟨S8x128, .f32⟩
  | _ => ⟨S16x256, .f32⟩

abbrev hbmTy0_1 (i : Nat) : BufTy := match i % 128 with
  | 0 => ⟨S_, .f32⟩
  | 1 => ⟨S8x128, .f32⟩
  | 2 => ⟨S8x128, .f32⟩
  | 3 => ⟨S8x128, .f32⟩
  | 4 => ⟨S_, .f32⟩
  | 5 => ⟨S8x128, .f32⟩
  | 6 => ⟨S8x128, .f32⟩
  | 7 => ⟨S8x128, .f32⟩
  | 8 => ⟨S_, .f32⟩
  | 9 => ⟨S8x128, .f32⟩
  | 10 => ⟨S8x128, .f32⟩
  | 11 => ⟨S_, .f32⟩
  | 12 => ⟨S2x512, .f32⟩
  | 13 => ⟨S2x512, .f32⟩
  | 14 => ⟨S_, .f32⟩
  | 15 => ⟨S2x512, .f32⟩
  | 16 => ⟨S2x512, .f32⟩
  | 17 => ⟨S2x512, .f32⟩
  | 18 => ⟨S_, .f32⟩
  | 19 => ⟨S2x512, .f32⟩
  | 20 => ⟨S2x512, .f32⟩
  | 21 => ⟨S2x512, .f32⟩
  | 22 => ⟨S_, .f32⟩
  | 23 => ⟨S2x512, .f32⟩
  | 24 => ⟨S2x512, .f32⟩
  | 25 => ⟨S2x512, .f32⟩
  | 26 => ⟨S_, .f32⟩
  | 27 => ⟨S2x512, .f32⟩
  | 28 => ⟨S2x512, .f32⟩
  | 29 => ⟨S_, .f32⟩
  | 30 => ⟨S2x512, .f32⟩
  | 31 => ⟨S2x512, .f32⟩
  | 32 => ⟨S2x512, .f32⟩
  | 33 => ⟨S_, .f32⟩
  | 34 => ⟨S2x512, .f32⟩
  | 35 => ⟨S2x512, .f32⟩
  | 36 => ⟨S2x512, .f32⟩
  | 37 => ⟨S_, .f32⟩
  | 38 => ⟨S2x512, .f32⟩
  | 39 => ⟨S2x512, .f32⟩
  | 40 => ⟨S2x512, .f32⟩
  | 41 => ⟨S_, .f32⟩
  | 42 => ⟨S2x512, .f32⟩
  | 43 => ⟨S2x512, .f32⟩
  | 44 => ⟨S_, .f32⟩
  | 45 => ⟨S1x128, .f32⟩
  | 46 => ⟨S1x128, .f32⟩
  | 47 => ⟨S_, .f32⟩
  | 48 => ⟨S1x128, .f32⟩
  | 49 => ⟨S1x128, .f32⟩
  | 50 => ⟨S1x128, .f32⟩
  | 51 => ⟨S_, .f32⟩
  | 52 => ⟨S1x128, .f32⟩
  | 53 => ⟨S1x128, .f32⟩
  | 54 => ⟨S1x128, .f32⟩
  | 55 => ⟨S_, .f32⟩
  | 56 => ⟨S1x128, .f32⟩
  | 57 => ⟨S1x128, .f32⟩
  | 58 => ⟨S1x128, .f32⟩
  | 59 => ⟨S_, .f32⟩
  | 60 => ⟨S1x128, .f32⟩
  | 61 => ⟨S1x128, .f32⟩
  | 62 => ⟨S_, .f32⟩
  | 63 => ⟨S1x128, .f32⟩
  | 64 => ⟨S1x128, .f32⟩
  | 65 => ⟨S1x128, .f32⟩
  | 66 => ⟨S_, .f32⟩
  | 67 => ⟨S1x128, .f32⟩
  | 68 => ⟨S1x128, .f32⟩
  | 69 => ⟨S1x128, .f32⟩
  | 70 => ⟨S_, .f32⟩
  | 71 => ⟨S1x128, .f32⟩
  | 72 => ⟨S1x128, .f32⟩
  | 73 => ⟨S1x128, .f32⟩
  | 74 => ⟨S_, .f32⟩
  | 75 => ⟨S1x128, .f32⟩
  | 76 => ⟨S1x128, .f32⟩
  | 77 => ⟨S_, .f32⟩
  | 78 => ⟨S1x8, .f32⟩
  | 79 => ⟨S1x8, .f32⟩
  | 80 => ⟨S_, .f32⟩
  | 81 => ⟨S1x8, .f32⟩
  | 82 => ⟨S1x8, .f32⟩
  | 83 => ⟨S1x8, .f32⟩
  | 84 => ⟨S_, .f32⟩
  | 85 => ⟨S1x8, .f32⟩
  | 86 => ⟨S1x8, .f32⟩
  | 87 => ⟨S1x8, .f32⟩
  | 88 => ⟨S_, .f32⟩
  | 89 => ⟨S1x8, .f32⟩
  | 90 => ⟨S1x8, .f32⟩
  | 91 => ⟨S1x8, .f32⟩
  | 92 => ⟨S_, .f32⟩
  | 93 => ⟨S1x8, .f32⟩
  | 94 => ⟨S1x8, .f32⟩
  | 95 => ⟨S_, .f32⟩
  | 96 => ⟨S1x8, .f32⟩
  | 97 => ⟨S1x8, .f32⟩
  | 98 => ⟨S1x8, .f32⟩
  | 99 => ⟨S_, .f32⟩
  | 100 => ⟨S1x8, .f32⟩
  | 101 => ⟨S1x8, .f32⟩
  | 102 => ⟨S1x8, .f32⟩
  | 103 => ⟨S_, .f32⟩
  | 104 => ⟨S1x8, .f32⟩
  | 105 => ⟨S1x8, .f32⟩
  | 106 => ⟨S1x8, .f32⟩
  | 107 => ⟨S_, .f32⟩
  | 108 => ⟨S1x8, .f32⟩
  | 109 => ⟨S1x8, .f32⟩
  | 110 => ⟨S_, .f32⟩
  | 111 => ⟨S1x1024, .f32⟩
  | 112 => ⟨S1x1024, .f32⟩
  | 113 => ⟨S_, .f32⟩
  | 114 => ⟨S1x1024, .f32⟩
  | 115 => ⟨S1x1024, .f32⟩
  | 116 => ⟨S1x1024, .f32⟩
  | 117 => ⟨S_, .f32⟩
  | 118 => ⟨S1x1024, .f32⟩
  | 119 => ⟨S1x1024, .f32⟩
  | 120 => ⟨S1x1024, .f32⟩
  | 121 => ⟨S_, .f32⟩
  | 122 => ⟨S1x1024, .f32⟩
  | 123 => ⟨S1x1024, .f32⟩
  | 124 => ⟨S1x1024, .f32⟩
  | 125 => ⟨S_, .f32⟩
  | 126 => ⟨S1x1024, .f32⟩
  | 127 => ⟨S1x1024, .f32⟩
  | _ => ⟨S16x256, .f32⟩

abbrev hbmTy0_2 (i : Nat) : BufTy := match i % 128 with
  | 0 => ⟨S_, .f32⟩
  | 1 => ⟨S1x1024, .f32⟩
  | 2 => ⟨S1x1024, .f32⟩
  | 3 => ⟨S1x1024, .f32⟩
  | 4 => ⟨S_, .f32⟩
  | 5 => ⟨S1x1024, .f32⟩
  | 6 => ⟨S1x1024, .f32⟩
  | 7 => ⟨S1x1024, .f32⟩
  | 8 => ⟨S_, .f32⟩
  | 9 => ⟨S1x1024, .f32⟩
  | 10 => ⟨S1x1024, .f32⟩
  | 11 => ⟨S1x1024, .f32⟩
  | 12 => ⟨S_, .f32⟩
  | 13 => ⟨S1x1024, .f32⟩
  | 14 => ⟨S1x1024, .f32⟩
  | 15 => ⟨S_, .f32⟩
  | 16 => ⟨S1x1024, .f32⟩
  | 17 => ⟨S1x1024, .f32⟩
  | 18 => ⟨S_, .f32⟩
  | 19 => ⟨S1x1024, .f32⟩
  | 20 => ⟨S1x1024, .f32⟩
  | 21 => ⟨S1x1024, .f32⟩
  | 22 => ⟨S_, .f32⟩
  | 23 => ⟨S1x1024, .f32⟩
  | 24 => ⟨S1x1024, .f32⟩
  | 25 => ⟨S1x1024, .f32⟩
  | 26 => ⟨S_, .f32⟩
  | 27 => ⟨S1x1024, .f32⟩
  | 28 => ⟨S1x1024, .f32⟩
  | 29 => ⟨S1x1024, .f32⟩
  | 30 => ⟨S_, .f32⟩
  | 31 => ⟨S1x1024, .f32⟩
  | 32 => ⟨S1x1024, .f32⟩
  | 33 => ⟨S_, .f32⟩
  | 34 => ⟨S1x1024, .f32⟩
  | 35 => ⟨S1x1024, .f32⟩
  | 36 => ⟨S1x1024, .f32⟩
  | 37 => ⟨S_, .f32⟩
  | 38 => ⟨S1x1024, .f32⟩
  | 39 => ⟨S1x1024, .f32⟩
  | 40 => ⟨S1x1024, .f32⟩
  | 41 => ⟨S_, .f32⟩
  | 42 => ⟨S1x1024, .f32⟩
  | 43 => ⟨S1x1024, .f32⟩
  | 44 => ⟨S1x1024, .f32⟩
  | 45 => ⟨S_, .f32⟩
  | 46 => ⟨S1x1024, .f32⟩
  | 47 => ⟨S1x1024, .f32⟩
  | 48 => ⟨S_, .f32⟩
  | 49 => ⟨S1x1024, .f32⟩
  | 50 => ⟨S1x1024, .f32⟩
  | 51 => ⟨S_, .f32⟩
  | 52 => ⟨S1x1024, .f32⟩
  | 53 => ⟨S1x1024, .f32⟩
  | 54 => ⟨S1x1024, .f32⟩
  | 55 => ⟨S_, .f32⟩
  | 56 => ⟨S1x1024, .f32⟩
  | 57 => ⟨S1x1024, .f32⟩
  | 58 => ⟨S1x1024, .f32⟩
  | 59 => ⟨S_, .f32⟩
  | 60 => ⟨S1x1024, .f32⟩
  | 61 => ⟨S1x1024, .f32⟩
  | 62 => ⟨S1x1024, .f32⟩
  | 63 => ⟨S_, .f32⟩
  | 64 => ⟨S1x1024, .f32⟩
  | 65 => ⟨S1x1024, .f32⟩
  | 66 => ⟨S_, .f32⟩
  | 67 => ⟨S1x1024, .f32⟩
  | 68 => ⟨S1x1024, .f32⟩
  | 69 => ⟨S1x1024, .f32⟩
  | 70 => ⟨S_, .f32⟩
  | 71 => ⟨S1x1024, .f32⟩
  | 72 => ⟨S1x1024, .f32⟩
  | 73 => ⟨S1x1024, .f32⟩
  | 74 => ⟨S_, .f32⟩
  | 75 => ⟨S1x1024, .f32⟩
  | 76 => ⟨S1x1024, .f32⟩
  | 77 => ⟨S1x1024, .f32⟩
  | 78 => ⟨S_, .f32⟩
  | 79 => ⟨S1x1024, .f32⟩
  | 80 => ⟨S1x1024, .f32⟩
  | 81 => ⟨S_, .f32⟩
  | 82 => ⟨S1x1024, .f32⟩
  | 83 => ⟨S1x1024, .f32⟩
  | 84 => ⟨S_, .f32⟩
  | 85 => ⟨S1x1024, .f32⟩
  | 86 => ⟨S1x1024, .f32⟩
  | 87 => ⟨S1x1024, .f32⟩
  | 88 => ⟨S_, .f32⟩
  | 89 => ⟨S1x1024, .f32⟩
  | 90 => ⟨S1x1024, .f32⟩
  | 91 => ⟨S1x1024, .f32⟩
  | 92 => ⟨S_, .f32⟩
  | 93 => ⟨S1x1024, .f32⟩
  | 94 => ⟨S1x1024, .f32⟩
  | 95 => ⟨S1x1024, .f32⟩
  | 96 => ⟨S_, .f32⟩
  | 97 => ⟨S1x1024, .f32⟩
  | 98 => ⟨S1x1024, .f32⟩
  | 99 => ⟨S_, .f32⟩
  | 100 => ⟨S1x1024, .f32⟩
  | 101 => ⟨S1x1024, .f32⟩
  | 102 => ⟨S1x1024, .f32⟩
  | 103 => ⟨S_, .f32⟩
  | 104 => ⟨S1x1024, .f32⟩
  | 105 => ⟨S1x1024, .f32⟩
  | 106 => ⟨S1x1024, .f32⟩
  | 107 => ⟨S_, .f32⟩
  | 108 => ⟨S1x1024, .f32⟩
  | 109 => ⟨S1x1024, .f32⟩
  | 110 => ⟨S1x1024, .f32⟩
  | 111 => ⟨S_, .f32⟩
  | 112 => ⟨S1x1024, .f32⟩
  | 113 => ⟨S1x1024, .f32⟩
  | _ => ⟨S16x256, .f32⟩

abbrev hbmTy (i : Nat) : BufTy := match i / 128 with
  | 0 => hbmTy0_0 i
  | 1 => hbmTy0_1 i
  | 2 => hbmTy0_2 i
  | _ => ⟨S16x256, .f32⟩

abbrev bufTy : (tb : Table) → Fin (tcTables nBuf tb) → BufTy
  | .hbm, ⟨i, _⟩ => hbmTy i
  | _, _ => ⟨S16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_cst : Ref sig .tc := ⟨.hbm, 40, rfl⟩
abbrev main_v0 : Ref sig .tc := ⟨.hbm, 41, rfl⟩
abbrev main_v1 : Ref sig .tc := ⟨.hbm, 42, rfl⟩
abbrev main_cst_0 : Ref sig .tc := ⟨.hbm, 43, rfl⟩
abbrev main_v2 : Ref sig .tc := ⟨.hbm, 44, rfl⟩
abbrev main_v3 : Ref sig .tc := ⟨.hbm, 45, rfl⟩
abbrev main_v4 : Ref sig .tc := ⟨.hbm, 46, rfl⟩
abbrev main_cst_1 : Ref sig .tc := ⟨.hbm, 47, rfl⟩
abbrev main_v5 : Ref sig .tc := ⟨.hbm, 48, rfl⟩
abbrev main_v6 : Ref sig .tc := ⟨.hbm, 49, rfl⟩
abbrev main_v7 : Ref sig .tc := ⟨.hbm, 50, rfl⟩
abbrev main_cst_2 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_cst_3 : Ref sig .tc := ⟨.hbm, 55, rfl⟩
abbrev main_v11 : Ref sig .tc := ⟨.hbm, 56, rfl⟩
abbrev main_v12 : Ref sig .tc := ⟨.hbm, 57, rfl⟩
abbrev main_cst_4 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_cst_5 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_cst_6 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_cst_7 : Ref sig .tc := ⟨.hbm, 70, rfl⟩
abbrev main_v22 : Ref sig .tc := ⟨.hbm, 71, rfl⟩
abbrev main_v23 : Ref sig .tc := ⟨.hbm, 72, rfl⟩
abbrev main_cst_8 : Ref sig .tc := ⟨.hbm, 73, rfl⟩
abbrev main_v24 : Ref sig .tc := ⟨.hbm, 74, rfl⟩
abbrev main_v25 : Ref sig .tc := ⟨.hbm, 75, rfl⟩
abbrev main_cst_9 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_10 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_cst_11 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_cst_12 : Ref sig .tc := ⟨.hbm, 88, rfl⟩
abbrev main_v35 : Ref sig .tc := ⟨.hbm, 89, rfl⟩
abbrev main_v36 : Ref sig .tc := ⟨.hbm, 90, rfl⟩
abbrev main_cst_13 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_cst_14 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_cst_15 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_cst_16 : Ref sig .tc := ⟨.hbm, 103, rfl⟩
abbrev main_v46 : Ref sig .tc := ⟨.hbm, 104, rfl⟩
abbrev main_v47 : Ref sig .tc := ⟨.hbm, 105, rfl⟩
abbrev main_cst_17 : Ref sig .tc := ⟨.hbm, 106, rfl⟩
abbrev main_v48 : Ref sig .tc := ⟨.hbm, 107, rfl⟩
abbrev main_v49 : Ref sig .tc := ⟨.hbm, 108, rfl⟩
abbrev main_cst_18 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_cst_19 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_cst_20 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_cst_21 : Ref sig .tc := ⟨.hbm, 121, rfl⟩
abbrev main_v59 : Ref sig .tc := ⟨.hbm, 122, rfl⟩
abbrev main_v60 : Ref sig .tc := ⟨.hbm, 123, rfl⟩
abbrev main_cst_22 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_cst_23 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_cst_24 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_cst_25 : Ref sig .tc := ⟨.hbm, 136, rfl⟩
abbrev main_v70 : Ref sig .tc := ⟨.hbm, 137, rfl⟩
abbrev main_v71 : Ref sig .tc := ⟨.hbm, 138, rfl⟩
abbrev main_cst_26 : Ref sig .tc := ⟨.hbm, 139, rfl⟩
abbrev main_v72 : Ref sig .tc := ⟨.hbm, 140, rfl⟩
abbrev main_v73 : Ref sig .tc := ⟨.hbm, 141, rfl⟩
abbrev main_cst_27 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_cst_28 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_cst_29 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_cst_30 : Ref sig .tc := ⟨.hbm, 154, rfl⟩
abbrev main_v83 : Ref sig .tc := ⟨.hbm, 155, rfl⟩
abbrev main_v84 : Ref sig .tc := ⟨.hbm, 156, rfl⟩
abbrev main_cst_31 : Ref sig .tc := ⟨.hbm, 157, rfl⟩
abbrev main_v85 : Ref sig .tc := ⟨.hbm, 158, rfl⟩
abbrev main_v86 : Ref sig .tc := ⟨.hbm, 159, rfl⟩
abbrev main_v87 : Ref sig .tc := ⟨.hbm, 160, rfl⟩
abbrev main_cst_32 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_cst_33 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_cst_34 : Ref sig .tc := ⟨.hbm, 169, rfl⟩
abbrev main_v94 : Ref sig .tc := ⟨.hbm, 170, rfl⟩
abbrev main_v95 : Ref sig .tc := ⟨.hbm, 171, rfl⟩
abbrev main_cst_35 : Ref sig .tc := ⟨.hbm, 172, rfl⟩
abbrev main_v96 : Ref sig .tc := ⟨.hbm, 173, rfl⟩
abbrev main_v97 : Ref sig .tc := ⟨.hbm, 174, rfl⟩
abbrev main_cst_36 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_cst_37 : Ref sig .tc := ⟨.hbm, 179, rfl⟩
abbrev main_v101 : Ref sig .tc := ⟨.hbm, 180, rfl⟩
abbrev main_v102 : Ref sig .tc := ⟨.hbm, 181, rfl⟩
abbrev main_v103 : Ref sig .tc := ⟨.hbm, 182, rfl⟩
abbrev main_cst_38 : Ref sig .tc := ⟨.hbm, 183, rfl⟩
abbrev main_v104 : Ref sig .tc := ⟨.hbm, 184, rfl⟩
abbrev main_v105 : Ref sig .tc := ⟨.hbm, 185, rfl⟩
abbrev main_v106 : Ref sig .tc := ⟨.hbm, 186, rfl⟩
abbrev main_cst_39 : Ref sig .tc := ⟨.hbm, 187, rfl⟩
abbrev main_v107 : Ref sig .tc := ⟨.hbm, 188, rfl⟩
abbrev main_v108 : Ref sig .tc := ⟨.hbm, 189, rfl⟩
abbrev main_cst_40 : Ref sig .tc := ⟨.hbm, 190, rfl⟩
abbrev main_v109 : Ref sig .tc := ⟨.hbm, 191, rfl⟩
abbrev main_v110 : Ref sig .tc := ⟨.hbm, 192, rfl⟩
abbrev main_v111 : Ref sig .tc := ⟨.hbm, 193, rfl⟩
abbrev main_cst_41 : Ref sig .tc := ⟨.hbm, 194, rfl⟩
abbrev main_v112 : Ref sig .tc := ⟨.hbm, 195, rfl⟩
abbrev main_v113 : Ref sig .tc := ⟨.hbm, 196, rfl⟩
abbrev main_v114 : Ref sig .tc := ⟨.hbm, 197, rfl⟩
abbrev main_cst_42 : Ref sig .tc := ⟨.hbm, 198, rfl⟩
abbrev main_v115 : Ref sig .tc := ⟨.hbm, 199, rfl⟩
abbrev main_v116 : Ref sig .tc := ⟨.hbm, 200, rfl⟩
abbrev main_v117 : Ref sig .tc := ⟨.hbm, 201, rfl⟩
abbrev main_cst_43 : Ref sig .tc := ⟨.hbm, 202, rfl⟩
abbrev main_v118 : Ref sig .tc := ⟨.hbm, 203, rfl⟩
abbrev main_v119 : Ref sig .tc := ⟨.hbm, 204, rfl⟩
abbrev main_cst_44 : Ref sig .tc := ⟨.hbm, 205, rfl⟩
abbrev main_v120 : Ref sig .tc := ⟨.hbm, 206, rfl⟩
abbrev main_v121 : Ref sig .tc := ⟨.hbm, 207, rfl⟩
abbrev main_cst_45 : Ref sig .tc := ⟨.hbm, 208, rfl⟩
abbrev main_v122 : Ref sig .tc := ⟨.hbm, 209, rfl⟩
abbrev main_v123 : Ref sig .tc := ⟨.hbm, 210, rfl⟩
abbrev main_v124 : Ref sig .tc := ⟨.hbm, 211, rfl⟩
abbrev main_cst_46 : Ref sig .tc := ⟨.hbm, 212, rfl⟩
abbrev main_v125 : Ref sig .tc := ⟨.hbm, 213, rfl⟩
abbrev main_v126 : Ref sig .tc := ⟨.hbm, 214, rfl⟩
abbrev main_v127 : Ref sig .tc := ⟨.hbm, 215, rfl⟩
abbrev main_cst_47 : Ref sig .tc := ⟨.hbm, 216, rfl⟩
abbrev main_v128 : Ref sig .tc := ⟨.hbm, 217, rfl⟩
abbrev main_v129 : Ref sig .tc := ⟨.hbm, 218, rfl⟩
abbrev main_v130 : Ref sig .tc := ⟨.hbm, 219, rfl⟩
abbrev main_cst_48 : Ref sig .tc := ⟨.hbm, 220, rfl⟩
abbrev main_v131 : Ref sig .tc := ⟨.hbm, 221, rfl⟩
abbrev main_v132 : Ref sig .tc := ⟨.hbm, 222, rfl⟩
abbrev main_cst_49 : Ref sig .tc := ⟨.hbm, 223, rfl⟩
abbrev main_v133 : Ref sig .tc := ⟨.hbm, 224, rfl⟩
abbrev main_v134 : Ref sig .tc := ⟨.hbm, 225, rfl⟩
abbrev main_v135 : Ref sig .tc := ⟨.hbm, 226, rfl⟩
abbrev main_cst_50 : Ref sig .tc := ⟨.hbm, 227, rfl⟩
abbrev main_v136 : Ref sig .tc := ⟨.hbm, 228, rfl⟩
abbrev main_v137 : Ref sig .tc := ⟨.hbm, 229, rfl⟩
abbrev main_v138 : Ref sig .tc := ⟨.hbm, 230, rfl⟩
abbrev main_cst_51 : Ref sig .tc := ⟨.hbm, 231, rfl⟩
abbrev main_v139 : Ref sig .tc := ⟨.hbm, 232, rfl⟩
abbrev main_v140 : Ref sig .tc := ⟨.hbm, 233, rfl⟩
abbrev main_v141 : Ref sig .tc := ⟨.hbm, 234, rfl⟩
abbrev main_cst_52 : Ref sig .tc := ⟨.hbm, 235, rfl⟩
abbrev main_v142 : Ref sig .tc := ⟨.hbm, 236, rfl⟩
abbrev main_v143 : Ref sig .tc := ⟨.hbm, 237, rfl⟩
abbrev main_cst_53 : Ref sig .tc := ⟨.hbm, 238, rfl⟩
abbrev main_v144 : Ref sig .tc := ⟨.hbm, 239, rfl⟩
abbrev main_v145 : Ref sig .tc := ⟨.hbm, 240, rfl⟩
abbrev main_cst_54 : Ref sig .tc := ⟨.hbm, 241, rfl⟩
abbrev main_v146 : Ref sig .tc := ⟨.hbm, 242, rfl⟩
abbrev main_v147 : Ref sig .tc := ⟨.hbm, 243, rfl⟩
abbrev main_v148 : Ref sig .tc := ⟨.hbm, 244, rfl⟩
abbrev main_cst_55 : Ref sig .tc := ⟨.hbm, 245, rfl⟩
abbrev main_v149 : Ref sig .tc := ⟨.hbm, 246, rfl⟩
abbrev main_v150 : Ref sig .tc := ⟨.hbm, 247, rfl⟩
abbrev main_v151 : Ref sig .tc := ⟨.hbm, 248, rfl⟩
abbrev main_cst_56 : Ref sig .tc := ⟨.hbm, 249, rfl⟩
abbrev main_v152 : Ref sig .tc := ⟨.hbm, 250, rfl⟩
abbrev main_v153 : Ref sig .tc := ⟨.hbm, 251, rfl⟩
abbrev main_v154 : Ref sig .tc := ⟨.hbm, 252, rfl⟩
abbrev main_cst_57 : Ref sig .tc := ⟨.hbm, 253, rfl⟩
abbrev main_v155 : Ref sig .tc := ⟨.hbm, 254, rfl⟩
abbrev main_v156 : Ref sig .tc := ⟨.hbm, 255, rfl⟩
abbrev main_cst_58 : Ref sig .tc := ⟨.hbm, 256, rfl⟩
abbrev main_v157 : Ref sig .tc := ⟨.hbm, 257, rfl⟩
abbrev main_v158 : Ref sig .tc := ⟨.hbm, 258, rfl⟩
abbrev main_v159 : Ref sig .tc := ⟨.hbm, 259, rfl⟩
abbrev main_cst_59 : Ref sig .tc := ⟨.hbm, 260, rfl⟩
abbrev main_v160 : Ref sig .tc := ⟨.hbm, 261, rfl⟩
abbrev main_v161 : Ref sig .tc := ⟨.hbm, 262, rfl⟩
abbrev main_v162 : Ref sig .tc := ⟨.hbm, 263, rfl⟩
abbrev main_cst_60 : Ref sig .tc := ⟨.hbm, 264, rfl⟩
abbrev main_v163 : Ref sig .tc := ⟨.hbm, 265, rfl⟩
abbrev main_v164 : Ref sig .tc := ⟨.hbm, 266, rfl⟩
abbrev main_v165 : Ref sig .tc := ⟨.hbm, 267, rfl⟩
abbrev main_cst_61 : Ref sig .tc := ⟨.hbm, 268, rfl⟩
abbrev main_v166 : Ref sig .tc := ⟨.hbm, 269, rfl⟩
abbrev main_v167 : Ref sig .tc := ⟨.hbm, 270, rfl⟩
abbrev main_cst_62 : Ref sig .tc := ⟨.hbm, 271, rfl⟩
abbrev main_v168 : Ref sig .tc := ⟨.hbm, 272, rfl⟩
abbrev main_v169 : Ref sig .tc := ⟨.hbm, 273, rfl⟩
abbrev main_cst_63 : Ref sig .tc := ⟨.hbm, 274, rfl⟩
abbrev main_v170 : Ref sig .tc := ⟨.hbm, 275, rfl⟩
abbrev main_v171 : Ref sig .tc := ⟨.hbm, 276, rfl⟩
abbrev main_v172 : Ref sig .tc := ⟨.hbm, 277, rfl⟩
abbrev main_cst_64 : Ref sig .tc := ⟨.hbm, 278, rfl⟩
abbrev main_v173 : Ref sig .tc := ⟨.hbm, 279, rfl⟩
abbrev main_v174 : Ref sig .tc := ⟨.hbm, 280, rfl⟩
abbrev main_v175 : Ref sig .tc := ⟨.hbm, 281, rfl⟩
abbrev main_cst_65 : Ref sig .tc := ⟨.hbm, 282, rfl⟩
abbrev main_v176 : Ref sig .tc := ⟨.hbm, 283, rfl⟩
abbrev main_v177 : Ref sig .tc := ⟨.hbm, 284, rfl⟩
abbrev main_v178 : Ref sig .tc := ⟨.hbm, 285, rfl⟩
abbrev main_cst_66 : Ref sig .tc := ⟨.hbm, 286, rfl⟩
abbrev main_v179 : Ref sig .tc := ⟨.hbm, 287, rfl⟩
abbrev main_v180 : Ref sig .tc := ⟨.hbm, 288, rfl⟩
abbrev main_cst_67 : Ref sig .tc := ⟨.hbm, 289, rfl⟩
abbrev main_v181 : Ref sig .tc := ⟨.hbm, 290, rfl⟩
abbrev main_v182 : Ref sig .tc := ⟨.hbm, 291, rfl⟩
abbrev main_v183 : Ref sig .tc := ⟨.hbm, 292, rfl⟩
abbrev main_cst_68 : Ref sig .tc := ⟨.hbm, 293, rfl⟩
abbrev main_v184 : Ref sig .tc := ⟨.hbm, 294, rfl⟩
abbrev main_v185 : Ref sig .tc := ⟨.hbm, 295, rfl⟩
abbrev main_v186 : Ref sig .tc := ⟨.hbm, 296, rfl⟩
abbrev main_cst_69 : Ref sig .tc := ⟨.hbm, 297, rfl⟩
abbrev main_v187 : Ref sig .tc := ⟨.hbm, 298, rfl⟩
abbrev main_v188 : Ref sig .tc := ⟨.hbm, 299, rfl⟩
abbrev main_v189 : Ref sig .tc := ⟨.hbm, 300, rfl⟩
abbrev main_cst_70 : Ref sig .tc := ⟨.hbm, 301, rfl⟩
abbrev main_v190 : Ref sig .tc := ⟨.hbm, 302, rfl⟩
abbrev main_v191 : Ref sig .tc := ⟨.hbm, 303, rfl⟩
abbrev main_cst_71 : Ref sig .tc := ⟨.hbm, 304, rfl⟩
abbrev main_v192 : Ref sig .tc := ⟨.hbm, 305, rfl⟩
abbrev main_v193 : Ref sig .tc := ⟨.hbm, 306, rfl⟩
abbrev main_cst_72 : Ref sig .tc := ⟨.hbm, 307, rfl⟩
abbrev main_v194 : Ref sig .tc := ⟨.hbm, 308, rfl⟩
abbrev main_v195 : Ref sig .tc := ⟨.hbm, 309, rfl⟩
abbrev main_v196 : Ref sig .tc := ⟨.hbm, 310, rfl⟩
abbrev main_cst_73 : Ref sig .tc := ⟨.hbm, 311, rfl⟩
abbrev main_v197 : Ref sig .tc := ⟨.hbm, 312, rfl⟩
abbrev main_v198 : Ref sig .tc := ⟨.hbm, 313, rfl⟩
abbrev main_v199 : Ref sig .tc := ⟨.hbm, 314, rfl⟩
abbrev main_cst_74 : Ref sig .tc := ⟨.hbm, 315, rfl⟩
abbrev main_v200 : Ref sig .tc := ⟨.hbm, 316, rfl⟩
abbrev main_v201 : Ref sig .tc := ⟨.hbm, 317, rfl⟩
abbrev main_v202 : Ref sig .tc := ⟨.hbm, 318, rfl⟩
abbrev main_cst_75 : Ref sig .tc := ⟨.hbm, 319, rfl⟩
abbrev main_v203 : Ref sig .tc := ⟨.hbm, 320, rfl⟩
abbrev main_v204 : Ref sig .tc := ⟨.hbm, 321, rfl⟩
abbrev main_cst_76 : Ref sig .tc := ⟨.hbm, 322, rfl⟩
abbrev main_v205 : Ref sig .tc := ⟨.hbm, 323, rfl⟩
abbrev main_v206 : Ref sig .tc := ⟨.hbm, 324, rfl⟩
abbrev main_v207 : Ref sig .tc := ⟨.hbm, 325, rfl⟩
abbrev main_cst_77 : Ref sig .tc := ⟨.hbm, 326, rfl⟩
abbrev main_v208 : Ref sig .tc := ⟨.hbm, 327, rfl⟩
abbrev main_v209 : Ref sig .tc := ⟨.hbm, 328, rfl⟩
abbrev main_v210 : Ref sig .tc := ⟨.hbm, 329, rfl⟩
abbrev main_cst_78 : Ref sig .tc := ⟨.hbm, 330, rfl⟩
abbrev main_v211 : Ref sig .tc := ⟨.hbm, 331, rfl⟩
abbrev main_v212 : Ref sig .tc := ⟨.hbm, 332, rfl⟩
abbrev main_v213 : Ref sig .tc := ⟨.hbm, 333, rfl⟩
abbrev main_cst_79 : Ref sig .tc := ⟨.hbm, 334, rfl⟩
abbrev main_v214 : Ref sig .tc := ⟨.hbm, 335, rfl⟩
abbrev main_v215 : Ref sig .tc := ⟨.hbm, 336, rfl⟩
abbrev main_cst_80 : Ref sig .tc := ⟨.hbm, 337, rfl⟩
abbrev main_v216 : Ref sig .tc := ⟨.hbm, 338, rfl⟩
abbrev main_v217 : Ref sig .tc := ⟨.hbm, 339, rfl⟩
abbrev main_cst_81 : Ref sig .tc := ⟨.hbm, 340, rfl⟩
abbrev main_v218 : Ref sig .tc := ⟨.hbm, 341, rfl⟩
abbrev main_v219 : Ref sig .tc := ⟨.hbm, 342, rfl⟩
abbrev main_v220 : Ref sig .tc := ⟨.hbm, 343, rfl⟩
abbrev main_cst_82 : Ref sig .tc := ⟨.hbm, 344, rfl⟩
abbrev main_v221 : Ref sig .tc := ⟨.hbm, 345, rfl⟩
abbrev main_v222 : Ref sig .tc := ⟨.hbm, 346, rfl⟩
abbrev main_v223 : Ref sig .tc := ⟨.hbm, 347, rfl⟩
abbrev main_cst_83 : Ref sig .tc := ⟨.hbm, 348, rfl⟩
abbrev main_v224 : Ref sig .tc := ⟨.hbm, 349, rfl⟩
abbrev main_v225 : Ref sig .tc := ⟨.hbm, 350, rfl⟩
abbrev main_v226 : Ref sig .tc := ⟨.hbm, 351, rfl⟩
abbrev main_cst_84 : Ref sig .tc := ⟨.hbm, 352, rfl⟩
abbrev main_v227 : Ref sig .tc := ⟨.hbm, 353, rfl⟩
abbrev main_v228 : Ref sig .tc := ⟨.hbm, 354, rfl⟩
abbrev main_cst_85 : Ref sig .tc := ⟨.hbm, 355, rfl⟩
abbrev main_v229 : Ref sig .tc := ⟨.hbm, 356, rfl⟩
abbrev main_v230 : Ref sig .tc := ⟨.hbm, 357, rfl⟩
abbrev main_v231 : Ref sig .tc := ⟨.hbm, 358, rfl⟩
abbrev main_cst_86 : Ref sig .tc := ⟨.hbm, 359, rfl⟩
abbrev main_v232 : Ref sig .tc := ⟨.hbm, 360, rfl⟩
abbrev main_v233 : Ref sig .tc := ⟨.hbm, 361, rfl⟩
abbrev main_v234 : Ref sig .tc := ⟨.hbm, 362, rfl⟩
abbrev main_cst_87 : Ref sig .tc := ⟨.hbm, 363, rfl⟩
abbrev main_v235 : Ref sig .tc := ⟨.hbm, 364, rfl⟩
abbrev main_v236 : Ref sig .tc := ⟨.hbm, 365, rfl⟩
abbrev main_v237 : Ref sig .tc := ⟨.hbm, 366, rfl⟩
abbrev main_cst_88 : Ref sig .tc := ⟨.hbm, 367, rfl⟩
abbrev main_v238 : Ref sig .tc := ⟨.hbm, 368, rfl⟩
abbrev main_v239 : Ref sig .tc := ⟨.hbm, 369, rfl⟩

abbrev nD : Nat := 1
abbrev τ : Topo := Topo.v7x

variable {F : FTy → Type} [FloatOps F]
-- ==== Proof.Rows.lean ====
/- Layer normalization of one row of 1024 extended reals and its gradient, in the two forms the programs use: the
   closed form (`back`) and the form a derivative of mean, variance and reciprocal root gives (`vjp`). They agree on
   rows of real numbers (`vjp_eq_back`). Also the logistic function, which is real everywhere. -/
module

public import Idealize.ShloMosaic.Lib.Pointwise

@[expose] public section

noncomputable section

namespace Rows

open Idealize.ShloMosaic

/-! ## Real extended reals -/

/-- `x` is a real number. -/
def IsReal (x : EReal) : Prop := ∃ r : ℝ, x = (r : EReal)

theorem IsReal.add {x y : EReal} : IsReal x → IsReal y → IsReal (x + y) := by
  rintro ⟨a, rfl⟩ ⟨b, rfl⟩; exact ⟨a + b, (EReal.coe_add a b).symm⟩

theorem IsReal.mul {x y : EReal} : IsReal x → IsReal y → IsReal (x * y) := by
  rintro ⟨a, rfl⟩ ⟨b, rfl⟩; exact ⟨a * b, (EReal.coe_mul a b).symm⟩

theorem IsReal.sub {x y : EReal} : IsReal x → IsReal y → IsReal (x - y) := by
  rintro ⟨a, rfl⟩ ⟨b, rfl⟩; exact ⟨a - b, (EReal.coe_sub a b).symm⟩

theorem isReal_zero : IsReal 0 := ⟨0, EReal.coe_zero.symm⟩

theorem coe_sum {ι : Type} [Fintype ι] (f : ι → ℝ) : ∑ i, (f i : EReal) = ((∑ i, f i : ℝ) : EReal) :=
  (map_sum (⟨⟨Real.toEReal, EReal.coe_zero⟩, EReal.coe_add⟩ : ℝ →+ EReal) f Finset.univ).symm

theorem sum_ext {ι : Type} [Fintype ι] {f g : ι → EReal} (h : ∀ i, f i = g i) : ∑ i, f i = ∑ i, g i :=
  Finset.sum_congr rfl fun i _ => h i

theorem isReal_sum {ι : Type} [Fintype ι] {f : ι → EReal} (h : ∀ i, IsReal (f i)) : IsReal (∑ i, f i) := by
  choose g hg using h
  exact ⟨∑ i, g i, by rw [← coe_sum]; exact Finset.sum_congr rfl fun i _ => hg i⟩

/-- An extended real whose absolute value is below infinity is real. -/
theorem isReal_of_ne {x : EReal} (h1 : x ≠ ⊤) (h2 : x ≠ ⊥) : IsReal x := by
  induction x with
  | bot => exact absurd rfl h2
  | top => exact absurd rfl h1
  | coe r => exact ⟨r, rfl⟩

/-! ## The constants -/

/-- The number of entries of a row. -/
abbrev cN : EReal := Ideal.ofBits .f32 0x44800000#32
/-- What is added to the variance. -/
abbrev cEps : EReal := Ideal.ofBits .f32 0x3727C5AC#32
/-- The weight of the residual input. -/
abbrev cAlpha : EReal := Ideal.ofBits .f32 0x3F9837F0#32
abbrev cTwo : EReal := Ideal.ofBits .f32 0x40000000#32
abbrev cMinusHalf : EReal := Ideal.ofBits .f32 0xBF000000#32

theorem cN_eq : cN = ((1024 : ℝ) : EReal) := by
  simp [Ideal.ofBits, Ideal.ieee, -EReal.coe_mul]; norm_num

theorem cTwo_eq : cTwo = ((2 : ℝ) : EReal) := by
  simp [Ideal.ofBits, Ideal.ieee, -EReal.coe_mul]; norm_num

theorem cMinusHalf_eq : cMinusHalf = ((-(1 / 2) : ℝ) : EReal) := by
  simp [Ideal.ofBits, Ideal.ieee, -EReal.coe_mul]; norm_num

theorem cEps_pos : ∃ e : ℝ, 0 < e ∧ cEps = (e : EReal) := by
  refine ⟨10995116 / 2 ^ 40, by positivity, ?_⟩
  simp [Ideal.ofBits, Ideal.ieee, -EReal.coe_mul]; norm_num

theorem isReal_cAlpha : IsReal cAlpha := by
  refine ⟨9975792 / 2 ^ 23, ?_⟩
  simp [Ideal.ofBits, Ideal.ieee, -EReal.coe_mul]; norm_num

/-! ## The logistic function -/

/-- The logistic function. -/
def sg (x : EReal) : EReal := Ideal.div 1 (1 + Ideal.exp (-x))

theorem isReal_sg (x : EReal) : IsReal (sg x) := by
  unfold sg
  induction x with
  | bot => exact ⟨0, by simp [Ideal.div, EReal.add_top_of_ne_bot (show (1 : EReal) ≠ ⊥ by decide)]⟩
  | top => exact ⟨1, by simp [Ideal.div]⟩
  | coe r =>
    have h : (1 + Real.exp (-r)) ≠ 0 := by positivity
    refine ⟨1 / (1 + Real.exp (-r)), ?_⟩
    rw [← EReal.coe_neg, Ideal.exp_coe, ← EReal.coe_one, ← EReal.coe_add, Ideal.div_coe h, EReal.coe_one, one_mul]

/-! ## Layer normalization of a row -/

/-- One entry per feature. -/
abbrev Row := Fin 1024 → EReal

/-- The mean. -/
def mean (r : Row) : EReal := Ideal.div (∑ k, r k) cN
/-- The row less its mean. -/
def cen (r : Row) : Row := fun k => r k - mean r
/-- Variance plus epsilon. -/
def spread (r : Row) : EReal := mean (fun k => cen r k * cen r k) + cEps
/-- One over the standard deviation. -/
def inv (r : Row) : EReal := Ideal.rsqrt (spread r)
/-- The normalized row. -/
def hat (r : Row) : Row := fun k => cen r k * inv r

/-- The gradient of the normalization at `r` for the cotangent `d`, closed form. -/
def back (r d : Row) : Row := fun k =>
  inv r * ((d k - mean d) - hat r k * mean (fun l => d l * hat r l))

/-- The part of the gradient that flows through the variance, before the factor of the entry. -/
def slope (r d : Row) : EReal :=
  Ideal.div ((∑ k, cen r k * d k) * (cMinusHalf * Ideal.div (inv r) (spread r))) cN
/-- The part of the gradient that flows through the variance. -/
def viaVar (r d : Row) : Row := fun k => slope r d * (cTwo * cen r k)
/-- The part of the gradient that flows through the mean. -/
def viaMean (r d : Row) : EReal :=
  Ideal.div ((∑ k, -(d k * inv r)) + ∑ k, -(viaVar r d k)) cN
/-- The gradient of the normalization at `r` for the cotangent `d`, summand by summand. -/
def vjp (r d : Row) : Row := fun k => d k * inv r + viaVar r d k + viaMean r d

theorem mean_coe (f : Fin 1024 → ℝ) : mean (fun k => (f k : EReal)) = (((∑ k, f k) / 1024 : ℝ) : EReal) := by
  rw [mean, coe_sum, cN_eq, Ideal.div_coe (by norm_num), ← EReal.coe_mul, mul_one_div]

section
variable (f : Fin 1024 → ℝ)
/-- The row less its mean, over the reals. -/
def rcen : Fin 1024 → ℝ := fun k => f k - (∑ k, f k) / 1024

theorem cen_coe (k : Fin 1024) : cen (fun k => (f k : EReal)) k = (rcen f k : EReal) := by
  rw [cen, mean_coe, ← EReal.coe_sub]; rfl

theorem sum_rcen : ∑ k, rcen f k = 0 := by
  simp only [rcen, Finset.sum_sub_distrib, Finset.sum_const, Finset.card_univ, Fintype.card_fin, nsmul_eq_mul]
  push_cast; ring

theorem spread_coe : ∃ s : ℝ, 0 < s ∧ spread (fun k => (f k : EReal)) = (s : EReal)
    ∧ inv (fun k => (f k : EReal)) = (((Real.sqrt s)⁻¹ : ℝ) : EReal) := by
  obtain ⟨e, he, hc⟩ := cEps_pos
  have hs : spread (fun k => (f k : EReal)) = (((∑ k, rcen f k * rcen f k) / 1024 + e : ℝ) : EReal) := by
    simp only [spread, cen_coe, ← EReal.coe_mul, mean_coe, hc, EReal.coe_add]
  have hp : 0 < (∑ k, rcen f k * rcen f k) / 1024 + e := by
    have : 0 ≤ ∑ k, rcen f k * rcen f k := Finset.sum_nonneg fun k _ => mul_self_nonneg _
    positivity
  refine ⟨_, hp, hs, ?_⟩
  rw [inv, hs, Ideal.rsqrt_coe, if_neg (not_lt.mpr hp.le), if_neg hp.ne']

theorem isReal_inv : IsReal (inv (fun k => (f k : EReal))) := by
  obtain ⟨s, _, _, h⟩ := spread_coe f; exact ⟨_, h⟩
end

/-- A row of real numbers is the image of one over `ℝ`. -/
theorem row_coe {r : Row} (h : ∀ k, IsReal (r k)) : ∃ f : Fin 1024 → ℝ, r = fun k => (f k : EReal) := by
  choose f hf using h
  exact ⟨f, funext hf⟩

theorem isReal_mean {r : Row} (h : ∀ k, IsReal (r k)) : IsReal (mean r) := by
  obtain ⟨f, rfl⟩ := row_coe h; exact ⟨_, mean_coe f⟩

theorem isReal_hat {r : Row} (h : ∀ k, IsReal (r k)) (k : Fin 1024) : IsReal (hat r k) := by
  obtain ⟨f, rfl⟩ := row_coe h
  exact IsReal.mul ⟨_, cen_coe f k⟩ (isReal_inv f)

theorem isReal_invr {r : Row} (h : ∀ k, IsReal (r k)) : IsReal (inv r) := by
  obtain ⟨f, rfl⟩ := row_coe h; exact isReal_inv f

theorem isReal_back {r d : Row} (hr : ∀ k, IsReal (r k)) (hd : ∀ k, IsReal (d k)) (k : Fin 1024) :
    IsReal (back r d k) :=
  (isReal_invr hr).mul (((hd k).sub (isReal_mean hd)).sub
    ((isReal_hat hr k).mul (isReal_mean fun l => (hd l).mul (isReal_hat hr l))))

/-- The two forms of the gradient agree on real rows. -/
theorem vjp_eq_back {r d : Row} (hr : ∀ k, IsReal (r k)) (hd : ∀ k, IsReal (d k)) : vjp r d = back r d := by
  obtain ⟨f, rfl⟩ := row_coe hr
  obtain ⟨g, rfl⟩ := row_coe hd
  obtain ⟨s, hs, hsp, hin⟩ := spread_coe f
  have hq : (Real.sqrt s)⁻¹ * (Real.sqrt s)⁻¹ = 1 / s := by
    rw [← mul_inv, Real.mul_self_sqrt hs.le, one_div]
  generalize (Real.sqrt s)⁻¹ = q at hq hin
  have hvar : ∀ k, viaVar (fun k => (f k : EReal)) (fun k => (g k : EReal)) k
      = ((-((∑ l, rcen f l * g l) / 1024 * (q * (q * q)) * rcen f k) : ℝ) : EReal) := fun k => by
    simp only [viaVar, slope, cen_coe, hsp, hin, cTwo_eq, cMinusHalf_eq, cN_eq, Ideal.div_coe hs.ne',
      Ideal.div_coe (show (1024 : ℝ) ≠ 0 by norm_num), ← EReal.coe_mul, coe_sum]
    rw [← hq]; congr 1; ring
  have hmean : viaMean (fun k => (f k : EReal)) (fun k => (g k : EReal)) = ((-(q * ((∑ l, g l) / 1024)) : ℝ) : EReal) := by
    simp only [viaMean, hvar, hin, cN_eq, Ideal.div_coe (show (1024 : ℝ) ≠ 0 by norm_num), ← EReal.coe_mul,
      ← EReal.coe_neg, coe_sum, ← EReal.coe_add, neg_neg, ← Finset.mul_sum, sum_rcen, Finset.sum_neg_distrib,
      ← Finset.sum_mul]
    congr 1; ring
  funext k
  simp only [vjp, back, hvar, hmean, hat, cen_coe, hin, ← EReal.coe_mul, mean_coe, ← EReal.coe_add, ← EReal.coe_sub]
  congr 1
  have : ∑ l, g l * (rcen f l * q) = (∑ l, rcen f l * g l) * q := by
    rw [Finset.sum_mul]; exact Finset.sum_congr rfl fun l _ => by ring
  rw [this]; ring

theorem mean_zero : mean (fun _ => 0) = 0 := by
  rw [mean, Finset.sum_const_zero, cN_eq, Ideal.div_coe (by norm_num), zero_mul]

/-- No cotangent, no gradient. -/
theorem back_zero (r : Row) : back r (fun _ => 0) = fun _ => 0 := by
  funext k
  simp only [back, zero_mul, mean_zero, mul_zero, sub_zero]

end Rows

end
-- ==== Proof.Finite.lean ====
/- What the precondition says: the entries of the arrays it names are real numbers. -/
module

public import proofs.«01_k».proof.Defs
public import Idealize.ShloMosaic.Lib.ReduceAll
public import Idealize.ShloMosaic.Lib.KernelVsHost
public import proofs.«01_k».proof.Proof.Rows

@[expose] public section

set_option maxRecDepth 16384

noncomputable section

namespace Finite

open Cert.Pre_finite Idealize.ShloMosaic Rows

instance facts : Cert.Pre_finite.Facts where
  bcast_S_S8448x1024 := by decide
  reducesTo_S8448x1024_S_d0_1 := by decide
  h_S_ := by decide
  bitsLt_bf16_f32 := by decide
  bcast_S_S8448x512 := by decide
  reducesTo_S8448x512_S_d0_1 := by decide
  bcast_S_S512x1024 := by decide
  reducesTo_S512x1024_S_d0_1 := by decide
  bcast_S_S1024x1024 := by decide
  reducesTo_S1024x1024_S_d0_1 := by decide
  bcast_S_S1x1024 := by decide
  reducesTo_S1x1024_S_d0_1 := by decide

/-- A value of absolute value below infinity is real. -/
theorem isReal_of_abs (x : Ideal .f32)
    (h : FloatOps.cmpf .olt (FloatOps.hostAbsf x) (FloatOps.ofBits (F := Ideal) .f32 0x7F800000#32) = 1#1) :
    IsReal (x : EReal) := by
  rw [← Ideal.xori_weird_eq_hostAbsf_olt_inf] at h
  have h' : IntOp.xori (BitVec.ofBool (decide ((x : EReal) = ⊤ ∨ (x : EReal) = ⊥))) 1#1 = 1#1 := h
  by_cases hx : (x : EReal) = ⊤ ∨ (x : EReal) = ⊥
  · rw [decide_eq_true hx] at h'
    exact absurd h' (by decide)
  · exact isReal_of_ne (fun e => hx (Or.inl e)) (fun e => hx (Or.inr e))

/-- An array all of whose entries pass the comparison has real entries. -/
theorem isReal_of_all {s : Shape} (x : FVec Ideal s .f32) (hb : S_.BroadcastsInDim s (![] : Fin 0 → Fin s.rank))
    {axes : List (Fin s.rank)} (hr : s.ReducesTo axes S_) (hu : 0 < S_.numel) (j : S_.Idx)
    (h : Host.reduce IntOp.andi (cmpf .olt (Host.absf x) (broadcastInDim s ![] hb (constant S_ .f32 0x7F800000#32)))
      (constantI S_ 1 1#1) hr hu j = 1#1) (i : s.Idx) : IsReal (x i : EReal) :=
  haveI : Subsingleton S_.Idx := ⟨fun a b => funext fun i => i.elim0⟩
  isReal_of_abs (x i) (Host.reduce_andi_all _ _ hr hu j h i)

theorem of_pre {X0 : FVec Ideal S8448x1024 .f32} {X1 : FVec Ideal S8448x2048 .f32} {X2 X3 : FVec Ideal S8448x512 .bf16}
    {X4 X5 : FVec Ideal S512x1024 .bf16} {X6 : FVec Ideal S1024x1024 .bf16} {X7 X8 : FVec Ideal S1x1024 .f32}
    {X9 : FVec Ideal S8448x1024 .f32} (h : Cert.Pre_finite.fn (F := Ideal) X0 X1 X2 X3 X4 X5 X6 X7 X8 X9 = fun _ => 1#1) :
    (∀ i, IsReal (X0 i : EReal)) ∧ (∀ i, IsReal (X2 i : EReal)) ∧ (∀ i, IsReal (X3 i : EReal))
    ∧ (∀ i, IsReal (X4 i : EReal)) ∧ (∀ i, IsReal (X5 i : EReal)) ∧ (∀ i, IsReal (X6 i : EReal))
    ∧ (∀ i, IsReal (X7 i : EReal)) ∧ (∀ i, IsReal (X9 i : EReal)) := by
  have h := congrFun h (fun i => i.elim0)
  obtain ⟨h, h9⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h0, h2⟩ := IntOp.andi_eq_one.1 h
  exact ⟨isReal_of_all X0 _ _ _ _ h0, isReal_of_all (extf .f32 X2 (by decide)) _ _ _ _ h2,
    isReal_of_all (extf .f32 X3 (by decide)) _ _ _ _ h3, isReal_of_all (extf .f32 X4 (by decide)) _ _ _ _ h4,
    isReal_of_all (extf .f32 X5 (by decide)) _ _ _ _ h5, isReal_of_all (extf .f32 X6 (by decide)) _ _ _ _ h6,
    isReal_of_all X7 _ _ _ _ h7, isReal_of_all X9 _ _ _ _ h9⟩

end Finite

end
-- ==== Proof.Spec.lean ====
/- The middle of the layer, backwards, for one token: what its pre-normalization row, the gradient with respect to it
   and the gradients of everything the row was made from are, as formulas over the entries of that token's rows and of
   the weights. Both programs are compared with these formulas. -/
module

public import proofs.«01_k».proof.Proof.Rows

@[expose] public section

noncomputable section

namespace Rows

open Idealize.ShloMosaic

/-- One entry per channel of a branch. -/
abbrev Chan := Fin 512 → EReal

/-- The entry of the first gate that goes with feature `k`. -/
def lo (k : Fin 1024) : Fin 2048 := ⟨k.val, by omega⟩
/-- The entry of the second gate that goes with feature `k`. -/
def hi (k : Fin 1024) : Fin 2048 := ⟨1024 + k.val, by omega⟩

/-- The weights: the two branch projections, the output projection, the normalization's scale. -/
@[ext] structure Weights where
  wh : Fin 512 → Row
  wa : Fin 512 → Row
  wo : Fin 1024 → Row
  g : Row

/-- The rows of one token: residual input, gates before the logistic function, the two branches' outputs, and the
    cotangent of the normalized row. -/
@[ext] structure Token where
  h : Row
  gates : Fin 2048 → EReal
  og : Chan
  oa : Chan
  d : Row

theorem gate_cases (l : Fin 2048) : (∃ k, l = lo k) ∨ ∃ k, l = hi k := by
  by_cases hl : l.val < 1024
  · exact .inl ⟨⟨l.val, hl⟩, rfl⟩
  · exact .inr ⟨⟨l.val - 1024, by omega⟩, Fin.ext (by show l.val = 1024 + (l.val - 1024); omega)⟩

/-- A branch's output projected. -/
def proj (o : Chan) (w : Fin 512 → Row) : Row := fun k => ∑ j, o j * w j k

/-- The residual sum, given the mixed row. -/
def resid (h mixed : Row) (wo : Fin 1024 → Row) : Row := fun k => cAlpha * h k + ∑ l, mixed l * wo l k

namespace Token
variable (x : Token) (w : Weights)

/-- The gated mix of the two branches. -/
def mixed : Row := fun k => sg (x.gates (lo k)) * proj x.og w.wh k + sg (x.gates (hi k)) * proj x.oa w.wa k
/-- The row that is normalized. -/
def pre : Row := resid x.h (x.mixed w) w.wo
/-- Gradient with respect to the row that is normalized. -/
def dpre : Row := back (x.pre w) (fun k => x.d k * w.g k)
/-- Gradient with respect to the residual input. -/
def dh : Row := fun k => cAlpha * x.dpre w k
/-- Gradient with respect to the gated mix. -/
def dmix : Row := fun k => ∑ l, x.dpre w l * w.wo k l
/-- Gradient with respect to the first projected branch. -/
def dyh : Row := fun k => x.dmix w k * sg (x.gates (lo k))
/-- Gradient with respect to the second projected branch. -/
def dya : Row := fun k => x.dmix w k * sg (x.gates (hi k))
/-- Gradient with respect to the first branch's output. -/
def dog : Chan := fun j => ∑ k, x.dyh w k * w.wh j k
/-- Gradient with respect to the second branch's output. -/
def doa : Chan := fun j => ∑ k, x.dya w k * w.wa j k
/-- Gradient with respect to the first gate. -/
def dlo : Row := fun k =>
  x.dmix w k * proj x.og w.wh k * (sg (x.gates (lo k)) * (1 - sg (x.gates (lo k))))
/-- Gradient with respect to the second gate. -/
def dhi : Row := fun k =>
  x.dmix w k * proj x.oa w.wa k * (sg (x.gates (hi k)) * (1 - sg (x.gates (hi k))))
/-- Gradient with respect to the gates, the first one's entries first. -/
def dgates : Fin 2048 → EReal := fun l =>
  if hl : l.val < 1024 then x.dlo w ⟨l.val, hl⟩ else x.dhi w ⟨l.val - 1024, by omega⟩
/-- What the token adds to the gradient of the normalization's scale. -/
def dg : Row := fun k => x.d k * hat (x.pre w) k

theorem dgates_lo (k : Fin 1024) : x.dgates w (lo k) = x.dlo w k := dif_pos k.isLt
theorem dgates_hi (k : Fin 1024) : x.dgates w (hi k) = x.dhi w k := by
  have hn : ¬ (hi k).val < 1024 := by show ¬ 1024 + k.val < 1024; omega
  have e : ∀ h, (⟨(hi k).val - 1024, h⟩ : Fin 1024) = k := fun h => Fin.ext (Nat.add_sub_cancel_left 1024 k.val)
  unfold dgates
  rw [dif_neg hn, e]

/-- The token with no cotangent. -/
def Silent : Prop := x.d = fun _ => 0

variable {x}

theorem Silent.dpre (h : x.Silent) : x.dpre w = fun _ => 0 := by
  have h : x.d = fun _ => 0 := h
  simp only [Token.dpre, h, zero_mul, back_zero]

theorem Silent.dh (h : x.Silent) (k) : x.dh w k = 0 := by simp only [Token.dh, h.dpre w, mul_zero]
theorem Silent.dmix (h : x.Silent) (k) : x.dmix w k = 0 := by
  simp only [Token.dmix, h.dpre w, zero_mul, Finset.sum_const_zero]
theorem Silent.dyh (h : x.Silent) (k) : x.dyh w k = 0 := by simp only [Token.dyh, h.dmix w, zero_mul]
theorem Silent.dya (h : x.Silent) (k) : x.dya w k = 0 := by simp only [Token.dya, h.dmix w, zero_mul]
theorem Silent.dog (h : x.Silent) (j) : x.dog w j = 0 := by
  simp only [Token.dog, h.dyh w, zero_mul, Finset.sum_const_zero]
theorem Silent.doa (h : x.Silent) (j) : x.doa w j = 0 := by
  simp only [Token.doa, h.dya w, zero_mul, Finset.sum_const_zero]
theorem Silent.dlo (h : x.Silent) (k) : x.dlo w k = 0 := by simp only [Token.dlo, h.dmix w, zero_mul]
theorem Silent.dhi (h : x.Silent) (k) : x.dhi w k = 0 := by simp only [Token.dhi, h.dmix w, zero_mul]
theorem Silent.dgates (h : x.Silent) (l) : x.dgates w l = 0 := by
  obtain ⟨k, rfl⟩ | ⟨k, rfl⟩ := gate_cases l
  · rw [dgates_lo, h.dlo w]
  · rw [dgates_hi, h.dhi w]
theorem Silent.dg (h : x.Silent) (k) : x.dg w k = 0 := by
  have h : x.d = fun _ => 0 := h
  simp only [Token.dg, h, zero_mul]

/-- Every entry the gradient's two forms need real is. The gates may be any extended reals. -/
structure Real (x : Token) (w : Weights) : Prop where
  h : ∀ k, IsReal (x.h k)
  og : ∀ j, IsReal (x.og j)
  oa : ∀ j, IsReal (x.oa j)
  d : ∀ k, IsReal (x.d k)
  wh : ∀ j k, IsReal (w.wh j k)
  wa : ∀ j k, IsReal (w.wa j k)
  wo : ∀ l k, IsReal (w.wo l k)
  g : ∀ k, IsReal (w.g k)

variable {w}

theorem Real.pre (r : x.Real w) (k : Fin 1024) : IsReal (x.pre w k) :=
  (isReal_cAlpha.mul (r.h k)).add (isReal_sum fun l =>
    (((isReal_sg _).mul (isReal_sum fun j => (r.og j).mul (r.wh j l))).add
      ((isReal_sg _).mul (isReal_sum fun j => (r.oa j).mul (r.wa j l)))).mul (r.wo l k))

/-- The gradient of the normalization, in the form the reference has it. -/
theorem Real.vjp_eq (r : x.Real w) : vjp (x.pre w) (fun k => x.d k * w.g k) = x.dpre w :=
  vjp_eq_back r.pre fun k => (r.d k).mul (r.g k)

end Token

end Rows

end
-- ==== Proof.Ker.lean ====
/- The kernel's payloads read at an index, as the formulas of `Spec`: row `a` of a block of 256 tokens. -/
module

public import proofs.«01_k».proof.Proof.Gen.KernelIdeal.Skeleton
public import proofs.«01_k».proof.Proof.Spec

@[expose] public section

set_option maxRecDepth 16384

noncomputable section

namespace Ker

open Cert.KernelIdeal Cert.KernelIdeal.Gen Idealize.ShloMosaic Idealize.SL.Sem
open Rows

/-- The blocks one grid point reads; `p` and `q` are the two halves of the gates. -/
structure Blocks where
  x0 : Vec Ideal S256x1024 .f32
  x1 : Vec Ideal S256x1024 .f32
  p : Vec Ideal S256x1024 .f32
  q : Vec Ideal S256x1024 .f32
  x3 : Vec Ideal S256x512 .bf16
  x4 : Vec Ideal S256x512 .bf16
  x5 : Vec Ideal S512x1024 .bf16
  x6 : Vec Ideal S512x1024 .bf16
  x7 : Vec Ideal S1024x1024 .bf16
  x8 : Vec Ideal S1x1024 .f32

namespace Blocks
variable (b : Blocks)

/-- Token `a` of the block. -/
def tok (a : Fin 256) : Token where
  h k := b.x1 (ix2 a k)
  gates l := if hl : l.val < 1024 then b.p (ix2 a ⟨l.val, hl⟩) else b.q (ix2 a ⟨l.val - 1024, by omega⟩)
  og j := b.x3 (ix2 a j)
  oa j := b.x4 (ix2 a j)
  d k := b.x0 (ix2 a k)

/-- The weights. -/
def wts : Weights where
  wh j k := b.x5 (ix2 j k)
  wa j k := b.x6 (ix2 j k)
  wo l k := b.x7 (ix2 l k)
  g k := b.x8 (ix2 0 k)

variable (a : Fin 256) (k : Fin 1024)

theorem gates_lo : (b.tok a).gates (lo k) = b.p (ix2 a k) := dif_pos k.isLt
theorem gates_hi : (b.tok a).gates (hi k) = b.q (ix2 a k) := by
  have hn : ¬ (hi k).val < 1024 := by show ¬ 1024 + k.val < 1024; omega
  have e : ∀ h, (⟨(hi k).val - 1024, h⟩ : Fin 1024) = k := fun h => Fin.ext (Nat.add_sub_cancel_left 1024 k.val)
  show dite _ _ _ = _
  rw [dif_neg hn, e]

theorem pay15_at : (k0_pay15 (F := Ideal) b.x3 b.x5 (ix2 a k) : EReal) = proj (b.tok a).og b.wts.wh k := by
  pointwise [k0_pay15]
  rfl

theorem pay16_at : (k0_pay16 (F := Ideal) b.x4 b.x6 (ix2 a k) : EReal) = proj (b.tok a).oa b.wts.wa k := by
  pointwise [k0_pay16]
  rfl

theorem pay17_at : (k0_pay17 (F := Ideal) b.p (ix2 a k) : EReal) = sg ((b.tok a).gates (lo k)) := by
  pointwise [k0_pay17]
  rw [gates_lo, sg, zero_sub]

theorem pay18_at : (k0_pay18 (F := Ideal) b.q (ix2 a k) : EReal) = sg ((b.tok a).gates (hi k)) := by
  pointwise [k0_pay18]
  rw [gates_hi, sg, zero_sub]

/-- The gated mix of the block's tokens. -/
abbrev mix : FVec Ideal S256x1024 .bf16 := k0_pay19 (F := Ideal) b.x3 b.x4 b.x5 b.x6 b.p b.q

theorem mix_at : (b.mix (ix2 a k) : EReal) = (b.tok a).mixed b.wts k := by
  pointwise [k0_pay19, pay15_at, pay16_at, pay17_at, pay18_at]
  rfl

/-- The centred rows. -/
abbrev xc : FVec Ideal S256x1024 .f32 := k0_pay21 (F := Ideal) b.mix b.x1 (k0_pay20 (F := Ideal)) b.x7
/-- One over the standard deviations. -/
abbrev rs : FVec Ideal S256x1 .f32 := k0_pay22 (F := Ideal) b.mix b.x1 (k0_pay20 (F := Ideal)) b.x7
/-- The normalized rows. -/
abbrev xh : FVec Ideal S256x1024 .f32 := k0_pay23 (F := Ideal) b.mix b.x1 (k0_pay20 (F := Ideal)) b.x7
/-- The scaled cotangents. -/
abbrev dxh : FVec Ideal S256x1024 .f32 := k0_pay26 (F := Ideal) b.x8 b.x0
/-- Their row sums. -/
abbrev sum : FVec Ideal S256 .f32 := k0_pay27 (F := Ideal) b.x8 b.x0

theorem xc_at : (b.xc (ix2 a k) : EReal) = cen ((b.tok a).pre b.wts) k := by
  pointwise [k0_pay21, k0_pay20, mix_at]
  rfl

theorem rs_at : (b.rs (ix2 a 0) : EReal) = inv ((b.tok a).pre b.wts) := by
  pointwise [k0_pay22, xc_at]
  rfl

theorem xh_at : (b.xh (ix2 a k) : EReal) = hat ((b.tok a).pre b.wts) k := by
  pointwise [k0_pay23, xc_at, rs_at]
  rfl

theorem dxh_at : (b.dxh (ix2 a k) : EReal) = (b.tok a).d k * b.wts.g k := by
  pointwise [k0_pay26]
  rfl

theorem sum_at : (b.sum (ix1 a) : EReal) = ∑ k, (b.tok a).d k * b.wts.g k := by
  pointwise [k0_pay27, dxh_at]

theorem pay28_at : (k0_pay28 (F := Ideal) b.rs b.xh b.dxh b.sum (ix2 a k) : EReal) = (b.tok a).dpre b.wts k := by
  pointwise [k0_pay28, xh_at, rs_at, dxh_at, sum_at]
  rfl

theorem pay29_at : (k0_pay29 (F := Ideal) b.rs b.xh b.dxh b.sum (ix2 a k) : EReal) = (b.tok a).dpre b.wts k := by
  pointwise [k0_pay29, pay28_at]

theorem pay30_at : (k0_pay30 (F := Ideal) b.rs b.xh b.dxh b.sum (ix2 a k) : EReal) = (b.tok a).dh b.wts k := by
  pointwise [k0_pay30, pay28_at]
  rfl

theorem pay31_at : (k0_pay31 (F := Ideal) b.rs b.xh b.dxh b.sum b.x7 (ix2 a k) : EReal) = (b.tok a).dmix b.wts k := by
  pointwise [k0_pay31, pay29_at]
  rfl

theorem pay32_at : (k0_pay32 (F := Ideal) (k0_pay17 (F := Ideal) b.p) b.rs b.xh b.dxh b.sum b.x7 (ix2 a k) : EReal)
    = (b.tok a).dyh b.wts k := by
  pointwise [k0_pay32, pay31_at, pay17_at]
  rfl

theorem pay33_at : (k0_pay33 (F := Ideal) (k0_pay18 (F := Ideal) b.q) b.rs b.xh b.dxh b.sum b.x7 (ix2 a k) : EReal)
    = (b.tok a).dya b.wts k := by
  pointwise [k0_pay33, pay31_at, pay18_at]
  rfl

theorem pay34_at : (k0_pay34 (F := Ideal) (k0_pay15 (F := Ideal) b.x3 b.x5) (k0_pay17 (F := Ideal) b.p) b.rs b.xh b.dxh b.sum b.x7 (ix2 a k) : EReal)
    = (b.tok a).dlo b.wts k := by
  pointwise [k0_pay34, pay31_at, pay17_at, pay15_at]
  exact mul_assoc (_ : EReal) _ _

theorem pay10_at : (k0_pay10 (F := Ideal) (k0_pay18 (F := Ideal) b.q) (k0_pay35 (F := Ideal) (k0_pay16 (F := Ideal) b.x4 b.x6) (k0_pay18 (F := Ideal) b.q) b.rs b.xh b.dxh b.sum b.x7) (ix2 a k) : EReal)
    = (b.tok a).dhi b.wts k := by
  pointwise [k0_pay10, k0_pay35, pay31_at, pay18_at, pay16_at]
  exact mul_assoc (_ : EReal) _ _

theorem pay11_at (j : Fin 512) : (k0_pay11 (F := Ideal) (k0_pay32 (F := Ideal) (k0_pay17 (F := Ideal) b.p) b.rs b.xh b.dxh b.sum b.x7) b.x5 (ix2 a j) : EReal)
    = (b.tok a).dog b.wts j := by
  pointwise [k0_pay11, pay32_at]
  rfl

theorem pay12_at (j : Fin 512) : (k0_pay12 (F := Ideal) (k0_pay33 (F := Ideal) (k0_pay18 (F := Ideal) b.q) b.rs b.xh b.dxh b.sum b.x7) b.x6 (ix2 a j) : EReal)
    = (b.tok a).doa b.wts j := by
  pointwise [k0_pay12, pay33_at]
  rfl

theorem pay24_at (acc : FVec Ideal S1x1024 .f32) :
    (k0_pay24 (F := Ideal) b.mix b.x1 (k0_pay20 (F := Ideal)) b.x7 b.x0 acc (ix2 0 k) : EReal)
      = acc (ix2 0 k) + ∑ a, (b.tok a).dg b.wts k := by
  pointwise [k0_pay24, xh_at]
  rfl

theorem pay25_at (acc : FVec Ideal S1x1024 .f32) :
    (k0_pay25 (F := Ideal) b.x0 acc (ix2 0 k) : EReal) = acc (ix2 0 k) + ∑ a, (b.tok a).d k := by
  pointwise [k0_pay25]
  rfl

end Blocks

theorem pay1_at (j) : (k0_pay1 (F := Ideal) j : EReal) = 0 := by pointwise [k0_pay1]
theorem pay2_at (j) : (k0_pay2 (F := Ideal) j : EReal) = 0 := by pointwise [k0_pay2]
theorem pay3_at (j) : (k0_pay3 (F := Ideal) j : EReal) = 0 := by pointwise [k0_pay3]
theorem pay4_at (j) : (k0_pay4 (F := Ideal) j : EReal) = 0 := by pointwise [k0_pay4]
theorem pay5_at (j) : (k0_pay5 (F := Ideal) j : EReal) = 0 := by pointwise [k0_pay5]
theorem pay6_at (j) : (k0_pay6 (F := Ideal) j : EReal) = 0 := by pointwise [k0_pay6]
theorem pay7_at (j) : (k0_pay7 (F := Ideal) j : EReal) = 0 := by pointwise [k0_pay7]
theorem pay8_at (j) : (k0_pay8 (F := Ideal) j : EReal) = 0 := by pointwise [k0_pay8]
theorem pay9_at (j) : (k0_pay9 (F := Ideal) j : EReal) = 0 := by pointwise [k0_pay9]

end Ker

end
-- ==== Proof.Final.lean ====
/- The kernel's nine result arrays, each as one formula of the arguments. -/
module

public import proofs.«01_k».proof.Proof.Gen.KernelIdeal.Value
public import Idealize.ShloMosaic.Lib.Pipeline.ValueKit
public import Idealize.ShloMosaic.Lib.Claim
public import proofs.«01_k».proof.Proof.Ker

@[expose] public section

set_option maxRecDepth 16384

noncomputable section

namespace Final

open Cert.KernelIdeal Cert.KernelIdeal.Gen Idealize.ShloMosaic Idealize.ShloMosaic.TcCoe Idealize.SL.Sem
open Idealize.ShloMosaic.Pipeline (Dat)
open Rows

variable (m : (ℓ : Loc nD τ sig) → Buf (Elt Ideal) ℓ) (c : Dev nD)

/-- The rows of token `i`; the first 256 tokens have no cotangent. -/
def tok (i : Fin 8448) : Token where
  h k := m ((c : Thread nD τ).loc main_arg0) (ix2 i k)
  gates k := m ((c : Thread nD τ).loc main_arg1) (ix2 i k)
  og j := m ((c : Thread nD τ).loc main_arg2) (ix2 i j)
  oa j := m ((c : Thread nD τ).loc main_arg3) (ix2 i j)
  d k := if 256 ≤ i.val then (m ((c : Thread nD τ).loc main_arg9) (ix2 i k) : EReal) else 0

/-- The weights. -/
def wts : Weights where
  wh j k := m ((c : Thread nD τ).loc main_arg4) (ix2 j k)
  wa j k := m ((c : Thread nD τ).loc main_arg5) (ix2 j k)
  wo l k := m ((c : Thread nD τ).loc main_arg6) (ix2 l k)
  g k := m ((c : Thread nD τ).loc main_arg7) (ix2 0 k)

theorem silent {i : Fin 8448} (h : i.val < 256) : (tok m c i).Silent := by
  funext k
  exact if_neg (Nat.not_le.mpr h)

/-- Token `a` of block `t`. -/
def at_ (t : Fin cfg0.N) (a : Fin 256) : Fin 8448 :=
  ⟨t.val * 256 + a.val, by have ht : t.val < 33 := lt_of_lt_of_eq t.isLt N_0; omega⟩

/-- Which blocks a grid point reads: the token arrays' own, the weights whole. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![0, 0] ∧ win0_10.index t = ![t.val, 0] ∧ win0_11.index t = ![t.val, 0]
    ∧ win0_12.index t = ![t.val, 0] ∧ win0_13.index t = ![t.val, 0] ∧ win0_14.index t = ![t.val, 0]
    ∧ win0_15.index t = ![t.val, 0] ∧ win0_16.index t = ![t.val, 0] ∧ win0_17.index t = ![0, 0] ∧ win0_18.index t = ![0, 0] :=
  (by decide +kernel : ∀ t : Fin grid0.N, _)

section
variable (t : Fin cfg0.N) (a : Fin 256) (k : Fin 1024) (j : Fin 512)

theorem blk0 : iblk m c 0 t (ix2 a k) = m ((c : Thread nD τ).loc main_arg9) (ix2 (at_ t a) k) := by
  blk_ext [iblk, V, idx t, at_]
theorem blk1 : iblk m c 1 t (ix2 a k) = m ((c : Thread nD τ).loc main_arg0) (ix2 (at_ t a) k) := by
  blk_ext [iblk, V, idx t, at_]
theorem blk2 (l : Fin 2048) : iblk m c 2 t (ix2 a l) = m ((c : Thread nD τ).loc main_arg1) (ix2 (at_ t a) l) := by
  blk_ext [iblk, V, idx t, at_]
theorem blk3 : iblk m c 3 t (ix2 a j) = m ((c : Thread nD τ).loc main_arg2) (ix2 (at_ t a) j) := by
  blk_ext [iblk, V, idx t, at_]
theorem blk4 : iblk m c 4 t (ix2 a j) = m ((c : Thread nD τ).loc main_arg3) (ix2 (at_ t a) j) := by
  blk_ext [iblk, V, idx t, at_]
theorem blk5 : iblk m c 5 t (ix2 j k) = m ((c : Thread nD τ).loc main_arg4) (ix2 j k) := by
  blk_ext [iblk, V, idx t]
theorem blk6 : iblk m c 6 t (ix2 j k) = m ((c : Thread nD τ).loc main_arg5) (ix2 j k) := by
  blk_ext [iblk, V, idx t]
theorem blk7 (l : Fin 1024) : iblk m c 7 t (ix2 l k) = m ((c : Thread nD τ).loc main_arg6) (ix2 l k) := by
  blk_ext [iblk, V, idx t]
theorem blk8 : iblk m c 8 t (ix2 0 k) = m ((c : Thread nD τ).loc main_arg7) (ix2 0 k) := by
  blk_ext [iblk, V, idx t]
end

/-- The left half of the gates' block, at an index. -/
theorem ld_lo (x : Vec Ideal S256x2048 .f32) (inb) (a : Fin 256) (k : Fin 1024) :
    x ((Rect.unit (s := S256x2048) ![0, 0] ![256, 1024] inb).idx (ix2 a k)) = x (ix2 a (lo k)) := by
  refine congrArg x (funext fun i => Fin.ext ((Rect.idx_unit_val _ _ _ _ _).trans ?_))
  fin_cases i
  · exact Nat.zero_add a.val
  · exact Nat.zero_add k.val

/-- The right half of the gates' block, at an index. -/
theorem ld_hi (x : Vec Ideal S256x2048 .f32) (inb) (a : Fin 256) (k : Fin 1024) :
    x ((Rect.unit (s := S256x2048) ![0, 1024] ![256, 1024] inb).idx (ix2 a k)) = x (ix2 a (hi k)) := by
  refine congrArg x (funext fun i => Fin.ext ((Rect.idx_unit_val _ _ _ _ _).trans ?_))
  fin_cases i
  · exact Nat.zero_add a.val
  · rfl

/-- The blocks of a point. -/
def blocks (t : Fin cfg0.N) (p q : Vec Ideal S256x1024 .f32) : Ker.Blocks :=
  ⟨iblk m c 0 t, iblk m c 1 t, p, q, iblk m c 3 t, iblk m c 4 t, iblk m c 5 t, iblk m c 6 t, iblk m c 7 t, iblk m c 8 t⟩

theorem wts_eq (t : Fin cfg0.N) (p q : Vec Ideal S256x1024 .f32) : (blocks m c t p q).wts = wts m c :=
  Weights.ext (funext₂ fun j k => blk5 m c t k j) (funext₂ fun j k => blk6 m c t k j)
    (funext₂ fun l k => blk7 m c t k l) (funext fun k => blk8 m c t k)

theorem tok_eq (t : Fin cfg0.N) (p q : Vec Ideal S256x1024 .f32) (h : 1 ≤ t.val)
    (hp : ∀ a k, p (ix2 a k) = iblk m c 2 t (ix2 a (lo k))) (hq : ∀ a k, q (ix2 a k) = iblk m c 2 t (ix2 a (hi k)))
    (a : Fin 256) : (blocks m c t p q).tok a = tok m c (at_ t a) := by
  refine Token.ext (funext fun k => blk1 m c t a k) (funext fun l => ?_) (funext fun j => blk3 m c t a j)
    (funext fun j => blk4 m c t a j) (funext fun k => ?_)
  · obtain ⟨k, rfl⟩ | ⟨k, rfl⟩ := gate_cases l
    · rw [Ker.Blocks.gates_lo]
      exact (hp _ _).trans (blk2 m c t a _)
    · rw [Ker.Blocks.gates_hi]
      exact (hq _ _).trans (blk2 m c t a _)
  · refine (blk0 m c t a k).trans (if_pos ?_).symm
    show 256 ≤ t.val * 256 + a.val
    omega

theorem final10 : (dats m 0 c).arrAt 10 (cfgs 0).N
    = fun y : S8448x1024.Idx => ((tok m c (y 0)).dh (wts m c) (y 1) : EReal) := by
  refine (dats m 0 c).arrAt_eq_of_covers 10 _ (by decide +kernel) fun t hf y => ?_
  have ht : t.val < 33 := lt_of_lt_of_eq t.isLt N_0
  blk_simp
  rw [after0_10]
  by_cases h : t.val % 33 = 0
  · rw [outsAt0_A m c t h (by omega)]
    frame_out
    rw [Ker.pay1_at]
    idx_vars y
    refine ((silent m c ?_).dh _ _).symm
    blk_simp [idx t]; omega
  · rw [outsAt0_B m c t h (by omega) h]
    frame_out
    idx_vars y
    refine ((blocks m c t _ _).pay30_at y0 y1).trans ?_
    rw [tok_eq m c t _ _ (by omega) (fun a k => ld_lo (iblk m c 2 t) inb_S256x2048_S256x1024_0_0 a k)
      (fun a k => ld_hi (iblk m c 2 t) inb_S256x2048_S256x1024_0_1024 a k), wts_eq]
    refine congrArg₂ (fun i k => (tok m c i).dh (wts m c) k) (Fin.ext ?_) (Fin.ext ?_) <;>
      blk_simp [idx t, at_]

theorem final12 : (dats m 0 c).arrAt 12 (cfgs 0).N
    = fun y : S8448x512.Idx => ((tok m c (y 0)).dog (wts m c) (y 1) : EReal) := by
  refine (dats m 0 c).arrAt_eq_of_covers 12 _ (by decide +kernel) fun t hf y => ?_
  have ht : t.val < 33 := lt_of_lt_of_eq t.isLt N_0
  blk_simp
  rw [after0_12]
  by_cases h : t.val % 33 = 0
  · rw [outsAt0_A m c t h (by omega)]
    frame_out
    rw [Ker.pay3_at]
    idx_vars y
    refine ((silent m c ?_).dog _ _).symm
    blk_simp [idx t]; omega
  · rw [outsAt0_B m c t h (by omega) h]
    frame_out
    idx_vars y
    refine ((blocks m c t _ _).pay11_at y0 y1).trans ?_
    rw [tok_eq m c t _ _ (by omega) (fun a k => ld_lo (iblk m c 2 t) inb_S256x2048_S256x1024_0_0 a k)
      (fun a k => ld_hi (iblk m c 2 t) inb_S256x2048_S256x1024_0_1024 a k), wts_eq]
    refine congrArg₂ (fun i k => (tok m c i).dog (wts m c) k) (Fin.ext ?_) (Fin.ext ?_) <;>
      blk_simp [idx t, at_]

theorem final13 : (dats m 0 c).arrAt 13 (cfgs 0).N
    = fun y : S8448x512.Idx => ((tok m c (y 0)).doa (wts m c) (y 1) : EReal) := by
  refine (dats m 0 c).arrAt_eq_of_covers 13 _ (by decide +kernel) fun t hf y => ?_
  have ht : t.val < 33 := lt_of_lt_of_eq t.isLt N_0
  blk_simp
  rw [after0_13]
  by_cases h : t.val % 33 = 0
  · rw [outsAt0_A m c t h (by omega)]
    frame_out
    rw [Ker.pay4_at]
    idx_vars y
    refine ((silent m c ?_).doa _ _).symm
    blk_simp [idx t]; omega
  · rw [outsAt0_B m c t h (by omega) h]
    frame_out
    idx_vars y
    refine ((blocks m c t _ _).pay12_at y0 y1).trans ?_
    rw [tok_eq m c t _ _ (by omega) (fun a k => ld_lo (iblk m c 2 t) inb_S256x2048_S256x1024_0_0 a k)
      (fun a k => ld_hi (iblk m c 2 t) inb_S256x2048_S256x1024_0_1024 a k), wts_eq]
    refine congrArg₂ (fun i k => (tok m c i).doa (wts m c) k) (Fin.ext ?_) (Fin.ext ?_) <;>
      blk_simp [idx t, at_]

theorem final14 : (dats m 0 c).arrAt 14 (cfgs 0).N
    = fun y : S8448x1024.Idx => ((tok m c (y 0)).dyh (wts m c) (y 1) : EReal) := by
  refine (dats m 0 c).arrAt_eq_of_covers 14 _ (by decide +kernel) fun t hf y => ?_
  have ht : t.val < 33 := lt_of_lt_of_eq t.isLt N_0
  blk_simp
  rw [after0_14]
  by_cases h : t.val % 33 = 0
  · rw [outsAt0_A m c t h (by omega)]
    frame_out
    rw [Ker.pay5_at]
    idx_vars y
    refine ((silent m c ?_).dyh _ _).symm
    blk_simp [idx t]; omega
  · rw [outsAt0_B m c t h (by omega) h]
    frame_out
    idx_vars y
    refine ((blocks m c t _ _).pay32_at y0 y1).trans ?_
    rw [tok_eq m c t _ _ (by omega) (fun a k => ld_lo (iblk m c 2 t) inb_S256x2048_S256x1024_0_0 a k)
      (fun a k => ld_hi (iblk m c 2 t) inb_S256x2048_S256x1024_0_1024 a k), wts_eq]
    refine congrArg₂ (fun i k => (tok m c i).dyh (wts m c) k) (Fin.ext ?_) (Fin.ext ?_) <;>
      blk_simp [idx t, at_]

theorem final15 : (dats m 0 c).arrAt 15 (cfgs 0).N
    = fun y : S8448x1024.Idx => ((tok m c (y 0)).dya (wts m c) (y 1) : EReal) := by
  refine (dats m 0 c).arrAt_eq_of_covers 15 _ (by decide +kernel) fun t hf y => ?_
  have ht : t.val < 33 := lt_of_lt_of_eq t.isLt N_0
  blk_simp
  rw [after0_15]
  by_cases h : t.val % 33 = 0
  · rw [outsAt0_A m c t h (by omega)]
    frame_out
    rw [Ker.pay6_at]
    idx_vars y
    refine ((silent m c ?_).dya _ _).symm
    blk_simp [idx t]; omega
  · rw [outsAt0_B m c t h (by omega) h]
    frame_out
    idx_vars y
    refine ((blocks m c t _ _).pay33_at y0 y1).trans ?_
    rw [tok_eq m c t _ _ (by omega) (fun a k => ld_lo (iblk m c 2 t) inb_S256x2048_S256x1024_0_0 a k)
      (fun a k => ld_hi (iblk m c 2 t) inb_S256x2048_S256x1024_0_1024 a k), wts_eq]
    refine congrArg₂ (fun i k => (tok m c i).dya (wts m c) k) (Fin.ext ?_) (Fin.ext ?_) <;>
      blk_simp [idx t, at_]

theorem final16 : (dats m 0 c).arrAt 16 (cfgs 0).N
    = fun y : S8448x1024.Idx => ((tok m c (y 0)).dpre (wts m c) (y 1) : EReal) := by
  refine (dats m 0 c).arrAt_eq_of_covers 16 _ (by decide +kernel) fun t hf y => ?_
  have ht : t.val < 33 := lt_of_lt_of_eq t.isLt N_0
  blk_simp
  rw [after0_16]
  by_cases h : t.val % 33 = 0
  · rw [outsAt0_A m c t h (by omega)]
    frame_out
    rw [Ker.pay7_at]
    idx_vars y
    refine (congrFun ((silent m c ?_).dpre _) _).symm
    blk_simp [idx t]; omega
  · rw [outsAt0_B m c t h (by omega) h]
    frame_out
    idx_vars y
    refine ((blocks m c t _ _).pay29_at y0 y1).trans ?_
    rw [tok_eq m c t _ _ (by omega) (fun a k => ld_lo (iblk m c 2 t) inb_S256x2048_S256x1024_0_0 a k)
      (fun a k => ld_hi (iblk m c 2 t) inb_S256x2048_S256x1024_0_1024 a k), wts_eq]
    refine congrArg₂ (fun i k => (tok m c i).dpre (wts m c) k) (Fin.ext ?_) (Fin.ext ?_) <;>
      blk_simp [idx t, at_]

set_option maxHeartbeats 1000000 in
theorem final11 : (dats m 0 c).arrAt 11 (cfgs 0).N
    = fun y : S8448x2048.Idx => ((tok m c (y 0)).dgates (wts m c) (y 1) : EReal) := by
  refine (dats m 0 c).arrAt_eq_of_covers 11 _ (by decide +kernel) fun t hf y => ?_
  have ht : t.val < 33 := lt_of_lt_of_eq t.isLt N_0
  blk_simp
  rw [after0_11]
  by_cases h : t.val % 33 = 0
  · rw [outsAt0_A m c t h (by omega)]
    frame_out
    rw [Ker.pay2_at]
    idx_vars y
    refine ((silent m c ?_).dgates _ _).symm
    blk_simp [idx t]; omega
  · rw [outsAt0_B m c t h (by omega) h]
    frame_out
    canon_tiles x h
    · idx_vars x
      refine ((blocks m c t _ _).pay10_at x0 x1).trans ?_
      rw [tok_eq m c t _ _ (by omega) (fun a k => ld_lo (iblk m c 2 t) inb_S256x2048_S256x1024_0_0 a k)
      (fun a k => ld_hi (iblk m c 2 t) inb_S256x2048_S256x1024_0_1024 a k), wts_eq, ← Token.dgates_hi]
      refine congrArg₂ (fun i k => (tok m c i).dgates (wts m c) k) (Fin.ext ?_) (Fin.ext ?_) <;>
        blk_simp [idx t, at_, hi, h0, h1]
    · idx_vars x
      refine ((blocks m c t _ _).pay34_at x0 x1).trans ?_
      rw [tok_eq m c t _ _ (by omega) (fun a k => ld_lo (iblk m c 2 t) inb_S256x2048_S256x1024_0_0 a k)
      (fun a k => ld_hi (iblk m c 2 t) inb_S256x2048_S256x1024_0_1024 a k), wts_eq, ← Token.dgates_lo]
      refine congrArg₂ (fun i k => (tok m c i).dgates (wts m c) k) (Fin.ext ?_) (Fin.ext ?_) <;>
        blk_simp [idx t, at_, lo, h0, h1]

theorem final17 : (dats m 0 c).arrAt 17 (cfgs 0).N
    = fun y : S1x1024.Idx => (∑ i, (tok m c i).dg (wts m c) (y 1) : EReal) := by
  refine (dats m 0 c).arrAt_eq_of_covers 17 _ (by decide +kernel) fun t hf y => ?_
  have ht : t.val < 33 := lt_of_lt_of_eq t.isLt N_0
  have hl : t.val % 33 = 32 := (flush0_17 t).mp hf
  blk_simp
  rw [after0_17, Pipeline.eq_sum_fin_of_reset_step_apply_of_flush (fun n h => (outsAt0 m c n h).2.2.2.2.2.2.2.1) 33 (fun _ => 0)
    (fun t y => (∑ a, (tok m c (at_ t a)).dg (wts m c) (y 1) : EReal))
    (fun t h y => ?_) (fun t h y => ?_) t hl _, zero_add]
  · refine Fin.sum_mul_add_congr fun s a hl' => ?_
    refine congrArg₂ (fun i k => (tok m c i).dg (wts m c) k) (Fin.ext ?_) (Fin.ext ?_)
    · show (33 * (t.val / 33) + s.val) * 256 + a.val = s.val * 256 + a.val
      rw [show t.val / 33 = 0 by omega, Nat.mul_zero, Nat.zero_add]
    · blk_simp [idx t]
  · have ht : t.val < 33 := lt_of_lt_of_eq t.isLt N_0
    rw [outsAt0_A m c t h (by omega)]
    frame_out
    rw [Ker.pay8_at, zero_add]
    refine (Finset.sum_eq_zero fun a _ => (silent m c ?_).dg _ _).symm
    show t.val * 256 + a.val < 256
    omega
  · have ht : t.val < 33 := lt_of_lt_of_eq t.isLt N_0
    rw [outsAt0_B m c t h (by omega) h]
    frame_out
    idx_vars y
    obtain rfl : y0 = 0 := Subsingleton.elim _ _
    refine ((blocks m c t _ _).pay24_at y1 _).trans (congrArg _ (sum_ext fun a => ?_))
    rw [tok_eq m c t _ _ (by omega) (fun a k => ld_lo (iblk m c 2 t) inb_S256x2048_S256x1024_0_0 a k)
      (fun a k => ld_hi (iblk m c 2 t) inb_S256x2048_S256x1024_0_1024 a k), wts_eq]

theorem final18 : (dats m 0 c).arrAt 18 (cfgs 0).N
    = fun y : S1x1024.Idx => (∑ i, (tok m c i).d (y 1) : EReal) := by
  refine (dats m 0 c).arrAt_eq_of_covers 18 _ (by decide +kernel) fun t hf y => ?_
  have ht : t.val < 33 := lt_of_lt_of_eq t.isLt N_0
  have hl : t.val % 33 = 32 := (flush0_18 t).mp hf
  blk_simp
  rw [after0_18, Pipeline.eq_sum_fin_of_reset_step_apply_of_flush (fun n h => (outsAt0 m c n h).2.2.2.2.2.2.2.2) 33 (fun _ => 0)
    (fun t y => (∑ a, (tok m c (at_ t a)).d (y 1) : EReal))
    (fun t h y => ?_) (fun t h y => ?_) t hl _, zero_add]
  · refine Fin.sum_mul_add_congr fun s a hl' => ?_
    refine congrArg₂ (fun i k => (tok m c i).d k) (Fin.ext ?_) (Fin.ext ?_)
    · show (33 * (t.val / 33) + s.val) * 256 + a.val = s.val * 256 + a.val
      rw [show t.val / 33 = 0 by omega, Nat.mul_zero, Nat.zero_add]
    · blk_simp [idx t]
  · have ht : t.val < 33 := lt_of_lt_of_eq t.isLt N_0
    rw [outsAt0_A m c t h (by omega)]
    frame_out
    rw [Ker.pay9_at, zero_add]
    refine (Finset.sum_eq_zero fun a _ => congrFun (silent m c ?_) _).symm
    show t.val * 256 + a.val < 256
    omega
  · have ht : t.val < 33 := lt_of_lt_of_eq t.isLt N_0
    rw [outsAt0_B m c t h (by omega) h]
    frame_out
    idx_vars y
    obtain rfl : y0 = 0 := Subsingleton.elim _ _
    refine ((blocks m c t (fun j => iblk m c 2 t (ix2 (j 0) (lo (j 1)))) (fun j => iblk m c 2 t (ix2 (j 0) (hi (j 1))))).pay25_at y1 _).trans
      (congrArg _ (sum_ext fun a => ?_))
    rw [tok_eq m c t _ _ (by omega) (fun _ _ => rfl) (fun _ _ => rfl)]

end Final

end
-- ==== Proof.Ref.lean ====
/- The reference's intermediate arrays read at an index, as the formulas of `Spec`. -/
module

public import proofs.«01_k».proof.Proof.Gen.ReferenceIdeal.Run
public import proofs.«01_k».proof.Proof.Spec

@[expose] public section

set_option maxRecDepth 16384

noncomputable section

namespace Ref

open Cert.ReferenceIdeal Cert.ReferenceIdeal.Gen Cert.ReferenceIdeal.Value Idealize.ShloMosaic Idealize.ShloMosaic.TcCoe Idealize.SL.Sem
open Rows

variable (V0 : Valuation τ sig (Elt Ideal))

/-- The cotangent of token `i`: the first 256 tokens have none. -/
def cot (i : Fin 8448) : Row := fun k =>
  if 256 ≤ i.val then (V0 (Proc.devRef .tc main_arg9) (ix2 i k) : EReal) else 0

/-- The rows of token `i`. -/
def tok (i : Fin 8448) : Token where
  h k := V0 (Proc.devRef .tc main_arg0) (ix2 i k)
  gates k := V0 (Proc.devRef .tc main_arg1) (ix2 i k)
  og j := V0 (Proc.devRef .tc main_arg2) (ix2 i j)
  oa j := V0 (Proc.devRef .tc main_arg3) (ix2 i j)
  d := cot V0 i

/-- The weights. -/
def wts : Weights where
  wh j k := V0 (Proc.devRef .tc main_arg4) (ix2 j k)
  wa j k := V0 (Proc.devRef .tc main_arg5) (ix2 j k)
  wo l k := V0 (Proc.devRef .tc main_arg6) (ix2 l k)
  g k := V0 (Proc.devRef .tc main_arg7) (ix2 0 k)

variable (i : Fin 8448) (k : Fin 1024)

theorem v5_at : (res_main_v5 (F := Ideal) V0 (ix2 i k) : EReal) = proj (tok V0 i).og (wts V0).wh k := by
  pointwise [res_main_v5, res_main_v2]
  rfl

theorem v6_at : (res_main_v6 (F := Ideal) V0 (ix2 i k) : EReal) = proj (tok V0 i).oa (wts V0).wa k := by
  pointwise [res_main_v6, res_main_v3]
  rfl

theorem v12_at (l : Fin 2048) : (res_main_v12 (F := Ideal) V0 (ix2 i l) : EReal) = sg ((tok V0 i).gates l) := by
  pointwise [res_main_v12]
  rfl

theorem v16_at : (res_main_v16 (F := Ideal) V0 (ix2 i k) : EReal) = sg ((tok V0 i).gates (lo k)) := by
  pointwise [res_main_v16, v12_at]
  rfl

theorem v17_at : (res_main_v17 (F := Ideal) V0 (ix2 i k) : EReal) = sg ((tok V0 i).gates (hi k)) := by
  pointwise [res_main_v17, v12_at]
  rfl

theorem v24_at : (res_main_v24 (F := Ideal) V0 (ix2 i k) : EReal) = (tok V0 i).pre (wts V0) k := by
  pointwise [res_main_v24, v16_at, v17_at, v5_at, v6_at, res_main_v4]
  rfl

theorem v28_at : (res_main_v28 (F := Ideal) V0 (ix2 i 0) : EReal) = mean ((tok V0 i).pre (wts V0)) := by
  pointwise [res_main_v28, v24_at]
  rfl

theorem v30_at : (res_main_v30 (F := Ideal) V0 (ix2 i k) : EReal) = cen ((tok V0 i).pre (wts V0)) k := by
  pointwise [res_main_v30, v24_at, v28_at]
  rfl

theorem v39_at : (res_main_v39 (F := Ideal) V0 (ix2 i k) : EReal) = cen ((tok V0 i).pre (wts V0)) k := by
  pointwise [res_main_v39, v24_at, v28_at]
  rfl

theorem v41_at : (res_main_v41 (F := Ideal) V0 (ix2 i 0) : EReal) = spread ((tok V0 i).pre (wts V0)) := by
  pointwise [res_main_v41, v30_at]
  rfl

theorem v42_at : (res_main_v42 (F := Ideal) V0 (ix2 i 0) : EReal) = inv ((tok V0 i).pre (wts V0)) := by
  pointwise [res_main_v42, v41_at]
  rfl

theorem v47_at : (res_main_v47 (F := Ideal) V0 (ix2 i k) : EReal) = hat ((tok V0 i).pre (wts V0)) k := by
  pointwise [res_main_v47, v39_at, v42_at]
  rfl

theorem v54_at : (res_main_v54 (F := Ideal) V0 (ix2 i k) : EReal) = (tok V0 i).d k := by
  pointwise [res_main_v54]
  show _ = cot V0 i k
  unfold cot
  by_cases h : 256 ≤ i.val
  · rw [dif_pos ⟨h, by omega⟩, if_pos h]
    congr 2
    exact Fin.ext (by simp only []; omega)
  · rw [dif_neg (fun c => h c.1), if_neg h]

theorem v61_at : (res_main_v61 (F := Ideal) V0 (ix2 i k) : EReal) = (tok V0 i).d k * (wts V0).g k := by
  pointwise [res_main_v61, v54_at]
  rfl

theorem v66_at : (res_main_v66 (F := Ideal) V0 (ix2 i k) : EReal)
    = (tok V0 i).d k * (wts V0).g k * inv ((tok V0 i).pre (wts V0)) := by
  pointwise [res_main_v66, v61_at, v42_at]

theorem v75_at : (res_main_v75 (F := Ideal) V0 (ix2 i k) : EReal)
    = viaVar ((tok V0 i).pre (wts V0)) (fun k => (tok V0 i).d k * (wts V0).g k) k := by
  pointwise [res_main_v75, v61_at, v39_at, v30_at]
  simp only [Fin.sum_univ_one]
  rw [v42_at, v41_at]
  rfl

variable (r : (tok V0 i).Real (wts V0))
include r

theorem v85_at : (res_main_v85 (F := Ideal) V0 (ix2 i k) : EReal) = (tok V0 i).dpre (wts V0) k := by
  rw [← r.vjp_eq]
  pointwise [res_main_v85, v66_at, v75_at]
  simp only [Fin.sum_univ_one]
  rfl

theorem v88_at : (res_main_v88 (F := Ideal) V0 (ix2 i k) : EReal) = (tok V0 i).dmix (wts V0) k := by
  pointwise [res_main_v88, res_main_v4]
  refine sum_ext fun l => ?_
  rw [v85_at V0 i l r]
  rfl

theorem v91_at : (res_main_v91 (F := Ideal) V0 (ix2 i k) : EReal) = (tok V0 i).dyh (wts V0) k := by
  pointwise [res_main_v91, v16_at]
  rw [v88_at V0 i k r]
  exact mul_comm (_ : EReal) _

theorem v89_at : (res_main_v89 (F := Ideal) V0 (ix2 i k) : EReal) = (tok V0 i).dya (wts V0) k := by
  pointwise [res_main_v89, v17_at]
  rw [v88_at V0 i k r]
  exact mul_comm (_ : EReal) _

/-! ## The results -/

theorem res0_at : (mulf (F := Ideal) (broadcastInDim S8448x1024 ![] bcast_S_S8448x1024 (constant S_ .f32 0x3F9837F0#32)) (res_main_v85 V0) (ix2 i k) : EReal)
    = (tok V0 i).dh (wts V0) k := by
  pointwise []
  rw [v85_at V0 i k r]
  rfl

theorem res1_lo : (truncf (F := Ideal) .bf16 (mulf (concatenate S8448x2048 1 [⟨S8448x1024, (mulf (res_main_v88 V0) (res_main_v5 V0))⟩, ⟨S8448x1024, (mulf (res_main_v88 V0) (res_main_v6 V0))⟩] concatenates_S8448x1024_S8448x1024_S8448x2048_d1) (mulf (res_main_v12 V0) (subf (broadcastInDim S8448x2048 ![] bcast_S_S8448x2048 (constant S_ .f32 0x3F800000#32)) (res_main_v12 V0)))) bitsLt_bf16_f32 (ix2 i (lo k)) : EReal)
    = (tok V0 i).dlo (wts V0) k := by
  pointwise [v12_at, v5_at, v6_at]
  rw [dif_pos (show ((lo k : Fin 2048) : ℕ) < 1024 from k.isLt)]
  exact congrArg (fun z : EReal => z * _ * _) (v88_at V0 i k r)

theorem res1_hi : (truncf (F := Ideal) .bf16 (mulf (concatenate S8448x2048 1 [⟨S8448x1024, (mulf (res_main_v88 V0) (res_main_v5 V0))⟩, ⟨S8448x1024, (mulf (res_main_v88 V0) (res_main_v6 V0))⟩] concatenates_S8448x1024_S8448x1024_S8448x2048_d1) (mulf (res_main_v12 V0) (subf (broadcastInDim S8448x2048 ![] bcast_S_S8448x2048 (constant S_ .f32 0x3F800000#32)) (res_main_v12 V0)))) bitsLt_bf16_f32 (ix2 i (hi k)) : EReal)
    = (tok V0 i).dhi (wts V0) k := by
  pointwise [v12_at, v5_at, v6_at]
  have e : ∀ h, (⟨(hi k).val - 1024, h⟩ : Fin 1024) = k := fun h => Fin.ext (Nat.add_sub_cancel_left 1024 k.val)
  have hn : ¬ (hi k).val < 1024 := by show ¬ 1024 + k.val < 1024; omega
  rw [dif_neg hn, e]
  exact congrArg (fun z : EReal => z * _ * _) (v88_at V0 i k r)

theorem res2_at (j : Fin 512) : (truncf (F := Ideal) .bf16 (Host.dotGeneral (φ₁ := .f32) (φ₂ := .f32) dot_S8448x1024_S512x1024_S8448x512_1_1_0_0_n_n none (res_main_v91 V0) (res_main_v2 V0)) bitsLt_bf16_f32 (ix2 i j) : EReal)
    = (tok V0 i).dog (wts V0) j := by
  pointwise [res_main_v2]
  refine sum_ext fun l => ?_
  rw [v91_at V0 i l r]
  rfl

theorem res3_at (j : Fin 512) : (truncf (F := Ideal) .bf16 (Host.dotGeneral (φ₁ := .f32) (φ₂ := .f32) dot_S8448x1024_S512x1024_S8448x512_1_1_0_0_n_n none (res_main_v89 V0) (res_main_v3 V0)) bitsLt_bf16_f32 (ix2 i j) : EReal)
    = (tok V0 i).doa (wts V0) j := by
  pointwise [res_main_v3]
  refine sum_ext fun l => ?_
  rw [v89_at V0 i l r]
  rfl

omit r

theorem res7_at : (shapeCast S1x1024 (Host.reduceAdd (F := Ideal) (mulf (res_main_v47 V0) (res_main_v54 V0)) (constant S_ .f32 0x00000000#32) reducesTo_S8448x1024_S1024_d0 h_S_) shapeCasts_S1024_S1x1024 (ix2 0 k) : EReal)
    = ∑ i, (tok V0 i).dg (wts V0) k := by
  pointwise [v47_at, v54_at]
  exact Finset.sum_congr rfl fun i _ => mul_comm (_ : EReal) _

theorem res8_at : (shapeCast S1x1024 (Host.reduceAdd (F := Ideal) (res_main_v54 V0) (constant S_ .f32 0x00000000#32) reducesTo_S8448x1024_S1024_d0 h_S_) shapeCasts_S1024_S1x1024 (ix2 0 k) : EReal)
    = ∑ i, (tok V0 i).d k := by
  pointwise [v54_at]

end Ref

end
-- ==== Proof.Match.lean ====
/- The two programs' results agree. -/
module

public import proofs.«01_k».proof.Proof.Finite
public import proofs.«01_k».proof.Proof.Final
public import proofs.«01_k».proof.Proof.Ref

@[expose] public section

set_option maxRecDepth 16384

noncomputable section

namespace Match

open Idealize.ShloMosaic Idealize.ShloMosaic.TcCoe Idealize.SL.Sem Rows

section
variable {m : (ℓ : Loc Cert.KernelIdeal.nD Cert.KernelIdeal.τ Cert.KernelIdeal.sig) → Buf (Elt Ideal) ℓ}
variable {m' : (ℓ : Loc Cert.ReferenceIdeal.nD Cert.ReferenceIdeal.τ Cert.ReferenceIdeal.sig) → Buf (Elt Ideal) ℓ}

/-- Under the precondition every token's rows and the weights are real. -/
theorem real (h : Cert.Pre_KernelIdeal_finite m) (c : Dev Cert.KernelIdeal.nD) (i : Fin 8448) :
    (Final.tok m c i).Real (Final.wts m c) := by
  obtain ⟨h0, h2, h3, h4, h5, h6, h7, h9⟩ := Finite.of_pre (h c)
  refine ⟨fun k => h0 _, fun j => h2 _, fun j => h3 _, fun k => ?_, fun j k => h4 _, fun j k => h5 _, fun l k => h6 _, fun k => h7 _⟩
  show IsReal (if 256 ≤ i.val then _ else 0)
  split
  · exact h9 _
  · exact isReal_zero
end

set_option maxHeartbeats 1600000 in
theorem algebraic : Cert.algebraic_KernelIdeal_ReferenceIdeal_pre_finite := by
  pair_intro
  · run_from Cert.KernelIdeal.Value.run_blocks m g
  · have ht : ∀ c i, Ref.tok (StableHlo.launchContents m' c) i = Final.tok m c i := fun c i => by
      obtain ⟨h0, h1, h2, h3, h4, h5, h6, h7, h8, h9⟩ := hagree c
      refine Token.ext (funext fun k => congrFun h0 _) (funext fun k => congrFun h1 _) (funext fun k => congrFun h2 _)
        (funext fun k => congrFun h3 _) (funext fun k => ?_)
      exact congrArg (fun z : EReal => if 256 ≤ i.val then z else 0) (congrFun h9 (ix2 i k))
    have hw : ∀ c, Ref.wts (StableHlo.launchContents m' c) = Final.wts m c := fun c => by
      obtain ⟨h0, h1, h2, h3, h4, h5, h6, h7, h8, h9⟩ := hagree c
      exact Weights.ext (funext₂ fun j k => congrFun h4 _) (funext₂ fun j k => congrFun h5 _)
        (funext₂ fun j k => congrFun h6 _) (funext fun k => congrFun h7 _)
    have hr : ∀ c i, (Ref.tok (StableHlo.launchContents m' c) i).Real (Ref.wts (StableHlo.launchContents m' c)) :=
      fun c i => by rw [ht, hw]; exact real hpre c i
    have hrun := Cert.ReferenceIdeal.Value.run m' g'
    clear hagree
    run_from hrun
    · refine Eq.trans (funext fun y => ?_) (Final.final10 m c).symm
      idx_vars y
      refine (Ref.res0_at (StableHlo.launchContents m' c) y0 y1 (hr c y0)).trans ?_
      rw [ht, hw]
    · refine Eq.trans (funext fun y => ?_) (Final.final11 m c).symm
      idx_vars y
      obtain ⟨k, rfl⟩ | ⟨k, rfl⟩ := gate_cases y1
      · refine (Ref.res1_lo (StableHlo.launchContents m' c) y0 k (hr c y0)).trans ?_
        rw [ht, hw, ← Token.dgates_lo]
      · refine (Ref.res1_hi (StableHlo.launchContents m' c) y0 k (hr c y0)).trans ?_
        rw [ht, hw, ← Token.dgates_hi]
    · refine Eq.trans (funext fun y => ?_) (Final.final12 m c).symm
      idx_vars y
      refine (Ref.res2_at (StableHlo.launchContents m' c) y0 (hr c y0) y1).trans ?_
      rw [ht, hw]
    · refine Eq.trans (funext fun y => ?_) (Final.final13 m c).symm
      idx_vars y
      refine (Ref.res3_at (StableHlo.launchContents m' c) y0 (hr c y0) y1).trans ?_
      rw [ht, hw]
    · refine Eq.trans (funext fun y => ?_) (Final.final14 m c).symm
      idx_vars y
      refine (Ref.v91_at (StableHlo.launchContents m' c) y0 y1 (hr c y0)).trans ?_
      rw [ht, hw]
    · refine Eq.trans (funext fun y => ?_) (Final.final15 m c).symm
      idx_vars y
      refine (Ref.v89_at (StableHlo.launchContents m' c) y0 y1 (hr c y0)).trans ?_
      rw [ht, hw]
    · refine Eq.trans (funext fun y => ?_) (Final.final16 m c).symm
      idx_vars y
      refine (Ref.v85_at (StableHlo.launchContents m' c) y0 y1 (hr c y0)).trans ?_
      rw [ht, hw]
    · refine Eq.trans (funext fun y => ?_) (Final.final17 m c).symm
      idx_vars y
      obtain rfl : y0 = 0 := Subsingleton.elim _ _
      refine (Ref.res7_at (StableHlo.launchContents m' c) y1).trans ?_
      simp only [ht, hw]
    · refine Eq.trans (funext fun y => ?_) (Final.final18 m c).symm
      idx_vars y
      obtain rfl : y0 = 0 := Subsingleton.elim _ _
      refine (Ref.res8_at (StableHlo.launchContents m' c) y1).trans ?_
      simp only [ht, hw]

/-- The reference holds no semaphore. -/
theorem no_sem (s : SemLoc Cert.ReferenceIdeal.sig) : False := by
  revert s
  decide

/-- The reference's frame, whatever the arguments. -/
theorem frame : Cert.quiescent_ReferenceIdeal := by
  intro m g _
  run_from Cert.ReferenceIdeal.Value.run m g
  · simp
  · funext s
    exact (no_sem s.2).elim

end Match

end
-- ==== Proof.Finite2.lean ====
/- What the feed-forward claim's precondition says: the entries of the arrays it names are real numbers. -/
module

public import proofs.«01_k».proof.Proof.Finite

@[expose] public section

set_option maxRecDepth 16384

noncomputable section

namespace Finite2

open Cert.Pre_finite2 Idealize.ShloMosaic Rows Finite

instance facts : Cert.Pre_finite2.Facts where
  bcast_S_S8448x1024 := by decide
  reducesTo_S8448x1024_S_d0_1 := by decide
  h_S_ := by decide
  bitsLt_bf16_f32 := by decide
  bcast_S_S8448x512 := by decide
  reducesTo_S8448x512_S_d0_1 := by decide
  bcast_S_S8192x1024 := by decide
  reducesTo_S8192x1024_S_d0_1 := by decide
  bcast_S_S512x1024 := by decide
  reducesTo_S512x1024_S_d0_1 := by decide
  bcast_S_S1024x1024 := by decide
  reducesTo_S1024x1024_S_d0_1 := by decide
  bcast_S_S1024x5632 := by decide
  reducesTo_S1024x5632_S_d0_1 := by decide
  bcast_S_S2816x1024 := by decide
  reducesTo_S2816x1024_S_d0_1 := by decide
  bcast_S_S1x1024 := by decide
  reducesTo_S1x1024_S_d0_1 := by decide

theorem of_pre {X0 : FVec Ideal S8448x1024 .f32} {X1 : FVec Ideal S8448x2048 .f32} {X2 X3 : FVec Ideal S8448x512 .bf16}
    {X4 : FVec Ideal S8192x1024 .f32} {X5 X6 : FVec Ideal S512x1024 .bf16} {X7 : FVec Ideal S1024x1024 .bf16}
    {X8 : FVec Ideal S1024x5632 .bf16} {X9 : FVec Ideal S2816x1024 .bf16} {X10 X11 X12 X13 : FVec Ideal S1x1024 .f32}
    (h : Cert.Pre_finite2.fn (F := Ideal) X0 X1 X2 X3 X4 X5 X6 X7 X8 X9 X10 X11 X12 X13 = fun _ => 1#1) :
    (∀ i, IsReal (X0 i : EReal))
    ∧ (∀ i, IsReal (X2 i : EReal))
    ∧ (∀ i, IsReal (X3 i : EReal))
    ∧ (∀ i, IsReal (X4 i : EReal))
    ∧ (∀ i, IsReal (X5 i : EReal))
    ∧ (∀ i, IsReal (X6 i : EReal))
    ∧ (∀ i, IsReal (X7 i : EReal))
    ∧ (∀ i, IsReal (X8 i : EReal))
    ∧ (∀ i, IsReal (X9 i : EReal))
    ∧ (∀ i, IsReal (X10 i : EReal))
    ∧ (∀ i, IsReal (X11 i : EReal))
    ∧ (∀ i, IsReal (X12 i : EReal))
    ∧ (∀ i, IsReal (X13 i : EReal)) := by
  have h := congrFun h (fun i => i.elim0)
  obtain ⟨h, h13⟩ := IntOp.andi_eq_one.1 h
  obtain ⟨h, h12⟩ := IntOp.andi_eq_one.1 h
  obtain ⟨h, h11⟩ := IntOp.andi_eq_one.1 h
  obtain ⟨h, h10⟩ := IntOp.andi_eq_one.1 h
  obtain ⟨h, h9⟩ := IntOp.andi_eq_one.1 h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h0, h2⟩ := IntOp.andi_eq_one.1 h
  exact ⟨isReal_of_all X0 _ _ _ _ h0,
    isReal_of_all (extf .f32 X2 (by decide)) _ _ _ _ h2,
    isReal_of_all (extf .f32 X3 (by decide)) _ _ _ _ h3,
    isReal_of_all X4 _ _ _ _ h4,
    isReal_of_all (extf .f32 X5 (by decide)) _ _ _ _ h5,
    isReal_of_all (extf .f32 X6 (by decide)) _ _ _ _ h6,
    isReal_of_all (extf .f32 X7 (by decide)) _ _ _ _ h7,
    isReal_of_all (extf .f32 X8 (by decide)) _ _ _ _ h8,
    isReal_of_all (extf .f32 X9 (by decide)) _ _ _ _ h9,
    isReal_of_all X10 _ _ _ _ h10,
    isReal_of_all X11 _ _ _ _ h11,
    isReal_of_all X12 _ _ _ _ h12,
    isReal_of_all X13 _ _ _ _ h13⟩

end Finite2

end
-- ==== Proof.Ffn.lean ====
/- The feed-forward half of the layer and the loss, for one token: forward values and gradients as formulas over the
   entries of the token's row, of its target and of the weights. -/
module

public import proofs.«01_k».proof.Proof.Spec

@[expose] public section

noncomputable section

namespace Rows

open Idealize.ShloMosaic

/-- One entry per hidden channel. -/
abbrev Hidden := Fin 2816 → EReal

/-- The column of the first product that gives the gate of channel `j`. -/
def glo (j : Fin 2816) : Fin 5632 := ⟨j.val, by omega⟩
/-- The column of the first product that gives the value of channel `j`. -/
def ghi (j : Fin 2816) : Fin 5632 := ⟨2816 + j.val, by omega⟩

theorem col_cases (l : Fin 5632) : (∃ j, l = glo j) ∨ ∃ j, l = ghi j := by
  by_cases hl : l.val < 2816
  · exact .inl ⟨⟨l.val, hl⟩, rfl⟩
  · exact .inr ⟨⟨l.val - 2816, by omega⟩, Fin.ext (by show l.val = 2816 + (l.val - 2816); omega)⟩

/-- One over the number of entries of a row. -/
abbrev cInvN : EReal := Ideal.ofBits .f32 0x3A800000#32
/-- One over twice that number. -/
abbrev cHalfInvN : EReal := Ideal.ofBits .f32 0x3A000000#32
abbrev cHalf : EReal := Ideal.ofBits .f32 0x3F000000#32

theorem cInvN_eq : cInvN = ((1 / 1024 : ℝ) : EReal) := by
  simp [Ideal.ofBits, Ideal.ieee, -EReal.coe_mul]; norm_num
theorem cHalfInvN_eq : cHalfInvN = ((1 / 2048 : ℝ) : EReal) := by
  simp [Ideal.ofBits, Ideal.ieee, -EReal.coe_mul]; norm_num
theorem cHalf_eq : cHalf = ((1 / 2 : ℝ) : EReal) := by
  simp [Ideal.ofBits, Ideal.ieee, -EReal.coe_mul]; norm_num

/-- Token `i` of the 8192 behind the first 256, and nothing for those. -/
def behind (f : Fin 8192 → EReal) (i : Fin 8448) : EReal :=
  if h : 256 ≤ i.val then f ⟨i.val - 256, by omega⟩ else 0

theorem behind_first {f : Fin 8192 → EReal} {i : Fin 8448} (h : i.val < 256) : behind f i = 0 :=
  dif_neg (Nat.not_le.mpr h)

theorem behind_eq {f : Fin 8192 → EReal} {i : Fin 8448} {j : Fin 8192} (h : i.val = 256 + j.val) : behind f i = f j := by
  have e : ∀ h, (⟨i.val - 256, h⟩ : Fin 8192) = j := fun _ => Fin.ext (by show i.val - 256 = j.val; omega)
  rw [behind, dif_pos (by omega), e]

theorem behind_at {γ : Type} (F : Fin 8192 → γ → EReal) {i : Fin 8448} {j : Fin 8192} {k k' : γ}
    (h : i.val = 256 + j.val) (hk : k' = k) : F j k = behind (fun i => F i k') i := by
  subst hk
  exact (behind_eq (f := fun i => F i k') h).symm

/-- Where token `i` of those behind the first 256 is among all. -/
def row (i : Fin 8192) : Fin 8448 := ⟨256 + i.val, by omega⟩

theorem sum_behind (f : Fin 8192 → EReal) : ∑ i, behind f i = ∑ i, f i := by
  rw [Fin.sum_univ_add (a := 256) (b := 8192) (f := behind f),
    Finset.sum_eq_zero (fun i _ => behind_first (by show i.val < 256; exact i.isLt)), zero_add]
  exact Finset.sum_congr rfl fun i _ => behind_eq (by simp)

/-- A token's row normalized, scaled and shifted: what the feed-forward half starts from. -/
def Token.out (x : Token) (w : Weights) (b : Row) : Row := fun k => hat (x.pre w) k * w.g k + b k

/-- The weights of the feed-forward half: the two products, the second normalization's scale and shift. -/
@[ext] structure Ffn where
  wi : Fin 1024 → Fin 5632 → EReal
  wo : Fin 2816 → Row
  g : Row
  b : Row

/-- The rows of one token: what the feed-forward half starts from, and the target. -/
@[ext] structure Late where
  h : Row
  t : Row

namespace Late
variable (x : Late) (w : Ffn)

/-- The first product. -/
def up : Fin 5632 → EReal := fun l => ∑ k, x.h k * w.wi k l
/-- The gated channels' gates. -/
def a : Hidden := fun j => x.up w (glo j)
/-- The gated channels' values. -/
def u : Hidden := fun j => x.up w (ghi j)
/-- The activated gates. -/
def act : Hidden := fun j => x.a w j * sg (x.a w j)
/-- The gated channels. -/
def mid : Hidden := fun j => x.act w j * x.u w j
/-- The row that is normalized. -/
def pre : Row := fun k => cAlpha * x.h k + ∑ j, x.mid w j * w.wo j k
/-- The layer's output less the target. -/
def err : Row := fun k => hat (x.pre w) k * w.g k + w.b k - x.t k
/-- Gradient with respect to the layer's output. -/
def dy : Row := fun k => x.err w k * cInvN
/-- Gradient with respect to the row that is normalized. -/
def dpre : Row := back (x.pre w) (fun k => x.dy w k * w.g k)
/-- Gradient with respect to the gated channels. -/
def dmid : Hidden := fun j => ∑ k, x.dpre w k * w.wo j k
/-- Gradient with respect to the gates. -/
def da : Hidden := fun j => x.dmid w j * x.u w j * (sg (x.a w j) * (1 + x.a w j * (1 - sg (x.a w j))))
/-- Gradient with respect to the values. -/
def du : Hidden := fun j => x.dmid w j * x.act w j
/-- Gradient with respect to the first product, the gates' columns first. -/
def dup : Fin 5632 → EReal := fun l =>
  if hl : l.val < 2816 then x.da w ⟨l.val, hl⟩ else x.du w ⟨l.val - 2816, by omega⟩
/-- Gradient with respect to what the half starts from. -/
def dh : Row := fun k => cAlpha * x.dpre w k + ∑ l, x.dup w l * w.wi k l
/-- What the token adds to the gradient of the second normalization's scale. -/
def dg : Row := fun k => x.dy w k * hat (x.pre w) k
/-- The token's sum of squared errors. -/
def sq : EReal := ∑ k, x.err w k * x.err w k

theorem dup_lo (j : Fin 2816) : x.dup w (glo j) = x.da w j := dif_pos j.isLt
theorem dup_hi (j : Fin 2816) : x.dup w (ghi j) = x.du w j := by
  have hn : ¬ (ghi j).val < 2816 := by show ¬ 2816 + j.val < 2816; omega
  have e : ∀ h, (⟨(ghi j).val - 2816, h⟩ : Fin 2816) = j := fun h => Fin.ext (Nat.add_sub_cancel_left 2816 j.val)
  unfold dup
  rw [dif_neg hn, e]

/-- Every entry of the rows and of the weights is real. -/
structure Real (x : Late) (w : Ffn) : Prop where
  h : ∀ k, IsReal (x.h k)
  t : ∀ k, IsReal (x.t k)
  wi : ∀ k l, IsReal (w.wi k l)
  wo : ∀ j k, IsReal (w.wo j k)
  g : ∀ k, IsReal (w.g k)
  b : ∀ k, IsReal (w.b k)

variable {x w}

theorem Real.up (r : x.Real w) (l) : IsReal (x.up w l) := isReal_sum fun k => (r.h k).mul (r.wi k l)
theorem Real.a (r : x.Real w) (j) : IsReal (x.a w j) := r.up _
theorem Real.u (r : x.Real w) (j) : IsReal (x.u w j) := r.up _
theorem Real.act (r : x.Real w) (j) : IsReal (x.act w j) := (r.a j).mul (isReal_sg _)
theorem Real.mid (r : x.Real w) (j) : IsReal (x.mid w j) := (r.act j).mul (r.u j)
theorem Real.pre (r : x.Real w) (k) : IsReal (x.pre w k) :=
  (isReal_cAlpha.mul (r.h k)).add (isReal_sum fun j => (r.mid j).mul (r.wo j k))
theorem Real.err (r : x.Real w) (k) : IsReal (x.err w k) :=
  (((isReal_hat r.pre k).mul (r.g k)).add (r.b k)).sub (r.t k)
theorem Real.dy (r : x.Real w) (k) : IsReal (x.dy w k) := (r.err k).mul ⟨_, cInvN_eq⟩
theorem Real.dpre (r : x.Real w) (k) : IsReal (x.dpre w k) :=
  isReal_back r.pre (fun k => (r.dy k).mul (r.g k)) k
theorem Real.dmid (r : x.Real w) (j) : IsReal (x.dmid w j) := isReal_sum fun k => (r.dpre k).mul (r.wo j k)
theorem Real.sq (r : x.Real w) : IsReal (x.sq w) := isReal_sum fun k => (r.err k).mul (r.err k)

/-- The cotangent in the form a derivative of half the mean square gives. -/
theorem Real.dy_eq (r : x.Real w) (k) :
    Ideal.div cHalf cN * (cTwo * x.err w k) = x.dy w k := by
  obtain ⟨e, he⟩ := r.err k
  rw [Late.dy, he, cHalf_eq, cTwo_eq, cN_eq, cInvN_eq, Ideal.div_coe (by norm_num)]
  simp only [← EReal.coe_mul]
  congr 1; ring

/-- The gradient of the gate in the form the product rule gives. -/
theorem Real.da_eq (r : x.Real w) (j) :
    x.dmid w j * x.u w j * sg (x.a w j) + x.a w j * (x.dmid w j * x.u w j) * (sg (x.a w j) * (1 - sg (x.a w j)))
      = x.da w j := by
  obtain ⟨p, hp⟩ := r.dmid j
  obtain ⟨u, hu⟩ := r.u j
  obtain ⟨a, ha⟩ := r.a j
  obtain ⟨s, hs⟩ := isReal_sg (x.a w j)
  rw [Late.da, hs, hp, hu, ha, ← EReal.coe_one]
  simp only [← EReal.coe_mul, ← EReal.coe_sub, ← EReal.coe_add]
  congr 1; ring

/-- The gradient of the normalization, in the form the reference has it. -/
theorem Real.vjp_eq (r : x.Real w) : vjp (x.pre w) (fun k => x.dy w k * w.g k) = x.dpre w :=
  vjp_eq_back r.pre fun k => (r.dy k).mul (r.g k)

end Late

theorem sum_mul {n : ℕ} {f : Fin n → EReal} (h : ∀ i, IsReal (f i)) {c : EReal} (hc : IsReal c) :
    (∑ i, f i) * c = ∑ i, f i * c := by
  choose g hg using h
  obtain ⟨c, rfl⟩ := hc
  simp only [hg, ← EReal.coe_mul, coe_sum, Finset.sum_mul]

/-- Half the sum of the tokens' mean squares, in the two orders of the factors. -/
theorem loss_eq {n : ℕ} {f : Fin n → EReal} (h : ∀ i, IsReal (f i)) :
    cHalf * ∑ i, Ideal.div (f i) cN = ∑ i, f i * cHalfInvN := by
  choose g hg using h
  simp only [hg, cHalf_eq, cN_eq, cHalfInvN_eq, Ideal.div_coe (show (1024 : ℝ) ≠ 0 by norm_num), ← EReal.coe_mul,
    coe_sum]
  rw [← Finset.sum_mul, ← Finset.sum_mul]
  congr 1; ring

/-- The normalized, scaled and shifted row of a real token is real. -/
theorem Token.Real.out {x : Token} {w : Weights} (r : x.Real w) {b : Row} (hb : ∀ k, IsReal (b k)) (k : Fin 1024) :
    IsReal (x.out w b k) :=
  ((isReal_hat r.pre k).mul (r.g k)).add (hb k)

end Rows

end
-- ==== Proof.Ker2.lean ====
/- The feed-forward kernel's payloads read at an index, as the formulas of `Spec` and `Ffn`: row `a` of a block of
   256 tokens. -/
module

public import proofs.«01_k».proof.Proof.Gen.Kernel2Ideal.Skeleton
public import proofs.«01_k».proof.Proof.Ffn

@[expose] public section

set_option maxRecDepth 16384

noncomputable section

namespace Ker2

open Cert.Kernel2Ideal Cert.Kernel2Ideal.Gen Idealize.ShloMosaic Idealize.SL.Sem
open Rows

/-- What one grid point behind the first reads: its number `n`, the blocks, `p` and `q` the two halves of the gates. -/
structure Blocks where
  n : ℕ
  pos : 1 ≤ n
  lt : n < 33
  x0 : Vec Ideal S256x1024 .f32
  p : Vec Ideal S256x1024 .f32
  q : Vec Ideal S256x1024 .f32
  x2 : Vec Ideal S256x512 .bf16
  x3 : Vec Ideal S256x512 .bf16
  x4 : Vec Ideal S256x1024 .f32
  x5 : Vec Ideal S512x1024 .bf16
  x6 : Vec Ideal S512x1024 .bf16
  x7 : Vec Ideal S1024x1024 .bf16
  x8 : Vec Ideal S1x1024 .f32
  x9 : Vec Ideal S1x1024 .f32
  x10 : Vec Ideal S1024x5632 .bf16
  x11 : Vec Ideal S2816x1024 .bf16
  x12 : Vec Ideal S1x1024 .f32
  x13 : Vec Ideal S1x1024 .f32

namespace Blocks
variable (b : Blocks)

/-- Token `a` of the block. -/
def tok (a : Fin 256) : Token where
  h k := b.x0 (ix2 a k)
  gates l := if hl : l.val < 1024 then b.p (ix2 a ⟨l.val, hl⟩) else b.q (ix2 a ⟨l.val - 1024, by omega⟩)
  og j := b.x2 (ix2 a j)
  oa j := b.x3 (ix2 a j)
  d _ := 0

/-- The weights of the first half. -/
def wts : Weights where
  wh j k := b.x5 (ix2 j k)
  wa j k := b.x6 (ix2 j k)
  wo l k := b.x7 (ix2 l k)
  g k := b.x8 (ix2 0 k)

/-- The first normalization's shift. -/
def shift : Row := fun k => b.x9 (ix2 0 k)

/-- Token `a` where the feed-forward half starts. -/
def late (a : Fin 256) : Late where
  h := (b.tok a).out b.wts b.shift
  t k := b.x4 (ix2 a k)

/-- The weights of the feed-forward half. -/
def ffn : Ffn where
  wi k l := b.x10 (ix2 k l)
  wo j k := b.x11 (ix2 j k)
  g k := b.x12 (ix2 0 k)
  b k := b.x13 (ix2 0 k)

/-- The grid point's number as the kernel has it. -/
abbrev num : BitVec 32 := BitVec.ofNat 32 b.n

variable (a : Fin 256) (k : Fin 1024) (j : Fin 2816)

theorem gates_lo : (b.tok a).gates (lo k) = b.p (ix2 a k) := dif_pos k.isLt
theorem gates_hi : (b.tok a).gates (hi k) = b.q (ix2 a k) := by
  have hn : ¬ (hi k).val < 1024 := by show ¬ 1024 + k.val < 1024; omega
  have e : ∀ h, (⟨(hi k).val - 1024, h⟩ : Fin 1024) = k := fun h => Fin.ext (Nat.add_sub_cancel_left 1024 k.val)
  show dite _ _ _ = _
  rw [dif_neg hn, e]

/-- Every row of a block behind the first is in use. -/
theorem used_at : k0_pay16 b.num (ix2 a 0) = 1#1 := by
  pointwise [k0_pay16]
  exact (by decide +kernel : ∀ (n : Fin 33) (a : Fin 256), 1 ≤ n.val →
    IntOp.cmpi .sge (IntOp.addi (Scalar.muli (BitVec.ofNat 32 n.val) 256#32) (BitVec.ofNat 32 a.val)) 128#32 = 1#1)
    ⟨b.n, b.lt⟩ a b.pos

theorem pay17_at (j : Fin 512) : (k0_pay17 (F := Ideal) b.num b.x2 (ix2 a j) : EReal) = (b.tok a).og j := by
  pointwise [k0_pay17, used_at]
  rfl

theorem pay18_at (j : Fin 512) : (k0_pay18 (F := Ideal) b.num b.x3 (ix2 a j) : EReal) = (b.tok a).oa j := by
  pointwise [k0_pay18, used_at]
  rfl

/-- The first branch projected. -/
abbrev yh : FVec Ideal S256x1024 .f32 := k0_pay19 (F := Ideal) b.num b.x2 b.x5
/-- The second branch projected. -/
abbrev ya : FVec Ideal S256x1024 .f32 := k0_pay20 (F := Ideal) b.num b.x3 b.x6

theorem yh_at : (b.yh (ix2 a k) : EReal) = proj (b.tok a).og b.wts.wh k := by
  pointwise [k0_pay19, pay17_at]
  rfl

theorem ya_at : (b.ya (ix2 a k) : EReal) = proj (b.tok a).oa b.wts.wa k := by
  pointwise [k0_pay20, pay18_at]
  rfl

/-- The gated mix of the block's tokens. -/
abbrev mix : FVec Ideal S256x1024 .bf16 := k0_pay22 (F := Ideal) b.yh b.ya (k0_pay21 (F := Ideal) b.p) b.q

theorem mix_at : (b.mix (ix2 a k) : EReal) = (b.tok a).mixed b.wts k := by
  pointwise [k0_pay22, k0_pay21, yh_at, ya_at]
  rw [zero_sub, zero_sub, ← gates_lo, ← gates_hi]
  rfl

/-- The normalized rows, scaled. -/
abbrev nrm : FVec Ideal S256x1024 .f32 :=
  k0_pay23 (F := Ideal) b.x8 b.yh b.ya (k0_pay21 (F := Ideal) b.p) b.q b.x0 b.x7
/-- The shift, one row per token. -/
abbrev shf : FVec Ideal S256x1024 .f32 := k0_pay24 (F := Ideal) b.x9

theorem nrm_at : (b.nrm (ix2 a k) : EReal) = hat ((b.tok a).pre b.wts) k * b.wts.g k := by
  pointwise [k0_pay23, mix_at]
  rfl

theorem pay25_at : (k0_pay25 (F := Ideal) b.nrm b.shf (ix2 a k) : EReal) = (b.late a).h k := by
  pointwise [k0_pay25, k0_pay24, nrm_at]
  rfl

theorem pay26_at : (k0_pay26 (F := Ideal) b.nrm b.shf (ix2 a k) : EReal) = (b.late a).h k := by
  pointwise [k0_pay26, pay25_at]

theorem pay27_at (l : Fin 5632) : (k0_pay27 (F := Ideal) b.nrm b.shf b.x10 (ix2 a l) : EReal) = (b.late a).up b.ffn l := by
  pointwise [k0_pay27, pay26_at]
  rfl

theorem pay28_at : (k0_pay28 (F := Ideal) b.nrm b.shf b.x10 (ix2 a j) : EReal) = (b.late a).a b.ffn j := by
  pointwise [k0_pay28, pay27_at]
  rfl

theorem pay29_at : (k0_pay29 (F := Ideal) b.nrm b.shf b.x10 (ix2 a j) : EReal) = (b.late a).u b.ffn j := by
  pointwise [k0_pay29, pay27_at]
  rfl

theorem pay30_at : (k0_pay30 (F := Ideal) b.nrm b.shf b.x10 (ix2 a j) : EReal) = sg ((b.late a).a b.ffn j) := by
  pointwise [k0_pay30, pay28_at]
  rw [zero_sub]
  rfl

theorem pay31_at : (k0_pay31 (F := Ideal) b.nrm b.shf b.x10 (ix2 a j) : EReal) = (b.late a).act b.ffn j := by
  pointwise [k0_pay31, pay28_at, pay30_at]
  rfl

theorem pay32_at : (k0_pay32 (F := Ideal) b.nrm b.shf b.x10 (ix2 a j) : EReal) = (b.late a).mid b.ffn j := by
  pointwise [k0_pay32, pay31_at, pay29_at]
  rfl

/-- The centred rows of the second normalization. -/
abbrev xc : FVec Ideal S256x1024 .f32 := k0_pay33 (F := Ideal) b.nrm b.shf b.x10 b.x11
/-- Their sums of squares. -/
abbrev ss : FVec Ideal S256 .f32 := k0_pay34 (F := Ideal) b.nrm b.shf b.x10 b.x11

theorem xc_at : (b.xc (ix2 a k) : EReal) = cen ((b.late a).pre b.ffn) k := by
  pointwise [k0_pay33, pay25_at, pay32_at]
  rfl

theorem ss_at : (b.ss (ix1 a) : EReal) = ∑ k, cen ((b.late a).pre b.ffn) k * cen ((b.late a).pre b.ffn) k := by
  pointwise [k0_pay34, xc_at]

/-- One over the standard deviations. -/
abbrev rs : FVec Ideal S256x1 .f32 := k0_pay35 (F := Ideal) b.ss
/-- The normalized rows. -/
abbrev xh : FVec Ideal S256x1024 .f32 := k0_pay36 (F := Ideal) b.xc b.ss

theorem rs_at : (b.rs (ix2 a 0) : EReal) = inv ((b.late a).pre b.ffn) := by
  pointwise [k0_pay35, ss_at]
  rfl

theorem xh_at : (b.xh (ix2 a k) : EReal) = hat ((b.late a).pre b.ffn) k := by
  pointwise [k0_pay36, xc_at, rs_at]
  rfl

/-- A grid point behind the first is told so. -/
theorem later : Scalar.cmpi .sgt b.num 0#32 = 1#1 :=
  (by decide +kernel : ∀ n : Fin 33, 1 ≤ n.val → Scalar.cmpi .sgt (BitVec.ofNat 32 n.val) 0#32 = 1#1)
    ⟨b.n, b.lt⟩ b.pos

theorem pay37_at : (k0_pay37 (F := Ideal) b.num b.x12 b.x13 b.xc b.ss b.x4 (ix2 a k) : EReal) = (b.late a).err b.ffn k := by
  simp only [k0_pay37, later]
  pointwise [xh_at]
  rfl

/-- The cotangents of the layer's output. -/
abbrev dy : FVec Ideal S256x1024 .f32 := k0_pay39 (F := Ideal) b.num b.x12 b.x13 b.xc b.ss b.x4

theorem dy_at : (b.dy (ix2 a k) : EReal) = (b.late a).dy b.ffn k := by
  pointwise [k0_pay39, pay37_at]
  rfl

theorem pay38_at (acc : FVec Ideal S1x1 .f32) :
    (k0_pay38 (F := Ideal) b.num b.x12 b.x13 b.xc b.ss b.x4 acc (ix2 0 0) : EReal)
      = acc (ix2 0 0) + (∑ a, (b.late a).sq b.ffn) * cHalfInvN := by
  pointwise [k0_pay38, pay37_at]
  rfl

theorem pay40_at (acc : FVec Ideal S1x1024 .f32) :
    (k0_pay40 (F := Ideal) b.num b.x12 b.x13 b.xc b.ss b.x4 acc (ix2 0 k) : EReal)
      = acc (ix2 0 k) + ∑ a, (b.late a).dg b.ffn k := by
  pointwise [k0_pay40, dy_at, xh_at]
  rfl

theorem pay41_at (acc : FVec Ideal S1x1024 .f32) :
    (k0_pay41 (F := Ideal) b.dy acc (ix2 0 k) : EReal) = acc (ix2 0 k) + ∑ a, (b.late a).dy b.ffn k := by
  pointwise [k0_pay41, dy_at]

/-- The gradient of the second normalization. -/
abbrev dr : FVec Ideal S256x1024 .f32 := k0_pay42 (F := Ideal) b.x12 b.rs b.xh b.dy

theorem dr_at : (b.dr (ix2 a k) : EReal) = (b.late a).dpre b.ffn k := by
  pointwise [k0_pay42, xh_at, rs_at, dy_at]
  rfl

theorem pay43_at : (k0_pay43 (F := Ideal) b.x12 b.rs b.xh b.dy (ix2 a k) : EReal) = (b.late a).dpre b.ffn k := by
  pointwise [k0_pay43, dr_at]

/-- The gradient of the first product. -/
abbrev dup : FVec Ideal S256x5632 .bf16 :=
  k0_pay44 (F := Ideal) b.x12 (k0_pay28 (F := Ideal) b.nrm b.shf b.x10) (k0_pay29 (F := Ideal) b.nrm b.shf b.x10)
    (k0_pay30 (F := Ideal) b.nrm b.shf b.x10) (k0_pay31 (F := Ideal) b.nrm b.shf b.x10) b.rs b.xh b.dy b.x11

theorem dup_lo : (b.dup (ix2 a (glo j)) : EReal) = (b.late a).da b.ffn j := by
  pointwise [k0_pay44, pay43_at, pay28_at, pay29_at, pay30_at, pay31_at]
  rw [dif_pos (show ((glo j : Fin 5632) : ℕ) < 2816 from j.isLt)]
  rfl

theorem dup_hi : (b.dup (ix2 a (ghi j)) : EReal) = (b.late a).du b.ffn j := by
  pointwise [k0_pay44, pay43_at, pay28_at, pay29_at, pay30_at, pay31_at]
  have e : ∀ h, (⟨(ghi j).val - 2816, h⟩ : Fin 2816) = j := fun h => Fin.ext (Nat.add_sub_cancel_left 2816 j.val)
  have hn : ¬ (ghi j).val < 2816 := by show ¬ 2816 + j.val < 2816; omega
  rw [dif_neg hn, e]
  rfl

theorem dup_at (l : Fin 5632) : (b.dup (ix2 a l) : EReal) = (b.late a).dup b.ffn l := by
  obtain ⟨j, rfl⟩ | ⟨j, rfl⟩ := col_cases l
  · rw [dup_lo, Late.dup_lo]
  · rw [dup_hi, Late.dup_hi]

theorem pay2_at : (k0_pay2 (F := Ideal) b.dr b.dup (k0_pay45 (F := Ideal)) b.x10 (ix2 a k) : EReal)
    = (b.late a).dh b.ffn k := by
  pointwise [k0_pay2, k0_pay45, dr_at, dup_at]
  rfl

end Blocks

theorem pay1_at (j) : (k0_pay1 (F := Ideal) j : EReal) = 0 := by pointwise [k0_pay1]
theorem pay3_at (j) : (k0_pay3 (F := Ideal) j : EReal) = 0 := by pointwise [k0_pay3]
theorem pay4_at (j) : (k0_pay4 (F := Ideal) j : EReal) = 0 := by pointwise [k0_pay4]
theorem pay5_at (j) : (k0_pay5 (F := Ideal) j : EReal) = 0 := by pointwise [k0_pay5]
theorem pay6_at (j) : (k0_pay6 (F := Ideal) j : EReal) = 0 := by pointwise [k0_pay6]
theorem pay7_at (j) : (k0_pay7 (F := Ideal) j : EReal) = 0 := by pointwise [k0_pay7]
theorem pay8_at (j) : (k0_pay8 (F := Ideal) j : EReal) = 0 := by pointwise [k0_pay8]
theorem pay9_at (j) : (k0_pay9 (F := Ideal) j : EReal) = 0 := by pointwise [k0_pay9]
theorem pay10_at (j) : (k0_pay10 (F := Ideal) j : EReal) = 0 := by pointwise [k0_pay10]
theorem pay11_at (j) : (k0_pay11 (F := Ideal) j : EReal) = 0 := by pointwise [k0_pay11]
theorem pay12_at (j) : (k0_pay12 (F := Ideal) j : EReal) = 0 := by pointwise [k0_pay12]

end Ker2

end
-- ==== Proof.Blocks2.lean ====
/- The feed-forward kernel's blocks as rows of its arguments. -/
module

public import proofs.«01_k».proof.Proof.Gen.Kernel2Ideal.Value
public import Idealize.ShloMosaic.Lib.Pipeline.ValueKit
public import Idealize.ShloMosaic.Lib.Claim
public import proofs.«01_k».proof.Proof.Ker2

@[expose] public section

set_option maxRecDepth 16384

noncomputable section

namespace Final2

open Cert.Kernel2Ideal Cert.Kernel2Ideal.Gen Idealize.ShloMosaic Idealize.ShloMosaic.TcCoe Idealize.SL.Sem
open Idealize.ShloMosaic.Pipeline (Dat)
open Rows

variable (m : (ℓ : Loc nD τ sig) → Buf (Elt Ideal) ℓ) (c : Dev nD)

/-- The rows of token `i` of those behind the first 256. -/
def tok (i : Fin 8192) : Token where
  h k := m ((c : Thread nD τ).loc main_arg0) (ix2 (row i) k)
  gates k := m ((c : Thread nD τ).loc main_arg1) (ix2 (row i) k)
  og j := m ((c : Thread nD τ).loc main_arg2) (ix2 (row i) j)
  oa j := m ((c : Thread nD τ).loc main_arg3) (ix2 (row i) j)
  d _ := 0

/-- The weights of the first half. -/
def wts : Weights where
  wh j k := m ((c : Thread nD τ).loc main_arg5) (ix2 j k)
  wa j k := m ((c : Thread nD τ).loc main_arg6) (ix2 j k)
  wo l k := m ((c : Thread nD τ).loc main_arg7) (ix2 l k)
  g k := m ((c : Thread nD τ).loc main_arg10) (ix2 0 k)

/-- The first normalization's shift. -/
def shift : Row := fun k => m ((c : Thread nD τ).loc main_arg11) (ix2 0 k)

/-- Token `i` where the feed-forward half starts. -/
def late (i : Fin 8192) : Late where
  h := (tok m c i).out (wts m c) (shift m c)
  t k := m ((c : Thread nD τ).loc main_arg4) (ix2 i k)

/-- The weights of the feed-forward half. -/
def ffn : Ffn where
  wi k l := m ((c : Thread nD τ).loc main_arg8) (ix2 k l)
  wo j k := m ((c : Thread nD τ).loc main_arg9) (ix2 j k)
  g k := m ((c : Thread nD τ).loc main_arg12) (ix2 0 k)
  b k := m ((c : Thread nD τ).loc main_arg13) (ix2 0 k)

/-- Row `a` of block `t`, among all tokens. -/
def full (t : Fin cfg0.N) (a : Fin 256) : Fin 8448 :=
  ⟨t.val * 256 + a.val, by have ht : t.val < 33 := lt_of_lt_of_eq t.isLt N_0; omega⟩

/-- Row `a` of block `t`, among those behind the first 256. -/
def at_ (t : Fin cfg0.N) (a : Fin 256) : Fin 8192 :=
  ⟨(t.val - 1) * 256 + a.val, by have ht : t.val < 33 := lt_of_lt_of_eq t.isLt N_0; omega⟩

theorem at_val (t : Fin cfg0.N) (a : Fin 256) : (at_ t a).val = (t.val - 1) * 256 + a.val := rfl

theorem row_at {t : Fin cfg0.N} (h : 1 ≤ t.val) (a : Fin 256) : row (at_ t a) = full t a :=
  Fin.ext (by show 256 + ((t.val - 1) * 256 + a.val) = t.val * 256 + a.val; omega)

/-- The grid point's coordinate. -/
theorem coord : ∀ t : Fin cfg0.N, (grid0.coords t 0).val = t.val :=
  (by decide +kernel : ∀ t : Fin grid0.N, (grid0.coords t 0).val = t.val)

/-- Which blocks a grid point reads and writes: the token arrays' own, the target's one before, the weights whole. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val - 1, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![t.val, 0]
    ∧ win0_15.index t = ![t.val, 0] ∧ win0_16.index t = ![t.val, 0] ∧ win0_17.index t = ![t.val, 0]
    ∧ win0_18.index t = ![t.val, 0] ∧ win0_19.index t = ![t.val, 0] ∧ win0_20.index t = ![t.val, 0]
    ∧ win0_21.index t = ![t.val, 0] ∧ win0_22.index t = ![0, 0] ∧ win0_23.index t = ![0, 0] ∧ win0_24.index t = ![0, 0] :=
  (by decide +kernel : ∀ t : Fin grid0.N, _)

section
variable (t : Fin cfg0.N) (a : Fin 256) (k : Fin 1024) (j : Fin 512)

theorem blk0 : iblk m c 0 t (ix2 a k) = m ((c : Thread nD τ).loc main_arg0) (ix2 (full t a) k) := by
  blk_ext [iblk, V, idx t, full, at_]
theorem blk1 (l : Fin 2048) : iblk m c 1 t (ix2 a l) = m ((c : Thread nD τ).loc main_arg1) (ix2 (full t a) l) := by
  blk_ext [iblk, V, idx t, full, at_]
theorem blk2 : iblk m c 2 t (ix2 a j) = m ((c : Thread nD τ).loc main_arg2) (ix2 (full t a) j) := by
  blk_ext [iblk, V, idx t, full, at_]
theorem blk3 : iblk m c 3 t (ix2 a j) = m ((c : Thread nD τ).loc main_arg3) (ix2 (full t a) j) := by
  blk_ext [iblk, V, idx t, full, at_]
theorem blk4 : iblk m c 4 t (ix2 a k) = m ((c : Thread nD τ).loc main_arg4) (ix2 (at_ t a) k) := by
  blk_ext [iblk, V, idx t, full, at_]
theorem blk5 : iblk m c 5 t (ix2 j k) = m ((c : Thread nD τ).loc main_arg5) (ix2 j k) := by
  blk_ext [iblk, V, idx t]
theorem blk6 : iblk m c 6 t (ix2 j k) = m ((c : Thread nD τ).loc main_arg6) (ix2 j k) := by
  blk_ext [iblk, V, idx t]
theorem blk7 (l : Fin 1024) : iblk m c 7 t (ix2 l k) = m ((c : Thread nD τ).loc main_arg7) (ix2 l k) := by
  blk_ext [iblk, V, idx t]
theorem blk8 : iblk m c 8 t (ix2 0 k) = m ((c : Thread nD τ).loc main_arg10) (ix2 0 k) := by
  blk_ext [iblk, V, idx t]
theorem blk9 : iblk m c 9 t (ix2 0 k) = m ((c : Thread nD τ).loc main_arg11) (ix2 0 k) := by
  blk_ext [iblk, V, idx t]
theorem blk10 (l : Fin 5632) : iblk m c 10 t (ix2 k l) = m ((c : Thread nD τ).loc main_arg8) (ix2 k l) := by
  blk_ext [iblk, V, idx t]
theorem blk11 (l : Fin 2816) : iblk m c 11 t (ix2 l k) = m ((c : Thread nD τ).loc main_arg9) (ix2 l k) := by
  blk_ext [iblk, V, idx t]
theorem blk12 : iblk m c 12 t (ix2 0 k) = m ((c : Thread nD τ).loc main_arg12) (ix2 0 k) := by
  blk_ext [iblk, V, idx t]
theorem blk13 : iblk m c 13 t (ix2 0 k) = m ((c : Thread nD τ).loc main_arg13) (ix2 0 k) := by
  blk_ext [iblk, V, idx t]
end

/-- The left half of the gates' block, at an index. -/
theorem ld_lo (x : Vec Ideal S256x2048 .f32) (inb) (a : Fin 256) (k : Fin 1024) :
    x ((Rect.unit (s := S256x2048) ![0, 0] ![256, 1024] inb).idx (ix2 a k)) = x (ix2 a (lo k)) := by
  refine congrArg x (funext fun i => Fin.ext ((Rect.idx_unit_val _ _ _ _ _).trans ?_))
  fin_cases i
  · exact Nat.zero_add a.val
  · exact Nat.zero_add k.val

/-- The right half of the gates' block, at an index. -/
theorem ld_hi (x : Vec Ideal S256x2048 .f32) (inb) (a : Fin 256) (k : Fin 1024) :
    x ((Rect.unit (s := S256x2048) ![0, 1024] ![256, 1024] inb).idx (ix2 a k)) = x (ix2 a (hi k)) := by
  refine congrArg x (funext fun i => Fin.ext ((Rect.idx_unit_val _ _ _ _ _).trans ?_))
  fin_cases i
  · exact Nat.zero_add a.val
  · rfl

/-- The blocks of a point behind the first. -/
def blocks (t : Fin cfg0.N) (h : 1 ≤ t.val) (p q : Vec Ideal S256x1024 .f32) : Ker2.Blocks :=
  ⟨(grid0.coords t 0).val, by rw [coord]; exact h, by rw [coord]; exact lt_of_lt_of_eq t.isLt N_0,
    iblk m c 0 t, p, q, iblk m c 2 t, iblk m c 3 t, iblk m c 4 t, iblk m c 5 t, iblk m c 6 t, iblk m c 7 t, iblk m c 8 t,
    iblk m c 9 t, iblk m c 10 t, iblk m c 11 t, iblk m c 12 t, iblk m c 13 t⟩

section
variable (t : Fin cfg0.N) (h : 1 ≤ t.val) (p q : Vec Ideal S256x1024 .f32)

theorem wts_eq : (blocks m c t h p q).wts = wts m c :=
  Weights.ext (funext₂ fun j k => blk5 m c t k j) (funext₂ fun j k => blk6 m c t k j)
    (funext₂ fun l k => blk7 m c t k l) (funext fun k => blk8 m c t k)

theorem ffn_eq : (blocks m c t h p q).ffn = ffn m c :=
  Ffn.ext (funext₂ fun k l => blk10 m c t k l) (funext₂ fun l k => blk11 m c t k l)
    (funext fun k => blk12 m c t k) (funext fun k => blk13 m c t k)

theorem tok_eq (hp : ∀ a k, p (ix2 a k) = iblk m c 1 t (ix2 a (lo k))) (hq : ∀ a k, q (ix2 a k) = iblk m c 1 t (ix2 a (hi k)))
    (a : Fin 256) : (blocks m c t h p q).tok a = tok m c (at_ t a) := by
  refine Token.ext (funext fun k => (blk0 m c t a k).trans ?_) (funext fun l => ?_) (funext fun j => (blk2 m c t a j).trans ?_)
    (funext fun j => (blk3 m c t a j).trans ?_) rfl
  · rw [← row_at h]; rfl
  · refine Eq.trans ?_ ((blk1 m c t a l).trans (by rw [← row_at h]; rfl))
    obtain ⟨k, rfl⟩ | ⟨k, rfl⟩ := gate_cases l
    · rw [Ker2.Blocks.gates_lo]
      exact hp _ _
    · rw [Ker2.Blocks.gates_hi]
      exact hq _ _
  · rw [← row_at h]; rfl
  · rw [← row_at h]; rfl

theorem og_eq (a : Fin 256) : ((blocks m c t h p q).tok a).og = (tok m c (at_ t a)).og :=
  funext fun j => (blk2 m c t a j).trans (by rw [← row_at h]; rfl)

theorem oa_eq (a : Fin 256) : ((blocks m c t h p q).tok a).oa = (tok m c (at_ t a)).oa :=
  funext fun j => (blk3 m c t a j).trans (by rw [← row_at h]; rfl)

theorem late_eq (hp : ∀ a k, p (ix2 a k) = iblk m c 1 t (ix2 a (lo k))) (hq : ∀ a k, q (ix2 a k) = iblk m c 1 t (ix2 a (hi k)))
    (a : Fin 256) : (blocks m c t h p q).late a = late m c (at_ t a) := by
  have hs : (blocks m c t h p q).shift = shift m c := funext fun k => blk9 m c t k
  refine Late.ext ?_ (funext fun k => blk4 m c t a k)
  show ((blocks m c t h p q).tok a).out (blocks m c t h p q).wts (blocks m c t h p q).shift = _
  rw [tok_eq m c t h p q hp hq, wts_eq, hs]
  rfl
end

end Final2

end
-- ==== Proof.Final2.lean ====
/- The feed-forward kernel's arrays with a row per token, each as one formula of the arguments. -/
module

public import proofs.«01_k».proof.Proof.Gen.Kernel2Ideal.Value
public import Idealize.ShloMosaic.Lib.Pipeline.ValueKit
public import Idealize.ShloMosaic.Lib.Claim
public import proofs.«01_k».proof.Proof.Blocks2

@[expose] public section

set_option maxRecDepth 16384

noncomputable section

namespace Final2

open Cert.Kernel2Ideal Cert.Kernel2Ideal.Gen Idealize.ShloMosaic Idealize.ShloMosaic.TcCoe Idealize.SL.Sem
open Idealize.ShloMosaic.Pipeline (Dat)
open Rows

variable (m : (ℓ : Loc nD τ sig) → Buf (Elt Ideal) ℓ) (c : Dev nD)

set_option maxHeartbeats 1000000 in
theorem final14 : (dats m 0 c).arrAt 14 (cfgs 0).N
    = fun y : S8448x1024.Idx => (behind (fun i => (late m c i).dh (ffn m c) (y 1)) (y 0) : EReal) := by
  refine (dats m 0 c).arrAt_eq_of_covers 14 _ (by decide +kernel) fun t hf y => ?_
  have ht : t.val < 33 := lt_of_lt_of_eq t.isLt N_0
  blk_simp
  rw [after0_14]
  by_cases h : t.val % 33 = 0
  · rw [outsAt0_A m c t h (by omega)]
    frame_out
    rw [Ker2.pay3_at]
    idx_vars y
    refine (behind_first ?_).symm
    blk_simp [idx t]; omega
  · rw [outsAt0_B m c t h (by omega) h]
    frame_out
    idx_vars y
    refine ((blocks m c t (by omega) _ _).pay2_at y0 y1).trans ?_
    rw [late_eq m c t _ _ _ (fun a k => ld_lo (iblk m c 1 t) inb_S256x2048_S256x1024_0_0 a k)
      (fun a k => ld_hi (iblk m c 1 t) inb_S256x2048_S256x1024_0_1024 a k), ffn_eq]
    exact behind_at (fun i k => (late m c i).dh (ffn m c) k) (by rw [at_val]; blk_simp [idx t]; omega) (Fin.ext (by blk_simp [idx t]))

set_option maxHeartbeats 1000000 in
theorem final15 : (dats m 0 c).arrAt 15 (cfgs 0).N
    = fun y : S8448x5632.Idx => (behind (fun i => (late m c i).dup (ffn m c) (y 1)) (y 0) : EReal) := by
  refine (dats m 0 c).arrAt_eq_of_covers 15 _ (by decide +kernel) fun t hf y => ?_
  have ht : t.val < 33 := lt_of_lt_of_eq t.isLt N_0
  blk_simp
  rw [after0_15]
  by_cases h : t.val % 33 = 0
  · rw [outsAt0_A m c t h (by omega)]
    frame_out
    rw [Ker2.pay4_at]
    idx_vars y
    refine (behind_first ?_).symm
    blk_simp [idx t]; omega
  · rw [outsAt0_B m c t h (by omega) h]
    frame_out
    idx_vars y
    refine ((blocks m c t (by omega) _ _).dup_at y0 y1).trans ?_
    rw [late_eq m c t _ _ _ (fun a k => ld_lo (iblk m c 1 t) inb_S256x2048_S256x1024_0_0 a k)
      (fun a k => ld_hi (iblk m c 1 t) inb_S256x2048_S256x1024_0_1024 a k), ffn_eq]
    exact behind_at (fun i k => (late m c i).dup (ffn m c) k) (by rw [at_val]; blk_simp [idx t]; omega) (Fin.ext (by blk_simp [idx t]))

set_option maxHeartbeats 1000000 in
theorem final16 : (dats m 0 c).arrAt 16 (cfgs 0).N
    = fun y : S8448x2816.Idx => (behind (fun i => (late m c i).mid (ffn m c) (y 1)) (y 0) : EReal) := by
  refine (dats m 0 c).arrAt_eq_of_covers 16 _ (by decide +kernel) fun t hf y => ?_
  have ht : t.val < 33 := lt_of_lt_of_eq t.isLt N_0
  blk_simp
  rw [after0_16]
  by_cases h : t.val % 33 = 0
  · rw [outsAt0_A m c t h (by omega)]
    frame_out
    rw [Ker2.pay5_at]
    idx_vars y
    refine (behind_first ?_).symm
    blk_simp [idx t]; omega
  · rw [outsAt0_B m c t h (by omega) h]
    frame_out
    idx_vars y
    refine ((blocks m c t (by omega) _ _).pay32_at y0 y1).trans ?_
    rw [late_eq m c t _ _ _ (fun a k => ld_lo (iblk m c 1 t) inb_S256x2048_S256x1024_0_0 a k)
      (fun a k => ld_hi (iblk m c 1 t) inb_S256x2048_S256x1024_0_1024 a k), ffn_eq]
    exact behind_at (fun i k => (late m c i).mid (ffn m c) k) (by rw [at_val]; blk_simp [idx t]; omega) (Fin.ext (by blk_simp [idx t]))

set_option maxHeartbeats 1000000 in
theorem final17 : (dats m 0 c).arrAt 17 (cfgs 0).N
    = fun y : S8448x1024.Idx => (behind (fun i => (late m c i).dpre (ffn m c) (y 1)) (y 0) : EReal) := by
  refine (dats m 0 c).arrAt_eq_of_covers 17 _ (by decide +kernel) fun t hf y => ?_
  have ht : t.val < 33 := lt_of_lt_of_eq t.isLt N_0
  blk_simp
  rw [after0_17]
  by_cases h : t.val % 33 = 0
  · rw [outsAt0_A m c t h (by omega)]
    frame_out
    rw [Ker2.pay6_at]
    idx_vars y
    refine (behind_first ?_).symm
    blk_simp [idx t]; omega
  · rw [outsAt0_B m c t h (by omega) h]
    frame_out
    idx_vars y
    refine ((blocks m c t (by omega) _ _).pay43_at y0 y1).trans ?_
    rw [late_eq m c t _ _ _ (fun a k => ld_lo (iblk m c 1 t) inb_S256x2048_S256x1024_0_0 a k)
      (fun a k => ld_hi (iblk m c 1 t) inb_S256x2048_S256x1024_0_1024 a k), ffn_eq]
    exact behind_at (fun i k => (late m c i).dpre (ffn m c) k) (by rw [at_val]; blk_simp [idx t]; omega) (Fin.ext (by blk_simp [idx t]))

set_option maxHeartbeats 1000000 in
theorem final18 : (dats m 0 c).arrAt 18 (cfgs 0).N
    = fun y : S8448x1024.Idx => (behind (fun i => (tok m c i).mixed (wts m c) (y 1)) (y 0) : EReal) := by
  refine (dats m 0 c).arrAt_eq_of_covers 18 _ (by decide +kernel) fun t hf y => ?_
  have ht : t.val < 33 := lt_of_lt_of_eq t.isLt N_0
  blk_simp
  rw [after0_18]
  by_cases h : t.val % 33 = 0
  · rw [outsAt0_A m c t h (by omega)]
    frame_out
    rw [Ker2.pay7_at]
    idx_vars y
    refine (behind_first ?_).symm
    blk_simp [idx t]; omega
  · rw [outsAt0_B m c t h (by omega) h]
    frame_out
    idx_vars y
    refine ((blocks m c t (by omega) _ _).mix_at y0 y1).trans ?_
    rw [tok_eq m c t _ _ _ (fun a k => ld_lo (iblk m c 1 t) inb_S256x2048_S256x1024_0_0 a k)
      (fun a k => ld_hi (iblk m c 1 t) inb_S256x2048_S256x1024_0_1024 a k), wts_eq]
    exact behind_at (fun i k => (tok m c i).mixed (wts m c) k) (by rw [at_val]; blk_simp [idx t]; omega) (Fin.ext (by blk_simp [idx t]))

set_option maxHeartbeats 1000000 in
theorem final19 : (dats m 0 c).arrAt 19 (cfgs 0).N
    = fun y : S8448x1024.Idx => (behind (fun i => (late m c i).h (y 1)) (y 0) : EReal) := by
  refine (dats m 0 c).arrAt_eq_of_covers 19 _ (by decide +kernel) fun t hf y => ?_
  have ht : t.val < 33 := lt_of_lt_of_eq t.isLt N_0
  blk_simp
  rw [after0_19]
  by_cases h : t.val % 33 = 0
  · rw [outsAt0_A m c t h (by omega)]
    frame_out
    rw [Ker2.pay8_at]
    idx_vars y
    refine (behind_first ?_).symm
    blk_simp [idx t]; omega
  · rw [outsAt0_B m c t h (by omega) h]
    frame_out
    idx_vars y
    refine ((blocks m c t (by omega) _ _).pay26_at y0 y1).trans ?_
    rw [late_eq m c t _ _ _ (fun a k => ld_lo (iblk m c 1 t) inb_S256x2048_S256x1024_0_0 a k)
      (fun a k => ld_hi (iblk m c 1 t) inb_S256x2048_S256x1024_0_1024 a k)]
    exact behind_at (fun i k => (late m c i).h k) (by rw [at_val]; blk_simp [idx t]; omega) (Fin.ext (by blk_simp [idx t]))

set_option maxHeartbeats 1000000 in
theorem final20 : (dats m 0 c).arrAt 20 (cfgs 0).N
    = fun y : S8448x512.Idx => (behind (fun i => (tok m c i).og (y 1)) (y 0) : EReal) := by
  refine (dats m 0 c).arrAt_eq_of_covers 20 _ (by decide +kernel) fun t hf y => ?_
  have ht : t.val < 33 := lt_of_lt_of_eq t.isLt N_0
  blk_simp
  rw [after0_20]
  by_cases h : t.val % 33 = 0
  · rw [outsAt0_A m c t h (by omega)]
    frame_out
    rw [Ker2.pay9_at]
    idx_vars y
    refine (behind_first ?_).symm
    blk_simp [idx t]; omega
  · rw [outsAt0_B m c t h (by omega) h]
    frame_out
    idx_vars y
    refine ((blocks m c t (by omega) (fun _ => 0) (fun _ => 0)).pay17_at y0 y1).trans ?_
    rw [og_eq]
    exact behind_at (fun i k => (tok m c i).og k) (by rw [at_val]; blk_simp [idx t]; omega) (Fin.ext (by blk_simp [idx t]))

set_option maxHeartbeats 1000000 in
theorem final21 : (dats m 0 c).arrAt 21 (cfgs 0).N
    = fun y : S8448x512.Idx => (behind (fun i => (tok m c i).oa (y 1)) (y 0) : EReal) := by
  refine (dats m 0 c).arrAt_eq_of_covers 21 _ (by decide +kernel) fun t hf y => ?_
  have ht : t.val < 33 := lt_of_lt_of_eq t.isLt N_0
  blk_simp
  rw [after0_21]
  by_cases h : t.val % 33 = 0
  · rw [outsAt0_A m c t h (by omega)]
    frame_out
    rw [Ker2.pay10_at]
    idx_vars y
    refine (behind_first ?_).symm
    blk_simp [idx t]; omega
  · rw [outsAt0_B m c t h (by omega) h]
    frame_out
    idx_vars y
    refine ((blocks m c t (by omega) (fun _ => 0) (fun _ => 0)).pay18_at y0 y1).trans ?_
    rw [oa_eq]
    exact behind_at (fun i k => (tok m c i).oa k) (by rw [at_val]; blk_simp [idx t]; omega) (Fin.ext (by blk_simp [idx t]))

end Final2

end
-- ==== Proof.Sums2.lean ====
/- The feed-forward kernel's sums over all tokens: the loss, and the gradients of the second norm's scale and shift. -/
module

public import proofs.«01_k».proof.Proof.Gen.Kernel2Ideal.Value
public import Idealize.ShloMosaic.Lib.Pipeline.ValueKit
public import Idealize.ShloMosaic.Lib.Claim
public import proofs.«01_k».proof.Proof.Blocks2

@[expose] public section

set_option maxRecDepth 16384

noncomputable section

namespace Final2

open Cert.Kernel2Ideal Cert.Kernel2Ideal.Gen Idealize.ShloMosaic Idealize.ShloMosaic.TcCoe Idealize.SL.Sem
open Idealize.ShloMosaic.Pipeline (Dat)
open Rows

variable (m : (ℓ : Loc nD τ sig) → Buf (Elt Ideal) ℓ) (c : Dev nD)

theorem final22 (hr : ∀ i, IsReal ((late m c i).sq (ffn m c))) : (dats m 0 c).arrAt 22 (cfgs 0).N
    = fun y : S1x1.Idx => (∑ i, (late m c i).sq (ffn m c) * cHalfInvN : EReal) := by
  refine (dats m 0 c).arrAt_eq_of_covers 22 _ (by decide +kernel) fun t hf y => ?_
  have ht : t.val < 33 := lt_of_lt_of_eq t.isLt N_0
  have hl : t.val % 33 = 32 := (flush0_22 t).mp hf
  blk_simp
  rw [after0_22, Pipeline.eq_sum_fin_of_reset_step_apply_of_flush (fun n h => (outsAt0 m c n h).2.2.2.2.2.2.2.2.1) 33 (fun _ => 0)
    (fun t y => (∑ a, behind (fun i => (late m c i).sq (ffn m c) * cHalfInvN) (full t a) : EReal))
    (fun t h y => ?_) (fun t h y => ?_) t hl _, zero_add, ← sum_behind]
  · refine Fin.sum_mul_add_congr fun s a hl' => ?_
    refine congrArg (behind fun i => (late m c i).sq (ffn m c) * cHalfInvN) (Fin.ext ?_)
    show (33 * (t.val / 33) + s.val) * 256 + a.val = s.val * 256 + a.val
    rw [show t.val / 33 = 0 by omega, Nat.mul_zero, Nat.zero_add]
  · have ht : t.val < 33 := lt_of_lt_of_eq t.isLt N_0
    rw [outsAt0_A m c t h (by omega)]
    frame_out
    rw [Ker2.pay11_at, zero_add]
    refine (Finset.sum_eq_zero fun a _ => behind_first ?_).symm
    show t.val * 256 + a.val < 256
    omega
  · have ht : t.val < 33 := lt_of_lt_of_eq t.isLt N_0
    have h1 : 1 ≤ t.val := by omega
    rw [outsAt0_B m c t h (by omega) h]
    frame_out
    idx_vars y
    obtain rfl : y0 = 0 := Subsingleton.elim _ _
    obtain rfl : y1 = 0 := Subsingleton.elim _ _
    refine ((blocks m c t h1 _ _).pay38_at _).trans (congrArg _ ?_)
    rw [sum_ext fun a => congrArg (fun z : Late => z.sq _) (late_eq m c t h1 _ _ (fun a k => ld_lo (iblk m c 1 t) inb_S256x2048_S256x1024_0_0 a k)
      (fun a k => ld_hi (iblk m c 1 t) inb_S256x2048_S256x1024_0_1024 a k) a), ffn_eq,
      sum_mul (fun a => hr (at_ t a)) ⟨_, cHalfInvN_eq⟩]
    refine sum_ext fun a => ?_
    exact (behind_eq (f := fun i => (late m c i).sq (ffn m c) * cHalfInvN) (congrArg Fin.val (row_at h1 a)).symm).symm

theorem final23 : (dats m 0 c).arrAt 23 (cfgs 0).N
    = fun y : S1x1024.Idx => (∑ i, (late m c i).dg (ffn m c) (y 1) : EReal) := by
  refine (dats m 0 c).arrAt_eq_of_covers 23 _ (by decide +kernel) fun t hf y => ?_
  have ht : t.val < 33 := lt_of_lt_of_eq t.isLt N_0
  have hl : t.val % 33 = 32 := (flush0_23 t).mp hf
  blk_simp
  rw [after0_23, Pipeline.eq_sum_fin_of_reset_step_apply_of_flush (fun n h => (outsAt0 m c n h).2.2.2.2.2.2.2.2.2.1) 33 (fun _ => 0)
    (fun t y => (∑ a, behind (fun i => (late m c i).dg (ffn m c) (y 1)) (full t a) : EReal))
    (fun t h y => ?_) (fun t h y => ?_) t hl _, zero_add, ← sum_behind]
  · refine Fin.sum_mul_add_congr fun s a hl' => ?_
    refine congrArg₂ (fun k i => behind (fun i => (late m c i).dg (ffn m c) k) i) ?_ (Fin.ext ?_)
    · exact Fin.ext (by blk_simp [idx t])
    · show (33 * (t.val / 33) + s.val) * 256 + a.val = s.val * 256 + a.val
      rw [show t.val / 33 = 0 by omega, Nat.mul_zero, Nat.zero_add]
  · have ht : t.val < 33 := lt_of_lt_of_eq t.isLt N_0
    rw [outsAt0_A m c t h (by omega)]
    frame_out
    rw [Ker2.pay12_at, zero_add]
    refine (Finset.sum_eq_zero fun a _ => behind_first ?_).symm
    show t.val * 256 + a.val < 256
    omega
  · have ht : t.val < 33 := lt_of_lt_of_eq t.isLt N_0
    have h1 : 1 ≤ t.val := by omega
    rw [outsAt0_B m c t h (by omega) h]
    frame_out
    idx_vars y
    obtain rfl : y0 = 0 := Subsingleton.elim _ _
    refine ((blocks m c t h1 _ _).pay40_at y1 _).trans (congrArg _ (sum_ext fun a => ?_))
    rw [late_eq m c t h1 _ _ (fun a k => ld_lo (iblk m c 1 t) inb_S256x2048_S256x1024_0_0 a k)
      (fun a k => ld_hi (iblk m c 1 t) inb_S256x2048_S256x1024_0_1024 a k), ffn_eq]
    exact (behind_eq (f := fun i => (late m c i).dg (ffn m c) y1) (congrArg Fin.val (row_at h1 a)).symm).symm

theorem final24 : (dats m 0 c).arrAt 24 (cfgs 0).N
    = fun y : S1x1024.Idx => (∑ i, (late m c i).dy (ffn m c) (y 1) : EReal) := by
  refine (dats m 0 c).arrAt_eq_of_covers 24 _ (by decide +kernel) fun t hf y => ?_
  have ht : t.val < 33 := lt_of_lt_of_eq t.isLt N_0
  have hl : t.val % 33 = 32 := (flush0_24 t).mp hf
  blk_simp
  rw [after0_24, Pipeline.eq_sum_fin_of_reset_step_apply_of_flush (fun n h => (outsAt0 m c n h).2.2.2.2.2.2.2.2.2.2) 33 (fun _ => 0)
    (fun t y => (∑ a, behind (fun i => (late m c i).dy (ffn m c) (y 1)) (full t a) : EReal))
    (fun t h y => ?_) (fun t h y => ?_) t hl _, zero_add, ← sum_behind]
  · refine Fin.sum_mul_add_congr fun s a hl' => ?_
    refine congrArg₂ (fun k i => behind (fun i => (late m c i).dy (ffn m c) k) i) ?_ (Fin.ext ?_)
    · exact Fin.ext (by blk_simp [idx t])
    · show (33 * (t.val / 33) + s.val) * 256 + a.val = s.val * 256 + a.val
      rw [show t.val / 33 = 0 by omega, Nat.mul_zero, Nat.zero_add]
  · have ht : t.val < 33 := lt_of_lt_of_eq t.isLt N_0
    rw [outsAt0_A m c t h (by omega)]
    frame_out
    rw [Ker2.pay1_at, zero_add]
    refine (Finset.sum_eq_zero fun a _ => behind_first ?_).symm
    show t.val * 256 + a.val < 256
    omega
  · have ht : t.val < 33 := lt_of_lt_of_eq t.isLt N_0
    have h1 : 1 ≤ t.val := by omega
    rw [outsAt0_B m c t h (by omega) h]
    frame_out
    idx_vars y
    obtain rfl : y0 = 0 := Subsingleton.elim _ _
    refine ((blocks m c t h1 _ _).pay41_at y1 _).trans (congrArg _ (sum_ext fun a => ?_))
    rw [late_eq m c t h1 _ _ (fun a k => ld_lo (iblk m c 1 t) inb_S256x2048_S256x1024_0_0 a k)
      (fun a k => ld_hi (iblk m c 1 t) inb_S256x2048_S256x1024_0_1024 a k), ffn_eq]
    exact (behind_eq (f := fun i => (late m c i).dy (ffn m c) y1) (congrArg Fin.val (row_at h1 a)).symm).symm

end Final2

end
-- ==== Proof.Ref2.lean ====
/- The feed-forward reference's intermediate arrays and results read at an index, as the formulas of `Spec` and `Ffn`. -/
module

public import proofs.«01_k».proof.Proof.Gen.Reference2Ideal.Run
public import Idealize.ShloMosaic.Lib.KernelVsHost
public import proofs.«01_k».proof.Proof.Ffn

@[expose] public section

set_option maxRecDepth 16384

noncomputable section

namespace Ref2

open Cert.Reference2Ideal Cert.Reference2Ideal.Gen Cert.Reference2Ideal.Value Idealize.ShloMosaic Idealize.ShloMosaic.TcCoe Idealize.SL.Sem
open Rows

variable (V0 : Valuation τ sig (Elt Ideal))

/-- The rows of token `i`. -/
def tok (i : Fin 8192) : Token where
  h k := V0 (Proc.devRef .tc main_arg0) (ix2 (row i) k)
  gates k := V0 (Proc.devRef .tc main_arg1) (ix2 (row i) k)
  og j := V0 (Proc.devRef .tc main_arg2) (ix2 (row i) j)
  oa j := V0 (Proc.devRef .tc main_arg3) (ix2 (row i) j)
  d _ := 0

/-- The weights of the first half. -/
def wts : Weights where
  wh j k := V0 (Proc.devRef .tc main_arg5) (ix2 j k)
  wa j k := V0 (Proc.devRef .tc main_arg6) (ix2 j k)
  wo l k := V0 (Proc.devRef .tc main_arg7) (ix2 l k)
  g k := V0 (Proc.devRef .tc main_arg10) (ix2 0 k)

/-- The first normalization's shift. -/
def shift : Row := fun k => V0 (Proc.devRef .tc main_arg11) (ix2 0 k)

/-- Token `i` where the feed-forward half starts. -/
def late (i : Fin 8192) : Late where
  h := (tok V0 i).out (wts V0) (shift V0)
  t k := V0 (Proc.devRef .tc main_arg4) (ix2 i k)

/-- The weights of the feed-forward half. -/
def ffn : Ffn where
  wi k l := V0 (Proc.devRef .tc main_arg8) (ix2 k l)
  wo j k := V0 (Proc.devRef .tc main_arg9) (ix2 j k)
  g k := V0 (Proc.devRef .tc main_arg12) (ix2 0 k)
  b k := V0 (Proc.devRef .tc main_arg13) (ix2 0 k)

variable (i : Fin 8192) (k : Fin 1024) (j : Fin 2816)

theorem v18_at (l : Fin 2048) : (res_main_v18 (F := Ideal) V0 (ix2 i l) : EReal) = sg ((tok V0 i).gates l) := by
  pointwise [res_main_v18]
  rfl

theorem v7_at (j : Fin 512) : (res_main_v7 (F := Ideal) V0 (ix2 i j) : EReal) = (tok V0 i).og j := by
  pointwise [res_main_v7]
  rfl

theorem v8_at (j : Fin 512) : (res_main_v8 (F := Ideal) V0 (ix2 i j) : EReal) = (tok V0 i).oa j := by
  pointwise [res_main_v8]
  rfl

theorem v23_at : (res_main_v23 (F := Ideal) V0 (ix2 i k) : EReal) = (tok V0 i).mixed (wts V0) k := by
  pointwise [res_main_v23, v18_at, v7_at, v8_at]
  rfl

theorem v27_at : (res_main_v27 (F := Ideal) V0 (ix2 i k) : EReal) = (tok V0 i).pre (wts V0) k := by
  pointwise [res_main_v27, v23_at]
  rfl

theorem v31_at : (res_main_v31 (F := Ideal) V0 (ix2 i 0) : EReal) = mean ((tok V0 i).pre (wts V0)) := by
  pointwise [res_main_v31, v27_at]
  rfl

theorem v33_at : (res_main_v33 (F := Ideal) V0 (ix2 i k) : EReal) = cen ((tok V0 i).pre (wts V0)) k := by
  pointwise [res_main_v33, v27_at, v31_at]
  rfl

theorem v49_at : (res_main_v49 (F := Ideal) V0 (ix2 i k) : EReal) = (late V0 i).h k := by
  pointwise [res_main_v49, v27_at, v31_at, v33_at]
  rfl

theorem v50_at (l : Fin 5632) : (res_main_v50 (F := Ideal) V0 (ix2 i l) : EReal) = (late V0 i).up (ffn V0) l := by
  pointwise [res_main_v50, res_main_v3, v49_at]
  rfl

theorem v51_at : (res_main_v51 (F := Ideal) V0 (ix2 i j) : EReal) = (late V0 i).a (ffn V0) j := by
  pointwise [res_main_v51, v50_at]
  rfl

theorem v52_at : (res_main_v52 (F := Ideal) V0 (ix2 i j) : EReal) = (late V0 i).u (ffn V0) j := by
  pointwise [res_main_v52, v50_at]
  rfl

theorem v53_2_at : (res_main_v53_2 (F := Ideal) V0 (ix2 i j) : EReal) = sg ((late V0 i).a (ffn V0) j) := by
  pointwise [res_main_v53_2, v51_at]
  rfl

theorem v53_0_at : (res_main_v53_0 (F := Ideal) V0 (ix2 i j) : EReal) = (late V0 i).act (ffn V0) j := by
  pointwise [res_main_v53_0, v51_at, v53_2_at]
  rfl

theorem v54_at : (res_main_v54 (F := Ideal) V0 (ix2 i j) : EReal) = (late V0 i).mid (ffn V0) j := by
  pointwise [res_main_v54, v53_0_at, v52_at]
  rfl

theorem v58_at : (res_main_v58 (F := Ideal) V0 (ix2 i k) : EReal) = (late V0 i).pre (ffn V0) k := by
  pointwise [res_main_v58, v49_at, v54_at, res_main_v4]
  rfl

theorem v62_at : (res_main_v62 (F := Ideal) V0 (ix2 i 0) : EReal) = mean ((late V0 i).pre (ffn V0)) := by
  pointwise [res_main_v62, v58_at]
  rfl

theorem v64_at : (res_main_v64 (F := Ideal) V0 (ix2 i k) : EReal) = cen ((late V0 i).pre (ffn V0)) k := by
  pointwise [res_main_v64, v58_at, v62_at]
  rfl

theorem v73_at : (res_main_v73 (F := Ideal) V0 (ix2 i k) : EReal) = cen ((late V0 i).pre (ffn V0)) k := by
  pointwise [res_main_v73, v58_at, v62_at]
  rfl

theorem v75_at : (res_main_v75 (F := Ideal) V0 (ix2 i 0) : EReal) = spread ((late V0 i).pre (ffn V0)) := by
  pointwise [res_main_v75, v64_at]
  rfl

theorem v76_at : (res_main_v76 (F := Ideal) V0 (ix2 i 0) : EReal) = inv ((late V0 i).pre (ffn V0)) := by
  pointwise [res_main_v76, v75_at]
  rfl

theorem v81_at : (res_main_v81 (F := Ideal) V0 (ix2 i k) : EReal) = hat ((late V0 i).pre (ffn V0)) k := by
  pointwise [res_main_v81, v73_at, v76_at]
  rfl

theorem v86_at : (res_main_v86 (F := Ideal) V0 (ix2 i k) : EReal) = (late V0 i).err (ffn V0) k := by
  pointwise [res_main_v86, v81_at]
  rfl

variable (r : (late V0 i).Real (ffn V0))

section
include r

theorem v100_at : (res_main_v100 (F := Ideal) V0 (ix2 i k) : EReal) = (late V0 i).dy (ffn V0) k := by
  pointwise [res_main_v100, v86_at]
  exact r.dy_eq k

theorem v107_at : (res_main_v107 (F := Ideal) V0 (ix2 i k) : EReal) = (late V0 i).dy (ffn V0) k * (ffn V0).g k := by
  pointwise [res_main_v107]
  rw [v100_at V0 i k r]
  rfl

theorem v112_at : (res_main_v112 (F := Ideal) V0 (ix2 i k) : EReal)
    = (late V0 i).dy (ffn V0) k * (ffn V0).g k * inv ((late V0 i).pre (ffn V0)) := by
  pointwise [res_main_v112, v76_at]
  rw [v107_at V0 i k r]

theorem v121_at : (res_main_v121 (F := Ideal) V0 (ix2 i k) : EReal)
    = viaVar ((late V0 i).pre (ffn V0)) (fun k => (late V0 i).dy (ffn V0) k * (ffn V0).g k) k := by
  pointwise [res_main_v121, v73_at, v64_at]
  simp only [Fin.sum_univ_one]
  rw [v76_at, v75_at]
  rw [sum_ext fun l => congrArg (_ * ·) (v107_at V0 i l r)]
  rfl

theorem v131_at : (res_main_v131 (F := Ideal) V0 (ix2 i k) : EReal) = (late V0 i).dpre (ffn V0) k := by
  rw [← r.vjp_eq]
  pointwise [res_main_v131]
  simp only [Fin.sum_univ_one]
  rw [v112_at V0 i k r, v121_at V0 i k r, sum_ext fun l => congrArg (- ·) (v112_at V0 i l r),
    sum_ext fun l => congrArg (- ·) (v121_at V0 i l r)]
  rfl

theorem v134_at : (res_main_v134 (F := Ideal) V0 (ix2 i j) : EReal) = (late V0 i).dmid (ffn V0) j := by
  pointwise [res_main_v134, res_main_v4]
  refine sum_ext fun l => ?_
  rw [v131_at V0 i l r]
  rfl

theorem v136_at : (res_main_v136 (F := Ideal) V0 (ix2 i j) : EReal)
    = (late V0 i).dmid (ffn V0) j * (late V0 i).u (ffn V0) j := by
  pointwise [res_main_v136, v52_at]
  rw [v134_at V0 i j r]

theorem v138_lo : (res_main_v138 (F := Ideal) V0 (ix2 i (glo j)) : EReal) = (late V0 i).da (ffn V0) j := by
  pointwise [res_main_v138, v53_2_at, v51_at]
  rw [dif_pos (show ((glo j : Fin 5632) : ℕ) < 2816 from j.isLt)]
  refine Eq.trans ?_ (r.da_eq j)
  exact congrArg (fun z : EReal => z * _ + _ * z * _) (v136_at V0 i j r)

theorem v138_hi : (res_main_v138 (F := Ideal) V0 (ix2 i (ghi j)) : EReal) = (late V0 i).du (ffn V0) j := by
  pointwise [res_main_v138, v53_0_at]
  have e : ∀ h, (⟨(ghi j).val - 2816, h⟩ : Fin 2816) = j := fun h => Fin.ext (Nat.add_sub_cancel_left 2816 j.val)
  have hn : ¬ (ghi j).val < 2816 := by show ¬ 2816 + j.val < 2816; omega
  rw [dif_neg hn, e, v134_at V0 i j r]
  exact mul_comm (_ : EReal) _

theorem v138_at (l : Fin 5632) : (res_main_v138 (F := Ideal) V0 (ix2 i l) : EReal) = (late V0 i).dup (ffn V0) l := by
  obtain ⟨j, rfl⟩ | ⟨j, rfl⟩ := col_cases l
  · rw [v138_lo V0 i j r, Late.dup_lo]
  · rw [v138_hi V0 i j r, Late.dup_hi]

theorem v141_at : (addf (F := Ideal) (mulf (broadcastInDim S8192x1024 ![] bcast_S_S8192x1024 (constant S_ .f32 0x3F9837F0#32)) (res_main_v131 V0)) (Host.dotGeneral (φ₁ := .f32) (φ₂ := .f32) dot_S8192x5632_S1024x5632_S8192x1024_1_1_0_0_n_n none (res_main_v138 V0) (res_main_v3 V0)) (ix2 i k) : EReal)
    = (late V0 i).dh (ffn V0) k := by
  pointwise [res_main_v3]
  rw [v131_at V0 i k r]
  refine congrArg (_ + ·) (sum_ext fun l => ?_)
  rw [v138_at V0 i r l]
  rfl
end

/-! ## The results: the arrays of the later tokens behind 256 rows of zeros -/

theorem pad_eq (f : Fin 8192 → EReal) {i : Fin 8448} {z : EReal} (hz : z = 0) :
    (if h : 256 ≤ i.val ∧ i.val - 256 < 8192 then f ⟨i.val - 256, h.2⟩ else z) = behind f i := by
  unfold behind
  by_cases h : 256 ≤ i.val
  · rw [dif_pos ⟨h, by omega⟩, dif_pos h]
  · rw [dif_neg fun c => h c.1, dif_neg h, hz]

theorem padw_at (x : FVec Ideal S8192x1024 .f32) (i : Fin 8448) (k : Fin 1024) :
    (pad S8448x1024 ![256, 0] ![0, 0] ![0, 0] x (sitofp (F := Ideal) .f32 (constantI S_ 32 0#32)) pads_S8192x1024_S8448x1024_25600_000 h_S_ (ix2 i k) : EReal)
      = behind (fun i => x (ix2 i k)) i := by
  pointwise []
  exact pad_eq (fun i => x (ix2 i k)) (sitofp_zero (φ := .f32))

theorem padh_at (x : FVec Ideal S8192x1024 .bf16) (i : Fin 8448) (k : Fin 1024) :
    (pad S8448x1024 ![256, 0] ![0, 0] ![0, 0] x (sitofp (F := Ideal) .bf16 (constantI S_ 32 0#32)) pads_S8192x1024_S8448x1024_25600_000 h_S_ (ix2 i k) : EReal)
      = behind (fun i => x (ix2 i k)) i := by
  pointwise []
  exact pad_eq (fun i => x (ix2 i k)) (sitofp_zero (φ := .bf16))

theorem padu_at (x : FVec Ideal S8192x5632 .bf16) (i : Fin 8448) (k : Fin 5632) :
    (pad S8448x5632 ![256, 0] ![0, 0] ![0, 0] x (sitofp (F := Ideal) .bf16 (constantI S_ 32 0#32)) pads_S8192x5632_S8448x5632_25600_000 h_S_ (ix2 i k) : EReal)
      = behind (fun i => x (ix2 i k)) i := by
  pointwise []
  exact pad_eq (fun i => x (ix2 i k)) (sitofp_zero (φ := .bf16))

theorem pads_at (x : FVec Ideal S8192x2816 .bf16) (i : Fin 8448) (k : Fin 2816) :
    (pad S8448x2816 ![256, 0] ![0, 0] ![0, 0] x (sitofp (F := Ideal) .bf16 (constantI S_ 32 0#32)) pads_S8192x2816_S8448x2816_25600_000 h_S_ (ix2 i k) : EReal)
      = behind (fun i => x (ix2 i k)) i := by
  pointwise []
  exact pad_eq (fun i => x (ix2 i k)) (sitofp_zero (φ := .bf16))

theorem padc_at (x : FVec Ideal S8192x512 .bf16) (i : Fin 8448) (k : Fin 512) :
    (pad S8448x512 ![256, 0] ![0, 0] ![0, 0] x (sitofp (F := Ideal) .bf16 (constantI S_ 32 0#32)) pads_S8192x512_S8448x512_25600_000 h_S_ (ix2 i k) : EReal)
      = behind (fun i => x (ix2 i k)) i := by
  pointwise []
  exact pad_eq (fun i => x (ix2 i k)) (sitofp_zero (φ := .bf16))

variable (hr : ∀ i, (late V0 i).Real (ffn V0))

theorem res4_at (i : Fin 8448) : (pad S8448x1024 ![256, 0] ![0, 0] ![0, 0] (truncf .bf16 (res_main_v23 V0) bitsLt_bf16_f32) (sitofp (F := Ideal) .bf16 (constantI S_ 32 0#32)) pads_S8192x1024_S8448x1024_25600_000 h_S_ (ix2 i k) : EReal)
    = behind (fun i => (tok V0 i).mixed (wts V0) k) i :=
  (padh_at _ i k).trans (congrArg (behind · i) (funext fun i => v23_at V0 i k))

theorem res5_at (i : Fin 8448) : (pad S8448x1024 ![256, 0] ![0, 0] ![0, 0] (truncf .bf16 (res_main_v49 V0) bitsLt_bf16_f32) (sitofp (F := Ideal) .bf16 (constantI S_ 32 0#32)) pads_S8192x1024_S8448x1024_25600_000 h_S_ (ix2 i k) : EReal)
    = behind (fun i => (late V0 i).h k) i :=
  (padh_at _ i k).trans (congrArg (behind · i) (funext fun i => v49_at V0 i k))

theorem res2_at (i : Fin 8448) : (pad S8448x2816 ![256, 0] ![0, 0] ![0, 0] (truncf .bf16 (res_main_v54 V0) bitsLt_bf16_f32) (sitofp (F := Ideal) .bf16 (constantI S_ 32 0#32)) pads_S8192x2816_S8448x2816_25600_000 h_S_ (ix2 i j) : EReal)
    = behind (fun i => (late V0 i).mid (ffn V0) j) i :=
  (pads_at _ i j).trans (congrArg (behind · i) (funext fun i => v54_at V0 i j))

theorem res6_at (i : Fin 8448) (j : Fin 512) : (pad S8448x512 ![256, 0] ![0, 0] ![0, 0] (res_main_v7 V0) (sitofp (F := Ideal) .bf16 (constantI S_ 32 0#32)) pads_S8192x512_S8448x512_25600_000 h_S_ (ix2 i j) : EReal)
    = behind (fun i => (tok V0 i).og j) i :=
  (padc_at _ i j).trans (congrArg (behind · i) (funext fun i => v7_at V0 i j))

theorem res7_at (i : Fin 8448) (j : Fin 512) : (pad S8448x512 ![256, 0] ![0, 0] ![0, 0] (res_main_v8 V0) (sitofp (F := Ideal) .bf16 (constantI S_ 32 0#32)) pads_S8192x512_S8448x512_25600_000 h_S_ (ix2 i j) : EReal)
    = behind (fun i => (tok V0 i).oa j) i :=
  (padc_at _ i j).trans (congrArg (behind · i) (funext fun i => v8_at V0 i j))

section
include hr

theorem res0_at (i : Fin 8448) : (pad S8448x1024 ![256, 0] ![0, 0] ![0, 0] (addf (mulf (broadcastInDim S8192x1024 ![] bcast_S_S8192x1024 (constant S_ .f32 0x3F9837F0#32)) (res_main_v131 V0)) (Host.dotGeneral (φ₁ := .f32) (φ₂ := .f32) dot_S8192x5632_S1024x5632_S8192x1024_1_1_0_0_n_n none (res_main_v138 V0) (res_main_v3 V0))) (sitofp (F := Ideal) .f32 (constantI S_ 32 0#32)) pads_S8192x1024_S8448x1024_25600_000 h_S_ (ix2 i k) : EReal)
    = behind (fun i => (late V0 i).dh (ffn V0) k) i :=
  (padw_at _ i k).trans (congrArg (behind · i) (funext fun i => v141_at V0 i k (hr i)))

theorem res1_at (i : Fin 8448) (l : Fin 5632) : (pad S8448x5632 ![256, 0] ![0, 0] ![0, 0] (truncf .bf16 (res_main_v138 V0) bitsLt_bf16_f32) (sitofp (F := Ideal) .bf16 (constantI S_ 32 0#32)) pads_S8192x5632_S8448x5632_25600_000 h_S_ (ix2 i l) : EReal)
    = behind (fun i => (late V0 i).dup (ffn V0) l) i :=
  (padu_at _ i l).trans (congrArg (behind · i) (funext fun i => v138_at V0 i (hr i) l))

theorem res3_at (i : Fin 8448) : (pad S8448x1024 ![256, 0] ![0, 0] ![0, 0] (truncf .bf16 (res_main_v131 V0) bitsLt_bf16_f32) (sitofp (F := Ideal) .bf16 (constantI S_ 32 0#32)) pads_S8192x1024_S8448x1024_25600_000 h_S_ (ix2 i k) : EReal)
    = behind (fun i => (late V0 i).dpre (ffn V0) k) i :=
  (padh_at _ i k).trans (congrArg (behind · i) (funext fun i => v131_at V0 i k (hr i)))

theorem res8_at : (shapeCast S1x1 (mulf (F := Ideal) (constant S_ .f32 0x3F000000#32) (Host.reduceAdd (Host.divf (Host.reduceAdd (mulf (res_main_v86 V0) (res_main_v86 V0)) (constant S_ .f32 0x00000000#32) reducesTo_S8192x1024_S8192_d1 h_S_) (broadcastInDim S8192 ![] bcast_S_S8192 (constant S_ .f32 0x44800000#32))) (constant S_ .f32 0x00000000#32) reducesTo_S8192_S_d0 h_S_)) shapeCasts_S_S1x1 (ix2 0 0) : EReal)
    = ∑ i, (late V0 i).sq (ffn V0) * cHalfInvN := by
  rw [← loss_eq fun i => (hr i).sq]
  pointwise [v86_at]
  rfl

theorem res9_at : (shapeCast S1x1024 (Host.reduceAdd (F := Ideal) (mulf (res_main_v81 V0) (res_main_v100 V0)) (constant S_ .f32 0x00000000#32) reducesTo_S8192x1024_S1024_d0 h_S_) shapeCasts_S1024_S1x1024 (ix2 0 k) : EReal)
    = ∑ i, (late V0 i).dg (ffn V0) k := by
  pointwise [v81_at]
  refine sum_ext fun i => ?_
  rw [v100_at V0 i k (hr i)]
  exact mul_comm (_ : EReal) _

theorem res10_at : (shapeCast S1x1024 (Host.reduceAdd (F := Ideal) (res_main_v100 V0) (constant S_ .f32 0x00000000#32) reducesTo_S8192x1024_S1024_d0 h_S_) shapeCasts_S1024_S1x1024 (ix2 0 k) : EReal)
    = ∑ i, (late V0 i).dy (ffn V0) k := by
  pointwise []
  exact sum_ext fun i => v100_at V0 i k (hr i)
end

end Ref2

end
-- ==== Proof.Match2.lean ====
/- The two feed-forward programs' results agree. -/
module

public import proofs.«01_k».proof.Proof.Finite2
public import proofs.«01_k».proof.Proof.Final2
public import proofs.«01_k».proof.Proof.Sums2
public import proofs.«01_k».proof.Proof.Ref2

@[expose] public section

set_option maxRecDepth 16384

noncomputable section

namespace Match2

open Idealize.ShloMosaic Idealize.ShloMosaic.TcCoe Idealize.SL.Sem Rows

section
variable {m : (ℓ : Loc Cert.Kernel2Ideal.nD Cert.Kernel2Ideal.τ Cert.Kernel2Ideal.sig) → Buf (Elt Ideal) ℓ}

/-- Under the precondition every token's rows and the weights are real. -/
theorem real (h : Cert.Pre_Kernel2Ideal_finite2 m) (c : Dev Cert.Kernel2Ideal.nD) (i : Fin 8192) :
    (Final2.late m c i).Real (Final2.ffn m c) := by
  obtain ⟨h0, h2, h3, h4, h5, h6, h7, h8, h9, h10, h11, h12, h13⟩ := Finite2.of_pre (h c)
  have ht : (Final2.tok m c i).Real (Final2.wts m c) :=
    ⟨fun k => h0 _, fun j => h2 _, fun j => h3 _, fun k => isReal_zero, fun j k => h5 _, fun j k => h6 _,
      fun l k => h7 _, fun k => h10 _⟩
  exact ⟨fun k => ht.out (fun k => h11 _) k, fun k => h4 _, fun k l => h8 _, fun j k => h9 _, fun k => h12 _, fun k => h13 _⟩
end

set_option maxHeartbeats 1600000 in
theorem algebraic : Cert.algebraic_Kernel2Ideal_Reference2Ideal_pre_finite2 := by
  pair_intro
  · run_from Cert.Kernel2Ideal.Value.run_blocks m g
  · have ht : ∀ c i, Ref2.tok (StableHlo.launchContents m' c) i = Final2.tok m c i := fun c i => by
      obtain ⟨h0, h1, h2, h3, h4, h5, h6, h7, h8, h9, h10, h11, h12, h13⟩ := hagree c
      exact Token.ext (funext fun k => congrFun h0 _) (funext fun k => congrFun h1 _) (funext fun k => congrFun h2 _)
        (funext fun k => congrFun h3 _) rfl
    have hw : ∀ c, Ref2.wts (StableHlo.launchContents m' c) = Final2.wts m c := fun c => by
      obtain ⟨h0, h1, h2, h3, h4, h5, h6, h7, h8, h9, h10, h11, h12, h13⟩ := hagree c
      exact Weights.ext (funext₂ fun j k => congrFun h5 _) (funext₂ fun j k => congrFun h6 _)
        (funext₂ fun j k => congrFun h7 _) (funext fun k => congrFun h10 _)
    have hs : ∀ c, Ref2.shift (StableHlo.launchContents m' c) = Final2.shift m c := fun c => by
      obtain ⟨h0, h1, h2, h3, h4, h5, h6, h7, h8, h9, h10, h11, h12, h13⟩ := hagree c
      exact funext fun k => congrFun h11 _
    have hf : ∀ c, Ref2.ffn (StableHlo.launchContents m' c) = Final2.ffn m c := fun c => by
      obtain ⟨h0, h1, h2, h3, h4, h5, h6, h7, h8, h9, h10, h11, h12, h13⟩ := hagree c
      exact Ffn.ext (funext₂ fun j k => congrFun h8 _) (funext₂ fun j k => congrFun h9 _)
        (funext fun k => congrFun h12 _) (funext fun k => congrFun h13 _)
    have hl : ∀ c i, Ref2.late (StableHlo.launchContents m' c) i = Final2.late m c i := fun c i => by
      refine Late.ext ?_ ?_
      · show (Ref2.tok _ i).out (Ref2.wts _) (Ref2.shift _) = _
        rw [ht, hw, hs]
        rfl
      · obtain ⟨h0, h1, h2, h3, h4, h5, h6, h7, h8, h9, h10, h11, h12, h13⟩ := hagree c
        exact funext fun k => congrFun h4 _
    have hr : ∀ c i, (Ref2.late (StableHlo.launchContents m' c) i).Real (Ref2.ffn (StableHlo.launchContents m' c)) :=
      fun c i => by rw [hl, hf]; exact real hpre c i
    have hrun := Cert.Reference2Ideal.Value.run m' g'
    clear hagree
    run_from hrun
    · refine Eq.trans (funext fun y => ?_) (Final2.final14 m c).symm
      idx_vars y
      refine (Ref2.res0_at (StableHlo.launchContents m' c) y1 (hr c) y0).trans ?_
      simp only [hl, hf]
    · refine Eq.trans (funext fun y => ?_) (Final2.final15 m c).symm
      idx_vars y
      refine (Ref2.res1_at (StableHlo.launchContents m' c) (hr c) y0 y1).trans ?_
      simp only [hl, hf]
    · refine Eq.trans (funext fun y => ?_) (Final2.final16 m c).symm
      idx_vars y
      refine (Ref2.res2_at (StableHlo.launchContents m' c) y1 y0).trans ?_
      simp only [hl, hf]
    · refine Eq.trans (funext fun y => ?_) (Final2.final17 m c).symm
      idx_vars y
      refine (Ref2.res3_at (StableHlo.launchContents m' c) y1 (hr c) y0).trans ?_
      simp only [hl, hf]
    · refine Eq.trans (funext fun y => ?_) (Final2.final18 m c).symm
      idx_vars y
      refine (Ref2.res4_at (StableHlo.launchContents m' c) y1 y0).trans ?_
      simp only [ht, hw]
    · refine Eq.trans (funext fun y => ?_) (Final2.final19 m c).symm
      idx_vars y
      refine (Ref2.res5_at (StableHlo.launchContents m' c) y1 y0).trans ?_
      simp only [hl]
    · refine Eq.trans (funext fun y => ?_) (Final2.final20 m c).symm
      idx_vars y
      refine (Ref2.res6_at (StableHlo.launchContents m' c) y0 y1).trans ?_
      simp only [ht]
    · refine Eq.trans (funext fun y => ?_) (Final2.final21 m c).symm
      idx_vars y
      refine (Ref2.res7_at (StableHlo.launchContents m' c) y0 y1).trans ?_
      simp only [ht]
    · refine Eq.trans (funext fun y => ?_) (Final2.final22 m c fun i => (real hpre c i).sq).symm
      idx_vars y
      obtain rfl : y0 = 0 := Subsingleton.elim _ _
      obtain rfl : y1 = 0 := Subsingleton.elim _ _
      refine (Ref2.res8_at (StableHlo.launchContents m' c) (hr c)).trans ?_
      simp only [hl, hf]
    · refine Eq.trans (funext fun y => ?_) (Final2.final23 m c).symm
      idx_vars y
      obtain rfl : y0 = 0 := Subsingleton.elim _ _
      refine (Ref2.res9_at (StableHlo.launchContents m' c) y1 (hr c)).trans ?_
      simp only [hl, hf]
    · refine Eq.trans (funext fun y => ?_) (Final2.final24 m c).symm
      idx_vars y
      obtain rfl : y0 = 0 := Subsingleton.elim _ _
      refine (Ref2.res10_at (StableHlo.launchContents m' c) y1 (hr c)).trans ?_
      simp only [hl, hf]

/-- The reference holds no semaphore. -/
theorem no_sem (s : SemLoc Cert.Reference2Ideal.sig) : False := by
  revert s
  decide

/-- The reference's frame, whatever the arguments. -/
theorem frame : Cert.quiescent_Reference2Ideal := by
  intro m g _
  run_from Cert.Reference2Ideal.Value.run m g
  · simp
  · funext s
    exact (no_sem s.2).elim

end Match2

end
-- ==== Proof.Wgrad.lean ====
/- The gradient of a weight over all tokens, and the part of it that one block of 768 tokens adds. -/
module

public import Idealize.ShloMosaic.Lib.Pipeline.ValueKit
public import proofs.«01_k».proof.Proof.Rows

@[expose] public section

noncomputable section

namespace Rows

open Idealize.ShloMosaic

variable {K N : ℕ} (a : Fin 8448 → Fin K → EReal) (b : Fin 8448 → Fin N → EReal)

/-- The weight's gradient: over the tokens, the layer's input times its output's gradient. -/
def wgrad (k : Fin K) (n : Fin N) : EReal := ∑ p, a p k * b p n

/-- Row `p` of the block of tokens that grid point `t` reads. -/
def rowOf (t : ℕ) (p : Fin 768) : Fin 8448 := ⟨t % 11 * 768 + p.val, by omega⟩

/-- What the block of tokens that grid point `t` reads adds to the gradient. -/
def wpart (t : ℕ) (k : Fin K) (n : Fin N) : EReal := ∑ p : Fin 768, a (rowOf t p) k * b (rowOf t p) n

/-- The eleven blocks' parts make the gradient. -/
theorem sum_wpart (q : ℕ) (k : Fin K) (n : Fin N) : ∑ s : Fin 11, wpart a b (11 * q + s.val) k n = wgrad a b k n := by
  refine Fin.sum_mul_add_congr fun s p hl => ?_
  have h : rowOf (11 * q + s.val) p = ⟨s.val * 768 + p.val, hl⟩ :=
    Fin.ext (by show (11 * q + s.val) % 11 * 768 + p.val = s.val * 768 + p.val; omega)
  rw [h]

end Rows

end
-- ==== Proof.Fi.lean ====
/- The gradient of the feed-forward half's first weight: the kernel's array, the reference's, and the claim. -/
module

public import proofs.«01_k».proof.Defs
public import proofs.«01_k».proof.Proof.Gen.Kernel3Ideal.Value
public import proofs.«01_k».proof.Proof.Gen.Reference3Ideal.Run
public import Idealize.ShloMosaic.Lib.Pipeline.ValueKit
public import Idealize.ShloMosaic.Lib.Pipeline.ReadBack
public import Idealize.ShloMosaic.Lib.Claim
public import proofs.«01_k».proof.Proof.Wgrad

@[expose] public section

set_option maxRecDepth 16384

noncomputable section

namespace Fi

open Idealize.ShloMosaic Idealize.ShloMosaic.TcCoe Idealize.SL.Sem Rows

section
open Cert.Kernel3Ideal Cert.Kernel3Ideal.Gen

/-- The scratch starts at zero. -/
theorem pay1_at (k : Fin 1024) (n : Fin 2816) : (k0_pay1 (F := Ideal) (ix2 k n) : EReal) = 0 := by
  pointwise [k0_pay1]

/-- A point adds its block's product to the scratch. -/
theorem pay2_at (z : Vec Ideal S1024x2816 .f32) (x : Vec Ideal S768x1024 .bf16) (w : Vec Ideal S768x2816 .bf16)
    (k : Fin 1024) (n : Fin 2816) :
    (k0_pay2 z x w (ix2 k n) : EReal) = z (ix2 k n) + ∑ p : Fin 768, (x (ix2 p k) * w (ix2 p n) : EReal) := by
  pointwise [k0_pay2]

variable (m : (ℓ : Loc nD τ sig) → Buf (Elt Ideal) ℓ) (c : Dev nD)

/-- Which blocks a grid point reads and writes. -/
theorem idx : ∀ t : Fin cfg0.N, win0_0.index t = ![t.val % 11, 0] ∧ win0_1.index t = ![t.val % 11, t.val / 11]
    ∧ win0_2.index t = ![t.val / 11, 0, 0] :=
  (by decide +kernel : ∀ t : Fin grid0.N, _)

/-- The layer's input. -/
def a (p : Fin 8448) (k : Fin 1024) : EReal := m ((c : Thread nD τ).loc main_arg0) (ix2 p k)

/-- The gradient of the layer's output. -/
def b (p : Fin 8448) (n : Fin 5632) : EReal := m ((c : Thread nD τ).loc main_arg1) (ix2 p n)

/-- Column `n` of point `t`'s tile, in the whole gradient. -/
def col (t : Fin cfg0.N) (n : Fin 2816) : Fin 5632 :=
  ⟨t.val / 11 * 2816 + n.val, by have ht : t.val < 22 := lt_of_lt_of_eq t.isLt N_0; omega⟩

theorem col_val (t : Fin cfg0.N) (n : Fin 2816) : (col t n).val = t.val / 11 * 2816 + n.val := rfl

theorem step (z : Vec Ideal S1024x2816 .f32) (t : Fin cfg0.N) (y : S1024x2816.Idx) :
    (k0_pay2 z (iblk m c 0 t) (iblk m c 1 t) y : EReal) = z y + wpart (a m c) (b m c) t.val (y 0) (col t (y 1)) := by
  idx_vars y
  refine (pay2_at _ _ _ _ _).trans (congrArg _ (sum_ext fun p => congrArg₂ (fun x y : EReal => x * y) ?_ ?_))
  · blk_ext [iblk, V, idx t, a, rowOf]
  · blk_ext [iblk, V, idx t, b, rowOf, col]

/-- What the scratch holds at a tile's last point: the gradient. -/
theorem scratch_eq (t : Fin cfg0.N) (h : t.val % 11 = 10) (y : S1024x2816.Idx) :
    ((outsAt0 m c t.val t.isLt).2 y : EReal) = wgrad (a m c) (b m c) (y 0) (col t (y 1)) := by
  rw [Pipeline.eq_sum_fin_of_reset_step_apply_of_flush (fun n h => (outsAt0 m c n h).2) 11 (fun _ => 0)
    (fun t y => wpart (a m c) (b m c) t.val (y 0) (col t (y 1))) (fun t h y => ?_) (fun t h y => ?_) t h _, zero_add]
  · refine Eq.trans ?_ (sum_wpart (a m c) (b m c) (t.val / 11) (y 0) (col t (y 1)))
    refine sum_ext fun s => congrArg (wpart _ _ _ _) (Fin.ext ?_)
    show (11 * (t.val / 11) + s.val) / 11 * 2816 + (y 1).val = t.val / 11 * 2816 + (y 1).val
    omega
  · rw [outsAt0_A m c t h (by omega)]
    frame_out
    refine (step m c _ t y).trans (congrArg (· + _) ?_)
    idx_vars y
    exact pay1_at _ _
  · by_cases h1 : t.val % 11 = 10
    · rw [outsAt0_C m c t h h1]
      frame_out
      simp only [read_unread_whole]
      exact step m c _ t y
    · rw [outsAt0_B m c t h h1]
      frame_out
      simp only [read_unread_whole]
      exact step m c _ t y

/-- The two column groups written at a tile's last point are the scratch's. -/
theorem out_at (t : Fin cfg0.N) (h : t.val % 11 = 10) (y : S2x1024x1408.Idx) {k : Fin 1024} {n : Fin 2816}
    (hk : k.val = (y 1).val) (hn : n.val = (y 0).val * 1408 + (y 2).val) :
    ((outsAt0 m c t.val t.isLt).1 y : EReal) = (outsAt0 m c t.val t.isLt).2 (ix2 k n) := by
  rw [outsAt0_C m c t (by omega) h]
  frame_out
  simp only [read_unread_whole]
  generalize k0_pay2 (outsAt0 m c (↑t - 1) _).2 (iblk m c 0 t) (iblk m c 1 t) = z
  simp (disch := decide) only [View.readCov_fill]
  canon_tiles x h
  · idx_vars x
    pointwise [k0_pay4]
    refine congrArg₂ (fun k n => z (ix2 k n)) (Fin.ext ?_) (Fin.ext ?_) <;> blk_simp [h0, h1, h2, hk, hn] <;> omega
  · idx_vars x
    pointwise [k0_pay3]
    refine congrArg₂ (fun k n => z (ix2 k n)) (Fin.ext ?_) (Fin.ext ?_) <;> blk_simp [h0, h1, h2, hk, hn] <;> omega

/-- Column `n` of column group `s`. -/
def at_ (s : Fin 4) (n : Fin 1408) : Fin 5632 := ⟨s.val * 1408 + n.val, by omega⟩

theorem at_val (s : Fin 4) (n : Fin 1408) : (at_ s n).val = s.val * 1408 + n.val := rfl

/-- The kernel's array. -/
theorem final : (dats m 0 c).arrAt 2 (cfgs 0).N
    = fun y : S4x1024x1408.Idx => (wgrad (a m c) (b m c) (y 1) (at_ (y 0) (y 2)) : EReal) := by
  refine (dats m 0 c).arrAt_eq_of_covers 2 _ (by decide +kernel) fun t hf y => ?_
  have h : t.val % 11 = 10 := (flush0_2 t).mp hf
  blk_simp
  rw [after0_2]
  idx_vars y
  refine (out_at m c t h (ix3 y0 y1 y2) (k := y1) (n := ⟨y0.val * 1408 + y2.val, by omega⟩) rfl rfl).trans ((scratch_eq m c t h _).trans ?_)
  refine congrArg₂ (wgrad _ _) (Fin.ext ?_) (Fin.ext ((col_val t ⟨y0.val * 1408 + y2.val, by omega⟩).trans (Eq.trans ?_ (at_val _ _).symm)))
  · blk_simp [idx t]
  · show t.val / 11 * 2816 + (y0.val * 1408 + y2.val) = _
    blk_simp [idx t]
    omega
end

theorem algebraic : Cert.algebraic_Kernel3Ideal_Reference3Ideal := by
  pair_intro
  · run_from Cert.Kernel3Ideal.Value.run_blocks m g
  · have hrun := Cert.Reference3Ideal.Value.run m' g'
    run_from hrun
    clear hrun hagree
    refine Eq.trans (funext fun y => ?_) (final m c).symm
    concat_tiles x h
    all_goals
      idx_vars x
      idx_vars y
      pointwise []
      refine (sum_ext fun p => mul_comm (_ : EReal) _).trans
        (congrArg₂ (wgrad (a m c) (b m c)) (Fin.ext h1) (Fin.ext (Eq.trans ?_ (at_val y0 y2).symm)))
      rw [h, ← h2] <;> simp

theorem no_sem (s : SemLoc Cert.Reference3Ideal.sig) : False := by
  revert s
  decide

/-- The reference's frame. -/
theorem frame : Cert.quiescent_Reference3Ideal := by
  intro m g _
  run_from Cert.Reference3Ideal.Value.run m g
  · simp
  · funext s
    exact (no_sem s.2).elim

end Fi

end
-- ==== Proof.In.lean ====
/- The gradient of the input projection's weight, transposed: the kernel's array, the reference's, and the claim. -/
module

public import proofs.«01_k».proof.Defs
public import proofs.«01_k».proof.Proof.Gen.Kernel4Ideal.Value
public import proofs.«01_k».proof.Proof.Gen.Reference4Ideal.Run
public import Idealize.ShloMosaic.Lib.Pipeline.ValueKit
public import Idealize.ShloMosaic.Lib.Pipeline.ReadBack
public import Idealize.ShloMosaic.Lib.Claim
public import proofs.«01_k».proof.Proof.Wgrad

@[expose] public section

set_option maxRecDepth 16384

noncomputable section

namespace In

open Idealize.ShloMosaic Idealize.ShloMosaic.TcCoe Idealize.SL.Sem Rows

section
open Cert.Kernel4Ideal Cert.Kernel4Ideal.Gen

theorem pay1_at (k : Fin 2432) (n : Fin 1024) : (k0_pay1 (F := Ideal) (ix2 k n) : EReal) = 0 := by
  pointwise [k0_pay1]

theorem pay2_at (z : Vec Ideal S2432x1024 .f32) (x : Vec Ideal S768x2432 .bf16) (w : Vec Ideal S768x1024 .bf16)
    (k : Fin 2432) (n : Fin 1024) :
    (k0_pay2 z x w (ix2 k n) : EReal) = z (ix2 k n) + ∑ p : Fin 768, (x (ix2 p k) * w (ix2 p n) : EReal) := by
  pointwise [k0_pay2]

theorem pay3_at (z : Vec Ideal S2432x1024 .f32) (s : Fin 1) (k : Fin 2432) (n : Fin 1024) :
    (k0_pay3 z (ix3 s k n) : EReal) = z (ix2 k n) := by
  pointwise [k0_pay3]

variable (m : (ℓ : Loc nD τ sig) → Buf (Elt Ideal) ℓ) (c : Dev nD)

/-- Which blocks a grid point reads and writes. -/
theorem idx : ∀ t : Fin cfg0.N, win0_0.index t = ![t.val % 11, t.val / 11] ∧ win0_1.index t = ![t.val % 11, 0]
    ∧ win0_2.index t = ![0, t.val / 11, 0] :=
  (by decide +kernel : ∀ t : Fin grid0.N, _)

/-- The gradient of the projection's output. -/
def a (p : Fin 8448) (k : Fin 4864) : EReal := m ((c : Thread nD τ).loc main_arg0) (ix2 p k)

/-- The projection's input. -/
def b (p : Fin 8448) (n : Fin 1024) : EReal := m ((c : Thread nD τ).loc main_arg1) (ix2 p n)

/-- Row `k` of point `t`'s tile, in the whole gradient. -/
def col (t : Fin cfg0.N) (k : Fin 2432) : Fin 4864 :=
  ⟨t.val / 11 * 2432 + k.val, by have ht : t.val < 22 := lt_of_lt_of_eq t.isLt N_0; omega⟩

theorem step (z : Vec Ideal S2432x1024 .f32) (t : Fin cfg0.N) (y : S2432x1024.Idx) :
    (k0_pay2 z (iblk m c 0 t) (iblk m c 1 t) y : EReal) = z y + wpart (a m c) (b m c) t.val (col t (y 0)) (y 1) := by
  idx_vars y
  refine (pay2_at _ _ _ _ _).trans (congrArg _ (sum_ext fun p => congrArg₂ (fun x y : EReal => x * y) ?_ ?_))
  · blk_ext [iblk, V, idx t, a, rowOf, col]
  · blk_ext [iblk, V, idx t, b, rowOf]

/-- What the scratch holds at a tile's last point: the gradient. -/
theorem scratch_eq (t : Fin cfg0.N) (h : t.val % 11 = 10) (y : S2432x1024.Idx) :
    ((outsAt0 m c t.val t.isLt).2 y : EReal) = wgrad (a m c) (b m c) (col t (y 0)) (y 1) := by
  rw [Pipeline.eq_sum_fin_of_reset_step_apply_of_flush (fun n h => (outsAt0 m c n h).2) 11 (fun _ => 0)
    (fun t y => wpart (a m c) (b m c) t.val (col t (y 0)) (y 1)) (fun t h y => ?_) (fun t h y => ?_) t h _, zero_add]
  · refine Eq.trans ?_ (sum_wpart (a m c) (b m c) (t.val / 11) (col t (y 0)) (y 1))
    refine sum_ext fun s => congrArg (wpart _ _ _ · _) (Fin.ext ?_)
    show (11 * (t.val / 11) + s.val) / 11 * 2432 + (y 0).val = t.val / 11 * 2432 + (y 0).val
    omega
  · rw [outsAt0_A m c t h (by omega)]
    frame_out
    refine (step m c _ t y).trans (congrArg (· + _) ?_)
    idx_vars y
    exact pay1_at _ _
  · by_cases h1 : t.val % 11 = 10
    · rw [outsAt0_C m c t h h1]
      frame_out
      simp only [read_unread_whole]
      exact step m c _ t y
    · rw [outsAt0_B m c t h h1]
      frame_out
      simp only [read_unread_whole]
      exact step m c _ t y

/-- What is written at a tile's last point is the scratch. -/
theorem out_at (t : Fin cfg0.N) (h : t.val % 11 = 10) (s : Fin 1) (k : Fin 2432) (n : Fin 1024) :
    ((outsAt0 m c t.val t.isLt).1 (ix3 s k n) : EReal) = (outsAt0 m c t.val t.isLt).2 (ix2 k n) := by
  rw [outsAt0_C m c t (by omega) h]
  frame_out
  simp only [read_unread_whole]
  exact pay3_at _ _ _ _

/-- The kernel's array. -/
theorem final : (dats m 0 c).arrAt 2 (cfgs 0).N
    = fun y : S1x4864x1024.Idx => (wgrad (a m c) (b m c) (y 1) (y 2) : EReal) := by
  refine (dats m 0 c).arrAt_eq_of_covers 2 _ (by decide +kernel) fun t hf y => ?_
  have h : t.val % 11 = 10 := (flush0_2 t).mp hf
  blk_simp
  rw [after0_2]
  idx_vars y
  refine (out_at m c t h y0 y1 y2).trans ((scratch_eq m c t h _).trans ?_)
  refine congrArg₂ (wgrad _ _) (Fin.ext ?_) (Fin.ext ?_)
  · show t.val / 11 * 2432 + y1.val = _
    blk_simp [idx t]
  · blk_simp [idx t]
end

theorem algebraic : Cert.algebraic_Kernel4Ideal_Reference4Ideal := by
  pair_intro
  · run_from Cert.Kernel4Ideal.Value.run_blocks m g
  · have hrun := Cert.Reference4Ideal.Value.run m' g'
    run_from hrun
    clear hrun hagree
    refine Eq.trans (funext fun y => ?_) (final m c).symm
    idx_vars y
    pointwise []
    rfl

theorem no_sem (s : SemLoc Cert.Reference4Ideal.sig) : False := by
  revert s
  decide

/-- The reference's frame. -/
theorem frame : Cert.quiescent_Reference4Ideal := by
  intro m g _
  run_from Cert.Reference4Ideal.Value.run m g
  · simp
  · funext s
    exact (no_sem s.2).elim

end In

end
-- ==== Proof.Fo.lean ====
/- The gradient of the feed-forward half's second weight: the kernel's array, the reference's, and the claim. -/
module

public import proofs.«01_k».proof.Defs
public import proofs.«01_k».proof.Proof.Gen.Kernel5Ideal.Value
public import proofs.«01_k».proof.Proof.Gen.Reference5Ideal.Run
public import Idealize.ShloMosaic.Lib.Pipeline.ValueKit
public import Idealize.ShloMosaic.Lib.Pipeline.ReadBack
public import Idealize.ShloMosaic.Lib.Claim
public import proofs.«01_k».proof.Proof.Wgrad

@[expose] public section

set_option maxRecDepth 16384

noncomputable section

namespace Fo

open Idealize.ShloMosaic Idealize.ShloMosaic.TcCoe Idealize.SL.Sem Rows

section
open Cert.Kernel5Ideal Cert.Kernel5Ideal.Gen

theorem pay1_at (k : Fin 1408) (n : Fin 1024) : (k0_pay1 (F := Ideal) (ix2 k n) : EReal) = 0 := by
  pointwise [k0_pay1]

theorem pay2_at (z : Vec Ideal S1408x1024 .f32) (x : Vec Ideal S768x1408 .bf16) (w : Vec Ideal S768x1024 .bf16)
    (k : Fin 1408) (n : Fin 1024) :
    (k0_pay2 z x w (ix2 k n) : EReal) = z (ix2 k n) + ∑ p : Fin 768, (x (ix2 p k) * w (ix2 p n) : EReal) := by
  pointwise [k0_pay2]

theorem pay3_at (z : Vec Ideal S1408x1024 .f32) (s : Fin 1) (k : Fin 1408) (n : Fin 1024) :
    (k0_pay3 z (ix3 s k n) : EReal) = z (ix2 k n) := by
  pointwise [k0_pay3]

variable (m : (ℓ : Loc nD τ sig) → Buf (Elt Ideal) ℓ) (c : Dev nD)

/-- Which blocks a grid point reads and writes. -/
theorem idx : ∀ t : Fin cfg0.N, win0_0.index t = ![t.val % 11, t.val / 11] ∧ win0_1.index t = ![t.val % 11, 0]
    ∧ win0_2.index t = ![0, t.val / 11, 0] :=
  (by decide +kernel : ∀ t : Fin grid0.N, _)

/-- The layer's input. -/
def a (p : Fin 8448) (k : Fin 2816) : EReal := m ((c : Thread nD τ).loc main_arg0) (ix2 p k)

/-- The gradient of the layer's output. -/
def b (p : Fin 8448) (n : Fin 1024) : EReal := m ((c : Thread nD τ).loc main_arg1) (ix2 p n)

/-- Row `k` of point `t`'s tile, in the whole gradient. -/
def col (t : Fin cfg0.N) (k : Fin 1408) : Fin 2816 :=
  ⟨t.val / 11 * 1408 + k.val, by have ht : t.val < 22 := lt_of_lt_of_eq t.isLt N_0; omega⟩

theorem step (z : Vec Ideal S1408x1024 .f32) (t : Fin cfg0.N) (y : S1408x1024.Idx) :
    (k0_pay2 z (iblk m c 0 t) (iblk m c 1 t) y : EReal) = z y + wpart (a m c) (b m c) t.val (col t (y 0)) (y 1) := by
  idx_vars y
  refine (pay2_at _ _ _ _ _).trans (congrArg _ (sum_ext fun p => congrArg₂ (fun x y : EReal => x * y) ?_ ?_))
  · blk_ext [iblk, V, idx t, a, rowOf, col]
  · blk_ext [iblk, V, idx t, b, rowOf]

/-- What the scratch holds at a tile's last point: the gradient. -/
theorem scratch_eq (t : Fin cfg0.N) (h : t.val % 11 = 10) (y : S1408x1024.Idx) :
    ((outsAt0 m c t.val t.isLt).2 y : EReal) = wgrad (a m c) (b m c) (col t (y 0)) (y 1) := by
  rw [Pipeline.eq_sum_fin_of_reset_step_apply_of_flush (fun n h => (outsAt0 m c n h).2) 11 (fun _ => 0)
    (fun t y => wpart (a m c) (b m c) t.val (col t (y 0)) (y 1)) (fun t h y => ?_) (fun t h y => ?_) t h _, zero_add]
  · refine Eq.trans ?_ (sum_wpart (a m c) (b m c) (t.val / 11) (col t (y 0)) (y 1))
    refine sum_ext fun s => congrArg (wpart _ _ _ · _) (Fin.ext ?_)
    show (11 * (t.val / 11) + s.val) / 11 * 1408 + (y 0).val = t.val / 11 * 1408 + (y 0).val
    omega
  · rw [outsAt0_A m c t h (by omega)]
    frame_out
    refine (step m c _ t y).trans (congrArg (· + _) ?_)
    idx_vars y
    exact pay1_at _ _
  · by_cases h1 : t.val % 11 = 10
    · rw [outsAt0_C m c t h h1]
      frame_out
      simp only [read_unread_whole]
      exact step m c _ t y
    · rw [outsAt0_B m c t h h1]
      frame_out
      simp only [read_unread_whole]
      exact step m c _ t y

/-- What is written at a tile's last point is the scratch. -/
theorem out_at (t : Fin cfg0.N) (h : t.val % 11 = 10) (s : Fin 1) (k : Fin 1408) (n : Fin 1024) :
    ((outsAt0 m c t.val t.isLt).1 (ix3 s k n) : EReal) = (outsAt0 m c t.val t.isLt).2 (ix2 k n) := by
  rw [outsAt0_C m c t (by omega) h]
  frame_out
  simp only [read_unread_whole]
  exact pay3_at _ _ _ _

/-- The kernel's array. -/
theorem final : (dats m 0 c).arrAt 2 (cfgs 0).N
    = fun y : S1x2816x1024.Idx => (wgrad (a m c) (b m c) (y 1) (y 2) : EReal) := by
  refine (dats m 0 c).arrAt_eq_of_covers 2 _ (by decide +kernel) fun t hf y => ?_
  have h : t.val % 11 = 10 := (flush0_2 t).mp hf
  blk_simp
  rw [after0_2]
  idx_vars y
  refine (out_at m c t h y0 y1 y2).trans ((scratch_eq m c t h _).trans ?_)
  refine congrArg₂ (wgrad _ _) (Fin.ext ?_) (Fin.ext ?_)
  · show t.val / 11 * 1408 + y1.val = _
    blk_simp [idx t]
  · blk_simp [idx t]
end

theorem algebraic : Cert.algebraic_Kernel5Ideal_Reference5Ideal := by
  pair_intro
  · run_from Cert.Kernel5Ideal.Value.run_blocks m g
  · have hrun := Cert.Reference5Ideal.Value.run m' g'
    run_from hrun
    clear hrun hagree
    refine Eq.trans (funext fun y => ?_) (final m c).symm
    idx_vars y
    pointwise []
    exact sum_ext fun p => mul_comm (_ : EReal) _

theorem no_sem (s : SemLoc Cert.Reference5Ideal.sig) : False := by
  revert s
  decide

/-- The reference's frame. -/
theorem frame : Cert.quiescent_Reference5Ideal := by
  intro m g _
  run_from Cert.Reference5Ideal.Value.run m g
  · simp
  · funext s
    exact (no_sem s.2).elim

end Fo

end
-- ==== Proof.Out.lean ====
/- The gradient of the output projection's weight: the kernel's array, the reference's, and the claim. -/
module

public import proofs.«01_k».proof.Defs
public import proofs.«01_k».proof.Proof.Gen.Kernel6Ideal.Value
public import proofs.«01_k».proof.Proof.Gen.Reference6Ideal.Run
public import Idealize.ShloMosaic.Lib.Pipeline.ValueKit
public import Idealize.ShloMosaic.Lib.Pipeline.ReadBack
public import Idealize.ShloMosaic.Lib.Claim
public import proofs.«01_k».proof.Proof.Wgrad

@[expose] public section

set_option maxRecDepth 16384

noncomputable section

namespace Out

open Idealize.ShloMosaic Idealize.ShloMosaic.TcCoe Idealize.SL.Sem Rows

section
open Cert.Kernel6Ideal Cert.Kernel6Ideal.Gen

theorem pay1_at (k : Fin 1024) (n : Fin 1024) : (k0_pay1 (F := Ideal) (ix2 k n) : EReal) = 0 := by
  pointwise [k0_pay1]

theorem pay2_at (z : Vec Ideal S1024x1024 .f32) (x : Vec Ideal S768x1024 .bf16) (w : Vec Ideal S768x1024 .bf16)
    (k : Fin 1024) (n : Fin 1024) :
    (k0_pay2 z x w (ix2 k n) : EReal) = z (ix2 k n) + ∑ p : Fin 768, (x (ix2 p k) * w (ix2 p n) : EReal) := by
  pointwise [k0_pay2]

theorem pay3_at (z : Vec Ideal S1024x1024 .f32) (s : Fin 1) (k : Fin 1024) (n : Fin 1024) :
    (k0_pay3 z (ix3 s k n) : EReal) = z (ix2 k n) := by
  pointwise [k0_pay3]

variable (m : (ℓ : Loc nD τ sig) → Buf (Elt Ideal) ℓ) (c : Dev nD)

/-- Which blocks a grid point reads and writes. -/
theorem idx : ∀ t : Fin cfg0.N, win0_0.index t = ![t.val % 11, 0] ∧ win0_1.index t = ![t.val % 11, 0]
    ∧ win0_2.index t = ![0, 0, 0] :=
  (by decide +kernel : ∀ t : Fin grid0.N, _)

/-- The gradient of the projection's output. -/
def a (p : Fin 8448) (k : Fin 1024) : EReal := m ((c : Thread nD τ).loc main_arg0) (ix2 p k)

/-- The gradient of the projection's output. -/
def b (p : Fin 8448) (n : Fin 1024) : EReal := m ((c : Thread nD τ).loc main_arg1) (ix2 p n)

theorem step (z : Vec Ideal S1024x1024 .f32) (t : Fin cfg0.N) (y : S1024x1024.Idx) :
    (k0_pay2 z (iblk m c 0 t) (iblk m c 1 t) y : EReal) = z y + wpart (a m c) (b m c) t.val (y 0) (y 1) := by
  idx_vars y
  refine (pay2_at _ _ _ _ _).trans (congrArg _ (sum_ext fun p => congrArg₂ (fun x y : EReal => x * y) ?_ ?_))
  · blk_ext [iblk, V, idx t, a, rowOf]
  · blk_ext [iblk, V, idx t, b, rowOf]

/-- What the scratch holds at the last point: the gradient. -/
theorem scratch_eq (t : Fin cfg0.N) (h : t.val % 11 = 10) (y : S1024x1024.Idx) :
    ((outsAt0 m c t.val t.isLt).2 y : EReal) = wgrad (a m c) (b m c) (y 0) (y 1) := by
  rw [Pipeline.eq_sum_fin_of_reset_step_apply_of_flush (fun n h => (outsAt0 m c n h).2) 11 (fun _ => 0)
    (fun t y => wpart (a m c) (b m c) t.val (y 0) (y 1)) (fun t h y => ?_) (fun t h y => ?_) t h _, zero_add]
  · refine Eq.trans ?_ (sum_wpart (a m c) (b m c) (t.val / 11) (y 0) (y 1))
    rfl
  · rw [outsAt0_A m c t h (by omega)]
    frame_out
    refine (step m c _ t y).trans (congrArg (· + _) ?_)
    idx_vars y
    exact pay1_at _ _
  · by_cases h1 : t.val % 11 = 10
    · rw [outsAt0_C m c t h h1]
      frame_out
      simp only [read_unread_whole]
      exact step m c _ t y
    · rw [outsAt0_B m c t h h1]
      frame_out
      simp only [read_unread_whole]
      exact step m c _ t y

/-- What is written at the last point is the scratch. -/
theorem out_at (t : Fin cfg0.N) (h : t.val % 11 = 10) (s : Fin 1) (k : Fin 1024) (n : Fin 1024) :
    ((outsAt0 m c t.val t.isLt).1 (ix3 s k n) : EReal) = (outsAt0 m c t.val t.isLt).2 (ix2 k n) := by
  rw [outsAt0_C m c t (by omega) h]
  frame_out
  simp only [read_unread_whole]
  exact pay3_at _ _ _ _

/-- The kernel's array. -/
theorem final : (dats m 0 c).arrAt 2 (cfgs 0).N
    = fun y : S1x1024x1024.Idx => (wgrad (a m c) (b m c) (y 1) (y 2) : EReal) := by
  refine (dats m 0 c).arrAt_eq_of_covers 2 _ (by decide +kernel) fun t hf y => ?_
  have h : t.val % 11 = 10 := (flush0_2 t).mp hf
  blk_simp
  rw [after0_2]
  idx_vars y
  refine (out_at m c t h y0 y1 y2).trans ((scratch_eq m c t h _).trans ?_)
  refine congrArg₂ (wgrad _ _) (Fin.ext ?_) (Fin.ext ?_) <;> blk_simp [idx t]
end

theorem algebraic : Cert.algebraic_Kernel6Ideal_Reference6Ideal := by
  pair_intro
  · run_from Cert.Kernel6Ideal.Value.run_blocks m g
  · have hrun := Cert.Reference6Ideal.Value.run m' g'
    run_from hrun
    clear hrun hagree
    refine Eq.trans (funext fun y => ?_) (final m c).symm
    idx_vars y
    pointwise []
    exact sum_ext fun p => mul_comm (_ : EReal) _

theorem no_sem (s : SemLoc Cert.Reference6Ideal.sig) : False := by
  revert s
  decide

/-- The reference's frame. -/
theorem frame : Cert.quiescent_Reference6Ideal := by
  intro m g _
  run_from Cert.Reference6Ideal.Value.run m g
  · simp
  · funext s
    exact (no_sem s.2).elim

end Out

end
-- ==== Proof.Bh.lean ====
/- The gradient of a branch's output weight: the kernel's array, the reference's, and the claim. -/
module

public import proofs.«01_k».proof.Defs
public import proofs.«01_k».proof.Proof.Gen.Kernel7Ideal.Value
public import proofs.«01_k».proof.Proof.Gen.Reference7Ideal.Run
public import Idealize.ShloMosaic.Lib.Pipeline.ValueKit
public import Idealize.ShloMosaic.Lib.Pipeline.ReadBack
public import Idealize.ShloMosaic.Lib.Claim
public import proofs.«01_k».proof.Proof.Wgrad

@[expose] public section

set_option maxRecDepth 16384

noncomputable section

namespace Bh

open Idealize.ShloMosaic Idealize.ShloMosaic.TcCoe Idealize.SL.Sem Rows

section
open Cert.Kernel7Ideal Cert.Kernel7Ideal.Gen

/-- The scratch starts at zero. -/
theorem pay1_at (k : Fin 512) (n : Fin 1024) : (k0_pay1 (F := Ideal) (ix2 k n) : EReal) = 0 := by
  pointwise [k0_pay1]

/-- A point adds its block's product to the scratch. -/
theorem pay2_at (z : Vec Ideal S512x1024 .f32) (x : Vec Ideal S768x512 .bf16) (w : Vec Ideal S768x1024 .bf16)
    (k : Fin 512) (n : Fin 1024) :
    (k0_pay2 z x w (ix2 k n) : EReal) = z (ix2 k n) + ∑ p : Fin 768, (x (ix2 p k) * w (ix2 p n) : EReal) := by
  pointwise [k0_pay2]

variable (m : (ℓ : Loc nD τ sig) → Buf (Elt Ideal) ℓ) (c : Dev nD)

/-- Which blocks a grid point reads and writes. -/
theorem idx : ∀ t : Fin cfg0.N, win0_0.index t = ![t.val % 11, 0] ∧ win0_1.index t = ![t.val % 11, 0]
    ∧ win0_2.index t = ![0, 0, 0] :=
  (by decide +kernel : ∀ t : Fin grid0.N, _)

/-- The layer's input. -/
def a (p : Fin 8448) (k : Fin 512) : EReal := m ((c : Thread nD τ).loc main_arg0) (ix2 p k)

/-- The gradient of the layer's output. -/
def b (p : Fin 8448) (n : Fin 1024) : EReal := m ((c : Thread nD τ).loc main_arg1) (ix2 p n)

theorem step (z : Vec Ideal S512x1024 .f32) (t : Fin cfg0.N) (y : S512x1024.Idx) :
    (k0_pay2 z (iblk m c 0 t) (iblk m c 1 t) y : EReal) = z y + wpart (a m c) (b m c) t.val (y 0) (y 1) := by
  idx_vars y
  refine (pay2_at _ _ _ _ _).trans (congrArg _ (sum_ext fun p => congrArg₂ (fun x y : EReal => x * y) ?_ ?_))
  · blk_ext [iblk, V, idx t, a, rowOf]
  · blk_ext [iblk, V, idx t, b, rowOf]

/-- What the scratch holds at the last point: the gradient. -/
theorem scratch_eq (t : Fin cfg0.N) (h : t.val % 11 = 10) (y : S512x1024.Idx) :
    ((outsAt0 m c t.val t.isLt).2 y : EReal) = wgrad (a m c) (b m c) (y 0) (y 1) := by
  rw [Pipeline.eq_sum_fin_of_reset_step_apply_of_flush (fun n h => (outsAt0 m c n h).2) 11 (fun _ => 0)
    (fun t y => wpart (a m c) (b m c) t.val (y 0) (y 1)) (fun t h y => ?_) (fun t h y => ?_) t h _, zero_add]
  · refine Eq.trans ?_ (sum_wpart (a m c) (b m c) (t.val / 11) (y 0) (y 1))
    rfl
  · rw [outsAt0_A m c t h (by omega)]
    frame_out
    refine (step m c _ t y).trans (congrArg (· + _) ?_)
    idx_vars y
    exact pay1_at _ _
  · by_cases h1 : t.val % 11 = 10
    · rw [outsAt0_C m c t h h1]
      frame_out
      simp only [read_unread_whole]
      exact step m c _ t y
    · rw [outsAt0_B m c t h h1]
      frame_out
      simp only [read_unread_whole]
      exact step m c _ t y

/-- The four column groups written at the last point are the scratch's. -/
theorem out_at (t : Fin cfg0.N) (h : t.val % 11 = 10) (y : S4x512x256.Idx) {k : Fin 512} {n : Fin 1024}
    (hk : k.val = (y 1).val) (hn : n.val = (y 0).val * 256 + (y 2).val) :
    ((outsAt0 m c t.val t.isLt).1 y : EReal) = (outsAt0 m c t.val t.isLt).2 (ix2 k n) := by
  rw [outsAt0_C m c t (by omega) h]
  frame_out
  simp only [read_unread_whole]
  generalize k0_pay2 (outsAt0 m c (↑t - 1) _).2 (iblk m c 0 t) (iblk m c 1 t) = z
  simp (disch := decide) only [View.readCov_fill]
  canon_tiles x h
  all_goals
    idx_vars x
    pointwise [k0_pay3, k0_pay4, k0_pay5, k0_pay6]
    refine congrArg₂ (fun k n => z (ix2 k n)) (Fin.ext ?_) (Fin.ext ?_) <;> blk_simp [h0, h1, h2, hk, hn] <;> omega

/-- Column `n` of column group `s`. -/
def at_ (s : Fin 4) (n : Fin 256) : Fin 1024 := ⟨s.val * 256 + n.val, by omega⟩

theorem at_val (s : Fin 4) (n : Fin 256) : (at_ s n).val = s.val * 256 + n.val := rfl

/-- The kernel's array. -/
theorem final : (dats m 0 c).arrAt 2 (cfgs 0).N
    = fun y : S4x512x256.Idx => (wgrad (a m c) (b m c) (y 1) (at_ (y 0) (y 2)) : EReal) := by
  refine (dats m 0 c).arrAt_eq_of_covers 2 _ (by decide +kernel) fun t hf y => ?_
  have h : t.val % 11 = 10 := (flush0_2 t).mp hf
  blk_simp
  rw [after0_2]
  idx_vars y
  refine (out_at m c t h (ix3 y0 y1 y2) (k := y1) (n := ⟨y0.val * 256 + y2.val, by omega⟩) rfl rfl).trans ((scratch_eq m c t h _).trans ?_)
  refine congrArg₂ (wgrad _ _) (Fin.ext ?_) (Fin.ext (Eq.trans ?_ (at_val _ _).symm)) <;> blk_simp [idx t]
end

theorem algebraic : Cert.algebraic_Kernel7Ideal_Reference7Ideal := by
  pair_intro
  · run_from Cert.Kernel7Ideal.Value.run_blocks m g
  · have hrun := Cert.Reference7Ideal.Value.run m' g'
    run_from hrun
    clear hrun hagree
    refine Eq.trans (funext fun y => ?_) (final m c).symm
    concat_tiles x h
    all_goals
      idx_vars x
      idx_vars y
      pointwise []
      refine (sum_ext fun p => mul_comm (_ : EReal) _).trans
        (congrArg₂ (wgrad (a m c) (b m c)) (Fin.ext h1) (Fin.ext (Eq.trans ?_ (at_val y0 y2).symm)))
      rw [h, ← h2] <;> simp

theorem no_sem (s : SemLoc Cert.Reference7Ideal.sig) : False := by
  revert s
  decide

/-- The reference's frame. -/
theorem frame : Cert.quiescent_Reference7Ideal := by
  intro m g _
  run_from Cert.Reference7Ideal.Value.run m g
  · simp
  · funext s
    exact (no_sem s.2).elim

end Bh

end
-- ==== Proof.EmbSpec.lean ====
/- The embedding's normalization, the input projection and the rotary embedding, as formulas over extended reals. -/
module

public import proofs.«01_k».proof.Proof.Rows

@[expose] public section

noncomputable section

namespace Emb

open Idealize.ShloMosaic Rows

/-- The inputs: the batch, the meta tokens, the normalization's gain and offset, and the projection's weight with one
    row per output column. -/
@[ext] structure Inp where
  x : Fin 8192 → Row
  mt : Fin 16 → Row
  g : Row
  b : Row
  w : Fin 4864 → Row

/-- Normalization with gain and offset. -/
def norm (g b r : Row) : Row := fun k => hat r k * g k + b k

/-- The product of a row with one column of the projection. -/
def proj (h w : Row) : EReal := ∑ k, h k * w k

/-- The rotary angle of row `p` at frequency `l`: the position times the base to the power minus `l` over 32. -/
def ang (p : Fin 8448) (l : Fin 32) : EReal :=
  (FloatOps.sitofp (F := Ideal) .f32 (IntOp.subi (BitVec.ofNat 32 p.val) 240#32) : EReal)
    * Ideal.pow (Ideal.ofBits .f32 0x461C4000#32)
      (Ideal.div (-(FloatOps.sitofp (F := Ideal) .f32 (BitVec.ofNat 32 l.val) : EReal)) (Ideal.ofBits .f32 0x42000000#32))

namespace Inp
variable (i : Inp)

/-- Row `p` of the padded sequence: 240 unused rows, 16 meta tokens, then the batch. -/
def row (p : Fin 8448) : Row :=
  if h : 256 ≤ p.val then i.x ⟨p.val - 256, by omega⟩
  else if h' : 240 ≤ p.val then i.mt ⟨p.val - 240, by omega⟩ else fun _ => 0

/-- The normalized sequence, zero on the unused rows. -/
def h (p : Fin 8448) : Row := if 240 ≤ p.val then norm i.g i.b (i.row p) else fun _ => 0

/-- Column `n` of the projection. -/
def col (p : Fin 8448) (n : Fin 4864) : EReal := proj (i.h p) (i.w n)
/-- Column `n` of the first 2816: the queries' and keys' ten heads of 64 columns, from 2048 on, rotated. -/
def pa (p : Fin 8448) (n : Fin 2816) : EReal :=
  if h : 2048 ≤ n.val ∧ n.val < 2688 then
    let c := Ideal.cos (ang p ⟨n.val % 32, by omega⟩)
    let s := Ideal.sin (ang p ⟨n.val % 32, by omega⟩)
    if n.val % 64 < 32 then i.col p ⟨n.val, by omega⟩ * c - i.col p ⟨n.val + 32, by omega⟩ * s
    else i.col p ⟨n.val, by omega⟩ * c + i.col p ⟨n.val - 32, by omega⟩ * s
  else i.col p ⟨n.val, by omega⟩
end Inp

/-- The rotation of one entry: of the column's partner 32 columns on for the first half of a head of 64, 32 columns back
    for the second. -/
def rot (q : Fin 128 → EReal) (c s : EReal) (l : Fin 128) : EReal :=
  if h : l.val % 64 < 32 then q l * c - q ⟨l.val + 32, by omega⟩ * s else q l * c + q ⟨l.val - 32, by omega⟩ * s

/-- A block of 128 rotated columns. -/
theorem rot_pa (i : Inp) (p : Fin 8448) (b : Nat) (hb : b < 5) (l : Fin 128) (n : Fin 2816) (hn : n.val = 2048 + b * 128 + l.val)
    {q : Fin 128 → EReal} (hq : ∀ l (h : 2048 + b * 128 + l.val < 4864), q l = i.col p ⟨2048 + b * 128 + l.val, h⟩) {c s : EReal}
    (hc : c = Ideal.cos (ang p ⟨l.val % 32, by omega⟩)) (hs : s = Ideal.sin (ang p ⟨l.val % 32, by omega⟩)) :
    rot q c s l = i.pa p n := by
  have e : (⟨l.val % 32, by omega⟩ : Fin 32) = ⟨n.val % 32, by omega⟩ := Fin.ext (by show l.val % 32 = n.val % 32; omega)
  rw [rot, Inp.pa, dif_pos (⟨by omega, by omega⟩ : 2048 ≤ n.val ∧ n.val < 2688), hc, hs, e]
  by_cases h : l.val % 64 < 32
  · rw [dif_pos h, if_pos (by omega), hq _ (by omega), hq _ (by show 2048 + b * 128 + (l.val + 32) < 4864; omega)]
    refine congrArg₂ (fun x y => i.col p x * _ - i.col p y * _) (Fin.ext hn.symm) (Fin.ext ?_)
    show 2048 + b * 128 + (l.val + 32) = n.val + 32
    omega
  · rw [dif_neg h, if_neg (by omega), hq _ (by omega), hq _ (by show 2048 + b * 128 + (l.val - 32) < 4864; omega)]
    refine congrArg₂ (fun x y => i.col p x * _ + i.col p y * _) (Fin.ext hn.symm) (Fin.ext ?_)
    show 2048 + b * 128 + (l.val - 32) = n.val - 32
    omega

end Emb

end
-- ==== Proof.EmbKer.lean ====
/- The payloads of the embedding kernel read at an index. -/
module

public import proofs.«01_k».proof.Proof.Gen.Kernel8Ideal.Skeleton
public import proofs.«01_k».proof.Proof.EmbSpec

@[expose] public section

set_option maxRecDepth 16384

noncomputable section

namespace Emb

open Cert.Kernel8Ideal Cert.Kernel8Ideal.Gen Idealize.ShloMosaic Idealize.SL.Sem
open Rows

/-- A select by a word that says `P`. -/
theorem select_iff {P : Prop} [Decidable P] {w : BitVec 1} (h : w = 1#1 ↔ P) (x y : EReal) :
    Scalar.select w x y = if P then x else y := by
  unfold Scalar.select
  split <;> rename_i hw
  · rw [if_pos (h.mp hw)]
  · rw [if_neg fun hp => hw (h.mpr hp)]

/-- The word for "first grid point". -/
theorem first_iff : ∀ i : Fin 33, Scalar.cmpi .eq (BitVec.ofNat 32 i.val) 0#32 = 1#1 ↔ i.val = 0 := by
  decide +kernel

/-- The word for "a row in use". -/
theorem used_iff : ∀ (i : Fin 33) (a : Fin 256),
    IntOp.cmpi .sge (IntOp.addi (Scalar.muli (BitVec.ofNat 32 i.val) 256#32) (BitVec.ofNat 32 a.val)) 240#32 = 1#1
      ↔ 240 ≤ i.val * 256 + a.val := by
  decide +kernel

/-- The word for "a lane of the first half of its head". -/
def half (l : Fin 128) : BitVec 1 :=
  let n : BitVec 32 := Scalar.select (Scalar.cmpi .eq 64#32 0#32) 1#32 64#32
  let r := IntOp.remsi .vector (BitVec.ofNat 32 l.val) n
  IntOp.cmpi .slt (Scalar.select (IntOp.andi (IntOp.xori (IntOp.cmpi .slt r 0#32) (Scalar.cmpi .slt n 0#32))
    (IntOp.cmpi .ne r 0#32)) (IntOp.addi r n) r) 32#32

theorem half_iff : ∀ l : Fin 128, half l = 1#1 ↔ l.val % 64 < 32 := by decide +kernel

/-- The rotation by the two rolls of a block of 128 lanes. -/
theorem rot_of (q : Fin 128 → EReal) (c s : EReal) (l : Fin 128) :
    q l * c + Scalar.select (half l) (0 - q ⟨(l.val + 128 - 96) % 128, Nat.mod_lt _ (by decide)⟩)
      (q ⟨(l.val + 128 - 32) % 128, Nat.mod_lt _ (by decide)⟩) * s = rot q c s l := by
  rw [select_iff (half_iff l), rot]
  split
  · rw [zero_sub, EReal.neg_mul, ← sub_eq_add_neg]
    refine congrArg (fun j => q l * c - q j * s) (Fin.ext ?_)
    show (l.val + 128 - 96) % 128 = l.val + 32
    omega
  · refine congrArg (fun j => q l * c + q j * s) (Fin.ext ?_)
    show (l.val + 128 - 32) % 128 = l.val - 32
    omega

variable (v : Vec Ideal S256x2816 .f32) (c s : Vec Ideal S256x128 .f32) (a : Fin 256) (l : Fin 128)

/-- The 128 columns from column `n` of row `a`. -/
def lanes (n : Nat) (hn : n + 128 ≤ 2816) (l : Fin 128) : EReal := v (ix2 a ⟨n + l.val, by omega⟩)

theorem pay12_at : (k0_pay12 (F := Ideal) v (k0_pay5 c) (k0_pay6 s) (ix2 a l) : EReal)
    = rot (lanes v a 2176 (by omega)) (c (ix2 a l)) (s (ix2 a l)) l := by
  pointwise [k0_pay12, k0_pay5, k0_pay6]
  exact rot_of (lanes v a 2176 (by omega)) _ _ l

theorem pay17_at : (k0_pay17 (F := Ideal) (k0_pay6 s) (k0_pay13 v) (k0_pay14 v (k0_pay5 c))
      (Scalar.select (Scalar.cmpi .eq 64#32 0#32) 1#32 64#32) k0_pay15 k0_pay16 (ix2 a l) : EReal)
    = rot (lanes v a 2304 (by omega)) (c (ix2 a l)) (s (ix2 a l)) l := by
  pointwise [k0_pay17, k0_pay13, k0_pay14, k0_pay15, k0_pay16, k0_pay5, k0_pay6]
  exact rot_of (lanes v a 2304 (by omega)) _ _ l

theorem pay22_at : (k0_pay22 (F := Ideal) (k0_pay6 s) (k0_pay18 v) (k0_pay19 v (k0_pay5 c)) k0_pay20 (k0_pay21 v) (ix2 a l) : EReal)
    = rot (lanes v a 2432 (by omega)) (c (ix2 a l)) (s (ix2 a l)) l := by
  pointwise [k0_pay22, k0_pay18, k0_pay19, k0_pay20, k0_pay21, k0_pay5, k0_pay6]
  exact rot_of (lanes v a 2432 (by omega)) _ _ l

theorem pay23_at : (k0_pay23 (F := Ideal) v (k0_pay5 c) (k0_pay6 s) (ix2 a l) : EReal)
    = rot (lanes v a 2560 (by omega)) (c (ix2 a l)) (s (ix2 a l)) l := by
  pointwise [k0_pay23, k0_pay5, k0_pay6]
  exact rot_of (lanes v a 2560 (by omega)) _ _ l

theorem pay24_at : (k0_pay24 (F := Ideal) v (ix2 a l) : EReal) = lanes v a 2688 (by omega) l := by
  pointwise [k0_pay24]
  rfl

section
variable (y : Vec Ideal S256x1024 .f32) (w : Vec Ideal S2816x1024 .bf16)

theorem pay4_at (n : Fin 2816) : (k0_pay4 (F := Ideal) y w (ix2 a n) : EReal)
    = proj (fun k => y (ix2 a k)) (fun k => w (ix2 n k)) := by
  pointwise [k0_pay4, k0_pay3]
  rfl

theorem pay7_at (n : Fin 2048) : (k0_pay7 (F := Ideal) y w (ix2 a n) : EReal)
    = k0_pay4 (F := Ideal) y w (ix2 a ⟨n.val, by omega⟩) := by
  unfold k0_pay7
  generalize k0_pay4 (F := Ideal) y w = z
  pointwise []

theorem pay11_at : (k0_pay11 (F := Ideal) (k0_pay6 s) (k0_pay9 y w c) (k0_pay10 y w) (ix2 a l) : EReal)
    = rot (lanes (k0_pay4 (F := Ideal) y w) a 2048 (by omega)) (c (ix2 a l)) (s (ix2 a l)) l := by
  unfold k0_pay11 k0_pay9 k0_pay10 k0_pay8
  generalize k0_pay4 (F := Ideal) y w = z
  pointwise [k0_pay5, k0_pay6]
  exact rot_of (lanes z a 2048 (by omega)) _ _ l

theorem pay1_at (w : Vec Ideal S2048x1024 .bf16) (n : Fin 2048) : (k0_pay1 (F := Ideal) (k0_pay3 y) w (ix2 a n) : EReal)
    = proj (fun k => y (ix2 a k)) (fun k => w (ix2 n k)) := by
  pointwise [k0_pay1, k0_pay3]
  rfl
end

variable (i : grid0.Coords) (x m : Vec Ideal S256x1024 .f32) (g b : Vec Ideal S1x1024 .f32) (k : Fin 1024)

theorem pay2_at : (k0_pay2 i x m g b (ix2 a k) : EReal)
    = if 240 ≤ (i 0).val * 256 + a.val then norm (fun k => g (ix2 0 k)) (fun k => b (ix2 0 k))
        (fun k => if (i 0).val = 0 then x (ix2 a k) else m (ix2 a k)) k else 0 := by
  pointwise [k0_pay2]
  simp only [select_iff (first_iff (i 0)), select_iff (used_iff (i 0) a)]
  rfl

end Emb

end
-- ==== Proof.EmbFinal.lean ====
/- The embedding kernel's four result arrays, each as one formula of the arguments. -/
module

public import proofs.«01_k».proof.Proof.Gen.Kernel8Ideal.Value
public import Idealize.ShloMosaic.Lib.Pipeline.ValueKit
public import Idealize.ShloMosaic.Lib.Claim
public import proofs.«01_k».proof.Proof.EmbKer

@[expose] public section

set_option maxRecDepth 16384

noncomputable section

namespace Emb

open Cert.Kernel8Ideal Cert.Kernel8Ideal.Gen Idealize.ShloMosaic Idealize.ShloMosaic.TcCoe Idealize.SL.Sem
open Rows

variable (m : (ℓ : Loc nD τ sig) → Buf (Elt Ideal) ℓ) (c : Dev nD)

theorem idx : ∀ t : Fin cfg0.N, win0_0.index t = ![t.val - 1, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0]
    ∧ (grid0.coords t 0).val = t.val :=
  (by decide +kernel : ∀ t : Fin grid0.N, _)

/-- Row `a` of block `t`. -/
def at_ (t : Fin cfg0.N) (a : Fin 256) : Fin 8448 :=
  ⟨t.val * 256 + a.val, by have ht : t.val < 33 := lt_of_lt_of_eq t.isLt N_0; omega⟩

theorem at_val (t : Fin cfg0.N) (a : Fin 256) : (at_ t a).val = t.val * 256 + a.val := rfl

/-- The inputs. -/
def inp : Inp where
  x p k := m ((c : Thread nD τ).loc main_arg0) (ix2 p k)
  mt p k := m ((c : Thread nD τ).loc main_arg1) (ix2 p k)
  g k := m ((c : Thread nD τ).loc main_arg2) (ix1 k)
  b k := m ((c : Thread nD τ).loc main_arg3) (ix1 k)
  w n k := m ((c : Thread nD τ).loc main_arg4) (ix2 n k)

section
variable (t : Fin cfg0.N) (a : Fin 256) (k : Fin 1024) (l : Fin 128)

theorem blk0 (h : 1 ≤ t.val) (p : Fin 8192) (hp : p.val = (t.val - 1) * 256 + a.val) :
    iblk m c 0 t (ix2 a k) = m ((c : Thread nD τ).loc main_arg0) (ix2 p k) := by
  blk_ext [iblk, V_main_arg0, idx t, hp]

theorem pad_at (h : 240 ≤ a.val) : V m c main_v0 (ix2 a k) = m ((c : Thread nD τ).loc main_arg1) (ix2 ⟨a.val - 240, by omega⟩ k) := by
  simp only [V, hostOps0, hostOps0_1, hostOps0_2, List.flatten_cons, List.flatten_nil, List.append_nil, List.cons_append, List.nil_append]
  after_results_simp
  simp only [StableHlo.TRef.toBuf, StableHlo.TRef.ofBuf, cast_eq]
  pointwise []
  exact dif_pos ⟨h, by omega⟩

theorem blk1 : iblk m c 1 t (ix2 a k) = V m c main_v0 (ix2 a k) := by
  blk_ext [iblk, idx t]

theorem g_at : V m c main_v24 (ix2 0 k) = m ((c : Thread nD τ).loc main_arg2) (ix1 k) := by
  simp only [V, hostOps0, hostOps0_1, hostOps0_2, List.flatten_cons, List.flatten_nil, List.append_nil, List.cons_append, List.nil_append]
  after_results_simp
  pointwise []

theorem b_at : V m c main_v25 (ix2 0 k) = m ((c : Thread nD τ).loc main_arg3) (ix1 k) := by
  simp only [V, hostOps0, hostOps0_1, hostOps0_2, List.flatten_cons, List.flatten_nil, List.append_nil, List.cons_append, List.nil_append]
  after_results_simp
  pointwise []

theorem cos_at (p : Fin 8448) : V m c main_v19 (ix2 p l) = Ideal.cos (ang p ⟨l.val % 32, by omega⟩) := by
  simp only [V, hostOps0, hostOps0_1, hostOps0_2, List.flatten_cons, List.flatten_nil, List.append_nil, List.cons_append, List.nil_append]
  after_results_simp
  pointwise []
  rfl

theorem sin_at (p : Fin 8448) : V m c main_v23 (ix2 p l) = Ideal.sin (ang p ⟨l.val % 32, by omega⟩) := by
  simp only [V, hostOps0, hostOps0_1, hostOps0_2, List.flatten_cons, List.flatten_nil, List.append_nil, List.cons_append, List.nil_append]
  after_results_simp
  pointwise []
  rfl

theorem blk2 : iblk m c 2 t (ix2 0 k) = (inp m c).g k := by
  refine Eq.trans ?_ (g_at m c k)
  blk_ext [iblk, idx t]
theorem blk3 : iblk m c 3 t (ix2 0 k) = (inp m c).b k := by
  refine Eq.trans ?_ (b_at m c k)
  blk_ext [iblk, idx t]
theorem blk4 (n : Fin 4864) : iblk m c 4 t (ix2 n k) = (inp m c).w n k := by
  blk_ext [iblk, V_main_arg4, idx t, inp]
theorem blk5 : iblk m c 5 t (ix2 a l) = Ideal.cos (ang (at_ t a) ⟨l.val % 32, by omega⟩) := by
  refine Eq.trans ?_ (cos_at m c l (at_ t a))
  blk_ext [iblk, idx t, at_]
theorem blk6 : iblk m c 6 t (ix2 a l) = Ideal.sin (ang (at_ t a) ⟨l.val % 32, by omega⟩) := by
  refine Eq.trans ?_ (sin_at m c l (at_ t a))
  blk_ext [iblk, idx t, at_]
end

theorem row_eq (t : Fin cfg0.N) (a : Fin 256) (h : 240 ≤ t.val * 256 + a.val) (k : Fin 1024) :
    (if t.val = 0 then (iblk m c 1 t (ix2 a k) : EReal) else iblk m c 0 t (ix2 a k)) = (inp m c).row (at_ t a) k := by
  have ht : t.val < 33 := lt_of_lt_of_eq t.isLt N_0
  rw [Inp.row]
  split <;> rename_i h0
  · rw [dif_neg (show ¬ 256 ≤ (at_ t a).val by rw [at_val]; omega), dif_pos (show 240 ≤ (at_ t a).val from h), blk1,
      pad_at m c a k (by omega)]
    refine congrArg (fun p => (inp m c).mt p k) (Fin.ext ?_)
    show a.val - 240 = t.val * 256 + a.val - 240
    omega
  · rw [dif_pos (show 256 ≤ (at_ t a).val by rw [at_val]; omega)]
    exact blk0 m c t a k (by omega) ⟨t.val * 256 + a.val - 256, by omega⟩ (by show t.val * 256 + a.val - 256 = _; omega)

/-- The normalized rows of a point's block. -/
theorem h_at (t : Fin cfg0.N) (a : Fin 256) (k : Fin 1024) :
    (k0_pay2 (grid0.coords t) (iblk m c 1 t) (iblk m c 0 t) (iblk m c 2 t) (iblk m c 3 t) (ix2 a k) : EReal)
      = (inp m c).h (at_ t a) k := by
  rw [pay2_at, (idx t).2.2.2.2.2.2.2.2.2.2.2, Inp.h]
  by_cases h : 240 ≤ t.val * 256 + a.val
  · rw [if_pos h, if_pos (show 240 ≤ (at_ t a).val from h)]
    rw [funext (row_eq m c t a h), funext (blk2 m c t), funext (blk3 m c t)]
  · rw [if_neg h, if_neg (show ¬ 240 ≤ (at_ t a).val from h)]

theorem final7 : (dats m 0 c).arrAt 7 (cfgs 0).N = fun y : S8448x1024.Idx => ((inp m c).h (y 0) (y 1) : EReal) := by
  refine (dats m 0 c).arrAt_eq_of_covers 7 _ (by decide +kernel) fun t hf y => ?_
  have ht : t.val < 33 := lt_of_lt_of_eq t.isLt N_0
  blk_simp
  rw [after0_7]
  dsimp only [outsAt0]
  frame_out
  idx_vars y
  refine (h_at m c t y0 y1).trans (congrArg₂ (inp m c).h (Fin.ext ?_) (Fin.ext ?_)) <;> blk_simp [idx t, at_]

theorem final8 : (dats m 0 c).arrAt 8 (cfgs 0).N = fun y : S8448x1024.Idx => ((inp m c).h (y 0) (y 1) : EReal) := by
  refine (dats m 0 c).arrAt_eq_of_covers 8 _ (by decide +kernel) fun t hf y => ?_
  have ht : t.val < 33 := lt_of_lt_of_eq t.isLt N_0
  blk_simp
  rw [after0_8]
  dsimp only [outsAt0]
  frame_out
  idx_vars y
  refine (h_at m c t y0 y1).trans (congrArg₂ (inp m c).h (Fin.ext ?_) (Fin.ext ?_)) <;> blk_simp [idx t, at_]

/-- The first 2816 rows of the weight's block. -/
theorem w_lo (t : Fin cfg0.N) (n : Fin 2816) (k : Fin 1024) :
    View.ld (iblk m c 4 t) (Rect.unit (s := S4864x1024) ![0, 0] ![2816, 1024] inb_S4864x1024_S2816x1024_0_0) (ix2 n k)
      = (inp m c).w ⟨n.val, by omega⟩ k := by
  refine Eq.trans (congrArg (iblk m c 4 t) (funext fun i => Fin.ext ((Rect.idx_unit_val _ _ _ _ _).trans ?_))) (blk4 m c t k _)
  fin_cases i
  · exact Nat.zero_add n.val
  · exact Nat.zero_add k.val

/-- The column of gate `n`. -/
def gate (n : Fin 2048) : Fin 4864 := ⟨2816 + n.val, by omega⟩

/-- The last 2048 rows of the weight's block. -/
theorem w_hi (t : Fin cfg0.N) (n : Fin 2048) (k : Fin 1024) :
    View.ld (iblk m c 4 t) (Rect.unit (s := S4864x1024) ![2816, 0] ![2048, 1024] inb_S4864x1024_S2048x1024_2816_0) (ix2 n k)
      = (inp m c).w (gate n) k := by
  refine Eq.trans (congrArg (iblk m c 4 t) (funext fun i => Fin.ext ((Rect.idx_unit_val _ _ _ _ _).trans ?_))) (blk4 m c t k _)
  fin_cases i
  · rfl
  · exact Nat.zero_add k.val

/-- The product of a point's block with the first 2816 columns. -/
abbrev block (t : Fin cfg0.N) : Vec Ideal S256x2816 .f32 :=
  k0_pay4 (k0_pay2 (grid0.coords t) (iblk m c 1 t) (iblk m c 0 t) (iblk m c 2 t) (iblk m c 3 t))
    (View.ld (iblk m c 4 t) (Rect.unit (s := S4864x1024) ![0, 0] ![2816, 1024] inb_S4864x1024_S2816x1024_0_0))

theorem block_at (t : Fin cfg0.N) (a : Fin 256) (n : Fin 2816) :
    (block m c t (ix2 a n) : EReal) = (inp m c).col (at_ t a) ⟨n.val, by omega⟩ := by
  refine (pay4_at _ _ _ _).trans ?_
  rw [funext (h_at m c t a), funext (w_lo m c t n)]
  rfl

/-- Block `b` of the rotated columns. -/
theorem rot_at (t : Fin cfg0.N) (a : Fin 256) (l : Fin 128) (b : Nat) (hb : b < 5) (n : Fin 2816) (p : Fin 8448)
    (hp : p.val = t.val * 256 + a.val) (hn : n.val = 2048 + b * 128 + l.val) (k : Nat) (hk) (e : k = 2048 + b * 128) :
    rot (lanes (block m c t) a k hk) (iblk m c 5 t (ix2 a l)) (iblk m c 6 t (ix2 a l)) l = (inp m c).pa p n := by
  subst e
  obtain rfl : p = at_ t a := Fin.ext hp
  exact rot_pa _ _ b hb l n hn (fun l h => block_at m c t a _) (blk5 m c t a l) (blk6 m c t a l)

/-- The columns that are not rotated. -/
theorem flat_at (t : Fin cfg0.N) (a : Fin 256) (j n : Fin 2816) (p : Fin 8448)
    (hp : p.val = t.val * 256 + a.val) (hn : n.val = j.val) (h : ¬ (2048 ≤ n.val ∧ n.val < 2688)) :
    (block m c t (ix2 a j) : EReal) = (inp m c).pa p n := by
  obtain rfl : p = at_ t a := Fin.ext hp
  obtain rfl : n = j := Fin.ext hn
  rw [block_at, Inp.pa, dif_neg h]

theorem final10 : (dats m 0 c).arrAt 10 (cfgs 0).N
    = fun y : S8448x2048.Idx => ((inp m c).col (y 0) (gate (y 1)) : EReal) := by
  refine (dats m 0 c).arrAt_eq_of_covers 10 _ (by decide +kernel) fun t hf y => ?_
  have ht : t.val < 33 := lt_of_lt_of_eq t.isLt N_0
  blk_simp
  rw [after0_10]
  dsimp only [outsAt0]
  frame_out
  idx_vars y
  refine (pay1_at _ _ _ _).trans ?_
  rw [funext (h_at m c t y0), funext (w_hi m c t y1)]
  refine congrArg₂ (inp m c).col (Fin.ext ?_) (congrArg gate (Fin.ext ?_)) <;> blk_simp [idx t, at_]

theorem final9 : (dats m 0 c).arrAt 9 (cfgs 0).N = fun y : S8448x2816.Idx => ((inp m c).pa (y 0) (y 1) : EReal) := by
  refine (dats m 0 c).arrAt_eq_of_covers 9 _ (by decide +kernel) fun t hf y => ?_
  have ht : t.val < 33 := lt_of_lt_of_eq t.isLt N_0
  blk_simp
  rw [after0_9]
  dsimp only [outsAt0]
  frame_out
  canon_tiles x h using View.cover_of_tiledBy _ ![256, 128] (by sl_kernel_rfl) y
  all_goals idx_vars x
  · refine (pay24_at _ _ _).trans (flat_at m c t x0 ⟨2688 + x1.val, by omega⟩ _ _ ?_ ?_ ?_) <;> blk_simp [idx t, h0, h1] <;> omega
  · refine (pay23_at _ _ _ _ _).trans (rot_at m c t x0 x1 4 (by omega) _ _ ?_ ?_ _ _ rfl) <;> blk_simp [idx t, h0, h1] <;> omega
  · refine (pay22_at _ _ _ _ _).trans (rot_at m c t x0 x1 3 (by omega) _ _ ?_ ?_ _ _ rfl) <;> blk_simp [idx t, h0, h1] <;> omega
  · refine (pay17_at _ _ _ _ _).trans (rot_at m c t x0 x1 2 (by omega) _ _ ?_ ?_ _ _ rfl) <;> blk_simp [idx t, h0, h1] <;> omega
  · refine (pay12_at _ _ _ _ _).trans (rot_at m c t x0 x1 1 (by omega) _ _ ?_ ?_ _ _ rfl) <;> blk_simp [idx t, h0, h1] <;> omega
  · refine (pay11_at _ _ _ _ _ _).trans (rot_at m c t x0 x1 0 (by omega) _ _ ?_ ?_ _ _ rfl) <;> blk_simp [idx t, h0, h1] <;> omega
  · refine (pay7_at _ _ _ _).trans (flat_at m c t x0 ⟨x1.val, by omega⟩ _ _ ?_ ?_ ?_) <;> blk_simp [idx t, h0, h1] <;> omega

end Emb

end
-- ==== Proof.EmbRef.lean ====
/- The reference's arrays read at an index, as the formulas of `EmbSpec`. -/
module

public import proofs.«01_k».proof.Proof.Gen.Reference8Ideal.Run
public import Idealize.ShloMosaic.Lib.KernelVsHost
public import proofs.«01_k».proof.Proof.EmbSpec

@[expose] public section

set_option maxRecDepth 16384

noncomputable section

namespace Emb.Ref

open Cert.Reference8Ideal Cert.Reference8Ideal.Gen Cert.Reference8Ideal.Value Idealize.ShloMosaic Idealize.ShloMosaic.TcCoe Idealize.SL.Sem
open Rows

/-- A single-precision array. -/
abbrev Arr (s : Shape) := FVec Ideal s .f32

/-- The meta tokens before the batch. -/
def seq (X : Arr S8192x1024) (M : Arr S16x1024) : Arr S8208x1024 :=
  concatenate S8208x1024 0 [⟨S16x1024, M⟩, ⟨S8192x1024, X⟩] concatenates_S16x1024_S8192x1024_S8208x1024_d0

/-- The means of the rows. -/
def means (Z : Arr S8208x1024) : Arr S8208x1 :=
  Host.divf (broadcastInDim S8208x1 ![0] bcast_S8208_S8208x1_0 (Host.reduceAdd Z (constant S_ .f32 0x00000000#32)
    reducesTo_S8208x1024_S8208_d1 h_S_)) (broadcastInDim S8208x1 ![] bcast_S_S8208x1 (constant S_ .f32
    0x44800000#32))

/-- The normalized rows. -/
def nrm (Z : Arr S8208x1024) (G B : Arr S1024) : Arr S8208x1024 :=
  addf (mulf (mulf (subf Z (broadcastInDim S8208x1024 ![0, 1] bcast_S8208x1_S8208x1024_0_1 (means Z)))
    (broadcastInDim S8208x1024 ![0, 1] bcast_S8208x1_S8208x1024_0_1 (Host.rsqrt (addf (Host.divf (broadcastInDim
    S8208x1 ![0] bcast_S8208_S8208x1_0 (Host.reduceAdd (mulf (subf Z (broadcastInDim S8208x1024 ![0, 1]
    bcast_S8208x1_S8208x1024_0_1 (means Z))) (subf Z (broadcastInDim S8208x1024 ![0, 1] bcast_S8208x1_S8208x1024_0_1
    (means Z)))) (constant S_ .f32 0x00000000#32) reducesTo_S8208x1024_S8208_d1 h_S_)) (broadcastInDim S8208x1 ![]
    bcast_S_S8208x1 (constant S_ .f32 0x44800000#32))) (broadcastInDim S8208x1 ![] bcast_S_S8208x1 (constant S_ .f32
    0x3727C5AC#32)))))) (broadcastInDim S8208x1024 ![0, 1] bcast_S1x1024_S8208x1024_0_1 (broadcastInDim S1x1024 ![1]
    bcast_S1024_S1x1024_1 G))) (broadcastInDim S8208x1024 ![0, 1] bcast_S1x1024_S8208x1024_0_1 (broadcastInDim
    S1x1024 ![1] bcast_S1024_S1x1024_1 B))

/-- The normalized rows after 240 rows of zeros. -/
def hid (N : Arr S8208x1024) : Arr S8448x1024 :=
  pad S8448x1024 ![240, 0] ![0, 0] ![0, 0] N (sitofp .f32 (constantI S_ 32 0#32))
    pads_S8208x1024_S8448x1024_24000_000 h_S_

/-- The projection. -/
def prj (H : Arr S8448x1024) (W : FVec Ideal S4864x1024 .bf16) : Arr S8448x4864 :=
  Host.dotGeneral dot_S8448x1024_S1024x4864_S8448x4864_1_0_0_1_n_n none H (transpose S1024x4864 [1, 0] (extf .f32 W
    bitsLt_bf16_f32) transposes_S4864x1024_S1024x4864_1_0)

/-- The angles. -/
def angs : Arr S8448x32 :=
  mulf (broadcastInDim S8448x32 ![0, 1] bcast_S8448x1_S8448x32_0_1 (broadcastInDim S8448x1 ![0]
    bcast_S8448_S8448x1_0 (sitofp .f32 (subi (iotaInDim S8448 32 0) (broadcastInDim S8448 ![] bcast_S_S8448
    (constantI S_ 32 240#32)))))) (broadcastInDim S8448x32 ![0, 1] bcast_S1x32_S8448x32_0_1 (broadcastInDim S1x32
    ![1] bcast_S32_S1x32_1 (Host.powf (broadcastInDim S32 ![] bcast_S_S32 (constant S_ .f32 0x461C4000#32))
    (Host.divf (Host.negf (sitofp .f32 (iotaInDim S32 32 0))) (broadcastInDim S32 ![] bcast_S_S32 (constant S_ .f32
    0x42000000#32))))))

/-- The rotation of the queries' eight heads by the angles `A`. -/
def rot8 (Q : Arr S8448x512) (A : Arr S8448x32) : Arr S8448x512 :=
  shapeCast S8448x512 (concatenate S8448x8x64 2 [⟨S8448x8x32, (subf (mulf (extractStridedSlice S8448x8x32 ![0, 0, 0]
    (shapeCast _ Q shapeCasts_S8448x512_S8448x8x64) slices_S8448x8x64_S8448x8x32_0_0_0) (broadcastInDim S8448x8x32
    ![0, 1, 2] bcast_S8448x1x32_S8448x8x32_0_1_2 (broadcastInDim S8448x1x32 ![0, 2] bcast_S8448x32_S8448x1x32_0_2
    (Host.cos A)))) (mulf (extractStridedSlice S8448x8x32 ![0, 0, 32] (shapeCast _ Q
    shapeCasts_S8448x512_S8448x8x64) slices_S8448x8x64_S8448x8x32_0_0_32) (broadcastInDim S8448x8x32 ![0, 1, 2]
    bcast_S8448x1x32_S8448x8x32_0_1_2 (broadcastInDim S8448x1x32 ![0, 2] bcast_S8448x32_S8448x1x32_0_2 (Host.sin
    A)))))⟩, ⟨S8448x8x32, (addf (mulf (extractStridedSlice S8448x8x32 ![0, 0, 32] (shapeCast _ Q
    shapeCasts_S8448x512_S8448x8x64) slices_S8448x8x64_S8448x8x32_0_0_32) (broadcastInDim S8448x8x32 ![0, 1, 2]
    bcast_S8448x1x32_S8448x8x32_0_1_2 (broadcastInDim S8448x1x32 ![0, 2] bcast_S8448x32_S8448x1x32_0_2 (Host.cos
    A)))) (mulf (extractStridedSlice S8448x8x32 ![0, 0, 0] (shapeCast _ Q shapeCasts_S8448x512_S8448x8x64)
    slices_S8448x8x64_S8448x8x32_0_0_0) (broadcastInDim S8448x8x32 ![0, 1, 2] bcast_S8448x1x32_S8448x8x32_0_1_2
    (broadcastInDim S8448x1x32 ![0, 2] bcast_S8448x32_S8448x1x32_0_2 (Host.sin A)))))⟩]
    concatenates_S8448x8x32_S8448x8x32_S8448x8x64_d2) shapeCasts_S8448x8x64_S8448x512

/-- The rotation of the keys' two heads by the angles `A`. -/
def rot2 (K : Arr S8448x128) (A : Arr S8448x32) : Arr S8448x128 :=
  shapeCast S8448x128 (concatenate S8448x2x64 2 [⟨S8448x2x32, (subf (mulf (extractStridedSlice S8448x2x32 ![0, 0, 0]
    (shapeCast _ K shapeCasts_S8448x128_S8448x2x64) slices_S8448x2x64_S8448x2x32_0_0_0) (broadcastInDim S8448x2x32
    ![0, 1, 2] bcast_S8448x1x32_S8448x2x32_0_1_2 (broadcastInDim S8448x1x32 ![0, 2] bcast_S8448x32_S8448x1x32_0_2
    (Host.cos A)))) (mulf (extractStridedSlice S8448x2x32 ![0, 0, 32] (shapeCast _ K
    shapeCasts_S8448x128_S8448x2x64) slices_S8448x2x64_S8448x2x32_0_0_32) (broadcastInDim S8448x2x32 ![0, 1, 2]
    bcast_S8448x1x32_S8448x2x32_0_1_2 (broadcastInDim S8448x1x32 ![0, 2] bcast_S8448x32_S8448x1x32_0_2 (Host.sin
    A)))))⟩, ⟨S8448x2x32, (addf (mulf (extractStridedSlice S8448x2x32 ![0, 0, 32] (shapeCast _ K
    shapeCasts_S8448x128_S8448x2x64) slices_S8448x2x64_S8448x2x32_0_0_32) (broadcastInDim S8448x2x32 ![0, 1, 2]
    bcast_S8448x1x32_S8448x2x32_0_1_2 (broadcastInDim S8448x1x32 ![0, 2] bcast_S8448x32_S8448x1x32_0_2 (Host.cos
    A)))) (mulf (extractStridedSlice S8448x2x32 ![0, 0, 0] (shapeCast _ K shapeCasts_S8448x128_S8448x2x64)
    slices_S8448x2x64_S8448x2x32_0_0_0) (broadcastInDim S8448x2x32 ![0, 1, 2] bcast_S8448x1x32_S8448x2x32_0_1_2
    (broadcastInDim S8448x1x32 ![0, 2] bcast_S8448x32_S8448x1x32_0_2 (Host.sin A)))))⟩]
    concatenates_S8448x2x32_S8448x2x32_S8448x2x64_d2) shapeCasts_S8448x2x64_S8448x128

/-- The first 2816 columns of the projection, the queries and keys among them rotated. -/
def first (P : Arr S8448x4864) (A : Arr S8448x32) : Arr S8448x2816 :=
  concatenate S8448x2816 1 [⟨S8448x2048, extractStridedSlice S8448x2048 ![0, 0] P slices_S8448x4864_S8448x2048_0_0⟩,
    ⟨S8448x512, rot8 (extractStridedSlice S8448x512 ![0, 2048] P slices_S8448x4864_S8448x512_0_2048) A⟩,
    ⟨S8448x128, rot2 (extractStridedSlice S8448x128 ![0, 2560] P slices_S8448x4864_S8448x128_0_2560) A⟩,
    ⟨S8448x128, extractStridedSlice S8448x128 ![0, 2688] P slices_S8448x4864_S8448x128_0_2688⟩]
    concatenates_S8448x2048_S8448x512_S8448x128_S8448x128_S8448x2816_d1

variable (X : Arr S8192x1024) (M : Arr S16x1024) (G B : Arr S1024) (W : FVec Ideal S4864x1024 .bf16)

theorem seq_at (p : Fin 8208) (k : Fin 1024) :
    (seq X M (ix2 p k) : EReal) = if h : p.val < 16 then M (ix2 ⟨p.val, h⟩ k) else X (ix2 ⟨p.val - 16, by omega⟩ k) := by
  pointwise [seq]

theorem means_at (Z : Arr S8208x1024) (p : Fin 8208) (k : Fin 1) : (means Z (ix2 p k) : EReal) = mean fun k => Z (ix2 p k) := by
  pointwise [means]
  rfl

theorem nrm_at (Z : Arr S8208x1024) (p : Fin 8208) (k : Fin 1024) :
    (nrm Z G B (ix2 p k) : EReal) = norm (fun k => G (ix1 k)) (fun k => B (ix1 k)) (fun k => Z (ix2 p k)) k := by
  pointwise [nrm, means_at]
  rfl

theorem hid_at (N : Arr S8208x1024) (p : Fin 8448) (k : Fin 1024) :
    (hid N (ix2 p k) : EReal) = if h : 240 ≤ p.val then N (ix2 ⟨p.val - 240, by omega⟩ k) else 0 := by
  pointwise [hid]
  by_cases h : 240 ≤ p.val
  · rw [dif_pos h]
    exact dif_pos ⟨h, by omega⟩
  · rw [dif_neg h]
    exact (dif_neg fun e => h e.1).trans sitofp_zero

theorem prj_at (H : Arr S8448x1024) (p : Fin 8448) (n : Fin 4864) :
    (prj H W (ix2 p n) : EReal) = proj (fun k => H (ix2 p k)) (fun k => W (ix2 n k)) := by
  pointwise [prj]
  rfl

theorem angs_at (p : Fin 8448) (l : Fin 32) : (angs (ix2 p l) : EReal) = ang p l := by
  pointwise [angs]
  rfl

/-- The inputs. -/
def inp : Inp where
  x p k := X (ix2 p k)
  mt p k := M (ix2 p k)
  g k := G (ix1 k)
  b k := B (ix1 k)
  w n k := W (ix2 n k)

theorem h_at (p : Fin 8448) (k : Fin 1024) : (hid (nrm (seq X M) G B) (ix2 p k) : EReal) = (inp X M G B W).h p k := by
  rw [hid_at, Inp.h]
  by_cases h : 240 ≤ p.val
  · rw [dif_pos h, if_pos h, nrm_at]
    refine congrArg (fun r => norm _ _ r k) (funext fun k => (seq_at X M _ k).trans ?_)
    rw [Inp.row]
    by_cases h' : 256 ≤ p.val
    · rw [dif_pos h', dif_neg (by show ¬p.val - 240 < 16; omega)]
      refine congrArg (fun q => X (ix2 q k)) (Fin.ext ?_)
      show p.val - 240 - 16 = p.val - 256
      omega
    · rw [dif_neg h', dif_pos h, dif_pos (by show p.val - 240 < 16; omega)]
      rfl
  · rw [dif_neg h, if_neg h]

theorem col_at (p : Fin 8448) (n : Fin 4864) :
    (prj (hid (nrm (seq X M) G B)) W (ix2 p n) : EReal) = (inp X M G B W).col p n := by
  rw [prj_at]
  exact congrArg (fun r => proj r _) (funext fun k => h_at X M G B W p k)

section
variable (i : Inp) (p : Fin 8448) (n : Fin 2816)

/-- A rotated column in the first half of its head. -/
theorem pa_lo (h : 2048 ≤ n.val ∧ n.val < 2688) (h' : n.val % 64 < 32) {a b : Fin 4864} {l : Fin 32} (ha : a.val = n.val)
    (hb : b.val = n.val + 32) (hl : l.val = n.val % 32) :
    i.col p a * Ideal.cos (ang p l) - i.col p b * Ideal.sin (ang p l) = i.pa p n := by
  rw [Inp.pa, dif_pos h, if_pos h']
  exact congrArg₂ (fun x y : EReal => x - y) (congrArg₂ (fun a l => i.col p a * Ideal.cos (ang p l)) (Fin.ext ha) (Fin.ext hl))
    (congrArg₂ (fun a l => i.col p a * Ideal.sin (ang p l)) (Fin.ext hb) (Fin.ext hl))

/-- A rotated column in the second half of its head. -/
theorem pa_hi (h : 2048 ≤ n.val ∧ n.val < 2688) (h' : ¬n.val % 64 < 32) {a b : Fin 4864} {l : Fin 32} (ha : a.val = n.val)
    (hb : b.val = n.val - 32) (hl : l.val = n.val % 32) :
    i.col p a * Ideal.cos (ang p l) + i.col p b * Ideal.sin (ang p l) = i.pa p n := by
  rw [Inp.pa, dif_pos h, if_neg h']
  exact congrArg₂ (fun x y : EReal => x + y) (congrArg₂ (fun a l => i.col p a * Ideal.cos (ang p l)) (Fin.ext ha) (Fin.ext hl))
    (congrArg₂ (fun a l => i.col p a * Ideal.sin (ang p l)) (Fin.ext hb) (Fin.ext hl))

/-- A column that is not rotated. -/
theorem pa_flat (h : ¬(2048 ≤ n.val ∧ n.val < 2688)) {a : Fin 4864} (ha : a.val = n.val) : i.col p a = i.pa p n := by
  rw [Inp.pa, dif_neg h]
  exact congrArg (i.col p) (Fin.ext ha)

variable {A : Arr S8448x32} (hA : ∀ l : Fin 32, (A (ix2 p l) : EReal) = ang p l)
include hA

theorem rot8_at {Q : Arr S8448x512} (hQ : ∀ l : Fin 512, (Q (ix2 p l) : EReal) = i.col p ⟨2048 + l.val, by omega⟩) (l : Fin 512)
    (hn : n.val = 2048 + l.val) : (rot8 Q A (ix2 p l) : EReal) = i.pa p n := by
  pointwise [rot8, hQ, hA]
  by_cases h : l.val % 64 < 32
  · rw [dif_pos h]
    exact pa_lo i p n (by omega) (by omega) (by show 2048 + _ = _; omega) (by show 2048 + _ = _; omega) (by show l.val % 64 = _; omega)
  · rw [dif_neg h]
    exact pa_hi i p n (by omega) (by omega) (by show 2048 + _ = _; omega) (by show 2048 + _ = _; omega)
      (by show l.val % 64 - 32 = _; omega)

theorem rot2_at {K : Arr S8448x128} (hK : ∀ l : Fin 128, (K (ix2 p l) : EReal) = i.col p ⟨2560 + l.val, by omega⟩) (l : Fin 128)
    (hn : n.val = 2560 + l.val) : (rot2 K A (ix2 p l) : EReal) = i.pa p n := by
  pointwise [rot2, hK, hA]
  by_cases h : l.val % 64 < 32
  · rw [dif_pos h]
    exact pa_lo i p n (by omega) (by omega) (by show 2560 + _ = _; omega) (by show 2560 + _ = _; omega) (by show l.val % 64 = _; omega)
  · rw [dif_neg h]
    exact pa_hi i p n (by omega) (by omega) (by show 2560 + _ = _; omega) (by show 2560 + _ = _; omega)
      (by show l.val % 64 - 32 = _; omega)

theorem first_at {P : Arr S8448x4864} (hP : ∀ l : Fin 4864, (P (ix2 p l) : EReal) = i.col p l) :
    (first P A (ix2 p n) : EReal) = i.pa p n := by
  have hq : ∀ l : Fin 512, (extractStridedSlice S8448x512 ![0, 2048] P slices_S8448x4864_S8448x512_0_2048 (ix2 p l) : EReal)
      = i.col p ⟨2048 + l.val, by omega⟩ := fun l => by
    pointwise [hP]
  have hk : ∀ l : Fin 128, (extractStridedSlice S8448x128 ![0, 2560] P slices_S8448x4864_S8448x128_0_2560 (ix2 p l) : EReal)
      = i.col p ⟨2560 + l.val, by omega⟩ := fun l => by
    pointwise [hP]
  pointwise [first, hP]
  by_cases h0 : n.val < 2048
  · rw [dif_pos h0]
    exact pa_flat i p n (by omega) rfl
  rw [dif_neg h0]
  by_cases h1 : n.val - 2048 < 512
  · rw [dif_pos h1]
    exact rot8_at i p n hA hq _ (by show _ = 2048 + (n.val - 2048); omega)
  rw [dif_neg h1]
  by_cases h2 : n.val - 2048 - 512 < 128
  · rw [dif_pos h2]
    exact rot2_at i p n hA hk _ (by show _ = 2560 + (n.val - 2048 - 512); omega)
  · rw [dif_neg h2]
    exact pa_flat i p n (by omega) (by show 2688 + _ = _; omega)
end

variable (m : (ℓ : Loc nD τ sig) → Buf (Elt Ideal) ℓ) (c : Dev nD)

/-- The last 2048 columns. -/
theorem last_at (P : Arr S8448x4864) (p : Fin 8448) (n : Fin 2048) :
    (extractStridedSlice S8448x2048 ![0, 2816] P slices_S8448x4864_S8448x2048_0_2816 (ix2 p n) : EReal)
      = P (ix2 p ⟨2816 + n.val, by omega⟩) := by
  pointwise []

/-- The inputs in memory. -/
def ins : Inp := inp (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4))

theorem out2_eq : res_out2 m c = first (prj (hid (nrm (seq (m ((c.tc : Thread nD τ).loc main_arg0)) (m ((c.tc : Thread nD τ).loc main_arg1)))
    (m ((c.tc : Thread nD τ).loc main_arg2)) (m ((c.tc : Thread nD τ).loc main_arg3)))) (m ((c.tc : Thread nD τ).loc main_arg4))) angs :=
  rfl

end Emb.Ref

end
-- ==== Proof.Emb.lean ====
/- The embedding kernel's results are its reference's, and the reference's frame. -/
module

public import proofs.«01_k».proof.Defs
public import proofs.«01_k».proof.Proof.EmbFinal
public import proofs.«01_k».proof.Proof.EmbRef

@[expose] public section

set_option maxRecDepth 16384

noncomputable section

namespace Emb

open Idealize.ShloMosaic Idealize.ShloMosaic.TcCoe Idealize.SL.Sem

theorem algebraic : Cert.algebraic_Kernel8Ideal_Reference8Ideal := by
  pair_intro
  · run_from Cert.Kernel8Ideal.Value.run_blocks m g
  · have hi : ∀ c : Dev Cert.Kernel8Ideal.nD, Ref.ins m' c = inp m c := fun c => by
      obtain ⟨h0, h1, h2, h3, h4⟩ := hagree c
      exact Inp.ext (funext₂ fun p k => congrFun h0 _) (funext₂ fun p k => congrFun h1 _) (funext fun k => congrFun h2 _)
        (funext fun k => congrFun h3 _) (funext₂ fun n k => congrFun h4 _)
    have hrun := Cert.Reference8Ideal.Value.run m' g'
    clear hagree
    run_from hrun
    all_goals clear hrun
    · refine Eq.trans (funext fun y => ?_) (final7 m c).symm
      idx_vars y
      exact (Ref.h_at _ _ _ _ _ y0 y1).trans (congrArg (fun i => Inp.h i y0 y1) (hi c))
    · refine Eq.trans (funext fun y => ?_) (final8 m c).symm
      idx_vars y
      exact (Ref.h_at _ _ _ _ _ y0 y1).trans (congrArg (fun i => Inp.h i y0 y1) (hi c))
    · refine Eq.trans (funext fun y => ?_) (final9 m c).symm
      idx_vars y
      refine (congrFun (Ref.out2_eq m' c) (ix2 y0 y1)).trans ?_
      exact (Ref.first_at _ y0 y1 (Ref.angs_at y0) (Ref.col_at _ _ _ _ _ y0)).trans (congrArg (fun i => Inp.pa i y0 y1) (hi c))
    · refine Eq.trans (funext fun y => ?_) (final10 m c).symm
      idx_vars y
      refine (Ref.last_at _ y0 y1).trans ?_
      exact (Ref.col_at _ _ _ _ _ y0 (gate y1)).trans (congrArg (fun i => Inp.col i y0 (gate y1)) (hi c))

theorem no_sem (s : SemLoc Cert.Reference8Ideal.sig) : False := by
  revert s
  decide

theorem frame : Cert.quiescent_Reference8Ideal := by
  intro m g _
  run_from Cert.Reference8Ideal.Value.run m g
  · simp
  · funext s
    exact (no_sem s.2).elim

end Emb

end
-- ==== Proof.AdamStep.lean ====
/- One step of AdamW on one entry of a weight. -/
module

public import Idealize.ShloMosaic.Lib.Pipeline.ValueKit

@[expose] public section

noncomputable section

namespace Adam

open Idealize.ShloMosaic

/-- The constant that these bits stand for. -/
abbrev lit (b : BitVec 32) : EReal := Scalar.ofBits (F := Ideal) .f32 b

/-- The first moment after the step, from the gradient and the moment before it. -/
def first (g m : EReal) : EReal := lit 0x3F666666#32 * m + lit 0x3DCCCCCD#32 * g

/-- The second moment after the step, from the gradient and the moment before it. -/
def second (g v : EReal) : EReal := lit 0x3F7FBE77#32 * v + lit 0x3A83126F#32 * (g * g)

/-- The step of the weight, from the weight, the gradient and both moments before it. -/
def delta (w g m v : EReal) : EReal :=
  lit 0xBA83126F#32 * (Ideal.div (Ideal.div (first g m) (lit 0x3F26BD02#32))
    (Ideal.sqrt (Ideal.div (second g v) (lit 0x3C231ACC#32)) + lit 0x322BCC77#32) + lit 0x3C23D70A#32 * w)

theorem delta_congr {w w' g g' m m' v v' : EReal} (hw : w = w') (hg : g = g') (hm : m = m') (hv : v = v') :
    delta w g m v = delta w' g' m' v' := by
  rw [hw, hg, hm, hv]

end Adam

end
-- ==== Proof.AdamIn.lean ====
/- AdamW on the stacked input weights: the kernel's arrays, the reference's, and the claim. -/
module

public import proofs.«01_k».proof.Defs
public import proofs.«01_k».proof.Proof.Gen.Kernel9Ideal.Value
public import proofs.«01_k».proof.Proof.Gen.Reference9Ideal.Run
public import Idealize.ShloMosaic.Lib.Pipeline.ValueKit
public import Idealize.ShloMosaic.Lib.Pipeline.ReadBack
public import Idealize.ShloMosaic.Lib.Claim
public import proofs.«01_k».proof.Proof.AdamStep

@[expose] public section

set_option maxRecDepth 16384

noncomputable section

namespace AdamIn

open Idealize.ShloMosaic Idealize.ShloMosaic.TcCoe Idealize.SL.Sem

section
open Cert.Kernel9Ideal Cert.Kernel9Ideal.Gen

variable (m : (ℓ : Loc nD τ sig) → Buf (Elt Ideal) ℓ) (c : Dev nD)

/-- A grid point reads and writes the same block of every array. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- The weight. -/
abbrev w (y : S1216x1024.Idx) : EReal := m ((c : Thread nD τ).loc main_arg0) y
/-- Its gradient. -/
abbrev g (y : S1216x1024.Idx) : EReal := m ((c : Thread nD τ).loc main_arg1) y
/-- The first moment. -/
abbrev m1 (y : S1216x1024.Idx) : EReal := m ((c : Thread nD τ).loc main_arg2) y
/-- The second moment. -/
abbrev m2 (y : S1216x1024.Idx) : EReal := m ((c : Thread nD τ).loc main_arg3) y

/-- The kernel's four arrays. -/
theorem finals : (dats m 0 c).arrAt 4 (cfgs 0).N = g m c
    ∧ (dats m 0 c).arrAt 5 (cfgs 0).N = (fun y => Adam.delta (w m c y) (g m c y) (m1 m c y) (m2 m c y))
    ∧ (dats m 0 c).arrAt 6 (cfgs 0).N = (fun y => Adam.first (g m c y) (m1 m c y))
    ∧ (dats m 0 c).arrAt 7 (cfgs 0).N = (fun y => Adam.second (g m c y) (m2 m c y)) := by
  refine ⟨?_, ?_, ?_, ?_⟩ <;> refine (dats m 0 c).arrAt_eq_of_covers _ _ (by decide +kernel) fun t hf y => ?_ <;>
    have ht : t.val < 8 := lt_of_lt_of_eq t.isLt N_0 <;> blk_simp
  · rw [after0_4]
    unfold out0_4
    frame_out
    blk_ext [iblk, V, idx t, g]
  · rw [after0_5]
    unfold out0_5
    frame_out
    refine Adam.delta_congr ?_ ?_ ?_ ?_ <;> blk_ext [iblk, V, idx t, w, g, m1, m2]
  · rw [after0_6]
    unfold out0_6
    frame_out
    refine congrArg₂ Adam.first ?_ ?_ <;> blk_ext [iblk, V, idx t, g, m1]
  · rw [after0_7]
    unfold out0_7
    frame_out
    refine congrArg₂ Adam.second ?_ ?_ <;> blk_ext [iblk, V, idx t, g, m2]
end

theorem algebraic : Cert.algebraic_Kernel9Ideal_Reference9Ideal := by
  pair_intro
  · run_from Cert.Kernel9Ideal.Value.run_blocks m g
  · have hrun := Cert.Reference9Ideal.Value.run m' g'
    run_from hrun
    all_goals clear hrun hagree
    · exact (finals m c).1.symm
    · exact (finals m c).2.1.symm
    · exact (finals m c).2.2.1.symm
    · exact (finals m c).2.2.2.symm

theorem no_sem (s : SemLoc Cert.Reference9Ideal.sig) : False := by
  revert s
  decide

/-- The reference's frame. -/
theorem frame : Cert.quiescent_Reference9Ideal := by
  intro m g _
  run_from Cert.Reference9Ideal.Value.run m g
  · simp
  · funext s
    exact (no_sem s.2).elim

end AdamIn

end
-- ==== Proof.AdamBranch.lean ====
/- AdamW on a branch's projection: the kernel's arrays, the reference's, and the claim. -/
module

public import proofs.«01_k».proof.Defs
public import proofs.«01_k».proof.Proof.Gen.Kernel10Ideal.Value
public import proofs.«01_k».proof.Proof.Gen.Reference10Ideal.Run
public import Idealize.ShloMosaic.Lib.Pipeline.ValueKit
public import Idealize.ShloMosaic.Lib.Pipeline.ReadBack
public import Idealize.ShloMosaic.Lib.Claim
public import proofs.«01_k».proof.Proof.AdamStep

@[expose] public section

set_option maxRecDepth 16384

noncomputable section

namespace AdamBranch

open Idealize.ShloMosaic Idealize.ShloMosaic.TcCoe Idealize.SL.Sem

section
open Cert.Kernel10Ideal Cert.Kernel10Ideal.Gen

variable (m : (ℓ : Loc nD τ sig) → Buf (Elt Ideal) ℓ) (c : Dev nD)

/-- A grid point reads and writes the same block of every array. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- The weight. -/
abbrev w (y : S512x256.Idx) : EReal := m ((c : Thread nD τ).loc main_arg0) y
/-- Its gradient. -/
abbrev g (y : S512x256.Idx) : EReal := m ((c : Thread nD τ).loc main_arg1) y
/-- The first moment. -/
abbrev m1 (y : S512x256.Idx) : EReal := m ((c : Thread nD τ).loc main_arg2) y
/-- The second moment. -/
abbrev m2 (y : S512x256.Idx) : EReal := m ((c : Thread nD τ).loc main_arg3) y

/-- The kernel's four arrays. -/
theorem finals : (dats m 0 c).arrAt 4 (cfgs 0).N = g m c
    ∧ (dats m 0 c).arrAt 5 (cfgs 0).N = (fun y => Adam.delta (w m c y) (g m c y) (m1 m c y) (m2 m c y))
    ∧ (dats m 0 c).arrAt 6 (cfgs 0).N = (fun y => Adam.first (g m c y) (m1 m c y))
    ∧ (dats m 0 c).arrAt 7 (cfgs 0).N = (fun y => Adam.second (g m c y) (m2 m c y)) := by
  refine ⟨?_, ?_, ?_, ?_⟩ <;> refine (dats m 0 c).arrAt_eq_of_covers _ _ (by decide +kernel) fun t hf y => ?_ <;>
    have ht : t.val < 2 := lt_of_lt_of_eq t.isLt N_0 <;> blk_simp
  · rw [after0_4]
    unfold out0_4
    frame_out
    blk_ext [iblk, V, idx t, g]
  · rw [after0_5]
    unfold out0_5
    frame_out
    refine Adam.delta_congr ?_ ?_ ?_ ?_ <;> blk_ext [iblk, V, idx t, w, g, m1, m2]
  · rw [after0_6]
    unfold out0_6
    frame_out
    refine congrArg₂ Adam.first ?_ ?_ <;> blk_ext [iblk, V, idx t, g, m1]
  · rw [after0_7]
    unfold out0_7
    frame_out
    refine congrArg₂ Adam.second ?_ ?_ <;> blk_ext [iblk, V, idx t, g, m2]
end

theorem algebraic : Cert.algebraic_Kernel10Ideal_Reference10Ideal := by
  pair_intro
  · run_from Cert.Kernel10Ideal.Value.run_blocks m g
  · have hrun := Cert.Reference10Ideal.Value.run m' g'
    run_from hrun
    all_goals clear hrun hagree
    · exact (finals m c).1.symm
    · exact (finals m c).2.1.symm
    · exact (finals m c).2.2.1.symm
    · exact (finals m c).2.2.2.symm

theorem no_sem (s : SemLoc Cert.Reference10Ideal.sig) : False := by
  revert s
  decide

/-- The reference's frame. -/
theorem frame : Cert.quiescent_Reference10Ideal := by
  intro m g _
  run_from Cert.Reference10Ideal.Value.run m g
  · simp
  · funext s
    exact (no_sem s.2).elim

end AdamBranch

end
-- ==== Proof.AdamOut.lean ====
/- AdamW on the output projection: the kernel's arrays, the reference's, and the claim. -/
module

public import proofs.«01_k».proof.Defs
public import proofs.«01_k».proof.Proof.Gen.Kernel11Ideal.Value
public import proofs.«01_k».proof.Proof.Gen.Reference11Ideal.Run
public import Idealize.ShloMosaic.Lib.Pipeline.ValueKit
public import Idealize.ShloMosaic.Lib.Pipeline.ReadBack
public import Idealize.ShloMosaic.Lib.Claim
public import proofs.«01_k».proof.Proof.AdamStep

@[expose] public section

set_option maxRecDepth 16384

noncomputable section

namespace AdamOut

open Idealize.ShloMosaic Idealize.ShloMosaic.TcCoe Idealize.SL.Sem

section
open Cert.Kernel11Ideal Cert.Kernel11Ideal.Gen

variable (m : (ℓ : Loc nD τ sig) → Buf (Elt Ideal) ℓ) (c : Dev nD)

/-- A grid point reads and writes the same block of every array. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- The weight. -/
abbrev w (y : S256x1024.Idx) : EReal := m ((c : Thread nD τ).loc main_arg0) y
/-- Its gradient. -/
abbrev g (y : S256x1024.Idx) : EReal := m ((c : Thread nD τ).loc main_arg1) y
/-- The first moment. -/
abbrev m1 (y : S256x1024.Idx) : EReal := m ((c : Thread nD τ).loc main_arg2) y
/-- The second moment. -/
abbrev m2 (y : S256x1024.Idx) : EReal := m ((c : Thread nD τ).loc main_arg3) y

/-- The kernel's four arrays. -/
theorem finals : (dats m 0 c).arrAt 4 (cfgs 0).N = g m c
    ∧ (dats m 0 c).arrAt 5 (cfgs 0).N = (fun y => Adam.delta (w m c y) (g m c y) (m1 m c y) (m2 m c y))
    ∧ (dats m 0 c).arrAt 6 (cfgs 0).N = (fun y => Adam.first (g m c y) (m1 m c y))
    ∧ (dats m 0 c).arrAt 7 (cfgs 0).N = (fun y => Adam.second (g m c y) (m2 m c y)) := by
  refine ⟨?_, ?_, ?_, ?_⟩ <;> refine (dats m 0 c).arrAt_eq_of_covers _ _ (by decide +kernel) fun t hf y => ?_ <;>
    have ht : t.val < 2 := lt_of_lt_of_eq t.isLt N_0 <;> blk_simp
  · rw [after0_4]
    unfold out0_4
    frame_out
    blk_ext [iblk, V, idx t, g]
  · rw [after0_5]
    unfold out0_5
    frame_out
    refine Adam.delta_congr ?_ ?_ ?_ ?_ <;> blk_ext [iblk, V, idx t, w, g, m1, m2]
  · rw [after0_6]
    unfold out0_6
    frame_out
    refine congrArg₂ Adam.first ?_ ?_ <;> blk_ext [iblk, V, idx t, g, m1]
  · rw [after0_7]
    unfold out0_7
    frame_out
    refine congrArg₂ Adam.second ?_ ?_ <;> blk_ext [iblk, V, idx t, g, m2]
end

theorem algebraic : Cert.algebraic_Kernel11Ideal_Reference11Ideal := by
  pair_intro
  · run_from Cert.Kernel11Ideal.Value.run_blocks m g
  · have hrun := Cert.Reference11Ideal.Value.run m' g'
    run_from hrun
    all_goals clear hrun hagree
    · exact (finals m c).1.symm
    · exact (finals m c).2.1.symm
    · exact (finals m c).2.2.1.symm
    · exact (finals m c).2.2.2.symm

theorem no_sem (s : SemLoc Cert.Reference11Ideal.sig) : False := by
  revert s
  decide

/-- The reference's frame. -/
theorem frame : Cert.quiescent_Reference11Ideal := by
  intro m g _
  run_from Cert.Reference11Ideal.Value.run m g
  · simp
  · funext s
    exact (no_sem s.2).elim

end AdamOut

end
-- ==== Proof.AdamFi.lean ====
/- AdamW on the feed-forward half's first weight: the kernel's arrays, the reference's, and the claim. -/
module

public import proofs.«01_k».proof.Defs
public import proofs.«01_k».proof.Proof.Gen.Kernel12Ideal.Value
public import proofs.«01_k».proof.Proof.Gen.Reference12Ideal.Run
public import Idealize.ShloMosaic.Lib.Pipeline.ValueKit
public import Idealize.ShloMosaic.Lib.Pipeline.ReadBack
public import Idealize.ShloMosaic.Lib.Claim
public import proofs.«01_k».proof.Proof.AdamStep

@[expose] public section

set_option maxRecDepth 16384

noncomputable section

namespace AdamFi

open Idealize.ShloMosaic Idealize.ShloMosaic.TcCoe Idealize.SL.Sem

section
open Cert.Kernel12Ideal Cert.Kernel12Ideal.Gen

variable (m : (ℓ : Loc nD τ sig) → Buf (Elt Ideal) ℓ) (c : Dev nD)

/-- A grid point reads and writes the same block of every array. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- The weight. -/
abbrev w (y : S1024x1408.Idx) : EReal := m ((c : Thread nD τ).loc main_arg0) y
/-- Its gradient. -/
abbrev g (y : S1024x1408.Idx) : EReal := m ((c : Thread nD τ).loc main_arg1) y
/-- The first moment. -/
abbrev m1 (y : S1024x1408.Idx) : EReal := m ((c : Thread nD τ).loc main_arg2) y
/-- The second moment. -/
abbrev m2 (y : S1024x1408.Idx) : EReal := m ((c : Thread nD τ).loc main_arg3) y

/-- The kernel's four arrays. -/
theorem finals : (dats m 0 c).arrAt 4 (cfgs 0).N = g m c
    ∧ (dats m 0 c).arrAt 5 (cfgs 0).N = (fun y => Adam.delta (w m c y) (g m c y) (m1 m c y) (m2 m c y))
    ∧ (dats m 0 c).arrAt 6 (cfgs 0).N = (fun y => Adam.first (g m c y) (m1 m c y))
    ∧ (dats m 0 c).arrAt 7 (cfgs 0).N = (fun y => Adam.second (g m c y) (m2 m c y)) := by
  refine ⟨?_, ?_, ?_, ?_⟩ <;> refine (dats m 0 c).arrAt_eq_of_covers _ _ (by decide +kernel) fun t hf y => ?_ <;>
    have ht : t.val < 4 := lt_of_lt_of_eq t.isLt N_0 <;> blk_simp
  · rw [after0_4]
    unfold out0_4
    frame_out
    blk_ext [iblk, V, idx t, g]
  · rw [after0_5]
    unfold out0_5
    frame_out
    refine Adam.delta_congr ?_ ?_ ?_ ?_ <;> blk_ext [iblk, V, idx t, w, g, m1, m2]
  · rw [after0_6]
    unfold out0_6
    frame_out
    refine congrArg₂ Adam.first ?_ ?_ <;> blk_ext [iblk, V, idx t, g, m1]
  · rw [after0_7]
    unfold out0_7
    frame_out
    refine congrArg₂ Adam.second ?_ ?_ <;> blk_ext [iblk, V, idx t, g, m2]
end

theorem algebraic : Cert.algebraic_Kernel12Ideal_Reference12Ideal := by
  pair_intro
  · run_from Cert.Kernel12Ideal.Value.run_blocks m g
  · have hrun := Cert.Reference12Ideal.Value.run m' g'
    run_from hrun
    all_goals clear hrun hagree
    · exact (finals m c).1.symm
    · exact (finals m c).2.1.symm
    · exact (finals m c).2.2.1.symm
    · exact (finals m c).2.2.2.symm

theorem no_sem (s : SemLoc Cert.Reference12Ideal.sig) : False := by
  revert s
  decide

/-- The reference's frame. -/
theorem frame : Cert.quiescent_Reference12Ideal := by
  intro m g _
  run_from Cert.Reference12Ideal.Value.run m g
  · simp
  · funext s
    exact (no_sem s.2).elim

end AdamFi

end
-- ==== Proof.AdamFo.lean ====
/- AdamW on the feed-forward half's second weight: the kernel's arrays, the reference's, and the claim. -/
module

public import proofs.«01_k».proof.Defs
public import proofs.«01_k».proof.Proof.Gen.Kernel13Ideal.Value
public import proofs.«01_k».proof.Proof.Gen.Reference13Ideal.Run
public import Idealize.ShloMosaic.Lib.Pipeline.ValueKit
public import Idealize.ShloMosaic.Lib.Pipeline.ReadBack
public import Idealize.ShloMosaic.Lib.Claim
public import proofs.«01_k».proof.Proof.AdamStep

@[expose] public section

set_option maxRecDepth 16384

noncomputable section

namespace AdamFo

open Idealize.ShloMosaic Idealize.ShloMosaic.TcCoe Idealize.SL.Sem

section
open Cert.Kernel13Ideal Cert.Kernel13Ideal.Gen

variable (m : (ℓ : Loc nD τ sig) → Buf (Elt Ideal) ℓ) (c : Dev nD)

/-- A grid point reads and writes the same block of every array. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- The weight. -/
abbrev w (y : S704x1024.Idx) : EReal := m ((c : Thread nD τ).loc main_arg0) y
/-- Its gradient. -/
abbrev g (y : S704x1024.Idx) : EReal := m ((c : Thread nD τ).loc main_arg1) y
/-- The first moment. -/
abbrev m1 (y : S704x1024.Idx) : EReal := m ((c : Thread nD τ).loc main_arg2) y
/-- The second moment. -/
abbrev m2 (y : S704x1024.Idx) : EReal := m ((c : Thread nD τ).loc main_arg3) y

/-- The kernel's four arrays. -/
theorem finals : (dats m 0 c).arrAt 4 (cfgs 0).N = g m c
    ∧ (dats m 0 c).arrAt 5 (cfgs 0).N = (fun y => Adam.delta (w m c y) (g m c y) (m1 m c y) (m2 m c y))
    ∧ (dats m 0 c).arrAt 6 (cfgs 0).N = (fun y => Adam.first (g m c y) (m1 m c y))
    ∧ (dats m 0 c).arrAt 7 (cfgs 0).N = (fun y => Adam.second (g m c y) (m2 m c y)) := by
  refine ⟨?_, ?_, ?_, ?_⟩ <;> refine (dats m 0 c).arrAt_eq_of_covers _ _ (by decide +kernel) fun t hf y => ?_ <;>
    have ht : t.val < 4 := lt_of_lt_of_eq t.isLt N_0 <;> blk_simp
  · rw [after0_4]
    unfold out0_4
    frame_out
    blk_ext [iblk, V, idx t, g]
  · rw [after0_5]
    unfold out0_5
    frame_out
    refine Adam.delta_congr ?_ ?_ ?_ ?_ <;> blk_ext [iblk, V, idx t, w, g, m1, m2]
  · rw [after0_6]
    unfold out0_6
    frame_out
    refine congrArg₂ Adam.first ?_ ?_ <;> blk_ext [iblk, V, idx t, g, m1]
  · rw [after0_7]
    unfold out0_7
    frame_out
    refine congrArg₂ Adam.second ?_ ?_ <;> blk_ext [iblk, V, idx t, g, m2]
end

theorem algebraic : Cert.algebraic_Kernel13Ideal_Reference13Ideal := by
  pair_intro
  · run_from Cert.Kernel13Ideal.Value.run_blocks m g
  · have hrun := Cert.Reference13Ideal.Value.run m' g'
    run_from hrun
    all_goals clear hrun hagree
    · exact (finals m c).1.symm
    · exact (finals m c).2.1.symm
    · exact (finals m c).2.2.1.symm
    · exact (finals m c).2.2.2.symm

theorem no_sem (s : SemLoc Cert.Reference13Ideal.sig) : False := by
  revert s
  decide

/-- The reference's frame. -/
theorem frame : Cert.quiescent_Reference13Ideal := by
  intro m g _
  run_from Cert.Reference13Ideal.Value.run m g
  · simp
  · funext s
    exact (no_sem s.2).elim

end AdamFo

end
-- ==== Proof.Sum8.lean ====
/- The sum over the eight devices: the kernel's array is the reference's, and the claim. -/
module

public import proofs.«01_k».proof.Defs
public import proofs.«01_k».proof.Proof.Gen.Kernel14Ideal.Value
public import proofs.«01_k».proof.Proof.Gen.Reference14Ideal.Run
public import Idealize.ShloMosaic.Lib.Pipeline.ValueKit
public import Idealize.ShloMosaic.Lib.Pipeline.ReadBack
public import Idealize.ShloMosaic.Lib.Claim

@[expose] public section

set_option maxRecDepth 16384

noncomputable section

namespace Sum8

open Idealize.ShloMosaic Idealize.ShloMosaic.TcCoe Idealize.SL.Sem

section
open Cert.Kernel14Ideal Cert.Kernel14Ideal.Gen

/-- The kernel's array. -/
theorem kernel_at (x : Vec Ideal S8x208x128 .f32) (i : Fin 208) (k : Fin 128) :
    (Value.G1 x (ix2 i k) : EReal) = ∑ d : Fin 8, (x (ix3 d i k) : EReal) := by
  rw [Fin.sum_univ_eight]
  unfold Value.G1
  pointwise [k0_pay1]
end

theorem algebraic : Cert.algebraic_Kernel14Ideal_Reference14Ideal := by
  pair_intro
  · run_from Cert.Kernel14Ideal.Value.run m g
  · have hrun := Cert.Reference14Ideal.Value.run m' g'
    run_from hrun
    clear hrun hagree
    funext y
    idx_vars y
    refine Eq.trans ?_ (kernel_at _ _ _).symm
    pointwise []

theorem no_sem (s : SemLoc Cert.Reference14Ideal.sig) : False := by
  revert s
  decide

/-- The reference's frame. -/
theorem frame : Cert.quiescent_Reference14Ideal := by
  intro m g _
  run_from Cert.Reference14Ideal.Value.run m g
  · simp
  · funext s
    exact (no_sem s.2).elim

end Sum8

end
-- ==== Proof.SmallStep.lean ====
/- The optimiser's step of one small weight inside the kernel: its loads and stores, on arrays of any shape. -/
module

public import proofs.«01_k».proof.Proof.Gen.Kernel15Ideal.Launch
public import proofs.«01_k».proof.Proof.Gen.Kernel15Ideal.Skeleton
public import proofs.«01_k».proof.Proof.Gen.Kernel15Ideal.Points
public import Idealize.ShloMosaic.Lib.Pipeline.FrameBody
public import Idealize.ShloMosaic.Lib.Pipeline.ValueKit
public import Idealize.ShloMosaic.Lib.VecWindow
public import Idealize.ShloMosaic.Lib.Claim
public import Idealize.ShloMosaic.Lib.Ring
public import Idealize.ShloMosaic.Lib.Tactic

@[expose] public section

set_option maxRecDepth 16384

noncomputable section

namespace Small

open Cert.Kernel15Ideal Cert.Kernel15Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The array that holds everywhere the constant of these bits. -/
def lit (s : Shape) (b : BitVec 32) : FVec F s .f32 := broadcast s (Scalar.ofBits (F := F) .f32 b)

/-- The first moment after the step, from the gradient and the moment before it. -/
def first {s : Shape} (g m : Vec F s .f32) : FVec F s .f32 := addf (mulf (lit s 0x3F666666#32) m) (mulf (lit s 0x3DCCCCCD#32) g)

/-- The second moment after the step, from the gradient and the moment before it. -/
def second {s : Shape} (g v : Vec F s .f32) : FVec F s .f32 :=
  addf (mulf (lit s 0x3F7FBE77#32) v) (mulf (lit s 0x3A83126F#32) (mulf g g))

/-- The weight's step, from the weight, the gradient and both moments before it. -/
def delta {s : Shape} (w g m v : Vec F s .f32) : FVec F s .f32 :=
  mulf (lit s 0xBA83126F#32) (addf (divf (divf (first g m) (lit s 0x3F26BD02#32))
    (addf (sqrt (divf (second g v) (lit s 0x3C231ACC#32))) (lit s 0x322BCC77#32))) (mulf (lit s 0x3C23D70A#32) w))

/-- What the kernel does for one weight: it loads the weight, the gradient and both moments, and stores the step and the new moments,
    each store after a load of the same buffer that nothing reads. -/
def step {s : Shape} (off : Fin s.rank → ℕ) (inb : ∀ a, off a + s.size a ≤ s.size a) (h : 0 < s.numel)
    (aw ag am av od om ov : Memref sig .tc .vmem s .f32) : Prog (TpuEff nD τ sig (Elt F) Λ₀ .tc) PUnit := do
  let w : Vec F s .f32 ← Prog.lift (.load aw (Rect.unit (s := s) off s.size inb).toLoadRect (View.loadsAt_vmem h))
  let g : Vec F s .f32 ← Prog.lift (.load ag (Rect.unit (s := s) off s.size inb).toLoadRect (View.loadsAt_vmem h))
  let m : Vec F s .f32 ← Prog.lift (.load am (Rect.unit (s := s) off s.size inb).toLoadRect (View.loadsAt_vmem h))
  let v : Vec F s .f32 ← Prog.lift (.load av (Rect.unit (s := s) off s.size inb).toLoadRect (View.loadsAt_vmem h))
  let _ : Vec F s .f32 ← Prog.lift (.load od (Rect.unit (s := s) off s.size inb).toLoadRect (View.loadsAt_vmem h))
  Prog.lift (.store od (Rect.unit (s := s) off s.size inb) (delta w g m v) Finset.univ (View.stores_vmem_bits_univ h rfl) (.inl rfl))
  let _ : Vec F s .f32 ← Prog.lift (.load om (Rect.unit (s := s) off s.size inb).toLoadRect (View.loadsAt_vmem h))
  Prog.lift (.store om (Rect.unit (s := s) off s.size inb) (first g m) Finset.univ (View.stores_vmem_bits_univ h rfl) (.inl rfl))
  let _ : Vec F s .f32 ← Prog.lift (.load ov (Rect.unit (s := s) off s.size inb).toLoadRect (View.loadsAt_vmem h))
  Prog.lift (.store ov (Rect.unit (s := s) off s.size inb) (second g v) Finset.univ (View.stores_vmem_bits_univ h rfl) (.inl rfl))

/-- A load of a whole buffer reads its contents. -/
theorem read_full {s : Shape} {off : Fin s.rank → ℕ} (inb : ∀ a, off a + s.size a ≤ s.size a) (v : View sig .tc .vmem s .f32)
    (f : v.ty.Contents (Elt F)) : v.readAt (Elt F) (Rect.unit off s.size inb).toLoadRect f = v.read (Elt F) f := by
  rw [View.readAt_eq_ld]
  exact View.ld_unit_zero (funext fun a => by have := inb a; omega) inb _

/-- The step's triple: the loaded buffers stay, and the others end at the step and the new moments. -/
theorem step_triple (c : Dev nD) (E : Set ℕ) {s : Shape} (off : Fin s.rank → ℕ) (inb : ∀ a, off a + s.size a ≤ s.size a) (h : 0 < s.numel)
    (aw ag am av od om ov : Memref sig .tc .vmem s .f32) (w g m v : Vec F s .f32) :
    iprop(owns (c : Thread nD τ) aw fullShare w ∗ owns (c : Thread nD τ) ag fullShare g ∗ owns (c : Thread nD τ) am fullShare m
        ∗ owns (c : Thread nD τ) av fullShare v ∗ (∃ d, owns (c : Thread nD τ) od fullShare d)
        ∗ (∃ d, owns (c : Thread nD τ) om fullShare d) ∗ (∃ d, owns (c : Thread nD τ) ov fullShare d))
      ⊢ wp frame (wpE (defs₀ (F := F)) Variants.none c none) E (step off inb h aw ag am av od om ov) fun _ =>
        (iprop(owns (c : Thread nD τ) aw fullShare w ∗ owns (c : Thread nD τ) ag fullShare g ∗ owns (c : Thread nD τ) am fullShare m
          ∗ owns (c : Thread nD τ) av fullShare v ∗ owns (c : Thread nD τ) od fullShare (delta w g m v)
          ∗ owns (c : Thread nD τ) om fullShare (first g m) ∗ owns (c : Thread nD τ) ov fullShare (second g v)) : sProp 𝕄) := by
  unfold step owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩⟩
  subst hf0 hf1 hf2 hf3
  sl_exec
  sl_step
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_full _ _ inb _ _).trans ?_
    simp only [read_full inb]
  isplitl [H5]
  · iexists _; isplitr
    swap; · iexact H5
    ipureintro
    refine (View.read_writes_full _ _ inb _ _).trans ?_
    simp only [read_full inb]
  iexists _; isplitr
  swap; · iexact H6
  ipureintro
  refine (View.read_writes_full _ _ inb _ _).trans ?_
  simp only [read_full inb]

end Small

end
-- ==== Proof.SmallRun.lean ====
/- The optimiser's call on the small weights: its body, its run and its frame, from the step of one weight. -/
module

public import proofs.«01_k».proof.Proof.SmallStep
public import proofs.«01_k».proof.Proof.Gen.Kernel15Ideal.Launch
public import proofs.«01_k».proof.Proof.Gen.Kernel15Ideal.Skeleton
public import proofs.«01_k».proof.Proof.Gen.Kernel15Ideal.Points
public import Idealize.ShloMosaic.Lib.Pipeline.FrameBody
public import Idealize.ShloMosaic.Lib.Pipeline.ValueKit
public import Idealize.ShloMosaic.Lib.VecWindow
public import Idealize.ShloMosaic.Lib.Pipeline.BigSepL
public import Idealize.ShloMosaic.Lib.Claim
public import Idealize.ShloMosaic.Lib.Ring
public import Idealize.ShloMosaic.Lib.Tactic

@[expose] public section

set_option maxRecDepth 16384

noncomputable section

namespace Small

open Cert.Kernel15Ideal Cert.Kernel15Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffer of a window at a point. -/
abbrev st (t : Fin cfg0.N) (w : Fin cfg0.W) := (cfg0.win w).stage (cfg0.slots t w)

/-- The kernel's body is the ten steps in turn. -/
theorem body_eq (t : Fin cfg0.N) : bodyAt0 (F := F) t = (do
    step (s := S16x256) ![0, 0] inb_S16x256_S16x256_0_0 h_S16x256 (st t 0) (st t 10) (st t 20) (st t 30) (st t 40) (st t 50) (st t 60)
    step (s := S8x128) ![0, 0] inb_S8x128_S8x128_0_0 h_S8x128 (st t 1) (st t 11) (st t 21) (st t 31) (st t 41) (st t 51) (st t 61)
    step (s := S8x128) ![0, 0] inb_S8x128_S8x128_0_0 h_S8x128 (st t 2) (st t 12) (st t 22) (st t 32) (st t 42) (st t 52) (st t 62)
    step (s := S2x512) ![0, 0] inb_S2x512_S2x512_0_0 h_S2x512 (st t 3) (st t 13) (st t 23) (st t 33) (st t 43) (st t 53) (st t 63)
    step (s := S1x128) ![0, 0] inb_S1x128_S1x128_0_0 h_S1x128 (st t 4) (st t 14) (st t 24) (st t 34) (st t 44) (st t 54) (st t 64)
    step (s := S1x8) ![0, 0] inb_S1x8_S1x8_0_0 h_S1x8 (st t 5) (st t 15) (st t 25) (st t 35) (st t 45) (st t 55) (st t 65)
    step (s := S1x1024) ![0, 0] inb_S1x1024_S1x1024_0_0 h_S1x1024 (st t 6) (st t 16) (st t 26) (st t 36) (st t 46) (st t 56) (st t 66)
    step (s := S1x1024) ![0, 0] inb_S1x1024_S1x1024_0_0 h_S1x1024 (st t 7) (st t 17) (st t 27) (st t 37) (st t 47) (st t 57) (st t 67)
    step (s := S1x1024) ![0, 0] inb_S1x1024_S1x1024_0_0 h_S1x1024 (st t 8) (st t 18) (st t 28) (st t 38) (st t 48) (st t 58) (st t 68)
    step (s := S1x1024) ![0, 0] inb_S1x1024_S1x1024_0_0 h_S1x1024 (st t 9) (st t 19) (st t 29) (st t 39) (st t 49) (st t 59) (st t 69)) := rfl

/-- One program after another, each on buffers of its own. -/
theorem seq {c : Dev nD} {E : Set ℕ} {P Q R S : sProp 𝕄} {a b : Prog (TpuEff nD τ sig (Elt F) Λ₀ .tc) PUnit}
    (ha : P ⊢ wp frame (wpE (defs₀ (F := F)) Variants.none c none) E a fun _ => Q)
    (hb : R ⊢ wp frame (wpE (defs₀ (F := F)) Variants.none c none) E b fun _ => S) :
    iprop(P ∗ R) ⊢ wp frame (wpE (defs₀ (F := F)) Variants.none c none) E (a >>= fun _ => b) fun _ => iprop(Q ∗ S) := by
  rw [wp_bind]
  exact (sep_mono ha .rfl).trans ((wp_frame_r _ _ _).trans (wp_mono _ _ _ fun _ => (sep_mono .rfl hb).trans (wp_frame_l _ _ _)))

/-- The windows weight by weight. -/
theorem groups {M : Type} [URA M] (Φ : Fin 70 → sProp M) : bigSep Finset.univ Φ = iprop(bigSepL [0, 10, 20, 30, 40, 50, 60] Φ
    ∗ bigSepL [1, 11, 21, 31, 41, 51, 61] Φ
    ∗ bigSepL [2, 12, 22, 32, 42, 52, 62] Φ
    ∗ bigSepL [3, 13, 23, 33, 43, 53, 63] Φ
    ∗ bigSepL [4, 14, 24, 34, 44, 54, 64] Φ
    ∗ bigSepL [5, 15, 25, 35, 45, 55, 65] Φ
    ∗ bigSepL [6, 16, 26, 36, 46, 56, 66] Φ
    ∗ bigSepL [7, 17, 27, 37, 47, 57, 67] Φ
    ∗ bigSepL [8, 18, 28, 38, 48, 58, 68] Φ
    ∗ bigSepL [9, 19, 29, 39, 49, 59, 69] Φ) := by
  rw [bigSep_univ_eq_bigSepL (
    [0, 10, 20, 30, 40, 50, 60] ++ (
    [1, 11, 21, 31, 41, 51, 61] ++ (
    [2, 12, 22, 32, 42, 52, 62] ++ (
    [3, 13, 23, 33, 43, 53, 63] ++ (
    [4, 14, 24, 34, 44, 54, 64] ++ (
    [5, 15, 25, 35, 45, 55, 65] ++ (
    [6, 16, 26, 36, 46, 56, 66] ++ (
    [7, 17, 27, 37, 47, 57, 67] ++ (
    [8, 18, 28, 38, 48, 58, 68] ++ (
    [9, 19, 29, 39, 49, 59, 69])))))))))) (by decide +kernel) (by decide +kernel) Φ]
  simp only [bigSepL_append]

/-- The buffers of a core when the region is entered: as launched. -/
abbrev V (c : Dev nD) (b : Ref sig .tc) : Buf (Elt F) ((c : Thread nD τ).loc b) := m ((c : Thread nD τ).loc b)

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- A window's block at a point, as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What the body leaves: the arguments' blocks, the steps and the new moments. -/
def dats (_ : Fin 1) (c : Dev nD) : Dat τ (Elt F) Unit ℕ (UR sig nD τ) ℕ cfg0 c where
  A w := V m c (Pipeline.arrRef spec0 w)
  after w t := match w with
    | ⟨0, _⟩ => iblk m c 0 t | ⟨1, _⟩ => iblk m c 1 t | ⟨2, _⟩ => iblk m c 2 t | ⟨3, _⟩ => iblk m c 3 t
    | ⟨4, _⟩ => iblk m c 4 t | ⟨5, _⟩ => iblk m c 5 t | ⟨6, _⟩ => iblk m c 6 t | ⟨7, _⟩ => iblk m c 7 t
    | ⟨8, _⟩ => iblk m c 8 t | ⟨9, _⟩ => iblk m c 9 t | ⟨10, _⟩ => iblk m c 10 t | ⟨11, _⟩ => iblk m c 11 t
    | ⟨12, _⟩ => iblk m c 12 t | ⟨13, _⟩ => iblk m c 13 t | ⟨14, _⟩ => iblk m c 14 t | ⟨15, _⟩ => iblk m c 15 t
    | ⟨16, _⟩ => iblk m c 16 t | ⟨17, _⟩ => iblk m c 17 t | ⟨18, _⟩ => iblk m c 18 t | ⟨19, _⟩ => iblk m c 19 t
    | ⟨20, _⟩ => iblk m c 20 t | ⟨21, _⟩ => iblk m c 21 t | ⟨22, _⟩ => iblk m c 22 t | ⟨23, _⟩ => iblk m c 23 t
    | ⟨24, _⟩ => iblk m c 24 t | ⟨25, _⟩ => iblk m c 25 t | ⟨26, _⟩ => iblk m c 26 t | ⟨27, _⟩ => iblk m c 27 t
    | ⟨28, _⟩ => iblk m c 28 t | ⟨29, _⟩ => iblk m c 29 t | ⟨30, _⟩ => iblk m c 30 t | ⟨31, _⟩ => iblk m c 31 t
    | ⟨32, _⟩ => iblk m c 32 t | ⟨33, _⟩ => iblk m c 33 t | ⟨34, _⟩ => iblk m c 34 t | ⟨35, _⟩ => iblk m c 35 t
    | ⟨36, _⟩ => iblk m c 36 t | ⟨37, _⟩ => iblk m c 37 t | ⟨38, _⟩ => iblk m c 38 t | ⟨39, _⟩ => iblk m c 39 t
    | ⟨40, _⟩ => delta (s := S16x256) (iblk m c 0 t) (iblk m c 10 t) (iblk m c 20 t) (iblk m c 30 t)
    | ⟨41, _⟩ => delta (s := S8x128) (iblk m c 1 t) (iblk m c 11 t) (iblk m c 21 t) (iblk m c 31 t)
    | ⟨42, _⟩ => delta (s := S8x128) (iblk m c 2 t) (iblk m c 12 t) (iblk m c 22 t) (iblk m c 32 t)
    | ⟨43, _⟩ => delta (s := S2x512) (iblk m c 3 t) (iblk m c 13 t) (iblk m c 23 t) (iblk m c 33 t)
    | ⟨44, _⟩ => delta (s := S1x128) (iblk m c 4 t) (iblk m c 14 t) (iblk m c 24 t) (iblk m c 34 t)
    | ⟨45, _⟩ => delta (s := S1x8) (iblk m c 5 t) (iblk m c 15 t) (iblk m c 25 t) (iblk m c 35 t)
    | ⟨46, _⟩ => delta (s := S1x1024) (iblk m c 6 t) (iblk m c 16 t) (iblk m c 26 t) (iblk m c 36 t)
    | ⟨47, _⟩ => delta (s := S1x1024) (iblk m c 7 t) (iblk m c 17 t) (iblk m c 27 t) (iblk m c 37 t)
    | ⟨48, _⟩ => delta (s := S1x1024) (iblk m c 8 t) (iblk m c 18 t) (iblk m c 28 t) (iblk m c 38 t)
    | ⟨49, _⟩ => delta (s := S1x1024) (iblk m c 9 t) (iblk m c 19 t) (iblk m c 29 t) (iblk m c 39 t)
    | ⟨50, _⟩ => first (s := S16x256) (iblk m c 10 t) (iblk m c 20 t)
    | ⟨51, _⟩ => first (s := S8x128) (iblk m c 11 t) (iblk m c 21 t)
    | ⟨52, _⟩ => first (s := S8x128) (iblk m c 12 t) (iblk m c 22 t)
    | ⟨53, _⟩ => first (s := S2x512) (iblk m c 13 t) (iblk m c 23 t)
    | ⟨54, _⟩ => first (s := S1x128) (iblk m c 14 t) (iblk m c 24 t)
    | ⟨55, _⟩ => first (s := S1x8) (iblk m c 15 t) (iblk m c 25 t)
    | ⟨56, _⟩ => first (s := S1x1024) (iblk m c 16 t) (iblk m c 26 t)
    | ⟨57, _⟩ => first (s := S1x1024) (iblk m c 17 t) (iblk m c 27 t)
    | ⟨58, _⟩ => first (s := S1x1024) (iblk m c 18 t) (iblk m c 28 t)
    | ⟨59, _⟩ => first (s := S1x1024) (iblk m c 19 t) (iblk m c 29 t)
    | ⟨60, _⟩ => second (s := S16x256) (iblk m c 10 t) (iblk m c 30 t)
    | ⟨61, _⟩ => second (s := S8x128) (iblk m c 11 t) (iblk m c 31 t)
    | ⟨62, _⟩ => second (s := S8x128) (iblk m c 12 t) (iblk m c 32 t)
    | ⟨63, _⟩ => second (s := S2x512) (iblk m c 13 t) (iblk m c 33 t)
    | ⟨64, _⟩ => second (s := S1x128) (iblk m c 14 t) (iblk m c 34 t)
    | ⟨65, _⟩ => second (s := S1x8) (iblk m c 15 t) (iblk m c 35 t)
    | ⟨66, _⟩ => second (s := S1x1024) (iblk m c 16 t) (iblk m c 36 t)
    | ⟨67, _⟩ => second (s := S1x1024) (iblk m c 17 t) (iblk m c 37 t)
    | ⟨68, _⟩ => second (s := S1x1024) (iblk m c 18 t) (iblk m c 38 t)
    | ⟨69, _⟩ => second (s := S1x1024) (iblk m c 19 t) (iblk m c 39 t)
    | ⟨_ + 70, h⟩ => absurd h (Nat.not_lt.mpr (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

/-- An argument's buffer holds its block, whatever it held before. -/
theorem before_in (c : Dev nD) (t : Fin cfg0.N) (w : Fin cfg0.W) {x : (cfg0.win w).block.Idx → Elt F (cfg0.win w).elt}
    (hw : (cfg0.win w).isOut = false) (hlive : ∀ i, cfg0.idle w i = false)
    (hclip : ∀ t t' : Fin cfg0.N, (cfg0.win w).clip (cfg0.grid.coords t) = (cfg0.win w).clip (cfg0.grid.coords t'))
    (hkeep : ∀ t, (cfg0.win w).cut (cfg0.grid.coords t) ((dats m 0 c).after w t) = iblk m c w t)
    (hfill : ∀ d, (cfg0.win w).fill (cfg0.grid.coords t) d (iblk m c w t) = x) (d) : (dats m 0 c).before w t d = x := by
  have hb : ∀ t, (dats m 0 c).blockOf w t = iblk m c w t := fun t => by unfold Dat.blockOf iblk; rw [A_eq]
  refine ((dats m 0 c).before_in_eq_fetched w hw hlive (fun t t' _ => hclip t t') (fun t => (hkeep t).trans (hb t).symm) t d).trans ?_
  unfold Dat.fetched
  rw [hb]
  exact hfill d

end Small

end
-- ==== Proof.SmallBody.lean ====
/- The optimiser's call on the small weights: its body, its run and its frame, from the step of one weight. -/
module

public import proofs.«01_k».proof.Proof.SmallRun
public import proofs.«01_k».proof.Proof.Gen.Kernel15Ideal.Launch
public import proofs.«01_k».proof.Proof.Gen.Kernel15Ideal.Skeleton
public import proofs.«01_k».proof.Proof.Gen.Kernel15Ideal.Points
public import Idealize.ShloMosaic.Lib.Pipeline.FrameBody
public import Idealize.ShloMosaic.Lib.Pipeline.ValueKit
public import Idealize.ShloMosaic.Lib.VecWindow
public import Idealize.ShloMosaic.Lib.Pipeline.BigSepL
public import Idealize.ShloMosaic.Lib.Claim
public import Idealize.ShloMosaic.Lib.Ring
public import Idealize.ShloMosaic.Lib.Tactic

@[expose] public section

set_option maxRecDepth 16384

noncomputable section

namespace Small

open Cert.Kernel15Ideal Cert.Kernel15Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The step's triple, from buffers of which it is known only what they hold in every case, to named contents. -/
theorem step_found (c : Dev nD) {s : Shape} {off : Fin s.rank → ℕ} {inb : ∀ a, off a + s.size a ≤ s.size a} {h : 0 < s.numel}
    {aw ag am av od om ov : Memref sig .tc .vmem s .f32} {w g m v ad ao az : Vec F s .f32} {fw fg fm fv fd fo fs : Vec F s .f32 → Vec F s .f32}
    (hw : ∀ d, fw d = w) (hg : ∀ d, fg d = g) (hm : ∀ d, fm d = m) (hv : ∀ d, fv d = v)
    (hd : delta w g m v = ad) (ho : first g m = ao) (hs : second g v = az) :
    iprop((∃ d, owns (c : Thread nD τ) aw fullShare (fw d)) ∗ (∃ d, owns (c : Thread nD τ) ag fullShare (fg d))
        ∗ (∃ d, owns (c : Thread nD τ) am fullShare (fm d)) ∗ (∃ d, owns (c : Thread nD τ) av fullShare (fv d))
        ∗ (∃ d, owns (c : Thread nD τ) od fullShare (fd d)) ∗ (∃ d, owns (c : Thread nD τ) om fullShare (fo d))
        ∗ (∃ d, owns (c : Thread nD τ) ov fullShare (fs d)))
      ⊢ wp frame (wpE (defs₀ (F := F)) Variants.none c none) Set.univ (step off inb h aw ag am av od om ov) fun _ =>
        (iprop(owns (c : Thread nD τ) aw fullShare w ∗ owns (c : Thread nD τ) ag fullShare g ∗ owns (c : Thread nD τ) am fullShare m
          ∗ owns (c : Thread nD τ) av fullShare v ∗ owns (c : Thread nD τ) od fullShare ad
          ∗ owns (c : Thread nD τ) om fullShare ao ∗ owns (c : Thread nD τ) ov fullShare az) : sProp 𝕄) := by
  subst hd ho hs
  simp only [hw, hg, hm, hv]
  refine .trans ?_ (step_triple c Set.univ off inb h aw ag am av od om ov w g m v)
  iintro ⟨⟨%d0, H0⟩, ⟨%d1, H1⟩, ⟨%d2, H2⟩, ⟨%d3, H3⟩, ⟨%d4, H4⟩, ⟨%d5, H5⟩, ⟨%d6, H6⟩⟩
  isplitl [H0]; · iexact H0
  isplitl [H1]; · iexact H1
  isplitl [H2]; · iexact H2
  isplitl [H3]; · iexact H3
  isplitl [H4]
  · iexists _; iexact H4
  isplitl [H5]
  · iexists _; iexact H5
  iexists _; iexact H6

set_option maxHeartbeats 16000000 in
/-- The body's triple. -/
theorem sound_body (c : Dev nD) (t : Fin cfg0.N) :
    (bigSep Finset.univ fun w : Fin 70 => iprop(∃ d, owns (c : Thread nD τ) (st t w) fullShare ((dats m 0 c).before w t d)) : sProp 𝕄)
      ⊢ wp frame (wpE (defs₀ (F := F)) Variants.none c none) Set.univ (bodyAt0 t) fun _ =>
        (bigSep Finset.univ fun w : Fin 70 => owns (c : Thread nD τ) (st t w) fullShare ((dats m 0 c).after w t) : sProp 𝕄) := by
  rw [body_eq, groups, groups]
  simp only [bigSepL_cons_cons, bigSepL_singleton]
  refine seq ?_ (seq ?_ (seq ?_ (seq ?_ (seq ?_ (seq ?_ (seq ?_ (seq ?_ (seq ?_ ?_))))))))
  all_goals
    refine step_found c ?_ ?_ ?_ ?_ ?_ ?_ ?_
    iterate 4
      intro d
      apply before_in m c t
      · rfl
      · exact fun _ => rfl
      · exact fun _ _ => rfl
      · intro t; dsimp only [dats] <;> rfl
      · intro d; dsimp only [dats] <;> rfl
    all_goals dsimp only [dats]

end Small

end
-- ==== Proof.SmallArgs.lean ====
/- The optimiser's call on the small weights: its run, and the arguments after it. -/
module

public import proofs.«01_k».proof.Proof.SmallBody
public import proofs.«01_k».proof.Proof.Gen.Kernel15Ideal.Launch
public import proofs.«01_k».proof.Proof.Gen.Kernel15Ideal.Skeleton
public import proofs.«01_k».proof.Proof.Gen.Kernel15Ideal.Points
public import Idealize.ShloMosaic.Lib.Pipeline.FrameBody
public import Idealize.ShloMosaic.Lib.Pipeline.ValueKit
public import Idealize.ShloMosaic.Lib.VecWindow
public import Idealize.ShloMosaic.Lib.Pipeline.BigSepL
public import Idealize.ShloMosaic.Lib.Claim
public import Idealize.ShloMosaic.Lib.Ring
public import Idealize.ShloMosaic.Lib.Tactic

@[expose] public section

set_option maxRecDepth 16384

noncomputable section

namespace Small

open Cert.Kernel15Ideal Cert.Kernel15Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body table's row at a point is the body there. -/
theorem defs₀_row (t : Fin cfg0.N) :
    defs₀ (F := F) .tc cfg0.body (cfg0.bodyArgs t (cfg0.slots t)) = bodyAt0 t := by
  unfold defs₀; rw [Defs.onTc_tc]

/-- The body owes nothing, and leaves everything else as it was. -/
theorem body_obligation (c : Dev nD) : BodyObligation (dats (F := F) m 0 c) (defs₀ (F := F)) Variants.none () Set.univ := fun t => by
  rw [defs₀_row]
  exact (sep_mono .rfl ((sep_mono .rfl (sound_body m c t)).trans (wp_frame_l _ _ _))).trans (wp_frame_l _ _ _)

set_option backward.isDefEq.respectTransparency.types false in
set_option maxHeartbeats 800000 in
/-- The run, from any memory with zero counters: the arrays end as the proof data say, and every counter at zero. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

variable {m}

/-- The arguments after the run. -/
theorem kept {r : PUnit × MemSt nD τ sig (Elt F)} (h : Pipeline.FramePost cfgs (dats m) 0 (V m) r) (c : Dev nD) (w : Fin cfg0.W)
    (hw : (cfg0.win w).isOut = false) : r.2.mem ((spec0 w).arr.view.loc (c : Thread nD τ)) = V m c (Pipeline.arrRef spec0 w) :=
  ((h c).1 w).trans (((dats m 0 c).arrAt_in w hw _).trans (A_eq m c w))

set_option maxHeartbeats 8000000 in
theorem args {r : PUnit × MemSt nD τ sig (Elt F)} (h : Pipeline.FramePost cfgs (dats m) 0 (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)
    ∧ r.2.mem ((c : Thread nD τ).loc main_arg10) = m ((c : Thread nD τ).loc main_arg10)
    ∧ r.2.mem ((c : Thread nD τ).loc main_arg11) = m ((c : Thread nD τ).loc main_arg11)
    ∧ r.2.mem ((c : Thread nD τ).loc main_arg12) = m ((c : Thread nD τ).loc main_arg12)
    ∧ r.2.mem ((c : Thread nD τ).loc main_arg13) = m ((c : Thread nD τ).loc main_arg13)
    ∧ r.2.mem ((c : Thread nD τ).loc main_arg14) = m ((c : Thread nD τ).loc main_arg14)
    ∧ r.2.mem ((c : Thread nD τ).loc main_arg15) = m ((c : Thread nD τ).loc main_arg15)
    ∧ r.2.mem ((c : Thread nD τ).loc main_arg16) = m ((c : Thread nD τ).loc main_arg16)
    ∧ r.2.mem ((c : Thread nD τ).loc main_arg17) = m ((c : Thread nD τ).loc main_arg17)
    ∧ r.2.mem ((c : Thread nD τ).loc main_arg18) = m ((c : Thread nD τ).loc main_arg18)
    ∧ r.2.mem ((c : Thread nD τ).loc main_arg19) = m ((c : Thread nD τ).loc main_arg19)
    ∧ r.2.mem ((c : Thread nD τ).loc main_arg20) = m ((c : Thread nD τ).loc main_arg20)
    ∧ r.2.mem ((c : Thread nD τ).loc main_arg21) = m ((c : Thread nD τ).loc main_arg21)
    ∧ r.2.mem ((c : Thread nD τ).loc main_arg22) = m ((c : Thread nD τ).loc main_arg22)
    ∧ r.2.mem ((c : Thread nD τ).loc main_arg23) = m ((c : Thread nD τ).loc main_arg23)
    ∧ r.2.mem ((c : Thread nD τ).loc main_arg24) = m ((c : Thread nD τ).loc main_arg24)
    ∧ r.2.mem ((c : Thread nD τ).loc main_arg25) = m ((c : Thread nD τ).loc main_arg25)
    ∧ r.2.mem ((c : Thread nD τ).loc main_arg26) = m ((c : Thread nD τ).loc main_arg26)
    ∧ r.2.mem ((c : Thread nD τ).loc main_arg27) = m ((c : Thread nD τ).loc main_arg27)
    ∧ r.2.mem ((c : Thread nD τ).loc main_arg28) = m ((c : Thread nD τ).loc main_arg28)
    ∧ r.2.mem ((c : Thread nD τ).loc main_arg29) = m ((c : Thread nD τ).loc main_arg29)
    ∧ r.2.mem ((c : Thread nD τ).loc main_arg30) = m ((c : Thread nD τ).loc main_arg30)
    ∧ r.2.mem ((c : Thread nD τ).loc main_arg31) = m ((c : Thread nD τ).loc main_arg31)
    ∧ r.2.mem ((c : Thread nD τ).loc main_arg32) = m ((c : Thread nD τ).loc main_arg32)
    ∧ r.2.mem ((c : Thread nD τ).loc main_arg33) = m ((c : Thread nD τ).loc main_arg33)
    ∧ r.2.mem ((c : Thread nD τ).loc main_arg34) = m ((c : Thread nD τ).loc main_arg34)
    ∧ r.2.mem ((c : Thread nD τ).loc main_arg35) = m ((c : Thread nD τ).loc main_arg35)
    ∧ r.2.mem ((c : Thread nD τ).loc main_arg36) = m ((c : Thread nD τ).loc main_arg36)
    ∧ r.2.mem ((c : Thread nD τ).loc main_arg37) = m ((c : Thread nD τ).loc main_arg37)
    ∧ r.2.mem ((c : Thread nD τ).loc main_arg38) = m ((c : Thread nD τ).loc main_arg38)
    ∧ r.2.mem ((c : Thread nD τ).loc main_arg39) = m ((c : Thread nD τ).loc main_arg39) :=
  ⟨kept h c 0 rfl, kept h c 1 rfl, kept h c 2 rfl, kept h c 3 rfl, kept h c 4 rfl,
    kept h c 5 rfl, kept h c 6 rfl, kept h c 7 rfl, kept h c 8 rfl, kept h c 9 rfl,
    kept h c 10 rfl, kept h c 11 rfl, kept h c 12 rfl, kept h c 13 rfl, kept h c 14 rfl,
    kept h c 15 rfl, kept h c 16 rfl, kept h c 17 rfl, kept h c 18 rfl, kept h c 19 rfl,
    kept h c 20 rfl, kept h c 21 rfl, kept h c 22 rfl, kept h c 23 rfl, kept h c 24 rfl,
    kept h c 25 rfl, kept h c 26 rfl, kept h c 27 rfl, kept h c 28 rfl, kept h c 29 rfl,
    kept h c 30 rfl, kept h c 31 rfl, kept h c 32 rfl, kept h c 33 rfl, kept h c 34 rfl,
    kept h c 35 rfl, kept h c 36 rfl, kept h c 37 rfl, kept h c 38 rfl, kept h c 39 rfl⟩

end

end Small

end
-- ==== Proof.Small.lean ====
/- The optimiser's call on the small weights: the reference's frame, and the claim. -/
module

public import proofs.«01_k».proof.Defs
public import proofs.«01_k».proof.Proof.Gen.Reference15Ideal.Run
public import Idealize.ShloMosaic.Lib.Pipeline.ReadBack
public import proofs.«01_k».proof.Proof.SmallArgs
public import proofs.«01_k».proof.Proof.Gen.Kernel15Ideal.Launch
public import proofs.«01_k».proof.Proof.Gen.Kernel15Ideal.Skeleton
public import proofs.«01_k».proof.Proof.Gen.Kernel15Ideal.Points
public import Idealize.ShloMosaic.Lib.Pipeline.FrameBody
public import Idealize.ShloMosaic.Lib.Pipeline.ValueKit
public import Idealize.ShloMosaic.Lib.VecWindow
public import Idealize.ShloMosaic.Lib.Pipeline.BigSepL
public import Idealize.ShloMosaic.Lib.Claim
public import Idealize.ShloMosaic.Lib.Ring
public import Idealize.ShloMosaic.Lib.Tactic

@[expose] public section

set_option maxRecDepth 16384

noncomputable section

namespace Small

open Cert.Kernel15Ideal Cert.Kernel15Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An argument's block is the whole array. -/
theorem iblk_whole (c : Dev nD) (w : Fin cfg0.W) : iblk m c w t0_0 = fun y => (cfg0.win w).arr.view.read (Elt F) (V m c (Pipeline.arrRef spec0 w))
    fun a => ⟨y a, (y a).isLt.trans_le (((cfg0.win w).xsize_le _ a).trans ((by decide +kernel : ∀ w : Fin 70, ∀ a, (win0 w).size a ≤ (win0 w).shape.size a) w a))⟩ := by
  funext y
  show (cfg0.win w).arr.view.read (Elt F) (V m c (Pipeline.arrRef spec0 w)) (((cfg0.win w).rect t0_0).emb y) = _
  congr 1
  funext a
  apply Fin.ext
  rw [Window.rect_emb_val_of_index_zero _ _ _ ((by decide +kernel : ∀ w : Fin 70, ∀ a, (win0 w).index t0_0 a = 0) w a)]

variable {m}

set_option maxHeartbeats 8000000 in
/-- The results after the run, and the arguments. -/
theorem blocks (m : (ℓ : Loc nD τ sig) → Buf (Elt F) ℓ) (ρ : Dev nD → PrngReg) :
    θ_run defs (onTc (τ := τ) (main (F := F))) ⟨m, fun _ => 0, ρ⟩ fun r => ∀ c : Dev nD,
    r.2.mem ((c : Thread nD τ).loc main_v0_0) = (dats m 0 c).arrAt 40 cfg0.N
    ∧ r.2.mem ((c : Thread nD τ).loc main_v0_1) = (dats m 0 c).arrAt 41 cfg0.N
    ∧ r.2.mem ((c : Thread nD τ).loc main_v0_2) = (dats m 0 c).arrAt 42 cfg0.N
    ∧ r.2.mem ((c : Thread nD τ).loc main_v0_3) = (dats m 0 c).arrAt 43 cfg0.N
    ∧ r.2.mem ((c : Thread nD τ).loc main_v0_4) = (dats m 0 c).arrAt 44 cfg0.N
    ∧ r.2.mem ((c : Thread nD τ).loc main_v0_5) = (dats m 0 c).arrAt 45 cfg0.N
    ∧ r.2.mem ((c : Thread nD τ).loc main_v0_6) = (dats m 0 c).arrAt 46 cfg0.N
    ∧ r.2.mem ((c : Thread nD τ).loc main_v0_7) = (dats m 0 c).arrAt 47 cfg0.N
    ∧ r.2.mem ((c : Thread nD τ).loc main_v0_8) = (dats m 0 c).arrAt 48 cfg0.N
    ∧ r.2.mem ((c : Thread nD τ).loc main_v0_9) = (dats m 0 c).arrAt 49 cfg0.N
    ∧ r.2.mem ((c : Thread nD τ).loc main_v0_10) = (dats m 0 c).arrAt 50 cfg0.N
    ∧ r.2.mem ((c : Thread nD τ).loc main_v0_11) = (dats m 0 c).arrAt 51 cfg0.N
    ∧ r.2.mem ((c : Thread nD τ).loc main_v0_12) = (dats m 0 c).arrAt 52 cfg0.N
    ∧ r.2.mem ((c : Thread nD τ).loc main_v0_13) = (dats m 0 c).arrAt 53 cfg0.N
    ∧ r.2.mem ((c : Thread nD τ).loc main_v0_14) = (dats m 0 c).arrAt 54 cfg0.N
    ∧ r.2.mem ((c : Thread nD τ).loc main_v0_15) = (dats m 0 c).arrAt 55 cfg0.N
    ∧ r.2.mem ((c : Thread nD τ).loc main_v0_16) = (dats m 0 c).arrAt 56 cfg0.N
    ∧ r.2.mem ((c : Thread nD τ).loc main_v0_17) = (dats m 0 c).arrAt 57 cfg0.N
    ∧ r.2.mem ((c : Thread nD τ).loc main_v0_18) = (dats m 0 c).arrAt 58 cfg0.N
    ∧ r.2.mem ((c : Thread nD τ).loc main_v0_19) = (dats m 0 c).arrAt 59 cfg0.N
    ∧ r.2.mem ((c : Thread nD τ).loc main_v0_20) = (dats m 0 c).arrAt 60 cfg0.N
    ∧ r.2.mem ((c : Thread nD τ).loc main_v0_21) = (dats m 0 c).arrAt 61 cfg0.N
    ∧ r.2.mem ((c : Thread nD τ).loc main_v0_22) = (dats m 0 c).arrAt 62 cfg0.N
    ∧ r.2.mem ((c : Thread nD τ).loc main_v0_23) = (dats m 0 c).arrAt 63 cfg0.N
    ∧ r.2.mem ((c : Thread nD τ).loc main_v0_24) = (dats m 0 c).arrAt 64 cfg0.N
    ∧ r.2.mem ((c : Thread nD τ).loc main_v0_25) = (dats m 0 c).arrAt 65 cfg0.N
    ∧ r.2.mem ((c : Thread nD τ).loc main_v0_26) = (dats m 0 c).arrAt 66 cfg0.N
    ∧ r.2.mem ((c : Thread nD τ).loc main_v0_27) = (dats m 0 c).arrAt 67 cfg0.N
    ∧ r.2.mem ((c : Thread nD τ).loc main_v0_28) = (dats m 0 c).arrAt 68 cfg0.N
    ∧ r.2.mem ((c : Thread nD τ).loc main_v0_29) = (dats m 0 c).arrAt 69 cfg0.N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)
    ∧ r.2.mem ((c : Thread nD τ).loc main_arg10) = m ((c : Thread nD τ).loc main_arg10)
    ∧ r.2.mem ((c : Thread nD τ).loc main_arg11) = m ((c : Thread nD τ).loc main_arg11)
    ∧ r.2.mem ((c : Thread nD τ).loc main_arg12) = m ((c : Thread nD τ).loc main_arg12)
    ∧ r.2.mem ((c : Thread nD τ).loc main_arg13) = m ((c : Thread nD τ).loc main_arg13)
    ∧ r.2.mem ((c : Thread nD τ).loc main_arg14) = m ((c : Thread nD τ).loc main_arg14)
    ∧ r.2.mem ((c : Thread nD τ).loc main_arg15) = m ((c : Thread nD τ).loc main_arg15)
    ∧ r.2.mem ((c : Thread nD τ).loc main_arg16) = m ((c : Thread nD τ).loc main_arg16)
    ∧ r.2.mem ((c : Thread nD τ).loc main_arg17) = m ((c : Thread nD τ).loc main_arg17)
    ∧ r.2.mem ((c : Thread nD τ).loc main_arg18) = m ((c : Thread nD τ).loc main_arg18)
    ∧ r.2.mem ((c : Thread nD τ).loc main_arg19) = m ((c : Thread nD τ).loc main_arg19)
    ∧ r.2.mem ((c : Thread nD τ).loc main_arg20) = m ((c : Thread nD τ).loc main_arg20)
    ∧ r.2.mem ((c : Thread nD τ).loc main_arg21) = m ((c : Thread nD τ).loc main_arg21)
    ∧ r.2.mem ((c : Thread nD τ).loc main_arg22) = m ((c : Thread nD τ).loc main_arg22)
    ∧ r.2.mem ((c : Thread nD τ).loc main_arg23) = m ((c : Thread nD τ).loc main_arg23)
    ∧ r.2.mem ((c : Thread nD τ).loc main_arg24) = m ((c : Thread nD τ).loc main_arg24)
    ∧ r.2.mem ((c : Thread nD τ).loc main_arg25) = m ((c : Thread nD τ).loc main_arg25)
    ∧ r.2.mem ((c : Thread nD τ).loc main_arg26) = m ((c : Thread nD τ).loc main_arg26)
    ∧ r.2.mem ((c : Thread nD τ).loc main_arg27) = m ((c : Thread nD τ).loc main_arg27)
    ∧ r.2.mem ((c : Thread nD τ).loc main_arg28) = m ((c : Thread nD τ).loc main_arg28)
    ∧ r.2.mem ((c : Thread nD τ).loc main_arg29) = m ((c : Thread nD τ).loc main_arg29)
    ∧ r.2.mem ((c : Thread nD τ).loc main_arg30) = m ((c : Thread nD τ).loc main_arg30)
    ∧ r.2.mem ((c : Thread nD τ).loc main_arg31) = m ((c : Thread nD τ).loc main_arg31)
    ∧ r.2.mem ((c : Thread nD τ).loc main_arg32) = m ((c : Thread nD τ).loc main_arg32)
    ∧ r.2.mem ((c : Thread nD τ).loc main_arg33) = m ((c : Thread nD τ).loc main_arg33)
    ∧ r.2.mem ((c : Thread nD τ).loc main_arg34) = m ((c : Thread nD τ).loc main_arg34)
    ∧ r.2.mem ((c : Thread nD τ).loc main_arg35) = m ((c : Thread nD τ).loc main_arg35)
    ∧ r.2.mem ((c : Thread nD τ).loc main_arg36) = m ((c : Thread nD τ).loc main_arg36)
    ∧ r.2.mem ((c : Thread nD τ).loc main_arg37) = m ((c : Thread nD τ).loc main_arg37)
    ∧ r.2.mem ((c : Thread nD τ).loc main_arg38) = m ((c : Thread nD τ).loc main_arg38)
    ∧ r.2.mem ((c : Thread nD τ).loc main_arg39) = m ((c : Thread nD τ).loc main_arg39) :=
  (θ_run defs _ _).mono (fun r h c => ⟨(h.1 c).1 40, (h.1 c).1 41, (h.1 c).1 42, (h.1 c).1 43, (h.1 c).1 44, (h.1 c).1 45, (h.1 c).1 46, (h.1 c).1 47, (h.1 c).1 48, (h.1 c).1 49,
    (h.1 c).1 50, (h.1 c).1 51, (h.1 c).1 52, (h.1 c).1 53, (h.1 c).1 54, (h.1 c).1 55, (h.1 c).1 56, (h.1 c).1 57, (h.1 c).1 58, (h.1 c).1 59,
    (h.1 c).1 60, (h.1 c).1 61, (h.1 c).1 62, (h.1 c).1 63, (h.1 c).1 64, (h.1 c).1 65, (h.1 c).1 66, (h.1 c).1 67, (h.1 c).1 68, (h.1 c).1 69, args h.1 c⟩) (run_main m ρ)

end

theorem no_sem (s : SemLoc Cert.Reference15Ideal.sig) : False := by
  revert s
  decide

/-- The reference's frame. -/
theorem frame : Cert.quiescent_Reference15Ideal := by
  intro m g _
  run_from Cert.Reference15Ideal.Value.run m g
  · simp
  · funext s
    exact (no_sem s.2).elim

set_option maxHeartbeats 16000000 in
/-- The claim. -/
theorem algebraic : Cert.algebraic_Kernel15Ideal_Reference15Ideal := by
  pair_intro
  · run_from blocks m g
  · have hrun := Cert.Reference15Ideal.Value.run m' g'
    run_from hrun
    all_goals clear hrun hagree
    all_goals
      symm
      refine (dats m 0 c).arrAt_eq_of_after_last _ t0_0 (by decide +kernel) _ fun j => ?_
      dsimp only [dats]
      simp only [iblk_whole]
      rfl

end Small

end
-- ==== Proof.SmallFrame.lean ====
/- The optimiser's call on the small weights: its frames. -/
module

public import proofs.«01_k».proof.Defs
public import proofs.«01_k».proof.Proof.Gen.Kernel15
public import Idealize.ShloMosaic.Lib.Pipeline.ReadBack
public import proofs.«01_k».proof.Proof.SmallArgs
public import proofs.«01_k».proof.Proof.Gen.Kernel15Ideal.Launch
public import proofs.«01_k».proof.Proof.Gen.Kernel15Ideal.Skeleton
public import proofs.«01_k».proof.Proof.Gen.Kernel15Ideal.Points
public import Idealize.ShloMosaic.Lib.Pipeline.FrameBody
public import Idealize.ShloMosaic.Lib.Pipeline.ValueKit
public import Idealize.ShloMosaic.Lib.VecWindow
public import Idealize.ShloMosaic.Lib.Pipeline.BigSepL
public import Idealize.ShloMosaic.Lib.Claim
public import Idealize.ShloMosaic.Lib.Ring
public import Idealize.ShloMosaic.Lib.Tactic

@[expose] public section

set_option maxRecDepth 16384

noncomputable section

namespace Small

open Cert.Kernel15Ideal Cert.Kernel15Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option smartUnfolding false in
set_option maxHeartbeats 16000000 in
/-- The frame at the machine's floats, of the run's own proof: the two programs are one text, so the run is this one's by unfolding. -/
theorem frame_kernel : Cert.quiescent_Kernel15 := fun m ρ _ =>
  (θ_run Cert.Kernel15Ideal.defs _ _).mono (fun _ h => ⟨fun c => args h.1 c, h.2⟩) (run_main (F := Bits) m ρ)

set_option maxHeartbeats 8000000 in
/-- The frame at the extended reals. -/
theorem frame_ideal : Cert.quiescent_Kernel15Ideal := fun m ρ _ =>
  (θ_run defs _ _).mono (fun _ h => ⟨fun c => args h.1 c, h.2⟩) (run_main (F := Ideal) m ρ)

end Small

end
-- ==== Proof.lean ====
/- The claims about the dense half of the step (the two norms, the gates, the projections, the feed-forward half, and their weight
gradients), the optimiser, and the sum of the small gradients over the devices. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import Idealize.ShloMosaic.Lib.Claim
public import proofs.«01_k».proof.Proof.Match
public import proofs.«01_k».proof.Proof.Match2
public import proofs.«01_k».proof.Proof.Fi
public import proofs.«01_k».proof.Proof.In
public import proofs.«01_k».proof.Proof.Fo
public import proofs.«01_k».proof.Proof.Out
public import proofs.«01_k».proof.Proof.Bh
public import proofs.«01_k».proof.Proof.Emb
public import proofs.«01_k».proof.Proof.AdamIn
public import proofs.«01_k».proof.Proof.AdamBranch
public import proofs.«01_k».proof.Proof.AdamOut
public import proofs.«01_k».proof.Proof.AdamFi
public import proofs.«01_k».proof.Proof.AdamFo
public import proofs.«01_k».proof.Proof.Sum8
public import proofs.«01_k».proof.Proof.Gen.Kernel15
public import proofs.«01_k».proof.Proof.Gen.Kernel15Ideal
public import proofs.«01_k».proof.Proof.Gen.Kernel15Ideal.Launch
public import proofs.«01_k».proof.Proof.Gen.Kernel15Ideal.Skeleton
public import proofs.«01_k».proof.Proof.Gen.Kernel15Ideal.Points
public import proofs.«01_k».proof.Proof.Gen.Reference15Ideal
public import proofs.«01_k».proof.Proof.Gen.Reference15Ideal.Run
public import proofs.«01_k».proof.Proof.Small
public import proofs.«01_k».proof.Proof.SmallFrame
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Finite.facts, Finite2.facts,
    fun m ρ _ => Cert.Kernel.Gen.frame m ρ, fun m ρ _ => Cert.KernelIdeal.Gen.frame m ρ, fun m ρ _ => Cert.KernelIdeal.Gen.frame m ρ,
    fun m ρ _ => Match.frame m ρ trivial, fun m ρ _ => Match.frame m ρ trivial,
    fun m ρ _ => Cert.Kernel2.Gen.frame m ρ, fun m ρ _ => Cert.Kernel2Ideal.Gen.frame m ρ, fun m ρ _ => Cert.Kernel2Ideal.Gen.frame m ρ,
    fun m ρ _ => Match2.frame m ρ trivial, fun m ρ _ => Match2.frame m ρ trivial,
    fun m ρ _ => Cert.Kernel3.Gen.frame m ρ, fun m ρ _ => Cert.Kernel3Ideal.Gen.frame m ρ, Fi.frame,
    fun m ρ _ => Cert.Kernel4.Gen.frame m ρ, fun m ρ _ => Cert.Kernel4Ideal.Gen.frame m ρ, In.frame,
    fun m ρ _ => Cert.Kernel5.Gen.frame m ρ, fun m ρ _ => Cert.Kernel5Ideal.Gen.frame m ρ, Fo.frame,
    fun m ρ _ => Cert.Kernel6.Gen.frame m ρ, fun m ρ _ => Cert.Kernel6Ideal.Gen.frame m ρ, Out.frame,
    fun m ρ _ => Cert.Kernel7.Gen.frame m ρ, fun m ρ _ => Cert.Kernel7Ideal.Gen.frame m ρ, Bh.frame,
    fun m ρ _ => Cert.Kernel8.Gen.frame m ρ, fun m ρ _ => Cert.Kernel8Ideal.Gen.frame m ρ, Emb.frame,
    fun m ρ _ => Cert.Kernel9.Gen.frame m ρ, fun m ρ _ => Cert.Kernel9Ideal.Gen.frame m ρ, AdamIn.frame,
    fun m ρ _ => Cert.Kernel10.Gen.frame m ρ, fun m ρ _ => Cert.Kernel10Ideal.Gen.frame m ρ, AdamBranch.frame,
    fun m ρ _ => Cert.Kernel11.Gen.frame m ρ, fun m ρ _ => Cert.Kernel11Ideal.Gen.frame m ρ, AdamOut.frame,
    fun m ρ _ => Cert.Kernel12.Gen.frame m ρ, fun m ρ _ => Cert.Kernel12Ideal.Gen.frame m ρ, AdamFi.frame,
    fun m ρ _ => Cert.Kernel13.Gen.frame m ρ, fun m ρ _ => Cert.Kernel13Ideal.Gen.frame m ρ, AdamFo.frame,
    fun m ρ _ => Cert.Kernel14.Gen.frame m ρ, fun m ρ _ => Cert.Kernel14Ideal.Gen.frame m ρ, Sum8.frame,
    Small.frame_kernel, Small.frame_ideal, Small.frame,
    trivial, Match.algebraic, trivial, Match2.algebraic,
    trivial, Fi.algebraic, trivial, In.algebraic, trivial, Fo.algebraic, trivial, Out.algebraic, trivial, Bh.algebraic,
    trivial, Emb.algebraic, trivial, AdamIn.algebraic, trivial, AdamBranch.algebraic, trivial, AdamOut.algebraic,
    trivial, AdamFi.algebraic, trivial, AdamFo.algebraic, trivial, Sum8.algebraic,
    trivial, Small.algebraic⟩

end Cert.Proof

end
